-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_LruKernel (m : (ℓ : Loc Cert.LruKernel.nD Cert.LruKernel.τ Cert.LruKernel.sig) → Buf (Elt Bits) ℓ) : Prop :=
  True

def Pre_LruKernelIdeal (m : (ℓ : Loc Cert.LruKernelIdeal.nD Cert.LruKernelIdeal.τ Cert.LruKernelIdeal.sig) → Buf (Elt Ideal) ℓ) : Prop :=
  True

def Pre_LruReferenceIdeal (m : (ℓ : Loc Cert.LruReferenceIdeal.nD Cert.LruReferenceIdeal.τ Cert.LruReferenceIdeal.sig) → Buf (Elt Ideal) ℓ) : Prop :=
  True

def Pre_SsdKernel (m : (ℓ : Loc Cert.SsdKernel.nD Cert.SsdKernel.τ Cert.SsdKernel.sig) → Buf (Elt Bits) ℓ) : Prop :=
  True

def Pre_SsdKernelIdeal (m : (ℓ : Loc Cert.SsdKernelIdeal.nD Cert.SsdKernelIdeal.τ Cert.SsdKernelIdeal.sig) → Buf (Elt Ideal) ℓ) : Prop :=
  True

def Pre_SsdKernelIdeal_finite_ssd [hPre_finite_ssd : Cert.Pre_finite_ssd.Facts] (m : (ℓ : Loc Cert.SsdKernelIdeal.nD Cert.SsdKernelIdeal.τ Cert.SsdKernelIdeal.sig) → Buf (Elt Ideal) ℓ) : Prop :=
  ∀ c : Dev Cert.SsdKernelIdeal.nD,
    (Cert.Pre_finite_ssd.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5)) (m ((c.tc : Thread Cert.SsdKernelIdeal.nD Cert.SsdKernelIdeal.τ).loc Cert.SsdKernelIdeal.main_arg6)) (m ((c.tc : Thread Cert.SsdKernelIdeal.nD Cert.SsdKernelIdeal.τ).loc Cert.SsdKernelIdeal.main_arg7))).1 = (fun _ => 1#1)
    ∧ (Cert.Pre_finite_ssd.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5)) (m ((c.tc : Thread Cert.SsdKernelIdeal.nD Cert.SsdKernelIdeal.τ).loc Cert.SsdKernelIdeal.main_arg6)) (m ((c.tc : Thread Cert.SsdKernelIdeal.nD Cert.SsdKernelIdeal.τ).loc Cert.SsdKernelIdeal.main_arg7))).2.1 = (fun _ => 1#1)
    ∧ (Cert.Pre_finite_ssd.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5)) (m ((c.tc : Thread Cert.SsdKernelIdeal.nD Cert.SsdKernelIdeal.τ).loc Cert.SsdKernelIdeal.main_arg6)) (m ((c.tc : Thread Cert.SsdKernelIdeal.nD Cert.SsdKernelIdeal.τ).loc Cert.SsdKernelIdeal.main_arg7))).2.2.1 = (fun _ => 1#1)
    ∧ (Cert.Pre_finite_ssd.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5)) (m ((c.tc : Thread Cert.SsdKernelIdeal.nD Cert.SsdKernelIdeal.τ).loc Cert.SsdKernelIdeal.main_arg6)) (m ((c.tc : Thread Cert.SsdKernelIdeal.nD Cert.SsdKernelIdeal.τ).loc Cert.SsdKernelIdeal.main_arg7))).2.2.2.1 = (fun _ => 1#1)
    ∧ (Cert.Pre_finite_ssd.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5)) (m ((c.tc : Thread Cert.SsdKernelIdeal.nD Cert.SsdKernelIdeal.τ).loc Cert.SsdKernelIdeal.main_arg6)) (m ((c.tc : Thread Cert.SsdKernelIdeal.nD Cert.SsdKernelIdeal.τ).loc Cert.SsdKernelIdeal.main_arg7))).2.2.2.2.1 = (fun _ => 1#1)
    ∧ (Cert.Pre_finite_ssd.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5)) (m ((c.tc : Thread Cert.SsdKernelIdeal.nD Cert.SsdKernelIdeal.τ).loc Cert.SsdKernelIdeal.main_arg6)) (m ((c.tc : Thread Cert.SsdKernelIdeal.nD Cert.SsdKernelIdeal.τ).loc Cert.SsdKernelIdeal.main_arg7))).2.2.2.2.2 = (fun _ => 1#1)

def Pre_SsdReferenceIdeal (m : (ℓ : Loc Cert.SsdReferenceIdeal.nD Cert.SsdReferenceIdeal.τ Cert.SsdReferenceIdeal.sig) → Buf (Elt Ideal) ℓ) : Prop :=
  True

def Pre_SsdReferenceIdeal_finite_ssd [hPre_finite_ssd : Cert.Pre_finite_ssd.Facts] (m : (ℓ : Loc Cert.SsdReferenceIdeal.nD Cert.SsdReferenceIdeal.τ Cert.SsdReferenceIdeal.sig) → Buf (Elt Ideal) ℓ) : Prop :=
  ∀ c : Dev Cert.SsdReferenceIdeal.nD,
    (Cert.Pre_finite_ssd.fn (F := Ideal) (m ((c.tc : Thread Cert.SsdReferenceIdeal.nD Cert.SsdReferenceIdeal.τ).loc Cert.SsdReferenceIdeal.main_arg0)) (m ((c.tc : Thread Cert.SsdReferenceIdeal.nD Cert.SsdReferenceIdeal.τ).loc Cert.SsdReferenceIdeal.main_arg1)) (m ((c.tc : Thread Cert.SsdReferenceIdeal.nD Cert.SsdReferenceIdeal.τ).loc Cert.SsdReferenceIdeal.main_arg2)) (m ((c.tc : Thread Cert.SsdReferenceIdeal.nD Cert.SsdReferenceIdeal.τ).loc Cert.SsdReferenceIdeal.main_arg3)) (m ((c.tc : Thread Cert.SsdReferenceIdeal.nD Cert.SsdReferenceIdeal.τ).loc Cert.SsdReferenceIdeal.main_arg4)) (m ((c.tc : Thread Cert.SsdReferenceIdeal.nD Cert.SsdReferenceIdeal.τ).loc Cert.SsdReferenceIdeal.main_arg5)) (m ((c.tc : Thread Cert.SsdReferenceIdeal.nD Cert.SsdReferenceIdeal.τ).loc Cert.SsdReferenceIdeal.main_arg6)) (m ((c.tc : Thread Cert.SsdReferenceIdeal.nD Cert.SsdReferenceIdeal.τ).loc Cert.SsdReferenceIdeal.main_arg7))).1 = (fun _ => 1#1)
    ∧ (Cert.Pre_finite_ssd.fn (F := Ideal) (m ((c.tc : Thread Cert.SsdReferenceIdeal.nD Cert.SsdReferenceIdeal.τ).loc Cert.SsdReferenceIdeal.main_arg0)) (m ((c.tc : Thread Cert.SsdReferenceIdeal.nD Cert.SsdReferenceIdeal.τ).loc Cert.SsdReferenceIdeal.main_arg1)) (m ((c.tc : Thread Cert.SsdReferenceIdeal.nD Cert.SsdReferenceIdeal.τ).loc Cert.SsdReferenceIdeal.main_arg2)) (m ((c.tc : Thread Cert.SsdReferenceIdeal.nD Cert.SsdReferenceIdeal.τ).loc Cert.SsdReferenceIdeal.main_arg3)) (m ((c.tc : Thread Cert.SsdReferenceIdeal.nD Cert.SsdReferenceIdeal.τ).loc Cert.SsdReferenceIdeal.main_arg4)) (m ((c.tc : Thread Cert.SsdReferenceIdeal.nD Cert.SsdReferenceIdeal.τ).loc Cert.SsdReferenceIdeal.main_arg5)) (m ((c.tc : Thread Cert.SsdReferenceIdeal.nD Cert.SsdReferenceIdeal.τ).loc Cert.SsdReferenceIdeal.main_arg6)) (m ((c.tc : Thread Cert.SsdReferenceIdeal.nD Cert.SsdReferenceIdeal.τ).loc Cert.SsdReferenceIdeal.main_arg7))).2.1 = (fun _ => 1#1)
    ∧ (Cert.Pre_finite_ssd.fn (F := Ideal) (m ((c.tc : Thread Cert.SsdReferenceIdeal.nD Cert.SsdReferenceIdeal.τ).loc Cert.SsdReferenceIdeal.main_arg0)) (m ((c.tc : Thread Cert.SsdReferenceIdeal.nD Cert.SsdReferenceIdeal.τ).loc Cert.SsdReferenceIdeal.main_arg1)) (m ((c.tc : Thread Cert.SsdReferenceIdeal.nD Cert.SsdReferenceIdeal.τ).loc Cert.SsdReferenceIdeal.main_arg2)) (m ((c.tc : Thread Cert.SsdReferenceIdeal.nD Cert.SsdReferenceIdeal.τ).loc Cert.SsdReferenceIdeal.main_arg3)) (m ((c.tc : Thread Cert.SsdReferenceIdeal.nD Cert.SsdReferenceIdeal.τ).loc Cert.SsdReferenceIdeal.main_arg4)) (m ((c.tc : Thread Cert.SsdReferenceIdeal.nD Cert.SsdReferenceIdeal.τ).loc Cert.SsdReferenceIdeal.main_arg5)) (m ((c.tc : Thread Cert.SsdReferenceIdeal.nD Cert.SsdReferenceIdeal.τ).loc Cert.SsdReferenceIdeal.main_arg6)) (m ((c.tc : Thread Cert.SsdReferenceIdeal.nD Cert.SsdReferenceIdeal.τ).loc Cert.SsdReferenceIdeal.main_arg7))).2.2.1 = (fun _ => 1#1)
    ∧ (Cert.Pre_finite_ssd.fn (F := Ideal) (m ((c.tc : Thread Cert.SsdReferenceIdeal.nD Cert.SsdReferenceIdeal.τ).loc Cert.SsdReferenceIdeal.main_arg0)) (m ((c.tc : Thread Cert.SsdReferenceIdeal.nD Cert.SsdReferenceIdeal.τ).loc Cert.SsdReferenceIdeal.main_arg1)) (m ((c.tc : Thread Cert.SsdReferenceIdeal.nD Cert.SsdReferenceIdeal.τ).loc Cert.SsdReferenceIdeal.main_arg2)) (m ((c.tc : Thread Cert.SsdReferenceIdeal.nD Cert.SsdReferenceIdeal.τ).loc Cert.SsdReferenceIdeal.main_arg3)) (m ((c.tc : Thread Cert.SsdReferenceIdeal.nD Cert.SsdReferenceIdeal.τ).loc Cert.SsdReferenceIdeal.main_arg4)) (m ((c.tc : Thread Cert.SsdReferenceIdeal.nD Cert.SsdReferenceIdeal.τ).loc Cert.SsdReferenceIdeal.main_arg5)) (m ((c.tc : Thread Cert.SsdReferenceIdeal.nD Cert.SsdReferenceIdeal.τ).loc Cert.SsdReferenceIdeal.main_arg6)) (m ((c.tc : Thread Cert.SsdReferenceIdeal.nD Cert.SsdReferenceIdeal.τ).loc Cert.SsdReferenceIdeal.main_arg7))).2.2.2.1 = (fun _ => 1#1)
    ∧ (Cert.Pre_finite_ssd.fn (F := Ideal) (m ((c.tc : Thread Cert.SsdReferenceIdeal.nD Cert.SsdReferenceIdeal.τ).loc Cert.SsdReferenceIdeal.main_arg0)) (m ((c.tc : Thread Cert.SsdReferenceIdeal.nD Cert.SsdReferenceIdeal.τ).loc Cert.SsdReferenceIdeal.main_arg1)) (m ((c.tc : Thread Cert.SsdReferenceIdeal.nD Cert.SsdReferenceIdeal.τ).loc Cert.SsdReferenceIdeal.main_arg2)) (m ((c.tc : Thread Cert.SsdReferenceIdeal.nD Cert.SsdReferenceIdeal.τ).loc Cert.SsdReferenceIdeal.main_arg3)) (m ((c.tc : Thread Cert.SsdReferenceIdeal.nD Cert.SsdReferenceIdeal.τ).loc Cert.SsdReferenceIdeal.main_arg4)) (m ((c.tc : Thread Cert.SsdReferenceIdeal.nD Cert.SsdReferenceIdeal.τ).loc Cert.SsdReferenceIdeal.main_arg5)) (m ((c.tc : Thread Cert.SsdReferenceIdeal.nD Cert.SsdReferenceIdeal.τ).loc Cert.SsdReferenceIdeal.main_arg6)) (m ((c.tc : Thread Cert.SsdReferenceIdeal.nD Cert.SsdReferenceIdeal.τ).loc Cert.SsdReferenceIdeal.main_arg7))).2.2.2.2.1 = (fun _ => 1#1)
    ∧ (Cert.Pre_finite_ssd.fn (F := Ideal) (m ((c.tc : Thread Cert.SsdReferenceIdeal.nD Cert.SsdReferenceIdeal.τ).loc Cert.SsdReferenceIdeal.main_arg0)) (m ((c.tc : Thread Cert.SsdReferenceIdeal.nD Cert.SsdReferenceIdeal.τ).loc Cert.SsdReferenceIdeal.main_arg1)) (m ((c.tc : Thread Cert.SsdReferenceIdeal.nD Cert.SsdReferenceIdeal.τ).loc Cert.SsdReferenceIdeal.main_arg2)) (m ((c.tc : Thread Cert.SsdReferenceIdeal.nD Cert.SsdReferenceIdeal.τ).loc Cert.SsdReferenceIdeal.main_arg3)) (m ((c.tc : Thread Cert.SsdReferenceIdeal.nD Cert.SsdReferenceIdeal.τ).loc Cert.SsdReferenceIdeal.main_arg4)) (m ((c.tc : Thread Cert.SsdReferenceIdeal.nD Cert.SsdReferenceIdeal.τ).loc Cert.SsdReferenceIdeal.main_arg5)) (m ((c.tc : Thread Cert.SsdReferenceIdeal.nD Cert.SsdReferenceIdeal.τ).loc Cert.SsdReferenceIdeal.main_arg6)) (m ((c.tc : Thread Cert.SsdReferenceIdeal.nD Cert.SsdReferenceIdeal.τ).loc Cert.SsdReferenceIdeal.main_arg7))).2.2.2.2.2 = (fun _ => 1#1)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_LruKernel [hLruKernel : Cert.LruKernel.Facts] : Prop :=
  ∀ (m : (ℓ : Loc Cert.LruKernel.nD Cert.LruKernel.τ Cert.LruKernel.sig) → Buf (Elt Bits) ℓ) (g : Dev Cert.LruKernel.nD → PrngReg), Pre_LruKernel m →
    θ_run (Cert.LruKernel.defs (F := Bits)) (onTc (τ := Cert.LruKernel.τ) (Cert.LruKernel.main (F := Bits))) ⟨m, fun _ => 0, g⟩ (fun r => (∀ c : Dev Cert.LruKernel.nD,
      r.2.mem ((c.tc : Thread Cert.LruKernel.nD Cert.LruKernel.τ).loc Cert.LruKernel.main_arg0) = m ((c.tc : Thread Cert.LruKernel.nD Cert.LruKernel.τ).loc Cert.LruKernel.main_arg0)
      ∧ r.2.mem ((c.tc : Thread Cert.LruKernel.nD Cert.LruKernel.τ).loc Cert.LruKernel.main_arg1) = m ((c.tc : Thread Cert.LruKernel.nD Cert.LruKernel.τ).loc Cert.LruKernel.main_arg1)
      ∧ r.2.mem ((c.tc : Thread Cert.LruKernel.nD Cert.LruKernel.τ).loc Cert.LruKernel.main_arg2) = m ((c.tc : Thread Cert.LruKernel.nD Cert.LruKernel.τ).loc Cert.LruKernel.main_arg2)
      ∧ r.2.mem ((c.tc : Thread Cert.LruKernel.nD Cert.LruKernel.τ).loc Cert.LruKernel.main_arg3) = m ((c.tc : Thread Cert.LruKernel.nD Cert.LruKernel.τ).loc Cert.LruKernel.main_arg3)
      ∧ r.2.mem ((c.tc : Thread Cert.LruKernel.nD Cert.LruKernel.τ).loc Cert.LruKernel.main_arg4) = m ((c.tc : Thread Cert.LruKernel.nD Cert.LruKernel.τ).loc Cert.LruKernel.main_arg4)
      ∧ r.2.mem ((c.tc : Thread Cert.LruKernel.nD Cert.LruKernel.τ).loc Cert.LruKernel.main_arg5) = m ((c.tc : Thread Cert.LruKernel.nD Cert.LruKernel.τ).loc Cert.LruKernel.main_arg5)
      ∧ r.2.mem ((c.tc : Thread Cert.LruKernel.nD Cert.LruKernel.τ).loc Cert.LruKernel.main_arg6) = m ((c.tc : Thread Cert.LruKernel.nD Cert.LruKernel.τ).loc Cert.LruKernel.main_arg6)
      ∧ r.2.mem ((c.tc : Thread Cert.LruKernel.nD Cert.LruKernel.τ).loc Cert.LruKernel.main_arg7) = m ((c.tc : Thread Cert.LruKernel.nD Cert.LruKernel.τ).loc Cert.LruKernel.main_arg7)
      ∧ r.2.mem ((c.tc : Thread Cert.LruKernel.nD Cert.LruKernel.τ).loc Cert.LruKernel.main_arg8) = m ((c.tc : Thread Cert.LruKernel.nD Cert.LruKernel.τ).loc Cert.LruKernel.main_arg8))
      ∧ r.2.sem = fun _ => 0)

def quiescent_LruKernelIdeal [hLruKernelIdeal : Cert.LruKernelIdeal.Facts] : Prop :=
  ∀ (m : (ℓ : Loc Cert.LruKernelIdeal.nD Cert.LruKernelIdeal.τ Cert.LruKernelIdeal.sig) → Buf (Elt Ideal) ℓ) (g : Dev Cert.LruKernelIdeal.nD → PrngReg), Pre_LruKernelIdeal m →
    θ_run (Cert.LruKernelIdeal.defs (F := Ideal)) (onTc (τ := Cert.LruKernelIdeal.τ) (Cert.LruKernelIdeal.main (F := Ideal))) ⟨m, fun _ => 0, g⟩ (fun r => (∀ c : Dev Cert.LruKernelIdeal.nD,
      r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
      ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
      ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
      ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
      ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
      ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
      ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
      ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7)
      ∧ r.2.mem ((c.tc : Thread Cert.LruKernelIdeal.nD Cert.LruKernelIdeal.τ).loc Cert.LruKernelIdeal.main_arg8) = m ((c.tc : Thread Cert.LruKernelIdeal.nD Cert.LruKernelIdeal.τ).loc Cert.LruKernelIdeal.main_arg8))
      ∧ r.2.sem = fun _ => 0)

def quiescent_LruReferenceIdeal [hLruReferenceIdeal : Cert.LruReferenceIdeal.Facts] : Prop :=
  ∀ (m : (ℓ : Loc Cert.LruReferenceIdeal.nD Cert.LruReferenceIdeal.τ Cert.LruReferenceIdeal.sig) → Buf (Elt Ideal) ℓ) (g : Dev Cert.LruReferenceIdeal.nD → PrngReg), Pre_LruReferenceIdeal m →
    θ_run (Cert.LruReferenceIdeal.defs (F := Ideal)) (onTc (τ := Cert.LruReferenceIdeal.τ) (Cert.LruReferenceIdeal.main (F := Ideal))) ⟨m, fun _ => 0, g⟩ (fun r => (∀ c : Dev Cert.LruReferenceIdeal.nD,
      r.2.mem ((c.tc : Thread Cert.LruReferenceIdeal.nD Cert.LruReferenceIdeal.τ).loc Cert.LruReferenceIdeal.main_arg0) = m ((c.tc : Thread Cert.LruReferenceIdeal.nD Cert.LruReferenceIdeal.τ).loc Cert.LruReferenceIdeal.main_arg0)
      ∧ r.2.mem ((c.tc : Thread Cert.LruReferenceIdeal.nD Cert.LruReferenceIdeal.τ).loc Cert.LruReferenceIdeal.main_arg1) = m ((c.tc : Thread Cert.LruReferenceIdeal.nD Cert.LruReferenceIdeal.τ).loc Cert.LruReferenceIdeal.main_arg1)
      ∧ r.2.mem ((c.tc : Thread Cert.LruReferenceIdeal.nD Cert.LruReferenceIdeal.τ).loc Cert.LruReferenceIdeal.main_arg2) = m ((c.tc : Thread Cert.LruReferenceIdeal.nD Cert.LruReferenceIdeal.τ).loc Cert.LruReferenceIdeal.main_arg2)
      ∧ r.2.mem ((c.tc : Thread Cert.LruReferenceIdeal.nD Cert.LruReferenceIdeal.τ).loc Cert.LruReferenceIdeal.main_arg3) = m ((c.tc : Thread Cert.LruReferenceIdeal.nD Cert.LruReferenceIdeal.τ).loc Cert.LruReferenceIdeal.main_arg3)
      ∧ r.2.mem ((c.tc : Thread Cert.LruReferenceIdeal.nD Cert.LruReferenceIdeal.τ).loc Cert.LruReferenceIdeal.main_arg4) = m ((c.tc : Thread Cert.LruReferenceIdeal.nD Cert.LruReferenceIdeal.τ).loc Cert.LruReferenceIdeal.main_arg4)
      ∧ r.2.mem ((c.tc : Thread Cert.LruReferenceIdeal.nD Cert.LruReferenceIdeal.τ).loc Cert.LruReferenceIdeal.main_arg5) = m ((c.tc : Thread Cert.LruReferenceIdeal.nD Cert.LruReferenceIdeal.τ).loc Cert.LruReferenceIdeal.main_arg5)
      ∧ r.2.mem ((c.tc : Thread Cert.LruReferenceIdeal.nD Cert.LruReferenceIdeal.τ).loc Cert.LruReferenceIdeal.main_arg6) = m ((c.tc : Thread Cert.LruReferenceIdeal.nD Cert.LruReferenceIdeal.τ).loc Cert.LruReferenceIdeal.main_arg6)
      ∧ r.2.mem ((c.tc : Thread Cert.LruReferenceIdeal.nD Cert.LruReferenceIdeal.τ).loc Cert.LruReferenceIdeal.main_arg7) = m ((c.tc : Thread Cert.LruReferenceIdeal.nD Cert.LruReferenceIdeal.τ).loc Cert.LruReferenceIdeal.main_arg7)
      ∧ r.2.mem ((c.tc : Thread Cert.LruReferenceIdeal.nD Cert.LruReferenceIdeal.τ).loc Cert.LruReferenceIdeal.main_arg8) = m ((c.tc : Thread Cert.LruReferenceIdeal.nD Cert.LruReferenceIdeal.τ).loc Cert.LruReferenceIdeal.main_arg8))
      ∧ r.2.sem = fun _ => 0)

def quiescent_SsdKernel [hSsdKernel : Cert.SsdKernel.Facts] : Prop :=
  ∀ (m : (ℓ : Loc Cert.SsdKernel.nD Cert.SsdKernel.τ Cert.SsdKernel.sig) → Buf (Elt Bits) ℓ) (g : Dev Cert.SsdKernel.nD → PrngReg), Pre_SsdKernel m →
    θ_run (Cert.SsdKernel.defs (F := Bits)) (onTc (τ := Cert.SsdKernel.τ) (Cert.SsdKernel.main (F := Bits))) ⟨m, fun _ => 0, g⟩ (fun r => (∀ c : Dev Cert.SsdKernel.nD,
      r.2.mem ((c.tc : Thread Cert.SsdKernel.nD Cert.SsdKernel.τ).loc Cert.SsdKernel.main_arg0) = m ((c.tc : Thread Cert.SsdKernel.nD Cert.SsdKernel.τ).loc Cert.SsdKernel.main_arg0)
      ∧ r.2.mem ((c.tc : Thread Cert.SsdKernel.nD Cert.SsdKernel.τ).loc Cert.SsdKernel.main_arg1) = m ((c.tc : Thread Cert.SsdKernel.nD Cert.SsdKernel.τ).loc Cert.SsdKernel.main_arg1)
      ∧ r.2.mem ((c.tc : Thread Cert.SsdKernel.nD Cert.SsdKernel.τ).loc Cert.SsdKernel.main_arg2) = m ((c.tc : Thread Cert.SsdKernel.nD Cert.SsdKernel.τ).loc Cert.SsdKernel.main_arg2)
      ∧ r.2.mem ((c.tc : Thread Cert.SsdKernel.nD Cert.SsdKernel.τ).loc Cert.SsdKernel.main_arg3) = m ((c.tc : Thread Cert.SsdKernel.nD Cert.SsdKernel.τ).loc Cert.SsdKernel.main_arg3)
      ∧ r.2.mem ((c.tc : Thread Cert.SsdKernel.nD Cert.SsdKernel.τ).loc Cert.SsdKernel.main_arg4) = m ((c.tc : Thread Cert.SsdKernel.nD Cert.SsdKernel.τ).loc Cert.SsdKernel.main_arg4)
      ∧ r.2.mem ((c.tc : Thread Cert.SsdKernel.nD Cert.SsdKernel.τ).loc Cert.SsdKernel.main_arg5) = m ((c.tc : Thread Cert.SsdKernel.nD Cert.SsdKernel.τ).loc Cert.SsdKernel.main_arg5)
      ∧ r.2.mem ((c.tc : Thread Cert.SsdKernel.nD Cert.SsdKernel.τ).loc Cert.SsdKernel.main_arg6) = m ((c.tc : Thread Cert.SsdKernel.nD Cert.SsdKernel.τ).loc Cert.SsdKernel.main_arg6)
      ∧ r.2.mem ((c.tc : Thread Cert.SsdKernel.nD Cert.SsdKernel.τ).loc Cert.SsdKernel.main_arg7) = m ((c.tc : Thread Cert.SsdKernel.nD Cert.SsdKernel.τ).loc Cert.SsdKernel.main_arg7))
      ∧ r.2.sem = fun _ => 0)

def quiescent_SsdKernelIdeal [hSsdKernelIdeal : Cert.SsdKernelIdeal.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
      ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
      ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7))
      ∧ r.2.sem = fun _ => 0)

def quiescent_SsdKernelIdeal_pre_finite_ssd [hSsdKernelIdeal : Cert.SsdKernelIdeal.Facts] [hPre_finite_ssd : Cert.Pre_finite_ssd.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal_finite_ssd m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
      ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
      ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7))
      ∧ r.2.sem = fun _ => 0)

def quiescent_SsdReferenceIdeal [hSsdReferenceIdeal : Cert.SsdReferenceIdeal.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6)
      ∧ r.2.mem ((c.tc : Thread Cert.SsdReferenceIdeal.nD Cert.SsdReferenceIdeal.τ).loc Cert.SsdReferenceIdeal.main_arg7) = m ((c.tc : Thread Cert.SsdReferenceIdeal.nD Cert.SsdReferenceIdeal.τ).loc Cert.SsdReferenceIdeal.main_arg7))
      ∧ r.2.sem = fun _ => 0)

def quiescent_SsdReferenceIdeal_pre_finite_ssd [hSsdReferenceIdeal : Cert.SsdReferenceIdeal.Facts] [hPre_finite_ssd : Cert.Pre_finite_ssd.Facts] : Prop :=
  ∀ (m : (ℓ : Loc Cert.SsdReferenceIdeal.nD Cert.SsdReferenceIdeal.τ Cert.SsdReferenceIdeal.sig) → Buf (Elt Ideal) ℓ) (g : Dev Cert.SsdReferenceIdeal.nD → PrngReg), Pre_SsdReferenceIdeal_finite_ssd m →
    θ_run (Cert.SsdReferenceIdeal.defs (F := Ideal)) (onTc (τ := Cert.SsdReferenceIdeal.τ) (Cert.SsdReferenceIdeal.main (F := Ideal))) ⟨m, fun _ => 0, g⟩ (fun r => (∀ c : Dev Cert.SsdReferenceIdeal.nD,
      r.2.mem ((c.tc : Thread Cert.SsdReferenceIdeal.nD Cert.SsdReferenceIdeal.τ).loc Cert.SsdReferenceIdeal.main_arg0) = m ((c.tc : Thread Cert.SsdReferenceIdeal.nD Cert.SsdReferenceIdeal.τ).loc Cert.SsdReferenceIdeal.main_arg0)
      ∧ r.2.mem ((c.tc : Thread Cert.SsdReferenceIdeal.nD Cert.SsdReferenceIdeal.τ).loc Cert.SsdReferenceIdeal.main_arg1) = m ((c.tc : Thread Cert.SsdReferenceIdeal.nD Cert.SsdReferenceIdeal.τ).loc Cert.SsdReferenceIdeal.main_arg1)
      ∧ r.2.mem ((c.tc : Thread Cert.SsdReferenceIdeal.nD Cert.SsdReferenceIdeal.τ).loc Cert.SsdReferenceIdeal.main_arg2) = m ((c.tc : Thread Cert.SsdReferenceIdeal.nD Cert.SsdReferenceIdeal.τ).loc Cert.SsdReferenceIdeal.main_arg2)
      ∧ r.2.mem ((c.tc : Thread Cert.SsdReferenceIdeal.nD Cert.SsdReferenceIdeal.τ).loc Cert.SsdReferenceIdeal.main_arg3) = m ((c.tc : Thread Cert.SsdReferenceIdeal.nD Cert.SsdReferenceIdeal.τ).loc Cert.SsdReferenceIdeal.main_arg3)
      ∧ r.2.mem ((c.tc : Thread Cert.SsdReferenceIdeal.nD Cert.SsdReferenceIdeal.τ).loc Cert.SsdReferenceIdeal.main_arg4) = m ((c.tc : Thread Cert.SsdReferenceIdeal.nD Cert.SsdReferenceIdeal.τ).loc Cert.SsdReferenceIdeal.main_arg4)
      ∧ r.2.mem ((c.tc : Thread Cert.SsdReferenceIdeal.nD Cert.SsdReferenceIdeal.τ).loc Cert.SsdReferenceIdeal.main_arg5) = m ((c.tc : Thread Cert.SsdReferenceIdeal.nD Cert.SsdReferenceIdeal.τ).loc Cert.SsdReferenceIdeal.main_arg5)
      ∧ r.2.mem ((c.tc : Thread Cert.SsdReferenceIdeal.nD Cert.SsdReferenceIdeal.τ).loc Cert.SsdReferenceIdeal.main_arg6) = m ((c.tc : Thread Cert.SsdReferenceIdeal.nD Cert.SsdReferenceIdeal.τ).loc Cert.SsdReferenceIdeal.main_arg6)
      ∧ r.2.mem ((c.tc : Thread Cert.SsdReferenceIdeal.nD Cert.SsdReferenceIdeal.τ).loc Cert.SsdReferenceIdeal.main_arg7) = m ((c.tc : Thread Cert.SsdReferenceIdeal.nD Cert.SsdReferenceIdeal.τ).loc Cert.SsdReferenceIdeal.main_arg7))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v4) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v32) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)) →
    ∃ (v0 : (c : Dev Cert.MixKernelIdeal.nD) → Buf (Elt Ideal) ((c.tc : Thread Cert.MixKernelIdeal.nD Cert.MixKernelIdeal.τ).loc Cert.MixKernelIdeal.main_v9)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v9) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v84) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)) →
    ∃ (v0 : (c : Dev Cert.KvKernelIdeal.nD) → Buf (Elt Ideal) ((c.tc : Thread Cert.KvKernelIdeal.nD Cert.KvKernelIdeal.τ).loc Cert.KvKernelIdeal.main_v1)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v1) = v0 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v1) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_LruKernel_LruKernelIdeal : Prop :=
  True

def algebraic_LruKernelIdeal_LruReferenceIdeal [hLruKernelIdeal : Cert.LruKernelIdeal.Facts] [hLruReferenceIdeal : Cert.LruReferenceIdeal.Facts] : Prop :=
  ∀ (m : (ℓ : Loc Cert.LruKernelIdeal.nD Cert.LruKernelIdeal.τ Cert.LruKernelIdeal.sig) → Buf (Elt Ideal) ℓ) (g : Dev Cert.LruKernelIdeal.nD → PrngReg)
    (m' : (ℓ : Loc Cert.LruReferenceIdeal.nD Cert.LruReferenceIdeal.τ Cert.LruReferenceIdeal.sig) → Buf (Elt Ideal) ℓ) (g' : Dev Cert.LruReferenceIdeal.nD → PrngReg), Pre_LruKernelIdeal m →
    (∀ c : Dev Cert.LruKernelIdeal.nD,
      m' ((c.tc : Thread Cert.LruReferenceIdeal.nD Cert.LruReferenceIdeal.τ).loc Cert.LruReferenceIdeal.main_arg0) = m ((c.tc : Thread Cert.LruKernelIdeal.nD Cert.LruKernelIdeal.τ).loc Cert.LruKernelIdeal.main_arg0)
      ∧ m' ((c.tc : Thread Cert.LruReferenceIdeal.nD Cert.LruReferenceIdeal.τ).loc Cert.LruReferenceIdeal.main_arg1) = m ((c.tc : Thread Cert.LruKernelIdeal.nD Cert.LruKernelIdeal.τ).loc Cert.LruKernelIdeal.main_arg1)
      ∧ m' ((c.tc : Thread Cert.LruReferenceIdeal.nD Cert.LruReferenceIdeal.τ).loc Cert.LruReferenceIdeal.main_arg2) = m ((c.tc : Thread Cert.LruKernelIdeal.nD Cert.LruKernelIdeal.τ).loc Cert.LruKernelIdeal.main_arg2)
      ∧ m' ((c.tc : Thread Cert.LruReferenceIdeal.nD Cert.LruReferenceIdeal.τ).loc Cert.LruReferenceIdeal.main_arg3) = m ((c.tc : Thread Cert.LruKernelIdeal.nD Cert.LruKernelIdeal.τ).loc Cert.LruKernelIdeal.main_arg3)
      ∧ m' ((c.tc : Thread Cert.LruReferenceIdeal.nD Cert.LruReferenceIdeal.τ).loc Cert.LruReferenceIdeal.main_arg4) = m ((c.tc : Thread Cert.LruKernelIdeal.nD Cert.LruKernelIdeal.τ).loc Cert.LruKernelIdeal.main_arg4)
      ∧ m' ((c.tc : Thread Cert.LruReferenceIdeal.nD Cert.LruReferenceIdeal.τ).loc Cert.LruReferenceIdeal.main_arg5) = m ((c.tc : Thread Cert.LruKernelIdeal.nD Cert.LruKernelIdeal.τ).loc Cert.LruKernelIdeal.main_arg5)
      ∧ m' ((c.tc : Thread Cert.LruReferenceIdeal.nD Cert.LruReferenceIdeal.τ).loc Cert.LruReferenceIdeal.main_arg6) = m ((c.tc : Thread Cert.LruKernelIdeal.nD Cert.LruKernelIdeal.τ).loc Cert.LruKernelIdeal.main_arg6)
      ∧ m' ((c.tc : Thread Cert.LruReferenceIdeal.nD Cert.LruReferenceIdeal.τ).loc Cert.LruReferenceIdeal.main_arg7) = m ((c.tc : Thread Cert.LruKernelIdeal.nD Cert.LruKernelIdeal.τ).loc Cert.LruKernelIdeal.main_arg7)
      ∧ m' ((c.tc : Thread Cert.LruReferenceIdeal.nD Cert.LruReferenceIdeal.τ).loc Cert.LruReferenceIdeal.main_arg8) = m ((c.tc : Thread Cert.LruKernelIdeal.nD Cert.LruKernelIdeal.τ).loc Cert.LruKernelIdeal.main_arg8)) →
    ∃ (v0 : (c : Dev Cert.LruKernelIdeal.nD) → Buf (Elt Ideal) ((c.tc : Thread Cert.LruKernelIdeal.nD Cert.LruKernelIdeal.τ).loc Cert.LruKernelIdeal.main_v8)),
      θ_run (Cert.LruKernelIdeal.defs (F := Ideal)) (onTc (τ := Cert.LruKernelIdeal.τ) (Cert.LruKernelIdeal.main (F := Ideal))) ⟨m, fun _ => 0, g⟩ (fun r => ∀ c : Dev Cert.LruKernelIdeal.nD,
          r.2.mem ((c.tc : Thread Cert.LruKernelIdeal.nD Cert.LruKernelIdeal.τ).loc Cert.LruKernelIdeal.main_v8) = v0 c
          ∧ r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
          ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
          ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
          ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
          ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
          ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
          ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
          ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7)
          ∧ r.2.mem ((c.tc : Thread Cert.LruKernelIdeal.nD Cert.LruKernelIdeal.τ).loc Cert.LruKernelIdeal.main_arg8) = m ((c.tc : Thread Cert.LruKernelIdeal.nD Cert.LruKernelIdeal.τ).loc Cert.LruKernelIdeal.main_arg8))
      ∧ θ_run (Cert.LruReferenceIdeal.defs (F := Ideal)) (onTc (τ := Cert.LruReferenceIdeal.τ) (Cert.LruReferenceIdeal.main (F := Ideal))) ⟨m', fun _ => 0, g'⟩ (fun r => ∀ c : Dev Cert.LruReferenceIdeal.nD,
          r.2.mem ((c.tc : Thread Cert.LruReferenceIdeal.nD Cert.LruReferenceIdeal.τ).loc Cert.LruReferenceIdeal.main_v109) = v0 c
          ∧ r.2.mem ((c.tc : Thread Cert.LruReferenceIdeal.nD Cert.LruReferenceIdeal.τ).loc Cert.LruReferenceIdeal.main_arg0) = m' ((c.tc : Thread Cert.LruReferenceIdeal.nD Cert.LruReferenceIdeal.τ).loc Cert.LruReferenceIdeal.main_arg0)
          ∧ r.2.mem ((c.tc : Thread Cert.LruReferenceIdeal.nD Cert.LruReferenceIdeal.τ).loc Cert.LruReferenceIdeal.main_arg1) = m' ((c.tc : Thread Cert.LruReferenceIdeal.nD Cert.LruReferenceIdeal.τ).loc Cert.LruReferenceIdeal.main_arg1)
          ∧ r.2.mem ((c.tc : Thread Cert.LruReferenceIdeal.nD Cert.LruReferenceIdeal.τ).loc Cert.LruReferenceIdeal.main_arg2) = m' ((c.tc : Thread Cert.LruReferenceIdeal.nD Cert.LruReferenceIdeal.τ).loc Cert.LruReferenceIdeal.main_arg2)
          ∧ r.2.mem ((c.tc : Thread Cert.LruReferenceIdeal.nD Cert.LruReferenceIdeal.τ).loc Cert.LruReferenceIdeal.main_arg3) = m' ((c.tc : Thread Cert.LruReferenceIdeal.nD Cert.LruReferenceIdeal.τ).loc Cert.LruReferenceIdeal.main_arg3)
          ∧ r.2.mem ((c.tc : Thread Cert.LruReferenceIdeal.nD Cert.LruReferenceIdeal.τ).loc Cert.LruReferenceIdeal.main_arg4) = m' ((c.tc : Thread Cert.LruReferenceIdeal.nD Cert.LruReferenceIdeal.τ).loc Cert.LruReferenceIdeal.main_arg4)
          ∧ r.2.mem ((c.tc : Thread Cert.LruReferenceIdeal.nD Cert.LruReferenceIdeal.τ).loc Cert.LruReferenceIdeal.main_arg5) = m' ((c.tc : Thread Cert.LruReferenceIdeal.nD Cert.LruReferenceIdeal.τ).loc Cert.LruReferenceIdeal.main_arg5)
          ∧ r.2.mem ((c.tc : Thread Cert.LruReferenceIdeal.nD Cert.LruReferenceIdeal.τ).loc Cert.LruReferenceIdeal.main_arg6) = m' ((c.tc : Thread Cert.LruReferenceIdeal.nD Cert.LruReferenceIdeal.τ).loc Cert.LruReferenceIdeal.main_arg6)
          ∧ r.2.mem ((c.tc : Thread Cert.LruReferenceIdeal.nD Cert.LruReferenceIdeal.τ).loc Cert.LruReferenceIdeal.main_arg7) = m' ((c.tc : Thread Cert.LruReferenceIdeal.nD Cert.LruReferenceIdeal.τ).loc Cert.LruReferenceIdeal.main_arg7)
          ∧ r.2.mem ((c.tc : Thread Cert.LruReferenceIdeal.nD Cert.LruReferenceIdeal.τ).loc Cert.LruReferenceIdeal.main_arg8) = m' ((c.tc : Thread Cert.LruReferenceIdeal.nD Cert.LruReferenceIdeal.τ).loc Cert.LruReferenceIdeal.main_arg8))

def preserves_SsdKernel_SsdKernelIdeal : Prop :=
  True

def algebraic_SsdKernelIdeal_SsdReferenceIdeal_pre_finite_ssd [hSsdKernelIdeal : Cert.SsdKernelIdeal.Facts] [hSsdReferenceIdeal : Cert.SsdReferenceIdeal.Facts] [hPre_finite_ssd : Cert.Pre_finite_ssd.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg)
    (m' : (ℓ : Loc Cert.SsdReferenceIdeal.nD Cert.SsdReferenceIdeal.τ Cert.SsdReferenceIdeal.sig) → Buf (Elt Ideal) ℓ) (g' : Dev Cert.SsdReferenceIdeal.nD → PrngReg), Pre_SsdKernelIdeal_finite_ssd m →
    (∀ c : Dev Cert.SsdKernelIdeal.nD,
      m' ((c.tc : Thread Cert.SsdReferenceIdeal.nD Cert.SsdReferenceIdeal.τ).loc Cert.SsdReferenceIdeal.main_arg0) = m ((c.tc : Thread Cert.SsdKernelIdeal.nD Cert.SsdKernelIdeal.τ).loc Cert.SsdKernelIdeal.main_arg0)
      ∧ m' ((c.tc : Thread Cert.SsdReferenceIdeal.nD Cert.SsdReferenceIdeal.τ).loc Cert.SsdReferenceIdeal.main_arg1) = m ((c.tc : Thread Cert.SsdKernelIdeal.nD Cert.SsdKernelIdeal.τ).loc Cert.SsdKernelIdeal.main_arg1)
      ∧ m' ((c.tc : Thread Cert.SsdReferenceIdeal.nD Cert.SsdReferenceIdeal.τ).loc Cert.SsdReferenceIdeal.main_arg2) = m ((c.tc : Thread Cert.SsdKernelIdeal.nD Cert.SsdKernelIdeal.τ).loc Cert.SsdKernelIdeal.main_arg2)
      ∧ m' ((c.tc : Thread Cert.SsdReferenceIdeal.nD Cert.SsdReferenceIdeal.τ).loc Cert.SsdReferenceIdeal.main_arg3) = m ((c.tc : Thread Cert.SsdKernelIdeal.nD Cert.SsdKernelIdeal.τ).loc Cert.SsdKernelIdeal.main_arg3)
      ∧ m' ((c.tc : Thread Cert.SsdReferenceIdeal.nD Cert.SsdReferenceIdeal.τ).loc Cert.SsdReferenceIdeal.main_arg4) = m ((c.tc : Thread Cert.SsdKernelIdeal.nD Cert.SsdKernelIdeal.τ).loc Cert.SsdKernelIdeal.main_arg4)
      ∧ m' ((c.tc : Thread Cert.SsdReferenceIdeal.nD Cert.SsdReferenceIdeal.τ).loc Cert.SsdReferenceIdeal.main_arg5) = m ((c.tc : Thread Cert.SsdKernelIdeal.nD Cert.SsdKernelIdeal.τ).loc Cert.SsdKernelIdeal.main_arg5)
      ∧ m' ((c.tc : Thread Cert.SsdReferenceIdeal.nD Cert.SsdReferenceIdeal.τ).loc Cert.SsdReferenceIdeal.main_arg6) = m ((c.tc : Thread Cert.SsdKernelIdeal.nD Cert.SsdKernelIdeal.τ).loc Cert.SsdKernelIdeal.main_arg6)
      ∧ m' ((c.tc : Thread Cert.SsdReferenceIdeal.nD Cert.SsdReferenceIdeal.τ).loc Cert.SsdReferenceIdeal.main_arg7) = m ((c.tc : Thread Cert.SsdKernelIdeal.nD Cert.SsdKernelIdeal.τ).loc Cert.SsdKernelIdeal.main_arg7)) →
    ∃ (v0 : (c : Dev Cert.SsdKernelIdeal.nD) → Buf (Elt Ideal) ((c.tc : Thread Cert.SsdKernelIdeal.nD Cert.SsdKernelIdeal.τ).loc Cert.SsdKernelIdeal.main_v37)),
      θ_run (Cert.SsdKernelIdeal.defs (F := Ideal)) (onTc (τ := Cert.SsdKernelIdeal.τ) (Cert.SsdKernelIdeal.main (F := Ideal))) ⟨m, fun _ => 0, g⟩ (fun r => ∀ c : Dev Cert.SsdKernelIdeal.nD,
          r.2.mem ((c.tc : Thread Cert.SsdKernelIdeal.nD Cert.SsdKernelIdeal.τ).loc Cert.SsdKernelIdeal.main_v37) = v0 c
          ∧ r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
          ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
          ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
          ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
          ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
          ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5)
          ∧ r.2.mem ((c.tc : Thread Cert.SsdKernelIdeal.nD Cert.SsdKernelIdeal.τ).loc Cert.SsdKernelIdeal.main_arg6) = m ((c.tc : Thread Cert.SsdKernelIdeal.nD Cert.SsdKernelIdeal.τ).loc Cert.SsdKernelIdeal.main_arg6)
          ∧ r.2.mem ((c.tc : Thread Cert.SsdKernelIdeal.nD Cert.SsdKernelIdeal.τ).loc Cert.SsdKernelIdeal.main_arg7) = m ((c.tc : Thread Cert.SsdKernelIdeal.nD Cert.SsdKernelIdeal.τ).loc Cert.SsdKernelIdeal.main_arg7))
      ∧ θ_run (Cert.SsdReferenceIdeal.defs (F := Ideal)) (onTc (τ := Cert.SsdReferenceIdeal.τ) (Cert.SsdReferenceIdeal.main (F := Ideal))) ⟨m', fun _ => 0, g'⟩ (fun r => ∀ c : Dev Cert.SsdReferenceIdeal.nD,
          r.2.mem ((c.tc : Thread Cert.SsdReferenceIdeal.nD Cert.SsdReferenceIdeal.τ).loc Cert.SsdReferenceIdeal.main_v95) = v0 c
          ∧ r.2.mem ((c.tc : Thread Cert.SsdReferenceIdeal.nD Cert.SsdReferenceIdeal.τ).loc Cert.SsdReferenceIdeal.main_arg0) = m' ((c.tc : Thread Cert.SsdReferenceIdeal.nD Cert.SsdReferenceIdeal.τ).loc Cert.SsdReferenceIdeal.main_arg0)
          ∧ r.2.mem ((c.tc : Thread Cert.SsdReferenceIdeal.nD Cert.SsdReferenceIdeal.τ).loc Cert.SsdReferenceIdeal.main_arg1) = m' ((c.tc : Thread Cert.SsdReferenceIdeal.nD Cert.SsdReferenceIdeal.τ).loc Cert.SsdReferenceIdeal.main_arg1)
          ∧ r.2.mem ((c.tc : Thread Cert.SsdReferenceIdeal.nD Cert.SsdReferenceIdeal.τ).loc Cert.SsdReferenceIdeal.main_arg2) = m' ((c.tc : Thread Cert.SsdReferenceIdeal.nD Cert.SsdReferenceIdeal.τ).loc Cert.SsdReferenceIdeal.main_arg2)
          ∧ r.2.mem ((c.tc : Thread Cert.SsdReferenceIdeal.nD Cert.SsdReferenceIdeal.τ).loc Cert.SsdReferenceIdeal.main_arg3) = m' ((c.tc : Thread Cert.SsdReferenceIdeal.nD Cert.SsdReferenceIdeal.τ).loc Cert.SsdReferenceIdeal.main_arg3)
          ∧ r.2.mem ((c.tc : Thread Cert.SsdReferenceIdeal.nD Cert.SsdReferenceIdeal.τ).loc Cert.SsdReferenceIdeal.main_arg4) = m' ((c.tc : Thread Cert.SsdReferenceIdeal.nD Cert.SsdReferenceIdeal.τ).loc Cert.SsdReferenceIdeal.main_arg4)
          ∧ r.2.mem ((c.tc : Thread Cert.SsdReferenceIdeal.nD Cert.SsdReferenceIdeal.τ).loc Cert.SsdReferenceIdeal.main_arg5) = m' ((c.tc : Thread Cert.SsdReferenceIdeal.nD Cert.SsdReferenceIdeal.τ).loc Cert.SsdReferenceIdeal.main_arg5)
          ∧ r.2.mem ((c.tc : Thread Cert.SsdReferenceIdeal.nD Cert.SsdReferenceIdeal.τ).loc Cert.SsdReferenceIdeal.main_arg6) = m' ((c.tc : Thread Cert.SsdReferenceIdeal.nD Cert.SsdReferenceIdeal.τ).loc Cert.SsdReferenceIdeal.main_arg6)
          ∧ r.2.mem ((c.tc : Thread Cert.SsdReferenceIdeal.nD Cert.SsdReferenceIdeal.τ).loc Cert.SsdReferenceIdeal.main_arg7) = m' ((c.tc : Thread Cert.SsdReferenceIdeal.nD Cert.SsdReferenceIdeal.τ).loc Cert.SsdReferenceIdeal.main_arg7))

def Claim : Prop :=
  ∃ (hFfnKernel : Cert.FfnKernel.Facts) (hFfnKernelIdeal : Cert.FfnKernelIdeal.Facts) (hFfnReferenceIdeal : Cert.FfnReferenceIdeal.Facts) (hMixKernel : Cert.MixKernel.Facts) (hMixKernelIdeal : Cert.MixKernelIdeal.Facts) (hMixReferenceIdeal : Cert.MixReferenceIdeal.Facts) (hKvKernel : Cert.KvKernel.Facts) (hKvKernelIdeal : Cert.KvKernelIdeal.Facts) (hKvReferenceIdeal : Cert.KvReferenceIdeal.Facts) (hLruKernel : Cert.LruKernel.Facts) (hLruKernelIdeal : Cert.LruKernelIdeal.Facts) (hLruReferenceIdeal : Cert.LruReferenceIdeal.Facts) (hSsdKernel : Cert.SsdKernel.Facts) (hSsdKernelIdeal : Cert.SsdKernelIdeal.Facts) (hSsdReferenceIdeal : Cert.SsdReferenceIdeal.Facts) (hPre_finite_ssd : Cert.Pre_finite_ssd.Facts),
    quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_KvKernel (hKvKernel := hKvKernel)
    ∧ quiescent_KvKernelIdeal (hKvKernelIdeal := hKvKernelIdeal)
    ∧ quiescent_KvReferenceIdeal (hKvReferenceIdeal := hKvReferenceIdeal)
    ∧ quiescent_LruKernel (hLruKernel := hLruKernel)
    ∧ quiescent_LruKernelIdeal (hLruKernelIdeal := hLruKernelIdeal)
    ∧ quiescent_LruReferenceIdeal (hLruReferenceIdeal := hLruReferenceIdeal)
    ∧ quiescent_SsdKernel (hSsdKernel := hSsdKernel)
    ∧ quiescent_SsdKernelIdeal (hSsdKernelIdeal := hSsdKernelIdeal)
    ∧ quiescent_SsdKernelIdeal_pre_finite_ssd (hSsdKernelIdeal := hSsdKernelIdeal) (hPre_finite_ssd := hPre_finite_ssd)
    ∧ quiescent_SsdReferenceIdeal (hSsdReferenceIdeal := hSsdReferenceIdeal)
    ∧ quiescent_SsdReferenceIdeal_pre_finite_ssd (hSsdReferenceIdeal := hSsdReferenceIdeal) (hPre_finite_ssd := hPre_finite_ssd)
    ∧ preserves_FfnKernel_FfnKernelIdeal
    ∧ algebraic_FfnKernelIdeal_FfnReferenceIdeal (hFfnKernelIdeal := hFfnKernelIdeal) (hFfnReferenceIdeal := hFfnReferenceIdeal)
    ∧ preserves_MixKernel_MixKernelIdeal
    ∧ algebraic_MixKernelIdeal_MixReferenceIdeal (hMixKernelIdeal := hMixKernelIdeal) (hMixReferenceIdeal := hMixReferenceIdeal)
    ∧ preserves_KvKernel_KvKernelIdeal
    ∧ algebraic_KvKernelIdeal_KvReferenceIdeal (hKvKernelIdeal := hKvKernelIdeal) (hKvReferenceIdeal := hKvReferenceIdeal)
    ∧ preserves_LruKernel_LruKernelIdeal
    ∧ algebraic_LruKernelIdeal_LruReferenceIdeal (hLruKernelIdeal := hLruKernelIdeal) (hLruReferenceIdeal := hLruReferenceIdeal)
    ∧ preserves_SsdKernel_SsdKernelIdeal
    ∧ algebraic_SsdKernelIdeal_SsdReferenceIdeal_pre_finite_ssd (hSsdKernelIdeal := hSsdKernelIdeal) (hSsdReferenceIdeal := hSsdReferenceIdeal) (hPre_finite_ssd := hPre_finite_ssd)
-- ==== Pre_finite_ssd.lean ====
abbrev S2x8192x1024 : Shape := ⟨3, ![2, 8192, 1024]⟩
abbrev S1024x11296 : Shape := ⟨2, ![1024, 11296]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩

class Facts : Prop where
  bcast_S_S2x8192x1024 : S_.BroadcastsInDim S2x8192x1024 (![] : Fin 0 → Fin S2x8192x1024.rank)
  bcast_S_S1024x11296 : S_.BroadcastsInDim S1024x11296 (![] : Fin 0 → Fin S1024x11296.rank)
  bcast_S_S4x3072 : S_.BroadcastsInDim S4x3072 (![] : Fin 0 → Fin S4x3072.rank)
  bcast_S_S3072 : S_.BroadcastsInDim S3072 (![] : Fin 0 → Fin S3072.rank)
  bcast_S_S32 : S_.BroadcastsInDim S32 (![] : Fin 0 → Fin S32.rank)

variable [Facts]

def fn {F : FTy → Type} [FloatOps F] (main_arg0 : FVec F S2x8192x1024 .f32) (main_arg1 : FVec F S1024x11296 .f32) (main_arg2 : FVec F S4x3072 .f32) (main_arg3 : FVec F S3072 .f32) (main_arg4 : FVec F S32 .f32) (main_arg5 : FVec F S32 .f32) (main_arg6 : FVec F S32 .f32) (main_arg7 : FVec F S2048 .f32) : IVec S2x8192x1024 1 × IVec S1024x11296 1 × IVec S4x3072 1 × IVec S3072 1 × IVec S32 1 × IVec S32 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S1024x11296 .f32 := Host.absf main_arg1
  let main_cst_0 : FVec F S_ .f32 := constant S_ .f32 0x7F800000#32
  let main_v4 : FVec F S1024x11296 .f32 := broadcastInDim S1024x11296 ![] bcast_S_S1024x11296 main_cst_0
  let main_v5 : IVec S1024x11296 1 := cmpf .olt main_v3 main_v4
  let main_v6 : FVec F S4x3072 .f32 := Host.absf main_arg2
  let main_cst_1 : FVec F S_ .f32 := constant S_ .f32 0x7F800000#32
  let main_v7 : FVec F S4x3072 .f32 := broadcastInDim S4x3072 ![] bcast_S_S4x3072 main_cst_1
  let main_v8 : IVec S4x3072 1 := cmpf .olt main_v6 main_v7
  let main_v9 : FVec F S3072 .f32 := Host.absf main_arg3
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_v12 : FVec F S32 .f32 := Host.absf main_arg4
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  let main_v15 : FVec F S32 .f32 := Host.absf main_arg5
  let main_cst_4 : FVec F S_ .f32 := constant S_ .f32 0x7F800000#32
  let main_v16 : FVec F S32 .f32 := broadcastInDim S32 ![] bcast_S_S32 main_cst_4
  let main_v17 : IVec S32 1 := cmpf .olt main_v15 main_v16
  (main_v2, main_v5, main_v8, main_v11, main_v14, main_v17)
-- ==== FfnKernel.lean ====
abbrev S2x8192x1024 : Shape := ⟨3, ![2, 8192, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1x256x1024, .f32⟩
  | .local _ .vmem, ⟨7, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnReferenceIdeal.lean ====
abbrev S2x8192x1024 : Shape := ⟨3, ![2, 8192, 1024]⟩
abbrev S1024x5632 : Shape := ⟨2, ![1024, 5632]⟩
abbrev S2816x1024 : Shape := ⟨2, ![2816, 1024]⟩
abbrev S1024 : Shape := ⟨1, ![1024]⟩
abbrev S2x8192x5632 : Shape := ⟨3, ![2, 8192, 5632]⟩
abbrev S2x8192x2816 : Shape := ⟨3, ![2, 8192, 2816]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S2x8192x5632, .f32⟩
  | .hbm, ⟨6, _⟩ => ⟨S2x8192x2816, .f32⟩
  | .hbm, ⟨7, _⟩ => ⟨S2x8192x2816, .f32⟩
  | .hbm, ⟨8, _⟩ => ⟨S_, .f32⟩
  | .hbm, ⟨9, _⟩ => ⟨S2x8192x1024, .f32⟩
  | .hbm, ⟨10, _⟩ => ⟨S2x8192x1024, .f32⟩
  | .hbm, ⟨11, _⟩ => ⟨S2x8192x2816, .f32⟩
  | .hbm, ⟨12, _⟩ => ⟨S2x8192x2816, .f32⟩
  | .hbm, ⟨13, _⟩ => ⟨S_, .f32⟩
  | .hbm, ⟨14, _⟩ => ⟨S2x8192x2816, .f32⟩
  | .hbm, ⟨15, _⟩ => ⟨S2x8192x2816, .f32⟩
  | .hbm, ⟨16, _⟩ => ⟨S_, .f32⟩
  | .hbm, ⟨17, _⟩ => ⟨S2x8192x2816, .f32⟩
  | .hbm, ⟨18, _⟩ => ⟨S2x8192x2816, .f32⟩
  | .hbm, ⟨19, _⟩ => ⟨S2x8192x2816, .f32⟩
  | .hbm, ⟨20, _⟩ => ⟨S2x8192x2816, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== MixKernel.lean ====
abbrev S2x8192x1024 : Shape := ⟨3, ![2, 8192, 1024]⟩
abbrev S1024x11296 : Shape := ⟨2, ![1024, 11296]⟩
abbrev S2x256x2048 : Shape := ⟨3, ![2, 256, 2048]⟩
abbrev S2x8192x2048 : Shape := ⟨3, ![2, 8192, 2048]⟩
abbrev S3x1024 : Shape := ⟨2, ![3, 1024]⟩
abbrev S1024x1024 : Shape := ⟨2, ![1024, 1024]⟩
abbrev S2048x1024 : Shape := ⟨2, ![2048, 1024]⟩
abbrev S1024 : Shape := ⟨1, ![1024]⟩
abbrev S1024x4096 : Shape := ⟨2, ![1024, 4096]⟩
abbrev S1x3072 : Shape := ⟨2, ![1, 3072]⟩
abbrev S1x1024 : Shape := ⟨2, ![1, 1024]⟩
abbrev S1x256x1024 : Shape := ⟨3, ![1, 256, 1024]⟩
abbrev S1x256x2048 : Shape := ⟨3, ![1, 256, 2048]⟩
abbrev S256x1024 : Shape := ⟨2, ![256, 1024]⟩
abbrev S256x4096 : Shape := ⟨2, ![256, 4096]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S256x3072 : Shape := ⟨2, ![256, 3072]⟩
abbrev S256x2048 : Shape := ⟨2, ![256, 2048]⟩

abbrev nBuf : Space → Nat
  | .hbm => 22
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1024x11296, .f32⟩
  | .hbm, ⟨2, _⟩ => ⟨S2x256x2048, .bf16⟩
  | .hbm, ⟨3, _⟩ => ⟨S2x8192x1024, .bf16⟩
  | .hbm, ⟨4, _⟩ => ⟨S2x8192x2048, .bf16⟩
  | .hbm, ⟨5, _⟩ => ⟨S3x1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x4096, .f32⟩
  | .hbm, ⟨13, _⟩ => ⟨S1024x4096, .bf16⟩
  | .hbm, ⟨14, _⟩ => ⟨S1024x1024, .bf16⟩
  | .hbm, ⟨15, _⟩ => ⟨S2048x1024, .bf16⟩
  | .hbm, ⟨16, _⟩ => ⟨S1024x1024, .bf16⟩
  | .hbm, ⟨17, _⟩ => ⟨S1024x1024, .bf16⟩
  | .hbm, ⟨18, _⟩ => ⟨S1x3072, .f32⟩
  | .hbm, ⟨19, _⟩ => ⟨S1x1024, .f32⟩
  | .hbm, ⟨20, _⟩ => ⟨S1x1024, .f32⟩
  | .hbm, ⟨21, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x4096, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x3072, .f32⟩
  | .local _ .vmem, ⟨10, _⟩ => ⟨S1024x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x256x1024, .f32⟩
  | .local _ .vmem, ⟨17, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixReferenceIdeal.lean ====
abbrev S2x8192x1024 : Shape := ⟨3, ![2, 8192, 1024]⟩
abbrev S1024x11296 : Shape := ⟨2, ![1024, 11296]⟩
abbrev S2x256x2048 : Shape := ⟨3, ![2, 256, 2048]⟩
abbrev S2x8192x2048 : Shape := ⟨3, ![2, 8192, 2048]⟩
abbrev S3x1024 : Shape := ⟨2, ![3, 1024]⟩
abbrev S1024x1024 : Shape := ⟨2, ![1024, 1024]⟩
abbrev S2048x1024 : Shape := ⟨2, ![2048, 1024]⟩
abbrev S1024 : Shape := ⟨1, ![1024]⟩
abbrev S2x8192x11296 : Shape := ⟨3, ![2, 8192, 11296]⟩
abbrev S2x8192x3072 : Shape := ⟨3, ![2, 8192, 3072]⟩
abbrev S2x8192x32 : Shape := ⟨3, ![2, 8192, 32]⟩
abbrev S2x256x1024 : Shape := ⟨3, ![2, 256, 1024]⟩
abbrev S2x8192x4x256 : Shape := ⟨4, ![2, 8192, 4, 256]⟩
abbrev S2x256x4x256 : Shape := ⟨4, ![2, 256, 4, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S2x8192x3x1024 : Shape := ⟨4, ![2, 8192, 3, 1024]⟩
abbrev S1x1x3x1024 : Shape := ⟨4, ![1, 1, 3, 1024]⟩
abbrev S2x8192x1x1024 : Shape := ⟨4, ![2, 8192, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x11296, .f32⟩
  | .hbm, ⟨2, _⟩ => ⟨S2x256x2048, .bf16⟩
  | .hbm, ⟨3, _⟩ => ⟨S2x8192x1024, .bf16⟩
  | .hbm, ⟨4, _⟩ => ⟨S2x8192x2048, .bf16⟩
  | .hbm, ⟨5, _⟩ => ⟨S3x1024, .f32⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S2x8192x11296, .f32⟩
  | .hbm, ⟨13, _⟩ => ⟨S2x8192x1024, .f32⟩
  | .hbm, ⟨14, _⟩ => ⟨S2x8192x1024, .f32⟩
  | .hbm, ⟨15, _⟩ => ⟨S2x8192x2048, .f32⟩
  | .hbm, ⟨16, _⟩ => ⟨S2x8192x3072, .f32⟩
  | .hbm, ⟨17, _⟩ => ⟨S2x8192x32, .f32⟩
  | .hbm, ⟨18, _⟩ => ⟨S2x8192x1024, .f32⟩
  | .hbm, ⟨19, _⟩ => ⟨S2x8192x3072, .f32⟩
  | .hbm, ⟨20, _⟩ => ⟨S2x256x2048, .f32⟩
  | .hbm, ⟨21, _⟩ => ⟨S2x256x1024, .f32⟩
  | .hbm, ⟨22, _⟩ => ⟨S2x256x1024, .f32⟩
  | .hbm, ⟨23, _⟩ => ⟨S2x8192x4x256, .f32⟩
  | .hbm, ⟨24, _⟩ => ⟨S2x256x4x256, .f32⟩
  | .hbm, ⟨25, _⟩ => ⟨S2x256x4x256, .f32⟩
  | .hbm, ⟨26, _⟩ => ⟨S2x4x8192x256, .f32⟩
  | .hbm, ⟨27, _⟩ => ⟨S_, .f32⟩
  | .hbm, ⟨28, _⟩ => ⟨S2x4x8192x256, .f32⟩
  | .hbm, ⟨29, _⟩ => ⟨S2x4x8192x256, .f32⟩
  | .hbm, ⟨30, _⟩ => ⟨S_, .f32⟩
  | .hbm, ⟨31, _⟩ => ⟨S2x4x8192, .f32⟩
  | .hbm, ⟨32, _⟩ => ⟨S_, .f32⟩
  | .hbm, ⟨33, _⟩ => ⟨S2x4x8192, .f32⟩
  | .hbm, ⟨34, _⟩ => ⟨S2x4x8192, .f32⟩
  | .hbm, ⟨35, _⟩ => ⟨S2x4x8192x1, .f32⟩
  | .hbm, ⟨36, _⟩ => ⟨S2x4x8192x256, .f32⟩
  | .hbm, ⟨37, _⟩ => ⟨S2x4x8192x256, .f32⟩
  | .hbm, ⟨38, _⟩ => ⟨S2x4x8192x256, .f32⟩
  | .hbm, ⟨39, _⟩ => ⟨S_, .f32⟩
  | .hbm, ⟨40, _⟩ => ⟨S2x4x8192, .f32⟩
  | .hbm, ⟨41, _⟩ => ⟨S2x4x8192x1, .f32⟩
  | .hbm, ⟨42, _⟩ => ⟨S2x4x8192x256, .f32⟩
  | .hbm, ⟨43, _⟩ => ⟨S2x4x8192x256, .f32⟩
  | .hbm, ⟨44, _⟩ => ⟨S2x4x256x8192, .f32⟩
  | .hbm, ⟨45, _⟩ => ⟨S2x8192x4x256, .f32⟩
  | .hbm, ⟨46, _⟩ => ⟨S2x8192x1024, .f32⟩
  | .hbm, ⟨47, _⟩ => ⟨S2x8192x3x1024, .f32⟩
  | .hbm, ⟨48, _⟩ => ⟨S1x1x3x1024, .f32⟩
  | .hbm, ⟨49, _⟩ => ⟨S2x8192x3x1024, .f32⟩
  | .hbm, ⟨50, _⟩ => ⟨S2x8192x3x1024, .f32⟩
  | .hbm, ⟨51, _⟩ => ⟨S2x8192x3x1024, .f32⟩
  | .hbm, ⟨52, _⟩ => ⟨S2x8192x3x1024, .f32⟩
  | .hbm, ⟨53, _⟩ => ⟨S_, .f32⟩
  | .hbm, ⟨54, _⟩ => ⟨S2x8192x3x1024, .f32⟩
  | .hbm, ⟨55, _⟩ => ⟨S2x8192x3x1024, .f32⟩
  | .hbm, ⟨56, _⟩ => ⟨S_, .f32⟩
  | .hbm, ⟨57, _⟩ => ⟨S2x8192x3x1024, .f32⟩
  | .hbm, ⟨58, _⟩ => ⟨S2x8192x3x1024, .f32⟩
  | .hbm, ⟨59, _⟩ => ⟨S2x8192x1x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S2x8192x1x1024, .f32⟩
  | .hbm, ⟨65, _⟩ => ⟨S2x8192x1024, .f32⟩
  | .hbm, ⟨66, _⟩ => ⟨S2x8192x2048, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S2x8192x1x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S2x8192x1024, .f32⟩
  | .hbm, ⟨75, _⟩ => ⟨S_, .f32⟩
  | .hbm, ⟨76, _⟩ => ⟨S2x8192x1024, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S_, .f32⟩
  | .hbm, ⟨81, _⟩ => ⟨S2x8192, .f32⟩
  | .hbm, ⟨82, _⟩ => ⟨S2x8192x1, .f32⟩
  | .hbm, ⟨83, _⟩ => ⟨S_, .f32⟩
  | .hbm, ⟨84, _⟩ => ⟨S2x8192x1, .f32⟩
  | .hbm, ⟨85, _⟩ => ⟨S2x8192x1, .f32⟩
  | .hbm, ⟨86, _⟩ => ⟨S2x8192x1024, .f32⟩
  | .hbm, ⟨87, _⟩ => ⟨S2x8192x1024, .f32⟩
  | .hbm, ⟨88, _⟩ => ⟨S2x8192x1024, .f32⟩
  | .hbm, ⟨89, _⟩ => ⟨S_, .f32⟩
  | .hbm, ⟨90, _⟩ => ⟨S2x8192, .f32⟩
  | .hbm, ⟨91, _⟩ => ⟨S2x8192x1, .f32⟩
  | .hbm, ⟨92, _⟩ => ⟨S_, .f32⟩
  | .hbm, ⟨93, _⟩ => ⟨S2x8192x1, .f32⟩
  | .hbm, ⟨94, _⟩ => ⟨S2x8192x1, .f32⟩
  | .hbm, ⟨95, _⟩ => ⟨S2x8192x1024, .f32⟩
  | .hbm, ⟨96, _⟩ => ⟨S2x8192x1024, .f32⟩
  | .hbm, ⟨97, _⟩ => ⟨S_, .f32⟩
  | .hbm, ⟨98, _⟩ => ⟨S2x8192x1, .f32⟩
  | .hbm, ⟨99, _⟩ => ⟨S2x8192x1, .f32⟩
  | .hbm, ⟨100, _⟩ => ⟨S2x8192x1, .f32⟩
  | .hbm, ⟨101, _⟩ => ⟨S2x8192x1024, .f32⟩
  | .hbm, ⟨102, _⟩ => ⟨S2x8192x1024, .f32⟩
  | .hbm, ⟨103, _⟩ => ⟨S1x1x1024, .f32⟩
  | .hbm, ⟨104, _⟩ => ⟨S2x8192x1024, .f32⟩
  | .hbm, ⟨105, _⟩ => ⟨S2x8192x1024, .f32⟩
  | .hbm, ⟨106, _⟩ => ⟨S1x1x1024, .f32⟩
  | .hbm, ⟨107, _⟩ => ⟨S2x8192x1024, .f32⟩
  | .hbm, ⟨108, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_5 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_6 : Ref sig .tc := ⟨.hbm, 80, rfl⟩
abbrev main_v61 : Ref sig .tc := ⟨.hbm, 81, rfl⟩
abbrev main_v62 : Ref sig .tc := ⟨.hbm, 82, rfl⟩
abbrev main_cst_7 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_8 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩

abbrev nD : Nat := 1
abbrev τ : Topo := Topo.v7x

variable {F : FTy → Type} [FloatOps F]
-- ==== KvKernel.lean ====
abbrev S2x256x1024 : Shape := ⟨3, ![2, 256, 1024]⟩
abbrev S1024x2048 : Shape := ⟨2, ![1024, 2048]⟩
abbrev S2x256x2048 : Shape := ⟨3, ![2, 256, 2048]⟩
abbrev S1x256x1024 : Shape := ⟨3, ![1, 256, 1024]⟩
abbrev S1x256x2048 : Shape := ⟨3, ![1, 256, 2048]⟩
abbrev S256x1024 : Shape := ⟨2, ![256, 1024]⟩
abbrev S256x2048 : Shape := ⟨2, ![256, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2x256x1024, .f32⟩
  | .hbm, ⟨1, _⟩ => ⟨S1024x2048, .f32⟩
  | .hbm, ⟨2, _⟩ => ⟨S1024x2048, .bf16⟩
  | .hbm, ⟨3, _⟩ => ⟨S2x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1024x2048, .bf16⟩
  | .local _ .vmem, ⟨3, _⟩ => ⟨S1x256x2048, .bf16⟩
  | .local _ .vmem, ⟨4, _⟩ => ⟨S1x256x2048, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvReferenceIdeal.lean ====
abbrev S2x256x1024 : Shape := ⟨3, ![2, 256, 1024]⟩
abbrev S1024x2048 : Shape := ⟨2, ![1024, 2048]⟩
abbrev S2x256x2048 : Shape := ⟨3, ![2, 256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x2048, .f32⟩
  | .hbm, ⟨2, _⟩ => ⟨S2x256x2048, .f32⟩
  | .hbm, ⟨3, _⟩ => ⟨S2x256x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LruKernel.lean ====
abbrev S2x8192x1024 : Shape := ⟨3, ![2, 8192, 1024]⟩
abbrev S1024x11296 : Shape := ⟨2, ![1024, 11296]⟩
abbrev S4x1024 : Shape := ⟨2, ![4, 1024]⟩
abbrev S1024 : Shape := ⟨1, ![1024]⟩
abbrev S8x128x128 : Shape := ⟨3, ![8, 128, 128]⟩
abbrev S1024x2048 : Shape := ⟨2, ![1024, 2048]⟩
abbrev S8x128x256 : Shape := ⟨3, ![8, 128, 256]⟩
abbrev S1x1024 : Shape := ⟨2, ![1, 1024]⟩
abbrev S1x512x1024 : Shape := ⟨3, ![1, 512, 1024]⟩
abbrev S520x1024 : Shape := ⟨2, ![520, 1024]⟩
abbrev S8x1024 : Shape := ⟨2, ![8, 1024]⟩
abbrev S512x1024 : Shape := ⟨2, ![512, 1024]⟩
abbrev S512x2048 : Shape := ⟨2, ![512, 2048]⟩
abbrev S64x8x128 : Shape := ⟨3, ![64, 8, 128]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S1x128 : Shape := ⟨2, ![1, 128]⟩
abbrev S1x8x128 : Shape := ⟨3, ![1, 8, 128]⟩
abbrev S8x128 : Shape := ⟨2, ![8, 128]⟩
abbrev S1x512x128 : Shape := ⟨3, ![1, 512, 128]⟩

abbrev nBuf : Space → Nat
  | .hbm => 18
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S1024x11296, .f32⟩
  | .hbm, ⟨2, _⟩ => ⟨S4x1024, .f32⟩
  | .hbm, ⟨3, _⟩ => ⟨S1024, .f32⟩
  | .hbm, ⟨4, _⟩ => ⟨S8x128x128, .f32⟩
  | .hbm, ⟨5, _⟩ => ⟨S1024, .f32⟩
  | .hbm, ⟨6, _⟩ => ⟨S8x128x128, .f32⟩
  | .hbm, ⟨7, _⟩ => ⟨S1024, .f32⟩
  | .hbm, ⟨8, _⟩ => ⟨S1024, .f32⟩
  | .hbm, ⟨9, _⟩ => ⟨S1024x2048, .f32⟩
  | .hbm, ⟨10, _⟩ => ⟨S1024x2048, .bf16⟩
  | .hbm, ⟨11, _⟩ => ⟨S8x128x256, .f32⟩
  | .hbm, ⟨12, _⟩ => ⟨S8x128x256, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S2x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1024x2048, .bf16⟩
  | .local _ .vmem, ⟨3, _⟩ => ⟨S4x1024, .f32⟩
  | .local _ .vmem, ⟨4, _⟩ => ⟨S1x1024, .f32⟩
  | .local _ .vmem, ⟨5, _⟩ => ⟨S8x128x256, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S520x1024, .f32⟩
  | .local _ .vmem, ⟨12, _⟩ => ⟨S1x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LruReferenceIdeal.lean ====
abbrev S2x8192x1024 : Shape := ⟨3, ![2, 8192, 1024]⟩
abbrev S1024x11296 : Shape := ⟨2, ![1024, 11296]⟩
abbrev S4x1024 : Shape := ⟨2, ![4, 1024]⟩
abbrev S1024 : Shape := ⟨1, ![1024]⟩
abbrev S8x128x128 : Shape := ⟨3, ![8, 128, 128]⟩
abbrev S2x8192x11296 : Shape := ⟨3, ![2, 8192, 11296]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S_ : Shape := ⟨0, ![]⟩
abbrev S2x8195x1024 : Shape := ⟨3, ![2, 8195, 1024]⟩
abbrev S1x1024 : Shape := ⟨2, ![1, 1024]⟩
abbrev S1x1x1024 : Shape := ⟨3, ![1, 1, 1024]⟩
abbrev S2x8192x8x128 : Shape := ⟨4, ![2, 8192, 8, 128]⟩
abbrev S8x128x2x8192 : Shape := ⟨4, ![8, 128, 2, 8192]⟩
abbrev S2x1024 : Shape := ⟨2, ![2, 1024]⟩
abbrev S8192x2x1024 : Shape := ⟨3, ![8192, 2, 1024]⟩
abbrev S1x2x1024 : Shape := ⟨3, ![1, 2, 1024]⟩

abbrev nBuf : Space → Nat
  | .hbm => 170
  | .vmem => 0
  | .smem => 0
  | _ => 0

abbrev hbmTy0_0 (i : Nat) : BufTy := match i % 128 with
  | 0 => ⟨S2x8192x1024, .f32⟩
  | 1 => ⟨S1024x11296, .f32⟩
  | 2 => ⟨S4x1024, .f32⟩
  | 3 => ⟨S1024, .f32⟩
  | 4 => ⟨S8x128x128, .f32⟩
  | 5 => ⟨S1024, .f32⟩
  | 6 => ⟨S8x128x128, .f32⟩
  | 7 => ⟨S1024, .f32⟩
  | 8 => ⟨S1024, .f32⟩
  | 9 => ⟨S2x8192x11296, .f32⟩
  | 10 => ⟨S2x8192x1024, .f32⟩
  | 11 => ⟨S2x8192x1024, .f32⟩
  | 12 => ⟨S2x8192x2048, .f32⟩
  | 13 => ⟨S2x8192x3072, .f32⟩
  | 14 => ⟨S2x8192x32, .f32⟩
  | 15 => ⟨S2x8192x1024, .f32⟩
  | 16 => ⟨S2x8192x3072, .f32⟩
  | 17 => ⟨S_, .i32⟩
  | 18 => ⟨S_, .f32⟩
  | 19 => ⟨S2x8195x1024, .f32⟩
  | 20 => ⟨S1x1024, .f32⟩
  | 21 => ⟨S1024, .f32⟩
  | 22 => ⟨S2x8192x1024, .f32⟩
  | 23 => ⟨S1x1x1024, .f32⟩
  | 24 => ⟨S2x8192x1024, .f32⟩
  | 25 => ⟨S2x8192x1024, .f32⟩
  | 26 => ⟨S_, .f32⟩
  | 27 => ⟨S2x8192x1024, .f32⟩
  | 28 => ⟨S2x8192x1024, .f32⟩
  | 29 => ⟨S1x1024, .f32⟩
  | 30 => ⟨S1024, .f32⟩
  | 31 => ⟨S2x8192x1024, .f32⟩
  | 32 => ⟨S1x1x1024, .f32⟩
  | 33 => ⟨S2x8192x1024, .f32⟩
  | 34 => ⟨S2x8192x1024, .f32⟩
  | 35 => ⟨S2x8192x1024, .f32⟩
  | 36 => ⟨S1x1024, .f32⟩
  | 37 => ⟨S1024, .f32⟩
  | 38 => ⟨S2x8192x1024, .f32⟩
  | 39 => ⟨S1x1x1024, .f32⟩
  | 40 => ⟨S2x8192x1024, .f32⟩
  | 41 => ⟨S2x8192x1024, .f32⟩
  | 42 => ⟨S2x8192x1024, .f32⟩
  | 43 => ⟨S1x1024, .f32⟩
  | 44 => ⟨S1024, .f32⟩
  | 45 => ⟨S2x8192x1024, .f32⟩
  | 46 => ⟨S1x1x1024, .f32⟩
  | 47 => ⟨S2x8192x1024, .f32⟩
  | 48 => ⟨S2x8192x1024, .f32⟩
  | 49 => ⟨S2x8192x1024, .f32⟩
  | 50 => ⟨S1x1x1024, .f32⟩
  | 51 => ⟨S2x8192x1024, .f32⟩
  | 52 => ⟨S2x8192x1024, .f32⟩
  | 53 => ⟨S2x8192x8x128, .f32⟩
  | 54 => ⟨S8x128x2x8192, .f32⟩
  | 55 => ⟨S2x8192x8x128, .f32⟩
  | 56 => ⟨S2x8192x1024, .f32⟩
  | 57 => ⟨S1x1x1024, .f32⟩
  | 58 => ⟨S2x8192x1024, .f32⟩
  | 59 => ⟨S2x8192x1024, .f32⟩
  | 60 => ⟨S2x8192x1024, .f32⟩
  | 61 => ⟨S2x8192x1024, .f32⟩
  | 62 => ⟨S_, .f32⟩
  | 63 => ⟨S2x8192x1024, .f32⟩
  | 64 => ⟨S2x8192x1024, .f32⟩
  | 65 => ⟨S_, .f32⟩
  | 66 => ⟨S2x8192x1024, .f32⟩
  | 67 => ⟨S2x8192x1024, .f32⟩
  | 68 => ⟨S8x128x2x8192, .f32⟩
  | 69 => ⟨S2x8192x8x128, .f32⟩
  | 70 => ⟨S2x8192x1024, .f32⟩
  | 71 => ⟨S1x1x1024, .f32⟩
  | 72 => ⟨S2x8192x1024, .f32⟩
  | 73 => ⟨S2x8192x1024, .f32⟩
  | 74 => ⟨S2x8192x1024, .f32⟩
  | 75 => ⟨S2x8192x1024, .f32⟩
  | 76 => ⟨S_, .f32⟩
  | 77 => ⟨S2x8192x1024, .f32⟩
  | 78 => ⟨S2x8192x1024, .f32⟩
  | 79 => ⟨S_, .f32⟩
  | 80 => ⟨S2x8192x1024, .f32⟩
  | 81 => ⟨S2x8192x1024, .f32⟩
  | 82 => ⟨S_, .f32⟩
  | 83 => ⟨S2x8192x1024, .f32⟩
  | 84 => ⟨S2x8192x1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S1024, .f32⟩
  | 91 => ⟨S1024, .i1⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1024, .f32⟩
  | 100 => ⟨S1x1x1024, .f32⟩
  | 101 => ⟨S2x8192x1024, .f32⟩
  | 102 => ⟨S2x8192x1024, .f32⟩
  | 103 => ⟨S2x8192x1024, .f32⟩
  | 104 => ⟨S_, .f32⟩
  | 105 => ⟨S2x8192x1024, .f32⟩
  | 106 => ⟨S2x8192x1024, .f32⟩
  | 107 => ⟨S2x8192x1024, .f32⟩
  | 108 => ⟨S2x8192x1024, .f32⟩
  | 109 => ⟨S2x8192x1024, .f32⟩
  | 110 => ⟨S2x8192x1024, .f32⟩
  | 111 => ⟨S2x8192x1024, .f32⟩
  | 112 => ⟨S_, .f32⟩
  | 113 => ⟨S2x1024, .f32⟩
  | 114 => ⟨S8192x2x1024, .f32⟩
  | 115 => ⟨S8192x2x1024, .f32⟩
  | 116 => ⟨S_, .f32⟩
  | 117 => ⟨S8192x2x1024, .f32⟩
  | 118 => ⟨S_, .i32⟩
  | 119 => ⟨S8192x2x1024, .f32⟩
  | 120 => ⟨S8192x2x1024, .f32⟩
  | 121 => ⟨S_, .i32⟩
  | 122 => ⟨S2x1024, .f32⟩
  | 123 => ⟨S8192x2x1024, .f32⟩
  | 124 => ⟨S_, .i32⟩
  | 125 => ⟨S_, .i1⟩
  | 126 => ⟨S_, .i32⟩
  | 127 => ⟨S_, .i32⟩
  | _ => ⟨S2x8192x1024, .f32⟩

abbrev hbmTy0_1 (i : Nat) : BufTy := match i % 128 with
  | 0 => ⟨S1x2x1024, .f32⟩
  | 1 => ⟨S2x1024, .f32⟩
  | 2 => ⟨S_, .i32⟩
  | 3 => ⟨S_, .i32⟩
  | 4 => ⟨S1x2x1024, .f32⟩
  | 5 => ⟨S2x1024, .f32⟩
  | 6 => ⟨S2x1024, .f32⟩
  | 7 => ⟨S2x1024, .f32⟩
  | 8 => ⟨S1x2x1024, .f32⟩
  | 9 => ⟨S_, .i32⟩
  | 10 => ⟨S_, .i32⟩
  | 11 => ⟨S8192x2x1024, .f32⟩
  | 12 => ⟨S_, .i32⟩
  | 13 => ⟨S_, .i32⟩
  | 14 => ⟨S2x8192x1024, .f32⟩
  | 15 => ⟨S2x8192x11296, .f32⟩
  | 16 => ⟨S2x8192x1024, .f32⟩
  | 17 => ⟨S2x8192x1024, .f32⟩
  | 18 => ⟨S2x8192x2048, .f32⟩
  | 19 => ⟨S2x8192x3072, .f32⟩
  | 20 => ⟨S2x8192x32, .f32⟩
  | 21 => ⟨S2x8192x1024, .f32⟩
  | 22 => ⟨S2x8192x3072, .f32⟩
  | 23 => ⟨S2x8192x1024, .f32⟩
  | 24 => ⟨S2x8192x1024, .f32⟩
  | 25 => ⟨S_, .f32⟩
  | 26 => ⟨S2x8192x1024, .f32⟩
  | 27 => ⟨S2x8192x1024, .f32⟩
  | 28 => ⟨S2x8192x1024, .f32⟩
  | 29 => ⟨S_, .f32⟩
  | 30 => ⟨S2x8192x1024, .f32⟩
  | 31 => ⟨S2x8192x1024, .f32⟩
  | 32 => ⟨S2x8192x1024, .f32⟩
  | 33 => ⟨S_, .f32⟩
  | 34 => ⟨S2x8192x1024, .f32⟩
  | 35 => ⟨S2x8192x1024, .f32⟩
  | 36 => ⟨S_, .f32⟩
  | 37 => ⟨S2x8192x1024, .f32⟩
  | 38 => ⟨S2x8192x1024, .f32⟩
  | 39 => ⟨S2x8192x1024, .f32⟩
  | 40 => ⟨S2x8192x1024, .f32⟩
  | 41 => ⟨S2x8192x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_0 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_2 : Ref sig .tc := ⟨.hbm, 76, rfl⟩
abbrev main_v62 : Ref sig .tc := ⟨.hbm, 77, rfl⟩
abbrev main_v63 : Ref sig .tc := ⟨.hbm, 78, rfl⟩
abbrev main_cst_3 : Ref sig .tc := ⟨.hbm, 79, rfl⟩
abbrev main_v64 : Ref sig .tc := ⟨.hbm, 80, rfl⟩
abbrev main_v65 : Ref sig .tc := ⟨.hbm, 81, rfl⟩
abbrev main_cst_4 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_5 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_6 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_7 : Ref sig .tc := ⟨.hbm, 116, rfl⟩
abbrev main_v84 : Ref sig .tc := ⟨.hbm, 117, rfl⟩
abbrev main_c_8 : Ref sig .tc := ⟨.hbm, 118, rfl⟩
abbrev main_v85_0 : Ref sig .tc := ⟨.hbm, 119, rfl⟩
abbrev main_v85_1 : Ref sig .tc := ⟨.hbm, 120, rfl⟩
abbrev main_v85_2 : Ref sig .tc := ⟨.hbm, 121, rfl⟩
abbrev main_v85_3 : Ref sig .tc := ⟨.hbm, 122, rfl⟩
abbrev main_v85_4 : Ref sig .tc := ⟨.hbm, 123, rfl⟩
abbrev main_while0c_c_17 : Ref sig .tc := ⟨.hbm, 124, rfl⟩
abbrev main_while0c_v110 : Ref sig .tc := ⟨.hbm, 125, rfl⟩
abbrev main_while0b_call2_c : Ref sig .tc := ⟨.hbm, 126, rfl⟩
abbrev main_while0b_call2_c_0 : Ref sig .tc := ⟨.hbm, 127, rfl⟩
abbrev main_while0b_call2_v0 : Ref sig .tc := ⟨.hbm, 128, rfl⟩
abbrev main_while0b_v110 : Ref sig .tc := ⟨.hbm, 129, rfl⟩
abbrev main_while0b_call3_c : Ref sig .tc := ⟨.hbm, 130, rfl⟩
abbrev main_while0b_call3_c_0 : Ref sig .tc := ⟨.hbm, 131, rfl⟩
abbrev main_while0b_call3_v0 : Ref sig .tc := ⟨.hbm, 132, rfl⟩
abbrev main_while0b_v111 : Ref sig .tc := ⟨.hbm, 133, rfl⟩
abbrev main_while0b_v112 : Ref sig .tc := ⟨.hbm, 134, rfl⟩
abbrev main_while0b_v113 : Ref sig .tc := ⟨.hbm, 135, rfl⟩
abbrev main_while0b_call4_v0 : Ref sig .tc := ⟨.hbm, 136, rfl⟩
abbrev main_while0b_call4_c : Ref sig .tc := ⟨.hbm, 137, rfl⟩
abbrev main_while0b_call4_c_0 : Ref sig .tc := ⟨.hbm, 138, rfl⟩
abbrev main_while0b_v114 : Ref sig .tc := ⟨.hbm, 139, rfl⟩
abbrev main_while0b_c_17 : Ref sig .tc := ⟨.hbm, 140, rfl⟩
abbrev main_while0b_v115 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_9 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_10 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_11 : Ref sig .tc := ⟨.hbm, 161, rfl⟩
abbrev main_v103 : Ref sig .tc := ⟨.hbm, 162, rfl⟩
abbrev main_v104 : Ref sig .tc := ⟨.hbm, 163, rfl⟩
abbrev main_cst_12 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩

abbrev nD : Nat := 1
abbrev τ : Topo := Topo.v7x

variable {F : FTy → Type} [FloatOps F]

abbrev main_while0_count : Scf.Loop 32 := ⟨0#32, 8192#32, 1#32⟩
-- ==== SsdKernel.lean ====
abbrev S2x8192x1024 : Shape := ⟨3, ![2, 8192, 1024]⟩
abbrev S1024x11296 : Shape := ⟨2, ![1024, 11296]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S1024x5120 : Shape := ⟨2, ![1024, 5120]⟩
abbrev S1024x32 : Shape := ⟨2, ![1024, 32]⟩
abbrev S_ : Shape := ⟨0, ![]⟩
abbrev S1024x128 : Shape := ⟨2, ![1024, 128]⟩
abbrev S1024x5248 : Shape := ⟨2, ![1024, 5248]⟩
abbrev S128 : Shape := ⟨1, ![128]⟩
abbrev S1x128 : Shape := ⟨2, ![1, 128]⟩
abbrev S32x64 : Shape := ⟨2, ![32, 64]⟩
abbrev S1x2048 : Shape := ⟨2, ![1, 2048]⟩
abbrev S1x3072 : Shape := ⟨2, ![1, 3072]⟩
abbrev S128x128 : Shape := ⟨2, ![128, 128]⟩
abbrev S384x4096 : Shape := ⟨2, ![384, 4096]⟩
abbrev S256x2048 : Shape := ⟨2, ![256, 2048]⟩
abbrev S2x8192x2048 : Shape := ⟨3, ![2, 8192, 2048]⟩
abbrev S1x256x1024 : Shape := ⟨3, ![1, 256, 1024]⟩
abbrev S1x256x2048 : Shape := ⟨3, ![1, 256, 2048]⟩
abbrev S264x3072 : Shape := ⟨2, ![264, 3072]⟩
abbrev S4x128x512 : Shape := ⟨3, ![4, 128, 512]⟩
abbrev S8x3072 : Shape := ⟨2, ![8, 3072]⟩
abbrev S256x1024 : Shape := ⟨2, ![256, 1024]⟩
abbrev S256x5248 : Shape := ⟨2, ![256, 5248]⟩
abbrev S256x3072 : Shape := ⟨2, ![256, 3072]⟩
abbrev S256x128 : Shape := ⟨2, ![256, 128]⟩
abbrev S128x2048 : Shape := ⟨2, ![128, 2048]⟩
abbrev S128x384 : Shape := ⟨2, ![128, 384]⟩
abbrev S128x4096 : Shape := ⟨2, ![128, 4096]⟩
abbrev S128x256 : Shape := ⟨2, ![128, 256]⟩
abbrev S1x128x512 : Shape := ⟨3, ![1, 128, 512]⟩
abbrev S128x512 : Shape := ⟨2, ![128, 512]⟩
abbrev S1x512 : Shape := ⟨2, ![1, 512]⟩
abbrev S128x1 : Shape := ⟨2, ![128, 1]⟩
abbrev S1x128x2048 : Shape := ⟨3, ![1, 128, 2048]⟩

abbrev nBuf : Space → Nat
  | .hbm => 68
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1024x11296, .f32⟩
  | .hbm, ⟨2, _⟩ => ⟨S4x3072, .f32⟩
  | .hbm, ⟨3, _⟩ => ⟨S3072, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S1024x5120, .f32⟩
  | .hbm, ⟨9, _⟩ => ⟨S1024x32, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x5248, .f32⟩
  | .hbm, ⟨14, _⟩ => ⟨S1024x5248, .bf16⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S32x64, .f32⟩
  | .hbm, ⟨24, _⟩ => ⟨S2048, .f32⟩
  | .hbm, ⟨25, _⟩ => ⟨S1x2048, .f32⟩
  | .hbm, ⟨26, _⟩ => ⟨S1x3072, .f32⟩
  | .hbm, ⟨27, _⟩ => ⟨S1x2048, .f32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S_, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .bf16⟩
  | .hbm, ⟨37, _⟩ => ⟨S384x4096, .i32⟩
  | .hbm, ⟨38, _⟩ => ⟨S384x4096, .i32⟩
  | .hbm, ⟨39, _⟩ => ⟨S_, .i32⟩
  | .hbm, ⟨40, _⟩ => ⟨S384x4096, .i32⟩
  | .hbm, ⟨41, _⟩ => ⟨S384x4096, .i32⟩
  | .hbm, ⟨42, _⟩ => ⟨S_, .i32⟩
  | .hbm, ⟨43, _⟩ => ⟨S384x4096, .i32⟩
  | .hbm, ⟨44, _⟩ => ⟨S384x4096, .i32⟩
  | .hbm, ⟨45, _⟩ => ⟨S384x4096, .i1⟩
  | .hbm, ⟨46, _⟩ => ⟨S_, .f32⟩
  | .hbm, ⟨47, _⟩ => ⟨S_, .f32⟩
  | .hbm, ⟨48, _⟩ => ⟨S384x4096, .f32⟩
  | .hbm, ⟨49, _⟩ => ⟨S384x4096, .f32⟩
  | .hbm, ⟨50, _⟩ => ⟨S384x4096, .f32⟩
  | .hbm, ⟨51, _⟩ => ⟨S384x4096, .bf16⟩
  | .hbm, ⟨52, _⟩ => ⟨S256x2048, .i32⟩
  | .hbm, ⟨53, _⟩ => ⟨S256x2048, .i32⟩
  | .hbm, ⟨54, _⟩ => ⟨S_, .i32⟩
  | .hbm, ⟨55, _⟩ => ⟨S256x2048, .i32⟩
  | .hbm, ⟨56, _⟩ => ⟨S256x2048, .i32⟩
  | .hbm, ⟨57, _⟩ => ⟨S_, .i32⟩
  | .hbm, ⟨58, _⟩ => ⟨S256x2048, .i32⟩
  | .hbm, ⟨59, _⟩ => ⟨S256x2048, .i32⟩
  | .hbm, ⟨60, _⟩ => ⟨S256x2048, .i1⟩
  | .hbm, ⟨61, _⟩ => ⟨S_, .f32⟩
  | .hbm, ⟨62, _⟩ => ⟨S_, .f32⟩
  | .hbm, ⟨63, _⟩ => ⟨S256x2048, .f32⟩
  | .hbm, ⟨64, _⟩ => ⟨S256x2048, .f32⟩
  | .hbm, ⟨65, _⟩ => ⟨S256x2048, .f32⟩
  | .hbm, ⟨66, _⟩ => ⟨S256x2048, .bf16⟩
  | .hbm, ⟨67, _⟩ => ⟨S2x8192x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1024x5248, .bf16⟩
  | .local _ .vmem, ⟨3, _⟩ => ⟨S4x3072, .f32⟩
  | .local _ .vmem, ⟨4, _⟩ => ⟨S1x3072, .f32⟩
  | .local _ .vmem, ⟨5, _⟩ => ⟨S1x128, .f32⟩
  | .local _ .vmem, ⟨6, _⟩ => ⟨S1x128, .f32⟩
  | .local _ .vmem, ⟨7, _⟩ => ⟨S1x2048, .f32⟩
  | .local _ .vmem, ⟨8, _⟩ => ⟨S1x2048, .f32⟩
  | .local _ .vmem, ⟨9, _⟩ => ⟨S128x128, .bf16⟩
  | .local _ .vmem, ⟨10, _⟩ => ⟨S384x4096, .bf16⟩
  | .local _ .vmem, ⟨11, _⟩ => ⟨S256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S264x3072, .f32⟩
  | .local _ .vmem, ⟨15, _⟩ => ⟨S4x128x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_call2_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_cst_2 : Ref sig .tc := ⟨.hbm, 32, rfl⟩
abbrev main_call3_v0 : Ref sig .tc := ⟨.hbm, 33, rfl⟩
abbrev main_call3_v1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_cst_6 : Ref sig .tc := ⟨.hbm, 47, rfl⟩
abbrev main_call4_v0 : Ref sig .tc := ⟨.hbm, 48, rfl⟩
abbrev main_call4_v1 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_cst_10 : Ref sig .tc := ⟨.hbm, 62, rfl⟩
abbrev main_call5_v0 : Ref sig .tc := ⟨.hbm, 63, rfl⟩
abbrev main_call5_v1 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5248 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== SsdReferenceIdeal.lean ====
abbrev S2x8192x1024 : Shape := ⟨3, ![2, 8192, 1024]⟩
abbrev S1024x11296 : Shape := ⟨2, ![1024, 11296]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S2x8192x11296 : Shape := ⟨3, ![2, 8192, 11296]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S_ : Shape := ⟨0, ![]⟩
abbrev S2x8195x3072 : Shape := ⟨3, ![2, 8195, 3072]⟩
abbrev S1x3072 : Shape := ⟨2, ![1, 3072]⟩
abbrev S1x1x3072 : Shape := ⟨3, ![1, 1, 3072]⟩
abbrev S2x8192x512 : Shape := ⟨3, ![2, 8192, 512]⟩
abbrev S2x8192x4x8x64 : Shape := ⟨5, ![2, 8192, 4, 8, 64]⟩
abbrev S2x8192x4x128 : Shape := ⟨4, ![2, 8192, 4, 128]⟩
abbrev S1x1x32 : Shape := ⟨3, ![1, 1, 32]⟩
abbrev S2x8192x4x8 : Shape := ⟨4, ![2, 8192, 4, 8]⟩
abbrev S2x4x8x64x128 : Shape := ⟨5, ![2, 4, 8, 64, 128]⟩
abbrev S8192x2x4x8x64 : Shape := ⟨5, ![8192, 2, 4, 8, 64]⟩
abbrev S8192x2x4x8 : Shape := ⟨4, ![8192, 2, 4, 8]⟩
abbrev S8192x2x4x128 : Shape := ⟨4, ![8192, 2, 4, 128]⟩
abbrev S1x2x4x8x64 : Shape := ⟨5, ![1, 2, 4, 8, 64]⟩
abbrev S2x4x8x64 : Shape := ⟨4, ![2, 4, 8, 64]⟩
abbrev S1x2x4x8 : Shape := ⟨4, ![1, 2, 4, 8]⟩
abbrev S2x4x8 : Shape := ⟨3, ![2, 4, 8]⟩
abbrev S1x2x4x128 : Shape := ⟨4, ![1, 2, 4, 128]⟩
abbrev S2x4x128 : Shape := ⟨3, ![2, 4, 128]⟩
abbrev S2x4x8x1x1 : Shape := ⟨5, ![2, 4, 8, 1, 1]⟩
abbrev S2x4x8x1 : Shape := ⟨4, ![2, 4, 8, 1]⟩
abbrev S2x4x8x64x1 : Shape := ⟨5, ![2, 4, 8, 64, 1]⟩
abbrev S2x4x1x1x128 : Shape := ⟨5, ![2, 4, 1, 1, 128]⟩
abbrev S4x8 : Shape := ⟨2, ![4, 8]⟩
abbrev S4x8x1 : Shape := ⟨3, ![4, 8, 1]⟩
abbrev S1x4x8x1 : Shape := ⟨4, ![1, 4, 8, 1]⟩
abbrev S2x8192x4x512 : Shape := ⟨4, ![2, 8192, 4, 512]⟩
abbrev S2x8192x4 : Shape := ⟨3, ![2, 8192, 4]⟩
abbrev S2x8192x4x1 : Shape := ⟨4, ![2, 8192, 4, 1]⟩
abbrev S1x1x2048 : Shape := ⟨3, ![1, 1, 2048]⟩

abbrev nBuf : Space → Nat
  | .hbm => 209
  | .vmem => 0
  | .smem => 0
  | _ => 0

abbrev hbmTy0_0 (i : Nat) : BufTy := match i % 128 with
  | 0 => ⟨S2x8192x1024, .f32⟩
  | 1 => ⟨S1024x11296, .f32⟩
  | 2 => ⟨S4x3072, .f32⟩
  | 3 => ⟨S3072, .f32⟩
  | 4 => ⟨S32, .f32⟩
  | 5 => ⟨S32, .f32⟩
  | 6 => ⟨S32, .f32⟩
  | 7 => ⟨S2048, .f32⟩
  | 8 => ⟨S2x8192x11296, .f32⟩
  | 9 => ⟨S2x8192x1024, .f32⟩
  | 10 => ⟨S2x8192x1024, .f32⟩
  | 11 => ⟨S2x8192x2048, .f32⟩
  | 12 => ⟨S2x8192x3072, .f32⟩
  | 13 => ⟨S2x8192x32, .f32⟩
  | 14 => ⟨S2x8192x1024, .f32⟩
  | 15 => ⟨S2x8192x3072, .f32⟩
  | 16 => ⟨S_, .i32⟩
  | 17 => ⟨S_, .f32⟩
  | 18 => ⟨S2x8195x3072, .f32⟩
  | 19 => ⟨S1x3072, .f32⟩
  | 20 => ⟨S3072, .f32⟩
  | 21 => ⟨S2x8192x3072, .f32⟩
  | 22 => ⟨S1x1x3072, .f32⟩
  | 23 => ⟨S2x8192x3072, .f32⟩
  | 24 => ⟨S2x8192x3072, .f32⟩
  | 25 => ⟨S_, .f32⟩
  | 26 => ⟨S2x8192x3072, .f32⟩
  | 27 => ⟨S2x8192x3072, .f32⟩
  | 28 => ⟨S1x3072, .f32⟩
  | 29 => ⟨S3072, .f32⟩
  | 30 => ⟨S2x8192x3072, .f32⟩
  | 31 => ⟨S1x1x3072, .f32⟩
  | 32 => ⟨S2x8192x3072, .f32⟩
  | 33 => ⟨S2x8192x3072, .f32⟩
  | 34 => ⟨S2x8192x3072, .f32⟩
  | 35 => ⟨S1x3072, .f32⟩
  | 36 => ⟨S3072, .f32⟩
  | 37 => ⟨S2x8192x3072, .f32⟩
  | 38 => ⟨S1x1x3072, .f32⟩
  | 39 => ⟨S2x8192x3072, .f32⟩
  | 40 => ⟨S2x8192x3072, .f32⟩
  | 41 => ⟨S2x8192x3072, .f32⟩
  | 42 => ⟨S1x3072, .f32⟩
  | 43 => ⟨S3072, .f32⟩
  | 44 => ⟨S2x8192x3072, .f32⟩
  | 45 => ⟨S1x1x3072, .f32⟩
  | 46 => ⟨S2x8192x3072, .f32⟩
  | 47 => ⟨S2x8192x3072, .f32⟩
  | 48 => ⟨S2x8192x3072, .f32⟩
  | 49 => ⟨S1x1x3072, .f32⟩
  | 50 => ⟨S2x8192x3072, .f32⟩
  | 51 => ⟨S2x8192x3072, .f32⟩
  | 52 => ⟨S2x8192x3072, .f32⟩
  | 53 => ⟨S2x8192x3072, .f32⟩
  | 54 => ⟨S_, .f32⟩
  | 55 => ⟨S2x8192x3072, .f32⟩
  | 56 => ⟨S2x8192x3072, .f32⟩
  | 57 => ⟨S_, .f32⟩
  | 58 => ⟨S2x8192x3072, .f32⟩
  | 59 => ⟨S2x8192x3072, .f32⟩
  | 60 => ⟨S2x8192x3072, .f32⟩
  | 61 => ⟨S2x8192x2048, .f32⟩
  | 62 => ⟨S2x8192x512, .f32⟩
  | 63 => ⟨S2x8192x512, .f32⟩
  | 64 => ⟨S2x8192x4x8x64, .f32⟩
  | 65 => ⟨S2x8192x4x128, .f32⟩
  | 66 => ⟨S2x8192x4x128, .f32⟩
  | 67 => ⟨S1x1x32, .f32⟩
  | 68 => ⟨S2x8192x32, .f32⟩
  | 69 => ⟨S2x8192x32, .f32⟩
  | 70 => ⟨S_, .f32⟩
  | 71 => ⟨S2x8192x32, .f32⟩
  | 72 => ⟨S2x8192x32, .f32⟩
  | 73 => ⟨S2x8192x32, .f32⟩
  | 74 => ⟨S2x8192x32, .f32⟩
  | 75 => ⟨S2x8192x32, .i1⟩
  | 76 => ⟨S2x8192x32, .f32⟩
  | 77 => ⟨S2x8192x32, .f32⟩
  | 78 => ⟨S2x8192x32, .f32⟩
  | 79 => ⟨S2x8192x32, .f32⟩
  | 80 => ⟨S2x8192x32, .f32⟩
  | 81 => ⟨S2x8192x32, .f32⟩
  | 82 => ⟨S2x8192x32, .f32⟩
  | 83 => ⟨S2x8192x32, .f32⟩
  | 84 => ⟨S32, .f32⟩
  | 85 => ⟨S32, .f32⟩
  | 86 => ⟨S1x1x32, .f32⟩
  | 87 => ⟨S2x8192x32, .f32⟩
  | 88 => ⟨S2x8192x32, .f32⟩
  | 89 => ⟨S2x8192x32, .f32⟩
  | 90 => ⟨S2x8192x4x8, .f32⟩
  | 91 => ⟨S2x8192x4x8, .f32⟩
  | 92 => ⟨S_, .f32⟩
  | 93 => ⟨S2x4x8x64x128, .f32⟩
  | 94 => ⟨S8192x2x4x8x64, .f32⟩
  | 95 => ⟨S8192x2x4x8, .f32⟩
  | 96 => ⟨S8192x2x4x8, .f32⟩
  | 97 => ⟨S8192x2x4x128, .f32⟩
  | 98 => ⟨S8192x2x4x128, .f32⟩
  | 99 => ⟨S_, .f32⟩
  | 100 => ⟨S8192x2x4x8x64, .f32⟩
  | 101 => ⟨S_, .i32⟩
  | 102 => ⟨S8192x2x4x8x64, .f32⟩
  | 103 => ⟨S8192x2x4x8, .f32⟩
  | 104 => ⟨S8192x2x4x8, .f32⟩
  | 105 => ⟨S8192x2x4x128, .f32⟩
  | 106 => ⟨S8192x2x4x128, .f32⟩
  | 107 => ⟨S32, .f32⟩
  | 108 => ⟨S_, .i32⟩
  | 109 => ⟨S2x4x8x64x128, .f32⟩
  | 110 => ⟨S8192x2x4x8x64, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S1x2x4x8x64, .f32⟩
  | 118 => ⟨S2x4x8x64, .f32⟩
  | 119 => ⟨S_, .i32⟩
  | 120 => ⟨S_, .i32⟩
  | 121 => ⟨S_, .i32⟩
  | 122 => ⟨S1x2x4x8, .f32⟩
  | 123 => ⟨S2x4x8, .f32⟩
  | 124 => ⟨S_, .i32⟩
  | 125 => ⟨S_, .i32⟩
  | 126 => ⟨S_, .i32⟩
  | 127 => ⟨S1x2x4x8, .f32⟩
  | _ => ⟨S2x8192x1024, .f32⟩

abbrev hbmTy0_1 (i : Nat) : BufTy := match i % 128 with
  | 0 => ⟨S2x4x8, .f32⟩
  | 1 => ⟨S_, .i32⟩
  | 2 => ⟨S_, .i32⟩
  | 3 => ⟨S_, .i32⟩
  | 4 => ⟨S1x2x4x128, .f32⟩
  | 5 => ⟨S2x4x128, .f32⟩
  | 6 => ⟨S_, .i32⟩
  | 7 => ⟨S_, .i32⟩
  | 8 => ⟨S_, .i32⟩
  | 9 => ⟨S1x2x4x128, .f32⟩
  | 10 => ⟨S2x4x128, .f32⟩
  | 11 => ⟨S2x4x8x1x1, .f32⟩
  | 12 => ⟨S2x4x8x64x128, .f32⟩
  | 13 => ⟨S2x4x8x64x128, .f32⟩
  | 14 => ⟨S2x4x8x1, .f32⟩
  | 15 => ⟨S2x4x8x64, .f32⟩
  | 16 => ⟨S2x4x8x64, .f32⟩
  | 17 => ⟨S2x4x8x64x1, .f32⟩
  | 18 => ⟨S2x4x1x1x128, .f32⟩
  | 19 => ⟨S2x4x8x64x128, .f32⟩
  | 20 => ⟨S2x4x8x64x128, .f32⟩
  | 21 => ⟨S2x4x8x64x128, .f32⟩
  | 22 => ⟨S2x4x8x64x128, .f32⟩
  | 23 => ⟨S2x4x1x1x128, .f32⟩
  | 24 => ⟨S2x4x8x64x128, .f32⟩
  | 25 => ⟨S2x4x8x64x128, .f32⟩
  | 26 => ⟨S_, .f32⟩
  | 27 => ⟨S2x4x8x64, .f32⟩
  | 28 => ⟨S4x8, .f32⟩
  | 29 => ⟨S4x8x1, .f32⟩
  | 30 => ⟨S1x4x8x1, .f32⟩
  | 31 => ⟨S2x4x8x64, .f32⟩
  | 32 => ⟨S2x4x8x64, .f32⟩
  | 33 => ⟨S2x4x8x64, .f32⟩
  | 34 => ⟨S1x2x4x8x64, .f32⟩
  | 35 => ⟨S_, .i32⟩
  | 36 => ⟨S_, .i32⟩
  | 37 => ⟨S_, .i32⟩
  | 38 => ⟨S_, .i32⟩
  | 39 => ⟨S8192x2x4x8x64, .f32⟩
  | 40 => ⟨S_, .i32⟩
  | 41 => ⟨S_, .i32⟩
  | 42 => ⟨S2x8192x11296, .f32⟩
  | 43 => ⟨S2x8192x1024, .f32⟩
  | 44 => ⟨S2x8192x1024, .f32⟩
  | 45 => ⟨S2x8192x2048, .f32⟩
  | 46 => ⟨S2x8192x3072, .f32⟩
  | 47 => ⟨S2x8192x32, .f32⟩
  | 48 => ⟨S2x8192x1024, .f32⟩
  | 49 => ⟨S2x8192x3072, .f32⟩
  | 50 => ⟨S2x8192x4x8x64, .f32⟩
  | 51 => ⟨S2x8192x2048, .f32⟩
  | 52 => ⟨S2x8192x2048, .f32⟩
  | 53 => ⟨S2x8192x2048, .f32⟩
  | 54 => ⟨S_, .f32⟩
  | 55 => ⟨S2x8192x2048, .f32⟩
  | 56 => ⟨S2x8192x2048, .f32⟩
  | 57 => ⟨S_, .f32⟩
  | 58 => ⟨S2x8192x2048, .f32⟩
  | 59 => ⟨S2x8192x2048, .f32⟩
  | 60 => ⟨S2x8192x2048, .f32⟩
  | 61 => ⟨S2x8192x2048, .f32⟩
  | 62 => ⟨S2x8192x4x512, .f32⟩
  | 63 => ⟨S2x8192x4x512, .f32⟩
  | 64 => ⟨S_, .f32⟩
  | 65 => ⟨S2x8192x4, .f32⟩
  | 66 => ⟨S2x8192x4x1, .f32⟩
  | 67 => ⟨S_, .f32⟩
  | 68 => ⟨S2x8192x4x1, .f32⟩
  | 69 => ⟨S2x8192x4x1, .f32⟩
  | 70 => ⟨S_, .f32⟩
  | 71 => ⟨S2x8192x4x1, .f32⟩
  | 72 => ⟨S2x8192x4x1, .f32⟩
  | 73 => ⟨S2x8192x4x1, .f32⟩
  | 74 => ⟨S2x8192x4x512, .f32⟩
  | 75 => ⟨S2x8192x4x512, .f32⟩
  | 76 => ⟨S2x8192x2048, .f32⟩
  | 77 => ⟨S1x1x2048, .f32⟩
  | 78 => ⟨S2x8192x2048, .f32⟩
  | 79 => ⟨S2x8192x2048, .f32⟩
  | 80 => ⟨S2x8192x2048, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call2_cst : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_0 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_1 : Ref sig .tc := ⟨.hbm, 99, rfl⟩
abbrev main_v66 : Ref sig .tc := ⟨.hbm, 100, rfl⟩
abbrev main_c_2 : Ref sig .tc := ⟨.hbm, 101, rfl⟩
abbrev main_v67_0 : Ref sig .tc := ⟨.hbm, 102, rfl⟩
abbrev main_v67_1 : Ref sig .tc := ⟨.hbm, 103, rfl⟩
abbrev main_v67_2 : Ref sig .tc := ⟨.hbm, 104, rfl⟩
abbrev main_v67_3 : Ref sig .tc := ⟨.hbm, 105, rfl⟩
abbrev main_v67_4 : Ref sig .tc := ⟨.hbm, 106, rfl⟩
abbrev main_v67_5 : Ref sig .tc := ⟨.hbm, 107, rfl⟩
abbrev main_v67_6 : Ref sig .tc := ⟨.hbm, 108, rfl⟩
abbrev main_v67_7 : Ref sig .tc := ⟨.hbm, 109, rfl⟩
abbrev main_v67_8 : Ref sig .tc := ⟨.hbm, 110, rfl⟩
abbrev main_while0c_c_14 : Ref sig .tc := ⟨.hbm, 111, rfl⟩
abbrev main_while0c_v96 : Ref sig .tc := ⟨.hbm, 112, rfl⟩
abbrev main_while0b_call3_c : Ref sig .tc := ⟨.hbm, 113, rfl⟩
abbrev main_while0b_call3_c_0 : Ref sig .tc := ⟨.hbm, 114, rfl⟩
abbrev main_while0b_call3_c_1 : Ref sig .tc := ⟨.hbm, 115, rfl⟩
abbrev main_while0b_call3_c_2 : Ref sig .tc := ⟨.hbm, 116, rfl⟩
abbrev main_while0b_call3_v0 : Ref sig .tc := ⟨.hbm, 117, rfl⟩
abbrev main_while0b_v96 : Ref sig .tc := ⟨.hbm, 118, rfl⟩
abbrev main_while0b_call4_c : Ref sig .tc := ⟨.hbm, 119, rfl⟩
abbrev main_while0b_call4_c_0 : Ref sig .tc := ⟨.hbm, 120, rfl⟩
abbrev main_while0b_call4_c_1 : Ref sig .tc := ⟨.hbm, 121, rfl⟩
abbrev main_while0b_call4_v0 : Ref sig .tc := ⟨.hbm, 122, rfl⟩
abbrev main_while0b_v97 : Ref sig .tc := ⟨.hbm, 123, rfl⟩
abbrev main_while0b_call5_c : Ref sig .tc := ⟨.hbm, 124, rfl⟩
abbrev main_while0b_call5_c_0 : Ref sig .tc := ⟨.hbm, 125, rfl⟩
abbrev main_while0b_call5_c_1 : Ref sig .tc := ⟨.hbm, 126, rfl⟩
abbrev main_while0b_call5_v0 : Ref sig .tc := ⟨.hbm, 127, rfl⟩
abbrev main_while0b_v98 : Ref sig .tc := ⟨.hbm, 128, rfl⟩
abbrev main_while0b_call6_c : Ref sig .tc := ⟨.hbm, 129, rfl⟩
abbrev main_while0b_call6_c_0 : Ref sig .tc := ⟨.hbm, 130, rfl⟩
abbrev main_while0b_call6_c_1 : Ref sig .tc := ⟨.hbm, 131, rfl⟩
abbrev main_while0b_call6_v0 : Ref sig .tc := ⟨.hbm, 132, rfl⟩
abbrev main_while0b_v99 : Ref sig .tc := ⟨.hbm, 133, rfl⟩
abbrev main_while0b_call7_c : Ref sig .tc := ⟨.hbm, 134, rfl⟩
abbrev main_while0b_call7_c_0 : Ref sig .tc := ⟨.hbm, 135, rfl⟩
abbrev main_while0b_call7_c_1 : Ref sig .tc := ⟨.hbm, 136, rfl⟩
abbrev main_while0b_call7_v0 : Ref sig .tc := ⟨.hbm, 137, rfl⟩
abbrev main_while0b_v100 : Ref sig .tc := ⟨.hbm, 138, rfl⟩
abbrev main_while0b_v101 : Ref sig .tc := ⟨.hbm, 139, rfl⟩
abbrev main_while0b_v102 : Ref sig .tc := ⟨.hbm, 140, rfl⟩
abbrev main_while0b_v103 : Ref sig .tc := ⟨.hbm, 141, rfl⟩
abbrev main_while0b_v104 : Ref sig .tc := ⟨.hbm, 142, rfl⟩
abbrev main_while0b_v105 : Ref sig .tc := ⟨.hbm, 143, rfl⟩
abbrev main_while0b_v106 : Ref sig .tc := ⟨.hbm, 144, rfl⟩
abbrev main_while0b_v107 : Ref sig .tc := ⟨.hbm, 145, rfl⟩
abbrev main_while0b_v108 : Ref sig .tc := ⟨.hbm, 146, rfl⟩
abbrev main_while0b_v109 : Ref sig .tc := ⟨.hbm, 147, rfl⟩
abbrev main_while0b_v110 : Ref sig .tc := ⟨.hbm, 148, rfl⟩
abbrev main_while0b_v111 : Ref sig .tc := ⟨.hbm, 149, rfl⟩
abbrev main_while0b_v112 : Ref sig .tc := ⟨.hbm, 150, rfl⟩
abbrev main_while0b_v113 : Ref sig .tc := ⟨.hbm, 151, rfl⟩
abbrev main_while0b_v114 : Ref sig .tc := ⟨.hbm, 152, rfl⟩
abbrev main_while0b_v115 : Ref sig .tc := ⟨.hbm, 153, rfl⟩
abbrev main_while0b_cst_14 : Ref sig .tc := ⟨.hbm, 154, rfl⟩
abbrev main_while0b_v116 : Ref sig .tc := ⟨.hbm, 155, rfl⟩
abbrev main_while0b_v117 : Ref sig .tc := ⟨.hbm, 156, rfl⟩
abbrev main_while0b_v118 : Ref sig .tc := ⟨.hbm, 157, rfl⟩
abbrev main_while0b_v119 : Ref sig .tc := ⟨.hbm, 158, rfl⟩
abbrev main_while0b_v120 : Ref sig .tc := ⟨.hbm, 159, rfl⟩
abbrev main_while0b_v121 : Ref sig .tc := ⟨.hbm, 160, rfl⟩
abbrev main_while0b_v122 : Ref sig .tc := ⟨.hbm, 161, rfl⟩
abbrev main_while0b_call8_v0 : Ref sig .tc := ⟨.hbm, 162, rfl⟩
abbrev main_while0b_call8_c : Ref sig .tc := ⟨.hbm, 163, rfl⟩
abbrev main_while0b_call8_c_0 : Ref sig .tc := ⟨.hbm, 164, rfl⟩
abbrev main_while0b_call8_c_1 : Ref sig .tc := ⟨.hbm, 165, rfl⟩
abbrev main_while0b_call8_c_2 : Ref sig .tc := ⟨.hbm, 166, rfl⟩
abbrev main_while0b_v123 : Ref sig .tc := ⟨.hbm, 167, rfl⟩
abbrev main_while0b_c_15 : Ref sig .tc := ⟨.hbm, 168, rfl⟩
abbrev main_while0b_v124 : Ref sig .tc := ⟨.hbm, 169, rfl⟩
abbrev main_v68 : Ref sig .tc := ⟨.hbm, 170, rfl⟩
abbrev main_v69 : Ref sig .tc := ⟨.hbm, 171, rfl⟩
abbrev main_v70 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_call9_v0 : Ref sig .tc := ⟨.hbm, 180, rfl⟩
abbrev main_call9_v1 : Ref sig .tc := ⟨.hbm, 181, rfl⟩
abbrev main_call9_cst : Ref sig .tc := ⟨.hbm, 182, rfl⟩
abbrev main_call9_v2 : Ref sig .tc := ⟨.hbm, 183, rfl⟩
abbrev main_call9_v3 : Ref sig .tc := ⟨.hbm, 184, rfl⟩
abbrev main_call9_cst_0 : Ref sig .tc := ⟨.hbm, 185, rfl⟩
abbrev main_call9_v4 : Ref sig .tc := ⟨.hbm, 186, rfl⟩
abbrev main_call9_v5 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_cst_3 : Ref sig .tc := ⟨.hbm, 192, rfl⟩
abbrev main_v82 : Ref sig .tc := ⟨.hbm, 193, rfl⟩
abbrev main_v83 : Ref sig .tc := ⟨.hbm, 194, rfl⟩
abbrev main_cst_4 : Ref sig .tc := ⟨.hbm, 195, rfl⟩
abbrev main_v84 : Ref sig .tc := ⟨.hbm, 196, rfl⟩
abbrev main_v85 : Ref sig .tc := ⟨.hbm, 197, rfl⟩
abbrev main_cst_5 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩

abbrev nD : Nat := 1
abbrev τ : Topo := Topo.v7x

variable {F : FTy → Type} [FloatOps F]

abbrev main_while0_count : Scf.Loop 32 := ⟨0#32, 8192#32, 1#32⟩
-- ==== Proof.FfnValue.lean ====
module

public import proofs.«01_k».proof.Proof.Gen.FfnKernelIdeal.Value
public import proofs.«01_k».proof.Proof.Gen.FfnReferenceIdeal.Run
public import Idealize.ShloMosaic.Lib.Pipeline.ValueKit
public import Idealize.ShloMosaic.Lib.Pointwise

@[expose] public section

/-! The feed-forward sub-layer: one row of the kernel's block and one row of the reference are the same
function of that row of the stream. -/

set_option maxRecDepth 16384

noncomputable section

open Idealize.ShloMosaic Idealize.ShloMosaic.TcCoe Idealize.ShloMosaic.ValueIdx Idealize.SL.Sem
open Idealize.ShloMosaic.Pipeline (Dat)

namespace Cert.FfnProof

open Cert.FfnKernelIdeal Cert.FfnKernelIdeal.Gen

variable (m : (ℓ : Loc nD τ sig) → Buf (Elt Ideal) ℓ)

/-- Every window's block index at every grid point. -/
theorem idx : ∀ t : Fin cfg0.N, win0_0.index t = ![(grid0.coords t 0).val, (grid0.coords t 1).val, 0] ∧ win0_1.index t = ![0, 0]
    ∧ win0_2.index t = ![0, 0] ∧ win0_3.index t = ![0, 0] ∧ win0_4.index t = ![0, 0]
    ∧ win0_5.index t = ![(grid0.coords t 0).val, (grid0.coords t 1).val, 0] :=
  (by decide +kernel : ∀ t : Fin grid0.N, _)

/-- What the body stores at row `r`, column `j` of point `t`'s block is the reference's result where that row sits. -/
theorem point (m' : (ℓ : Loc Cert.FfnReferenceIdeal.nD Cert.FfnReferenceIdeal.τ Cert.FfnReferenceIdeal.sig) → Buf (Elt Ideal) ℓ)
    (c : Dev nD) (h0 : m' ((c.tc : Thread _ _).loc Cert.FfnReferenceIdeal.main_arg0) = m ((c.tc : Thread _ _).loc main_arg0))
    (h1 : m' ((c.tc : Thread _ _).loc Cert.FfnReferenceIdeal.main_arg1) = m ((c.tc : Thread _ _).loc main_arg1))
    (h2 : m' ((c.tc : Thread _ _).loc Cert.FfnReferenceIdeal.main_arg2) = m ((c.tc : Thread _ _).loc main_arg2))
    (h3 : m' ((c.tc : Thread _ _).loc Cert.FfnReferenceIdeal.main_arg3) = m ((c.tc : Thread _ _).loc main_arg3))
    (h4 : m' ((c.tc : Thread _ _).loc Cert.FfnReferenceIdeal.main_arg4) = m ((c.tc : Thread _ _).loc main_arg4))
    (t : Fin cfg0.N) (y) :
    k0_pay1 (F := Ideal) (k0_pay2 (iblk m c 3 t)) (k0_pay3 (iblk m c 4 t)) (k0_pay4 (iblk m c 0 t) (iblk m c 1 t) (iblk m c 2 t))
      (k0_pay5 (iblk m c 0 t) (iblk m c 1 t) (iblk m c 2 t)) (Scalar.ofBits .f32 0x44800000#32) y
    = Cert.FfnReferenceIdeal.Value.res_main_v32 m' c (((cfg0.win 5).blk t).view.emb y) := by
  pointwise [k0_pay1, k0_pay2, k0_pay3, k0_pay4, k0_pay5, Cert.FfnReferenceIdeal.Value.res_main_v32]
  simp only [h0, h1, h2, h3, h4, zero_sub]
  blk_point [iblk, V, idx t]

/-- The kernel's result array is the reference's result, of equal arguments. -/
theorem final (m' : (ℓ : Loc Cert.FfnReferenceIdeal.nD Cert.FfnReferenceIdeal.τ Cert.FfnReferenceIdeal.sig) → Buf (Elt Ideal) ℓ)
    (c : Dev nD) (h0 : m' ((c.tc : Thread _ _).loc Cert.FfnReferenceIdeal.main_arg0) = m ((c.tc : Thread _ _).loc main_arg0))
    (h1 : m' ((c.tc : Thread _ _).loc Cert.FfnReferenceIdeal.main_arg1) = m ((c.tc : Thread _ _).loc main_arg1))
    (h2 : m' ((c.tc : Thread _ _).loc Cert.FfnReferenceIdeal.main_arg2) = m ((c.tc : Thread _ _).loc main_arg2))
    (h3 : m' ((c.tc : Thread _ _).loc Cert.FfnReferenceIdeal.main_arg3) = m ((c.tc : Thread _ _).loc main_arg3))
    (h4 : m' ((c.tc : Thread _ _).loc Cert.FfnReferenceIdeal.main_arg4) = m ((c.tc : Thread _ _).loc main_arg4)) :
    (dats m 0 c).arrAt 5 (cfgs 0).N = Cert.FfnReferenceIdeal.Value.res_main_v32 m' c := by
  refine (dats m 0 c).arrAt_eq_of_covers 5 _ (by decide +kernel) fun t _ y => ?_
  blk_simp
  rw [after0_5]; frame_out
  exact point m m' c h0 h1 h2 h3 h4 t y

end Cert.FfnProof
-- ==== Proof.MixValue.lean ====
module

public import proofs.«01_k».proof.Proof.Gen.MixKernelIdeal.Value
public import proofs.«01_k».proof.Proof.Gen.MixReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.ValueIdx hiding ix1 ix2 ix3 ix4 ix5
open Idealize.ShloMosaic.Pipeline (Dat)

namespace Cert.MixProof

/-- The float literals of the layer. -/
abbrev scl : EReal := Ideal.ofBits FTy.f32 0x3D800000#32

/-- A softmax-weighted sum: `sc` holds the scores of one query against the 256 keys, `v` one column of the values. -/
def soft (sc v : Fin 256 → EReal) : EReal :=
  ∑ m, Ideal.div (Ideal.exp (sc m - Finset.univ.fold max (Ideal.ofBits FTy.f32 0xFF800000#32) sc))
    (∑ m', Ideal.exp (sc m' - Finset.univ.fold max (Ideal.ofBits FTy.f32 0xFF800000#32) sc)) * v m

/-- The attention reads its scores and values entry by entry. -/
theorem soft_congr {sc sc' v v' : Fin 256 → EReal} (h : ∀ n, sc n = sc' n) (h' : ∀ n, v n = v' n) : soft sc v = soft sc' v' := by
  rw [funext h, funext h']

/-- Column `j` of the attention output of one row: the head of `j` is `j / 256`. -/
def attnRow (q : Fin 1024 → EReal) (KV : Fin 256 → Fin 2048 → EReal) (j : Fin 1024) : EReal :=
  soft (fun m => (∑ d : Fin 256, q ⟨j.val / 256 * 256 + d.val, by omega⟩ * KV m ⟨j.val / 256 * 256 + d.val, by omega⟩) * scl)
    (fun m => KV m ⟨1024 + j.val, by omega⟩)

/-- One gate from its logit and bias. -/
def gate (p b : EReal) : EReal := Ideal.div 1 (1 + Ideal.exp (-(p + b)))

/-- The residual sum of one row before the layer norm. -/
def preRow (x g0 g1 g2 yl : Fin 1024 → EReal) (ys : Fin 2048 → EReal) (ya : Fin 1024 → EReal) (wl : Fin 1024 → Fin 1024 → EReal)
    (ws : Fin 2048 → Fin 1024 → EReal) (wx wo : Fin 1024 → Fin 1024 → EReal) (j : Fin 1024) : EReal :=
  Ideal.ofBits FTy.f32 0x3FB504F3#32 * x j + ∑ k, (g0 k * ∑ i, yl i * wl i k + g1 k * ∑ i, ys i * ws i k + g2 k * ∑ i, ya i * wx i k) * wo k j

/-- The row before the norm reads its gates and weights entry by entry. -/
theorem preRow_congr {x g0 g1 g2 g0' g1' g2' yl : Fin 1024 → EReal} {ys : Fin 2048 → EReal} {ya : Fin 1024 → EReal} {wl : Fin 1024 → Fin 1024 → EReal}
    {ws : Fin 2048 → Fin 1024 → EReal} {wx wo : Fin 1024 → Fin 1024 → EReal} {j : Fin 1024} (h0 : ∀ k, g0 k = g0' k) (h1 : ∀ k, g1 k = g1' k)
    (h2 : ∀ k, g2 k = g2' k) : preRow x g0 g1 g2 yl ys ya wl ws wx wo j = preRow x g0' g1' g2' yl ys ya wl ws wx wo j := by
  rw [funext h0, funext h1, funext h2]

/-- The layer norm of one row. -/
def lnRow (p g b : Fin 1024 → EReal) (j : Fin 1024) : EReal :=
  (p j - Ideal.div (∑ k, p k) (Ideal.ofBits FTy.f32 0x44800000#32))
    * Ideal.rsqrt (Ideal.div (∑ k, (p k - Ideal.div (∑ k, p k) (Ideal.ofBits FTy.f32 0x44800000#32))
        * (p k - Ideal.div (∑ k, p k) (Ideal.ofBits FTy.f32 0x44800000#32))) (Ideal.ofBits FTy.f32 0x44800000#32)
      + Ideal.ofBits FTy.f32 0x3727C5AC#32) * g j + b j

section Reference

open Cert.MixReferenceIdeal Cert.MixReferenceIdeal.Gen

/-- The reference's projection of the stream. -/
def rProj (x : FVec Ideal S2x8192x1024 .f32) (w : FVec Ideal S1024x11296 .f32) : FVec Ideal S2x8192x11296 .f32 :=
  Host.dotGeneral dot_S2x8192x1024_S1024x11296_S2x8192x11296_2_0_01_1_n_n none x w

/-- The reference's scaled scores of the queries against the keys. -/
def rScore (v0 : FVec Ideal S2x8192x11296 .f32) (KV : FVec Ideal S2x256x2048 .bf16) : FVec Ideal S2x4x8192x256 .f32 :=
  mulf (Host.dotGeneral dot_S2x8192x4x256_S2x256x4x256_S2x4x8192x256_3_3_1_1_02_02 none (shapeCast _ (extractStridedSlice S2x8192x1024 ![0, 0, 7200] v0 slices_S2x8192x11296_S2x8192x1024_0_0_7200) shapeCasts_S2x8192x1024_S2x8192x4x256) (shapeCast _ (extractStridedSlice S2x256x1024 ![0, 0, 0] (extf .f32 KV bitsLt_bf16_f32) slices_S2x256x2048_S2x256x1024_0_0_0) shapeCasts_S2x256x1024_S2x256x4x256)) (broadcastInDim S2x4x8192x256 ![] bcast_S_S2x4x8192x256 (constant S_ .f32 0x3D800000#32))

/-- The row maximum of the scores. -/
def rMax (sc : FVec Ideal S2x4x8192x256 .f32) : FVec Ideal S2x4x8192 .f32 :=
  Host.reduce FloatOps.maximumf sc (constant S_ .f32 0xFF800000#32) reducesTo_S2x4x8192x256_S2x4x8192_d3 h_S_

/-- The exponentials of the scores less their row maximum. -/
def rExp (sc : FVec Ideal S2x4x8192x256 .f32) (mx : FVec Ideal S2x4x8192 .f32) : FVec Ideal S2x4x8192x256 .f32 :=
  Host.exp (subf sc (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) mx))))

/-- The reference's attention output. -/
def rAttn (ex : FVec Ideal S2x4x8192x256 .f32) (KV : FVec Ideal S2x256x2048 .bf16) : FVec Ideal S2x8192x1024 .f32 :=
  shapeCast _ (transpose S2x8192x4x256 [0, 3, 1, 2] (Host.dotGeneral dot_S2x256x4x256_S2x4x8192x256_S2x4x256x8192_1_3_3_2_02_01 none (shapeCast _ (extractStridedSlice S2x256x1024 ![0, 0, 1024] (extf .f32 KV bitsLt_bf16_f32) slices_S2x256x2048_S2x256x1024_0_0_1024) shapeCasts_S2x256x1024_S2x256x4x256) (Host.divf ex (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd ex (constant S_ .f32 0x00000000#32) reducesTo_S2x4x8192x256_S2x4x8192_d3 h_S_))))) transposes_S2x4x256x8192_S2x8192x4x256_0_3_1_2) shapeCasts_S2x8192x4x256_S2x8192x1024

/-- The reference's gates. -/
def rGate (v0 : FVec Ideal S2x8192x11296 .f32) (bg : FVec Ideal S3x1024 .f32) : FVec Ideal S2x8192x3x1024 .f32 :=
  Host.divf (broadcastInDim S2x8192x3x1024 ![] bcast_S_S2x8192x3x1024 (constant S_ .f32 0x3F800000#32)) (addf (broadcastInDim S2x8192x3x1024 ![] bcast_S_S2x8192x3x1024 (constant S_ .f32 0x3F800000#32)) (Host.exp (Host.negf (addf (shapeCast _ (extractStridedSlice S2x8192x3072 ![0, 0, 8224] v0 slices_S2x8192x11296_S2x8192x3072_0_0_8224) shapeCasts_S2x8192x3072_S2x8192x3x1024) (broadcastInDim S2x8192x3x1024 ![0, 1, 2, 3] bcast_S1x1x3x1024_S2x8192x3x1024_0_1_2_3 (broadcastInDim S1x1x3x1024 ![2, 3] bcast_S3x1024_S1x1x3x1024_2_3 bg))))))

/-- The reference's residual sum before its layer norm. -/
def rPre (x : FVec Ideal S2x8192x1024 .f32) (g : FVec Ideal S2x8192x3x1024 .f32) (yxa : FVec Ideal S2x8192x1024 .f32)
    (yl : FVec Ideal S2x8192x1024 .bf16) (ys : FVec Ideal S2x8192x2048 .bf16) (wl : FVec Ideal S1024x1024 .f32)
    (ws : FVec Ideal S2048x1024 .f32) (wx wo : FVec Ideal S1024x1024 .f32) : FVec Ideal S2x8192x1024 .f32 :=
  addf (mulf (broadcastInDim S2x8192x1024 ![] bcast_S_S2x8192x1024 (constant S_ .f32 0x3FB504F3#32)) x) (Host.dotGeneral dot_S2x8192x1024_S1024x1024_S2x8192x1024_2_0_01_1_n_n none (addf (addf (mulf (shapeCast _ (extractStridedSlice S2x8192x1x1024 ![0, 0, 0, 0] g slices_S2x8192x3x1024_S2x8192x1x1024_0_0_0_0) shapeCasts_S2x8192x1x1024_S2x8192x1024) (Host.dotGeneral dot_S2x8192x1024_S1024x1024_S2x8192x1024_2_0_01_1_n_n none (extf .f32 yl bitsLt_bf16_f32) wl)) (mulf (shapeCast _ (extractStridedSlice S2x8192x1x1024 ![0, 0, 1, 0] g slices_S2x8192x3x1024_S2x8192x1x1024_0_0_1_0) shapeCasts_S2x8192x1x1024_S2x8192x1024) (Host.dotGeneral dot_S2x8192x2048_S2048x1024_S2x8192x1024_2_0_01_1_n_n none (extf .f32 ys bitsLt_bf16_f32) ws))) (mulf (shapeCast _ (extractStridedSlice S2x8192x1x1024 ![0, 0, 2, 0] g slices_S2x8192x3x1024_S2x8192x1x1024_0_0_2_0) shapeCasts_S2x8192x1x1024_S2x8192x1024) (Host.dotGeneral dot_S2x8192x1024_S1024x1024_S2x8192x1024_2_0_01_1_n_n none yxa wx))) wo)

/-- The reference's layer norm. -/
def rPost (pre : FVec Ideal S2x8192x1024 .f32) (lg lb : FVec Ideal S1024 .f32) : FVec Ideal S2x8192x1024 .f32 :=
  addf (mulf (mulf (subf pre (broadcastInDim S2x8192x1024 ![0, 1, 2] bcast_S2x8192x1_S2x8192x1024_0_1_2 (Host.divf (broadcastInDim S2x8192x1 ![0, 1] bcast_S2x8192_S2x8192x1_0_1 (Host.reduceAdd pre (constant S_ .f32 0x00000000#32) reducesTo_S2x8192x1024_S2x8192_d2 h_S_)) (broadcastInDim S2x8192x1 ![] bcast_S_S2x8192x1 (constant S_ .f32 0x44800000#32))))) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (subf pre (broadcastInDim S2x8192x1024 ![0, 1, 2] bcast_S2x8192x1_S2x8192x1024_0_1_2 (Host.divf (broadcastInDim S2x8192x1 ![0, 1] bcast_S2x8192_S2x8192x1_0_1 (Host.reduceAdd pre (constant S_ .f32 0x00000000#32) reducesTo_S2x8192x1024_S2x8192_d2 h_S_)) (broadcastInDim S2x8192x1 ![] bcast_S_S2x8192x1 (constant S_ .f32 0x44800000#32))))) (subf pre (broadcastInDim S2x8192x1024 ![0, 1, 2] bcast_S2x8192x1_S2x8192x1024_0_1_2 (Host.divf (broadcastInDim S2x8192x1 ![0, 1] bcast_S2x8192_S2x8192x1_0_1 (Host.reduceAdd pre (constant S_ .f32 0x00000000#32) reducesTo_S2x8192x1024_S2x8192_d2 h_S_)) (broadcastInDim S2x8192x1 ![] bcast_S_S2x8192x1 (constant S_ .f32 0x44800000#32)))))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x3727C5AC#32)))))) (broadcastInDim S2x8192x1024 ![0, 1, 2] bcast_S1x1x1024_S2x8192x1024_0_1_2 (broadcastInDim S1x1x1024 ![2] bcast_S1024_S1x1x1024_2 lg))) (broadcastInDim S2x8192x1024 ![0, 1, 2] bcast_S1x1x1024_S2x8192x1024_0_1_2 (broadcastInDim S1x1x1024 ![2] bcast_S1024_S1x1x1024_2 lb))

/-- The reference's result by its stages. -/
theorem res_eq (m' : (ℓ : Loc nD τ sig) → Buf (Elt Ideal) ℓ) (c : Dev nD) :
    Cert.MixReferenceIdeal.Value.res_main_v84 m' c
    = rPost (rPre (m' ((c.tc : Thread _ _).loc main_arg0))
        (rGate (rProj (m' ((c.tc : Thread _ _).loc main_arg0)) (m' ((c.tc : Thread _ _).loc main_arg1))) (m' ((c.tc : Thread _ _).loc main_arg5)))
        (rAttn (rExp (rScore (rProj (m' ((c.tc : Thread _ _).loc main_arg0)) (m' ((c.tc : Thread _ _).loc main_arg1))) (m' ((c.tc : Thread _ _).loc main_arg2)))
          (rMax (rScore (rProj (m' ((c.tc : Thread _ _).loc main_arg0)) (m' ((c.tc : Thread _ _).loc main_arg1))) (m' ((c.tc : Thread _ _).loc main_arg2)))))
          (m' ((c.tc : Thread _ _).loc main_arg2)))
        (m' ((c.tc : Thread _ _).loc main_arg3)) (m' ((c.tc : Thread _ _).loc main_arg4)) (m' ((c.tc : Thread _ _).loc main_arg6))
        (m' ((c.tc : Thread _ _).loc main_arg7)) (m' ((c.tc : Thread _ _).loc main_arg8)) (m' ((c.tc : Thread _ _).loc main_arg9)))
      (m' ((c.tc : Thread _ _).loc main_arg10)) (m' ((c.tc : Thread _ _).loc main_arg11)) := rfl

/-- The reference's scores at an entry. -/
theorem rScore_at (v0 KV b h s n) : rScore v0 KV (ix4 b h s n)
    = ((∑ x : Fin 256, v0 (ix3 b s ⟨7200 + (h.val * 256 + x.val), by omega⟩)
        * KV (ix3 b n ⟨h.val * 256 + x.val, by omega⟩)) * scl : EReal) := by
  pointwise [rScore]

/-- The reference's row maximum at an entry. -/
theorem rMax_at (sc b h s) : rMax sc (ix3 b h s)
    = (Finset.univ.fold max (Ideal.ofBits FTy.f32 4286578688#32) (fun x => sc (ix4 b h s x)) : EReal) := by
  unfold rMax
  pointwise []

/-- The reference's exponentials at an entry. -/
theorem rExp_at (sc mx b h s n) : rExp sc mx (ix4 b h s n)
    = (Ideal.exp (sc (ix4 b h s n)
        - max (Ideal.ofBits FTy.f32 4286578688#32) (mx (ix3 b h s))) : EReal) := by
  pointwise [rExp]

/-- A maximum is not changed by its starting value again. -/
theorem max_fold (a : EReal) (f : Fin 256 → EReal) : max a (Finset.univ.fold max a f) = Finset.univ.fold max a f :=
  max_eq_right ((Finset.le_fold_max a).2 (Or.inl le_rfl))

/-- The reference's attention output at an index. -/
theorem rAttn_at (v0 KV b s j) : rAttn (rExp (rScore v0 KV) (rMax (rScore v0 KV))) KV (ix3 b s j)
    = (attnRow (fun k => v0 (ix3 b s ⟨7200 + k.val, by omega⟩)) (fun m n => KV (ix3 b m n)) j : EReal) := by
  pointwise [rAttn]
  simp only [rExp_at, rMax_at, max_fold, rScore_at, attnRow, soft]
  exact Finset.sum_congr rfl fun x _ => mul_comm _ _

/-- The reference's gates at an entry. -/
theorem rGate_at (v0 bg b s i k) : rGate v0 bg (ix4 b s i k)
    = (gate (v0 (ix3 b s ⟨8224 + (i.val * 1024 + k.val), by omega⟩)) (bg (ix2 i k)) : EReal) := by
  unfold gate
  pointwise [rGate]

/-- The reference's sum before the norm at an entry. -/
theorem rPre_at (x g yxa yl ys wl ws wx wo b s j) : rPre x g yxa yl ys wl ws wx wo (ix3 b s j)
    = (preRow (fun k => x (ix3 b s k)) (fun k => g (ix4 b s 0 k))
        (fun k => g (ix4 b s 1 k)) (fun k => g (ix4 b s 2 k))
        (fun k => yl (ix3 b s k)) (fun k => ys (ix3 b s k)) (fun k => yxa (ix3 b s k))
        (fun i k => wl (ix2 i k)) (fun i k => ws (ix2 i k))
        (fun i k => wx (ix2 i k)) (fun i k => wo (ix2 i k)) j : EReal) := by
  unfold preRow
  pointwise [rPre]

/-- The reference's norm at an entry. -/
theorem rPost_at (p g b bb s j) : rPost p g b (ix3 bb s j)
    = (lnRow (fun k => p (ix3 bb s k)) (fun k => g (ix1 k)) (fun k => b (ix1 k)) j : EReal) := by
  unfold lnRow
  pointwise [rPost]

/-- The reference's projection at an entry. -/
theorem rProj_at (x w b s j) : rProj x w (ix3 b s j)
    = (∑ d : Fin 1024, x (ix3 b s d) * w (ix2 d j) : EReal) := by
  pointwise [rProj]

/-- The reference's result at an index, row by row. -/
theorem ref_at (x : FVec Ideal S2x8192x1024 .f32) (w : FVec Ideal S1024x11296 .f32) (KV : FVec Ideal S2x256x2048 .bf16)
    (yl : FVec Ideal S2x8192x1024 .bf16) (ys : FVec Ideal S2x8192x2048 .bf16) (bg : FVec Ideal S3x1024 .f32) (wl : FVec Ideal S1024x1024 .f32)
    (ws : FVec Ideal S2048x1024 .f32) (wx wo : FVec Ideal S1024x1024 .f32) (lg lb : FVec Ideal S1024 .f32) (b : Fin 2) (s : Fin 8192) (j : Fin 1024) :
    rPost (rPre x (rGate (rProj x w) bg) (rAttn (rExp (rScore (rProj x w) KV) (rMax (rScore (rProj x w) KV))) KV) yl ys wl ws wx wo) lg lb (ix3 b s j)
    = (lnRow (preRow (fun k => x (ix3 b s k))
          (fun k => gate (∑ d : Fin 1024, x (ix3 b s d) * w (ix2 d ⟨7200 + (1024 + k.val), by omega⟩)) (bg (ix2 (⟨k.val / 1024, by omega⟩ : Fin 3) (⟨k.val % 1024, by omega⟩ : Fin 1024))))
          (fun k => gate (∑ d : Fin 1024, x (ix3 b s d) * w (ix2 d ⟨7200 + (1024 + (1024 + k.val)), by omega⟩)) (bg (ix2 (⟨(1024 + k.val) / 1024, by omega⟩ : Fin 3) (⟨(1024 + k.val) % 1024, by omega⟩ : Fin 1024))))
          (fun k => gate (∑ d : Fin 1024, x (ix3 b s d) * w (ix2 d ⟨7200 + (1024 + (2048 + k.val)), by omega⟩)) (bg (ix2 (⟨(2048 + k.val) / 1024, by omega⟩ : Fin 3) (⟨(2048 + k.val) % 1024, by omega⟩ : Fin 1024))))
          (fun k => yl (ix3 b s k)) (fun k => ys (ix3 b s k))
          (attnRow (fun k => (∑ d : Fin 1024, x (ix3 b s d) * w (ix2 d ⟨7200 + k.val, by omega⟩))) (fun n i => KV (ix3 b n i)))
          (fun i k => wl (ix2 i k)) (fun i k => ws (ix2 i k)) (fun i k => wx (ix2 i k)) (fun i k => wo (ix2 i k)))
        (fun k => lg (ix1 k)) (fun k => lb (ix1 k)) j : EReal) := by
  have hg : ∀ (i : Fin 3) (k : Fin 1024) (n i' k' : ℕ) (hn : n < 11296) (hi' : i' < 3) (hk' : k' < 1024), n = 8224 + (i.val * 1024 + k.val) → i' = i.val → k' = k.val →
      rGate (rProj x w) bg (ix4 b s i k)
      = gate (∑ d : Fin 1024, x (ix3 b s d) * w (ix2 d ⟨n, hn⟩)) (bg (ix2 (⟨i', hi'⟩ : Fin 3) (⟨k', hk'⟩ : Fin 1024))) := by
    intro i k n i' k' hn hi' hk' e1 e2 e3
    subst e1; subst e2; subst e3
    rw [rGate_at, rProj_at]
  refine (rPost_at _ _ _ _ _ _).trans ?_
  refine congrArg (fun p => lnRow p _ _ j) (funext fun k => (rPre_at _ _ _ _ _ _ _ _ _ _ _ _).trans ?_)
  simp only [rAttn_at, rProj_at]
  refine preRow_congr (fun k => ?_) (fun k => ?_) (fun k => ?_)
  · exact hg 0 k _ _ _ _ _ _ (by simp only [Fin.val_zero]; omega) (by simp only [Fin.val_zero]; omega) (by omega)
  · exact hg 1 k _ _ _ _ _ _ (by show _ = 8224 + (1 * 1024 + k.val); omega) (by show _ = 1; omega) (by omega)
  · exact hg 2 k _ _ _ _ _ _ (by show _ = 8224 + (2 * 1024 + k.val); omega) (by show _ = 2; omega) (by omega)

end Reference

open Cert.MixKernelIdeal Cert.MixKernelIdeal.Gen

section Kernel

/-- The kernel's projection of a block's rows. -/
theorem proj_at (x : Vec Ideal S1x256x1024 .f32) (W : Vec Ideal S1024x4096 .bf16) (r j) :
    k0_pay3 (F := Ideal) x W (ix2 r j)
    = (∑ d : Fin 1024, x (ix3 0 r d) * W (ix2 d j) : EReal) := by
  pointwise [k0_pay3, k0_pay2]

/-- The kernel's first head at an entry. -/
theorem head0 (x : Vec Ideal S1x256x1024 .f32) (W : Vec Ideal S1024x4096 .bf16) (k v : Vec Ideal S1x256x256 .bf16) (r j) :
    k0_pay4 (F := Ideal) x W k v (ix2 r j)
    = (soft (fun n => (∑ d : Fin 256, k0_pay3 (F := Ideal) x W (ix2 r ⟨d.val, by omega⟩) * k (ix3 0 n d)) * scl)
        (fun n => v (ix3 0 n j)) : EReal) := by
  unfold soft k0_pay4
  pointwise []

/-- The kernel's second head at an entry. -/
theorem head1 (x : Vec Ideal S1x256x1024 .f32) (W : Vec Ideal S1024x4096 .bf16) (k v : Vec Ideal S1x256x256 .bf16) (r j) :
    k0_pay7 (F := Ideal) (k0_pay5 v) (k0_pay6 x W k) (Scalar.ofBits .f32 0x3D800000#32) (ix2 r j)
    = (soft (fun n => (∑ d : Fin 256, k0_pay3 (F := Ideal) x W (ix2 r ⟨256 + d.val, by omega⟩) * k (ix3 0 n d)) * scl)
        (fun n => v (ix3 0 n j)) : EReal) := by
  unfold soft k0_pay7 k0_pay5 k0_pay6
  pointwise []

/-- A later head of the kernel at an entry. -/
theorem head2 (p : FVec Ideal S256x4096 .f32) (k v : Vec Ideal S1x256x256 .bf16) (r j) :
    k0_pay8 (F := Ideal) p k v (ix2 r j)
    = (soft (fun n => (∑ d : Fin 256, p (ix2 r ⟨512 + d.val, by omega⟩) * k (ix3 0 n d)) * scl)
        (fun n => v (ix3 0 n j)) : EReal) := by
  unfold soft k0_pay8
  pointwise []

/-- The fourth head and the four heads side by side. -/
theorem heads (a b d : FVec Ideal S256x256 .f32) (p : FVec Ideal S256x4096 .f32) (k v : Vec Ideal S1x256x256 .bf16) (r : Fin 256) (j : Fin 1024) :
    k0_pay12 (F := Ideal) a b d (k0_pay9 p) (k0_pay10 k) (k0_pay11 v) (constant S256x256 .f32 0x00000000#32) (ix2 r j)
    = (if h0 : j.val < 256 then a (ix2 r ⟨j.val, h0⟩)
       else if h1 : j.val - 256 < 256 then b (ix2 r ⟨j.val - 256, h1⟩)
       else if h2 : j.val - 256 - 256 < 256 then d (ix2 r ⟨j.val - 256 - 256, h2⟩)
       else soft (fun n => (∑ d : Fin 256, p (ix2 r ⟨768 + d.val, by omega⟩) * k (ix3 0 n d)) * scl)
        (fun n => v (ix3 0 n ⟨j.val - 256 - 256 - 256, by omega⟩)) : EReal) := by
  unfold soft k0_pay12 k0_pay9 k0_pay10 k0_pay11
  pointwise []

/-- The kernel's residual sum before its layer norm. -/
def kPre (v1 : FVec Ideal S256x1024 .f32) (v87 : FVec Ideal S256x1024 .bf16) (v99 : FVec Ideal S256x3072 .f32) (v106 v107 : FVec Ideal S256x1024 .f32)
    (v109 : FVec Ideal S256x2048 .bf16) (v111 : FVec Ideal S2048x1024 .bf16) (v116 v122 : FVec Ideal S1024x1024 .bf16) : FVec Ideal S256x1024 .f32 :=
  addf (mulf (broadcast S256x1024 (Scalar.ofBits .f32 0x3FB504F3#32)) v1) (matmul dot_S256x1024_S1024x1024_S256x1024_1_0_0_1_n_n none (truncf .bf16 (addf (addf v106 (mulf v107 (matmul dot_S256x2048_S2048x1024_S256x1024_1_0_0_1_n_n none v109 v111 (constant S256x1024 .f32 0x00000000#32)))) (mulf (extractStridedSlice S256x1024 ![0, 2048] v99 slices_S256x3072_o0_2048_S256x1024) (matmul dot_S256x1024_S1024x1024_S256x1024_1_0_0_1_n_n none v87 (shapeCast S1024x1024 v116 shapeCasts_S1024x1024_S1024x1024) (constant S256x1024 .f32 0x00000000#32)))) bitsLt_bf16_f32) (shapeCast S1024x1024 v122 shapeCasts_S1024x1024_S1024x1024) (constant S256x1024 .f32 0x00000000#32))

/-- The kernel's layer norm of a block of rows. -/
def kLn (v127 : FVec Ideal S256x1024 .f32) (v128 v130 : FVec Ideal S1x1024 .f32) : FVec Ideal S256x1024 .f32 :=
  addf (mulf (mulf (subf v127 (broadcastTo S256x1024 (divf (shapeCast S256x1 (multiReduction .add [1] S256 v127 0x00000000#32 reduces_S256x1024_S256 (.inl rfl) rfl) shapeCasts_S256_S256x1) (broadcast S256x1 (Scalar.ofBits .f32 0x44800000#32))) broadcasts_S256x1_S256x1024)) (broadcastTo S256x1024 (rsqrt (addf (divf (shapeCast S256x1 (multiReduction .add [1] S256 (mulf (subf v127 (broadcastTo S256x1024 (divf (shapeCast S256x1 (multiReduction .add [1] S256 v127 0x00000000#32 reduces_S256x1024_S256 (.inl rfl) rfl) shapeCasts_S256_S256x1) (broadcast S256x1 (Scalar.ofBits .f32 0x44800000#32))) broadcasts_S256x1_S256x1024)) (subf v127 (broadcastTo S256x1024 (divf (shapeCast S256x1 (multiReduction .add [1] S256 v127 0x00000000#32 reduces_S256x1024_S256 (.inl rfl) rfl) shapeCasts_S256_S256x1) (broadcast S256x1 (Scalar.ofBits .f32 0x44800000#32))) broadcasts_S256x1_S256x1024))) 0x00000000#32 reduces_S256x1024_S256 (.inl rfl) rfl) shapeCasts_S256_S256x1) (broadcast S256x1 (Scalar.ofBits .f32 0x44800000#32))) (broadcast S256x1 (Scalar.ofBits .f32 0x3727C5AC#32)))) broadcasts_S256x1_S256x1024)) (broadcastTo S256x1024 (shapeCast S1x1024 v128 shapeCasts_S1x1024_S1x1024) broadcasts_S1x1024_S256x1024)) (broadcastTo S256x1024 (shapeCast S1x1024 v130 shapeCasts_S1x1024_S1x1024) broadcasts_S1x1024_S256x1024)

/-- The kernel's row before the norm is the sum of its parts. -/
theorem pay18_eq (v1 v87 v99 v106 v107 v109 v111 v116 v122 v128 v130) :
    k0_pay18 (F := Ideal) v1 v87 v99 v106 v107 v109 v111 v116 v122 v128 v130 = kLn (kPre v1 v87 v99 v106 v107 v109 v111 v116 v122) v128 v130 := rfl

/-- The kernel's norm at an entry. -/
theorem kLn_at (v : FVec Ideal S256x1024 .f32) (lg lb : Vec Ideal S1x1024 .f32) (r : Fin 256) (j : Fin 1024) :
    k0_pay1 (F := Ideal) (kLn v lg lb) (ix3 0 r j)
    = (lnRow (fun k => v (ix2 r k)) (fun k => lg (ix2 0 k)) (fun k => lb (ix2 0 k)) j : EReal) := by
  unfold lnRow
  pointwise [k0_pay1, kLn]

/-- The kernel's residual sum at an index. -/
theorem kPre_at (x : Vec Ideal S1x256x1024 .f32) (ya : FVec Ideal S256x1024 .bf16) (p : FVec Ideal S256x4096 .f32) (bg : Vec Ideal S1x3072 .f32)
    (yl : Vec Ideal S1x256x1024 .bf16) (wl : Vec Ideal S1024x1024 .bf16) (ys : Vec Ideal S1x256x2048 .bf16) (ws : Vec Ideal S2048x1024 .bf16)
    (wx wo : Vec Ideal S1024x1024 .bf16) (r : Fin 256) (j : Fin 1024) :
    kPre (k0_pay2 x) ya (k0_pay13 p bg) (k0_pay14 p bg yl wl) (k0_pay15 p bg) (k0_pay16 ys) (k0_pay17 ws) wx wo (ix2 r j)
    = (preRow (fun k => x (ix3 0 r k))
          (fun k => gate (p (ix2 r ⟨1024 + k.val, by omega⟩)) (bg (ix2 0 ⟨k.val, by omega⟩)))
          (fun k => gate (p (ix2 r ⟨1024 + (1024 + k.val), by omega⟩)) (bg (ix2 0 ⟨1024 + k.val, by omega⟩)))
          (fun k => gate (p (ix2 r ⟨1024 + (2048 + k.val), by omega⟩)) (bg (ix2 0 ⟨2048 + k.val, by omega⟩)))
          (fun k => yl (ix3 0 r k)) (fun k => ys (ix3 0 r k)) (fun k => ya (ix2 r k))
          (fun i k => wl (ix2 i k)) (fun i k => ws (ix2 i k))
          (fun i k => wx (ix2 i k)) (fun i k => wo (ix2 i k)) j : EReal) := by
  unfold preRow gate kPre k0_pay2 k0_pay14 k0_pay15 k0_pay16 k0_pay17
  pointwise [k0_pay13]
  simp only [zero_sub]

end Kernel

variable (m : (ℓ : Loc nD τ sig) → Buf (Elt Ideal) ℓ)

/-- Every window's block index at every grid point. -/
theorem idx : ∀ t : Fin cfg0.N, win0_0.index t = ![(grid0.coords t 0).val, (grid0.coords t 1).val, 0] ∧ win0_1.index t = ![0, 0]
    ∧ win0_2.index t = ![(grid0.coords t 0).val, 0, 0] ∧ win0_3.index t = ![(grid0.coords t 0).val, (grid0.coords t 1).val, 0]
    ∧ win0_4.index t = ![(grid0.coords t 0).val, (grid0.coords t 1).val, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![(grid0.coords t 0).val, (grid0.coords t 1).val, 0] :=
  (by decide +kernel : ∀ t : Fin grid0.N, _)

/-- The kernel's attention output of one row. -/
theorem attn_at (x : Vec Ideal S1x256x1024 .f32) (W : Vec Ideal S1024x4096 .bf16) (kv : Vec Ideal S1x256x2048 .bf16) (r : Fin 256) (j : Fin 1024) :
    k0_pay12 (F := Ideal) (k0_pay4 x W (View.ld kv r0_2) (View.ld kv r0_3))
      (k0_pay7 (k0_pay5 (View.ld kv r0_5)) (k0_pay6 x W (View.ld kv r0_4)) (Scalar.ofBits .f32 0x3D800000#32))
      (k0_pay8 (k0_pay3 x W) (View.ld kv r0_6) (View.ld kv r0_7)) (k0_pay9 (k0_pay3 x W)) (k0_pay10 (View.ld kv r0_8)) (k0_pay11 (View.ld kv r0_9))
      (constant S256x256 .f32 0x00000000#32) (ix2 r j)
    = (attnRow (fun k => k0_pay3 (F := Ideal) x W (ix2 r ⟨k.val, by omega⟩)) (fun n i => kv (ix3 0 n i)) j : EReal) := by
  have hj := j.isLt
  have hk : ∀ (n : Fin 256) (d : Fin 256),
      View.ld kv r0_2 (ix3 0 n d) = (kv (ix3 0 n ⟨0 + d.val, by omega⟩) : EReal)
      ∧ View.ld kv r0_4 (ix3 0 n d) = (kv (ix3 0 n ⟨256 + d.val, by omega⟩) : EReal)
      ∧ View.ld kv r0_6 (ix3 0 n d) = (kv (ix3 0 n ⟨512 + d.val, by omega⟩) : EReal)
      ∧ View.ld kv r0_8 (ix3 0 n d) = (kv (ix3 0 n ⟨768 + d.val, by omega⟩) : EReal)
      ∧ View.ld kv r0_3 (ix3 0 n d) = (kv (ix3 0 n ⟨1024 + d.val, by omega⟩) : EReal)
      ∧ View.ld kv r0_5 (ix3 0 n d) = (kv (ix3 0 n ⟨1280 + d.val, by omega⟩) : EReal)
      ∧ View.ld kv r0_7 (ix3 0 n d) = (kv (ix3 0 n ⟨1536 + d.val, by omega⟩) : EReal)
      ∧ View.ld kv r0_9 (ix3 0 n d) = (kv (ix3 0 n ⟨1792 + d.val, by omega⟩) : EReal) := by
    intro n d
    refine ⟨?_, ?_, ?_, ?_, ?_, ?_, ?_, ?_⟩ <;>
    · refine congrArg kv (funext fun i => ?_)
      match i with
      | ⟨0, _⟩ => rfl
      | ⟨1, _⟩ => exact Fin.ext (by simp [View.ld, Rect.emb, Rect.unit]; try rfl)
      | ⟨2, _⟩ => exact Fin.ext (by simp [View.ld, Rect.emb, Rect.unit]; try rfl)
  rw [heads]
  unfold attnRow
  have go : ∀ (a b d' : ℕ) (ha : a < 4096) (hb : b < 4096) (hc : a < 2048) (hd : b < 2048) (n : Fin 256), a = b →
      k0_pay3 (F := Ideal) x W (ix2 r ⟨a, ha⟩) * kv (ix3 0 n ⟨a, hc⟩)
      = (k0_pay3 (F := Ideal) x W (ix2 r ⟨b, hb⟩) * kv (ix3 0 n ⟨b, hd⟩) : EReal) := by
    intro a b d' ha hb hc hd n e; subst e; rfl
  split_ifs with h0 h1 h2
  · rw [head0]
    simp only [hk]
    refine soft_congr (fun n => congrArg (· * scl) (Finset.sum_congr rfl fun d _ => ?_)) (fun n => ?_)
    · simpa using go d.val (j.val / 256 * 256 + d.val) 0 (by omega) (by omega) (by omega) (by omega) n (by omega)
    · exact congrArg (fun i => kv (ix3 0 n i)) (Fin.ext (by first | rfl | (simp only; omega)))
  · rw [head1]
    simp only [hk]
    refine soft_congr (fun n => congrArg (· * scl) (Finset.sum_congr rfl fun d _ => ?_)) (fun n => ?_)
    · exact go (256 + d.val) (j.val / 256 * 256 + d.val) 0 (by omega) (by omega) (by omega) (by omega) n (by omega)
    · exact congrArg (fun i => kv (ix3 0 n i)) (Fin.ext (by first | rfl | (simp only; omega)))
  · rw [head2]
    simp only [hk]
    refine soft_congr (fun n => congrArg (· * scl) (Finset.sum_congr rfl fun d _ => ?_)) (fun n => ?_)
    · exact go (512 + d.val) (j.val / 256 * 256 + d.val) 0 (by omega) (by omega) (by omega) (by omega) n (by omega)
    · exact congrArg (fun i => kv (ix3 0 n i)) (Fin.ext (by first | rfl | (simp only; omega)))
  · simp only [hk]
    refine soft_congr (fun n => congrArg (· * scl) (Finset.sum_congr rfl fun d _ => ?_)) (fun n => ?_)
    · exact go (768 + d.val) (j.val / 256 * 256 + d.val) 0 (by omega) (by omega) (by omega) (by omega) n (by omega)
    · exact congrArg (fun i => kv (ix3 0 n i)) (Fin.ext (by first | rfl | (simp only; omega)))

/-- The stored block of the kernel, row by row. -/
theorem block_at (x : Vec Ideal S1x256x1024 .f32) (W : Vec Ideal S1024x4096 .bf16) (kv : Vec Ideal S1x256x2048 .bf16)
    (yl : Vec Ideal S1x256x1024 .bf16) (ys : Vec Ideal S1x256x2048 .bf16) (bg : Vec Ideal S1x3072 .f32) (wl : Vec Ideal S1024x1024 .bf16)
    (ws : Vec Ideal S2048x1024 .bf16) (wx wo : Vec Ideal S1024x1024 .bf16) (lg lb : Vec Ideal S1x1024 .f32) (r : Fin 256) (j : Fin 1024) :
    out0_12 (F := Ideal) x W kv yl ys bg wl ws wx wo lg lb (ix3 0 r j)
    = (lnRow (preRow (fun k => x (ix3 0 r k))
          (fun k => gate (∑ d : Fin 1024, x (ix3 0 r d) * W (ix2 d ⟨1024 + k.val, by omega⟩)) (bg (ix2 0 ⟨k.val, by omega⟩)))
          (fun k => gate (∑ d : Fin 1024, x (ix3 0 r d) * W (ix2 d ⟨1024 + (1024 + k.val), by omega⟩)) (bg (ix2 0 ⟨1024 + k.val, by omega⟩)))
          (fun k => gate (∑ d : Fin 1024, x (ix3 0 r d) * W (ix2 d ⟨1024 + (2048 + k.val), by omega⟩)) (bg (ix2 0 ⟨2048 + k.val, by omega⟩)))
          (fun k => yl (ix3 0 r k)) (fun k => ys (ix3 0 r k))
          (attnRow (fun k => ∑ d : Fin 1024, x (ix3 0 r d) * W (ix2 d ⟨k.val, by omega⟩)) (fun n i => kv (ix3 0 n i)))
          (fun i k => wl (ix2 i k)) (fun i k => ws (ix2 i k))
          (fun i k => wx (ix2 i k)) (fun i k => wo (ix2 i k)))
        (fun k => lg (ix2 0 k)) (fun k => lb (ix2 0 k)) j : EReal) := by
  unfold_out out0_12
  frame_out
  rw [pay18_eq, kLn_at]
  simp only [kPre_at, proj_at]
  congr 1
  refine funext fun k => congrArg (fun ya => preRow _ _ _ _ _ _ ya _ _ _ _ k) (funext fun k => ?_)
  exact (attn_at x W kv r k).trans (by simp only [proj_at])

/-! What each input window's block holds at a grid point, in terms of the arguments. -/

/-- The block of the stream, of the argument. -/
theorem b0 (c : Dev nD) (t : Fin cfg0.N) (y : ((cfg0.win 12).xblock (cfg0.grid.coords t)).Idx) (k : Fin 1024) :
    iblk m c 0 t (ix3 (0 : Fin 1) (y 1) k) = (m ((c.tc : Thread _ _).loc main_arg0) (ix3 (n0 := 2) (n1 := 8192) (n2 := 1024) (((cfg0.win 12).blk t).view.emb y 0) (((cfg0.win 12).blk t).view.emb y 1) k) : EReal) := by
  blk_point [iblk, V, idx t]

/-- The block of the queries' and gates' weights, of the argument. -/
theorem b1 (c : Dev nD) (t : Fin cfg0.N) (d : Fin 1024) (k : Fin 4096) :
    iblk m c 1 t (ix2 d k) = (m ((c.tc : Thread _ _).loc main_arg1) (ix2 d ⟨7200 + k.val, by omega⟩) : EReal) := by
  blk_point [iblk, V, idx t]

/-- The block of the keys and values, of the argument. -/
theorem b2 (c : Dev nD) (t : Fin cfg0.N) (y : ((cfg0.win 12).xblock (cfg0.grid.coords t)).Idx) (n : Fin 256) (k : Fin 2048) :
    iblk m c 2 t (ix3 (0 : Fin 1) n k) = (m ((c.tc : Thread _ _).loc main_arg2) (ix3 (n0 := 2) (n1 := 256) (n2 := 2048) (((cfg0.win 12).blk t).view.emb y 0) n k) : EReal) := by
  blk_point [iblk, V, idx t]

/-- The block of the first branch's output, of the argument. -/
theorem b3 (c : Dev nD) (t : Fin cfg0.N) (y : ((cfg0.win 12).xblock (cfg0.grid.coords t)).Idx) (k : Fin 1024) :
    iblk m c 3 t (ix3 (0 : Fin 1) (y 1) k) = (m ((c.tc : Thread _ _).loc main_arg3) (ix3 (n0 := 2) (n1 := 8192) (n2 := 1024) (((cfg0.win 12).blk t).view.emb y 0) (((cfg0.win 12).blk t).view.emb y 1) k) : EReal) := by
  blk_point [iblk, V, idx t]

/-- The block of the second branch's output, of the argument. -/
theorem b4 (c : Dev nD) (t : Fin cfg0.N) (y : ((cfg0.win 12).xblock (cfg0.grid.coords t)).Idx) (k : Fin 2048) :
    iblk m c 4 t (ix3 (0 : Fin 1) (y 1) k) = (m ((c.tc : Thread _ _).loc main_arg4) (ix3 (n0 := 2) (n1 := 8192) (n2 := 2048) (((cfg0.win 12).blk t).view.emb y 0) (((cfg0.win 12).blk t).view.emb y 1) k) : EReal) := by
  blk_point [iblk, V, idx t]

/-- The block of the gates' bias, of the argument. -/
theorem b5 (c : Dev nD) (t : Fin cfg0.N) (k : Fin 3072) :
    iblk m c 5 t (ix2 (0 : Fin 1) k) = (m ((c.tc : Thread _ _).loc main_arg5) (ix2 (⟨k.val / 1024, by omega⟩ : Fin 3) (⟨k.val % 1024, by omega⟩ : Fin 1024)) : EReal) := by
  blk_point [iblk, V, idx t]

/-- The block of the first branch's projection, of the argument. -/
theorem b6 (c : Dev nD) (t : Fin cfg0.N) (i : Fin 1024) (k : Fin 1024) :
    iblk m c 6 t (ix2 i k) = (m ((c.tc : Thread _ _).loc main_arg6) (ix2 i k) : EReal) := by
  blk_point [iblk, V, idx t]

/-- The block of the second branch's projection, of the argument. -/
theorem b7 (c : Dev nD) (t : Fin cfg0.N) (i : Fin 2048) (k : Fin 1024) :
    iblk m c 7 t (ix2 i k) = (m ((c.tc : Thread _ _).loc main_arg7) (ix2 i k) : EReal) := by
  blk_point [iblk, V, idx t]

/-- The block of the attention's projection, of the argument. -/
theorem b8 (c : Dev nD) (t : Fin cfg0.N) (i : Fin 1024) (k : Fin 1024) :
    iblk m c 8 t (ix2 i k) = (m ((c.tc : Thread _ _).loc main_arg8) (ix2 i k) : EReal) := by
  blk_point [iblk, V, idx t]

/-- The block of the output projection, of the argument. -/
theorem b9 (c : Dev nD) (t : Fin cfg0.N) (i : Fin 1024) (k : Fin 1024) :
    iblk m c 9 t (ix2 i k) = (m ((c.tc : Thread _ _).loc main_arg9) (ix2 i k) : EReal) := by
  blk_point [iblk, V, idx t]

/-- The block of the norm's scale, of the argument. -/
theorem b10 (c : Dev nD) (t : Fin cfg0.N) (k : Fin 1024) :
    iblk m c 10 t (ix2 (0 : Fin 1) k) = (m ((c.tc : Thread _ _).loc main_arg10) (ix1 k) : EReal) := by
  blk_point [iblk, V, idx t]

/-- The block of the norm's shift, of the argument. -/
theorem b11 (c : Dev nD) (t : Fin cfg0.N) (k : Fin 1024) :
    iblk m c 11 t (ix2 (0 : Fin 1) k) = (m ((c.tc : Thread _ _).loc main_arg11) (ix1 k) : EReal) := by
  blk_point [iblk, V, idx t]

/-- The output array after the run is the reference's result. -/
theorem final (m' : (ℓ : Loc Cert.MixReferenceIdeal.nD Cert.MixReferenceIdeal.τ Cert.MixReferenceIdeal.sig) → Buf (Elt Ideal) ℓ)
    (c : Dev nD) (h0 : m' ((c.tc : Thread _ _).loc Cert.MixReferenceIdeal.main_arg0) = m ((c.tc : Thread _ _).loc main_arg0))
    (h1 : m' ((c.tc : Thread _ _).loc Cert.MixReferenceIdeal.main_arg1) = m ((c.tc : Thread _ _).loc main_arg1))
    (h2 : m' ((c.tc : Thread _ _).loc Cert.MixReferenceIdeal.main_arg2) = m ((c.tc : Thread _ _).loc main_arg2))
    (h3 : m' ((c.tc : Thread _ _).loc Cert.MixReferenceIdeal.main_arg3) = m ((c.tc : Thread _ _).loc main_arg3))
    (h4 : m' ((c.tc : Thread _ _).loc Cert.MixReferenceIdeal.main_arg4) = m ((c.tc : Thread _ _).loc main_arg4))
    (h5 : m' ((c.tc : Thread _ _).loc Cert.MixReferenceIdeal.main_arg5) = m ((c.tc : Thread _ _).loc main_arg5))
    (h6 : m' ((c.tc : Thread _ _).loc Cert.MixReferenceIdeal.main_arg6) = m ((c.tc : Thread _ _).loc main_arg6))
    (h7 : m' ((c.tc : Thread _ _).loc Cert.MixReferenceIdeal.main_arg7) = m ((c.tc : Thread _ _).loc main_arg7))
    (h8 : m' ((c.tc : Thread _ _).loc Cert.MixReferenceIdeal.main_arg8) = m ((c.tc : Thread _ _).loc main_arg8))
    (h9 : m' ((c.tc : Thread _ _).loc Cert.MixReferenceIdeal.main_arg9) = m ((c.tc : Thread _ _).loc main_arg9))
    (h10 : m' ((c.tc : Thread _ _).loc Cert.MixReferenceIdeal.main_arg10) = m ((c.tc : Thread _ _).loc main_arg10))
    (h11 : m' ((c.tc : Thread _ _).loc Cert.MixReferenceIdeal.main_arg11) = m ((c.tc : Thread _ _).loc main_arg11)) :
    (dats m 0 c).arrAt 12 (cfgs 0).N = Cert.MixReferenceIdeal.Value.res_main_v84 m' c := by
  refine (dats m 0 c).arrAt_eq_of_covers 12 _ (by decide +kernel) fun t _ y => ?_
  blk_simp
  rw [after0_12, res_eq]
  have hy : y = ix3 (0 : Fin 1) (y 1) (y 2) :=
    (Idealize.ShloMosaic.ix3_eta (n0 := 1) (n1 := 256) (n2 := 1024) y).symm.trans
      (congrArg (fun a => ix3 (n0 := 1) (n1 := 256) (n2 := 1024) a (y 1) (y 2)) (Subsingleton.elim (α := Fin 1) (y 0) 0))
  refine (congrArg _ hy).trans ((block_at _ _ _ _ _ _ _ _ _ _ _ _ _ _).trans ?_)
  simp only [b0 m c t y, b1 m c t, b2 m c t y, b3 m c t y, b4 m c t y, b5 m c t, b6 m c t, b7 m c t, b8 m c t, b9 m c t, b10 m c t, b11 m c t]
  rw [h0, h1, h2, h3, h4, h5, h6, h7, h8, h9, h10, h11]
  refine (ref_at _ _ _ _ _ _ _ _ _ _ _ _ _ _ _).symm.trans ?_
  refine congrArg _ (funext fun i => ?_)
  match i with
  | ⟨0, _⟩ => rfl
  | ⟨1, _⟩ => rfl
  | ⟨2, _⟩ => exact Fin.ext (by simp [Pipeline.Window.blk, View.slice, View.whole, idx t])

end Cert.MixProof
-- ==== Proof.KvValue.lean ====
module

public import proofs.«01_k».proof.Proof.Gen.KvKernelIdeal.Value
public import proofs.«01_k».proof.Proof.Gen.KvReferenceIdeal.Run
public import Idealize.ShloMosaic.Lib.Pipeline.ValueKit
public import Idealize.ShloMosaic.Lib.Pointwise

@[expose] public section

/-! The projection of the memory tokens to keys and values: one block of the kernel holds one batch of the product. -/

set_option maxRecDepth 16384

noncomputable section

open Idealize.ShloMosaic Idealize.ShloMosaic.TcCoe Idealize.ShloMosaic.ValueIdx Idealize.SL.Sem
open Idealize.ShloMosaic.Pipeline (Dat)

namespace Cert.KvProof

open Cert.KvKernelIdeal Cert.KvKernelIdeal.Gen

variable (m : (ℓ : Loc nD τ sig) → Buf (Elt Ideal) ℓ)

/-- Every window's block index at every grid point. -/
theorem idx : ∀ t : Fin cfg0.N, win0_0.index t = ![(grid0.coords t 0).val, 0, 0] ∧ win0_1.index t = ![0, 0]
    ∧ win0_2.index t = ![(grid0.coords t 0).val, 0, 0] :=
  (by decide +kernel : ∀ t : Fin grid0.N, _)

/-- The array of keys and values after the run is the reference's product. -/
theorem final (m' : (ℓ : Loc Cert.KvReferenceIdeal.nD Cert.KvReferenceIdeal.τ Cert.KvReferenceIdeal.sig) → Buf (Elt Ideal) ℓ)
    (c : Dev nD) (h0 : m' ((c.tc : Thread _ _).loc Cert.KvReferenceIdeal.main_arg0) = m ((c.tc : Thread _ _).loc main_arg0))
    (h1 : m' ((c.tc : Thread _ _).loc Cert.KvReferenceIdeal.main_arg1) = m ((c.tc : Thread _ _).loc main_arg1)) :
    (dats m 0 c).arrAt 2 (cfgs 0).N = truncf .bf16 (Host.dotGeneral (F := Ideal) (φ₁ := .f32) (φ₂ := .f32) Cert.KvReferenceIdeal.dot_S2x256x1024_S1024x2048_S2x256x2048_2_0_01_1_n_n none
      (m' ((c.tc : Thread _ _).loc Cert.KvReferenceIdeal.main_arg0)) (m' ((c.tc : Thread _ _).loc Cert.KvReferenceIdeal.main_arg1))) Cert.KvReferenceIdeal.Gen.bitsLt_bf16_f32 := by
  refine (dats m 0 c).arrAt_eq_of_covers 2 _ (by decide +kernel) fun t _ y => ?_
  blk_simp
  rw [after0_2]; frame_out
  pointwise [k0_pay1]
  simp only [h0, h1]
  blk_point [iblk, V, idx t]

end Cert.KvProof
-- ==== Proof.LruTile.lean ====
module

public import proofs.«01_k».proof.Proof.Gen.LruKernelIdeal.Value
public import Idealize.ShloMosaic.Lib.Pipeline.ValueKit
public import Idealize.ShloMosaic.Lib.Pointwise

@[expose] public section

set_option maxRecDepth 65536
noncomputable section

open Idealize.ShloMosaic Idealize.ShloMosaic.TcCoe Idealize.ShloMosaic.ValueIdx Idealize.SL.Sem
open Idealize.ShloMosaic.Pipeline (Dat)
namespace Cert.LruProof

open Cert.LruKernelIdeal Cert.LruKernelIdeal.Gen

/-- The sublane index of a position in a tile of 64 groups of 8 rows. -/
def lanes : IVec S64x8x128 32 := iota Kind.tc S64x8x128 32 [1] iota_S64x8x128_d1_w32

/-- Where the sublane index is at least `k`. -/
def geq (k : BitVec 32) : IVec S64x8x128 1 := cmpi .sge lanes (broadcast S64x8x128 k)

/-- Decays combined with those `d` rows above, inside a group of 8 rows. -/
def stepA (k : BitVec 32) (a : FVec Ideal S64x8x128 .f32) : FVec Ideal S64x8x128 .f32 :=
  select (geq k) (mulf a (dynamicRotate 1 k none a rotates_S64x8x128_d1)) a

/-- Inputs combined with those `d` rows above, inside a group of 8 rows. -/
def stepB (k : BitVec 32) (a b : FVec Ideal S64x8x128 .f32) : FVec Ideal S64x8x128 .f32 :=
  select (geq k) (addf (mulf a (dynamicRotate 1 k none b rotates_S64x8x128_d1)) b) b

/-- The logistic function over a tile. -/
def sgm (x : FVec Ideal S512x128 .f32) : FVec Ideal S512x128 .f32 :=
  divf (broadcast S512x128 (Scalar.ofBits .f32 0x3F800000#32))
    (addf (broadcast S512x128 (Scalar.ofBits .f32 0x3F800000#32))
      (exp (subf (broadcast S512x128 (Scalar.ofBits .f32 0x00000000#32)) x)))

/-- The two gate projections of one block of 128 lanes. -/
def gates (o : Nat) (h1 : S512x1024.Slices ![0, o] S512x128) (XC : FVec Ideal S512x1024 .f32)
    (w : Vec Ideal S1x128x256 .bf16) : FVec Ideal S512x256 .f32 :=
  matmul dot_S512x128_S128x256_S512x256_1_0_0_1_n_n none
    (extractStridedSlice S512x128 ![0, o] (truncf .bf16 XC bitsLt_bf16_f32) h1)
    (shapeCast S128x256 w shapeCasts_S1x128x256_S128x256 : FVec Ideal S128x256 .bf16) (constant S512x256 .f32 0x00000000#32)

/-- The recurrence gate of one block of 128 lanes. -/
def rGate (o : Nat) (h1 : S512x1024.Slices ![0, o] S512x128) (XC : FVec Ideal S512x1024 .f32)
    (w : Vec Ideal S1x128x256 .bf16) (ba : Vec Ideal S1x128 .f32) : FVec Ideal S512x128 .f32 :=
  sgm (addf (extractStridedSlice S512x128 ![0, 0] (gates o h1 XC w) slices_S512x256_o0_0_S512x128)
    (broadcastTo S512x128 (shapeCast S1x128 ba shapeCasts_S1x128_S1x128) broadcasts_S1x128_S512x128))

/-- The input gate of one block of 128 lanes. -/
def iGate (o : Nat) (h1 : S512x1024.Slices ![0, o] S512x128) (XC : FVec Ideal S512x1024 .f32)
    (w : Vec Ideal S1x128x256 .bf16) (bi : Vec Ideal S1x128 .f32) : FVec Ideal S512x128 .f32 :=
  sgm (addf (extractStridedSlice S512x128 ![0, 128] (gates o h1 XC w) slices_S512x256_o0_128_S512x128)
    (broadcastTo S512x128 (shapeCast S1x128 bi shapeCasts_S1x128_S1x128) broadcasts_S1x128_S512x128))

/-- The decay of one block of 128 lanes. -/
def aTile (o : Nat) (h1 : S512x1024.Slices ![0, o] S512x128) (h2 : S1x1024.Slices ![0, o] S1x128)
    (XC : FVec Ideal S512x1024 .f32) (NC : FVec Ideal S1x1024 .f32)
    (w : Vec Ideal S1x128x256 .bf16) (ba : Vec Ideal S1x128 .f32) : FVec Ideal S512x128 .f32 :=
  exp (mulf (broadcastTo S512x128 (extractStridedSlice S1x128 ![0, o] NC h2) broadcasts_S1x128_S512x128)
    (rGate o h1 XC w ba))

/-- The input term of one block of 128 lanes. -/
def uTile (o : Nat) (h1 : S512x1024.Slices ![0, o] S512x128) (h2 : S1x1024.Slices ![0, o] S1x128)
    (XC : FVec Ideal S512x1024 .f32) (NC : FVec Ideal S1x1024 .f32)
    (w : Vec Ideal S1x128x256 .bf16) (ba bi : Vec Ideal S1x128 .f32) : FVec Ideal S512x128 .f32 :=
  mulf (sqrt (subf (broadcast S512x128 (Scalar.ofBits .f32 0x3F800000#32))
      (mulf (aTile o h1 h2 XC NC w ba) (aTile o h1 h2 XC NC w ba))))
    (mulf (iGate o h1 XC w bi) (extractStridedSlice S512x128 ![0, o] XC h1))

/-- The decays after the three doubling steps. -/
def A3 (a : FVec Ideal S512x128 .f32) : FVec Ideal S64x8x128 .f32 :=
  stepA 4#32 (stepA 2#32 (stepA 1#32 (shapeCast S64x8x128 a shapeCasts_S512x128_S64x8x128)))

/-- The inputs after the three doubling steps. -/
def B3 (a u : FVec Ideal S512x128 .f32) : FVec Ideal S64x8x128 .f32 :=
  stepB 4#32 (stepA 2#32 (stepA 1#32 (shapeCast S64x8x128 a shapeCasts_S512x128_S64x8x128)))
    (stepB 2#32 (stepA 1#32 (shapeCast S64x8x128 a shapeCasts_S512x128_S64x8x128))
      (stepB 1#32 (shapeCast S64x8x128 a shapeCasts_S512x128_S64x8x128)
        (shapeCast S64x8x128 u shapeCasts_S512x128_S64x8x128)))

/-- Group `g % 64` of a tile can be cut out. -/
theorem slG (g : Nat) : S64x8x128.Slices ![g % 64, 0, 0] S1x8x128 :=
  ⟨rfl, fun a => by
    have := Nat.mod_lt g (by decide : 0 < 64)
    revert a
    rw [Fin.forall_fin_succ, Fin.forall_fin_two]
    refine ⟨?_, ?_, ?_⟩
    · show g % 64 + 1 ≤ 64; omega
    · show 0 + 8 ≤ 8; omega
    · show 0 + 128 ≤ 128; omega⟩

/-- 64 groups of 8 rows stack into a tile. -/
theorem concG (f : Fin 64 → FVec Ideal S1x8x128 .f32) :
    Shape.Concatenates (List.map (fun p => p.1) (List.ofFn fun g : Fin 64 =>
      (⟨S1x8x128, f g⟩ : (s : Shape) × (s.Idx → Ideal .f32)))) S64x8x128 0 := by
  have h : List.map (fun p => p.1) (List.ofFn fun g : Fin 64 =>
      (⟨S1x8x128, f g⟩ : (s : Shape) × (s.Idx → Ideal .f32))) = List.replicate 64 S1x8x128 := by
    rw [List.map_ofFn]; exact List.ofFn_const 64 S1x8x128
  rw [h]
  exact concatenates_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S64x8x128_d0

/-- One group of 8 rows of the recurrence from the state before it. -/
def stepRow (A B : FVec Ideal S64x8x128 .f32) (g : Nat) (hp : FVec Ideal S1x128 .f32) : FVec Ideal S8x128 .f32 :=
  addf (mulf (shapeCast S8x128 (extractStridedSlice S1x8x128 ![g % 64, 0, 0] A (slG g)) shapeCasts_S1x8x128_S8x128)
      (broadcastTo S8x128 hp broadcasts_S1x128_S8x128))
    (shapeCast S8x128 (extractStridedSlice S1x8x128 ![g % 64, 0, 0] B (slG g)) shapeCasts_S1x8x128_S8x128)

/-- The state before group `g`. -/
def carry (A B : FVec Ideal S64x8x128 .f32) (hp : FVec Ideal S1x128 .f32) (g : Nat) : FVec Ideal S1x128 .f32 :=
  Nat.rec hp (fun g p => extractStridedSlice S1x128 ![7, 0] (stepRow A B g p) slices_S8x128_o7_0_S1x128) g

/-- All rows of the recurrence of one block of 128 lanes, group by group. -/
def hTile (A B : FVec Ideal S64x8x128 .f32) (hp : FVec Ideal S1x128 .f32) : FVec Ideal S512x128 .f32 :=
  shapeCast S512x128 (concatenate S64x8x128 0 (List.ofFn fun g : Fin 64 =>
    (⟨S1x8x128, shapeCast S1x8x128 (stepRow A B g.val (carry A B hp g.val)) shapeCasts_S8x128_S1x8x128⟩ :
      (s : Shape) × (s.Idx → Ideal .f32))) (concG _)) shapeCasts_S64x8x128_S512x128

/-- One block of 128 lanes of a point's output: the gated recurrence. -/
def kOut (og : Nat) (hg : S512x2048.Slices ![0, og] S512x128) (P : FVec Ideal S512x2048 .f32)
    (h : FVec Ideal S512x128 .f32) : FVec Ideal S1x512x128 .bf16 :=
  shapeCast S1x512x128 (truncf .bf16 (mulf
    (mulf (mulf (broadcast S512x128 (Scalar.ofBits .f32 0x3F000000#32)) (extractStridedSlice S512x128 ![0, og] P hg))
      (addf (broadcast S512x128 (Scalar.ofBits .f32 0x3F800000#32))
        (tanh (mulf (broadcast S512x128 (Scalar.ofBits .f32 0x3F4C422A#32))
          (addf (extractStridedSlice S512x128 ![0, og] P hg)
            (mulf (broadcast S512x128 (Scalar.ofBits .f32 0x3D372713#32))
              (mulf (mulf (extractStridedSlice S512x128 ![0, og] P hg) (extractStridedSlice S512x128 ![0, og] P hg))
                (extractStridedSlice S512x128 ![0, og] P hg)))))))) h) bitsLt_bf16_f32)
    shapeCasts_S512x128_S1x512x128

/-- One block of 128 lanes of a point's output, from the convolved projection and the state before the tile. -/
def blkOut (o og : Nat) (h1 : S512x1024.Slices ![0, o] S512x128) (h2 : S1x1024.Slices ![0, o] S1x128)
    (hg : S512x2048.Slices ![0, og] S512x128) (P : FVec Ideal S512x2048 .f32) (XC : FVec Ideal S512x1024 .f32)
    (NC : FVec Ideal S1x1024 .f32) (w : Vec Ideal S1x128x256 .bf16) (ba bi : Vec Ideal S1x128 .f32)
    (hp : FVec Ideal S1x128 .f32) : FVec Ideal S1x512x128 .bf16 :=
  kOut og hg P (hTile (A3 (aTile o h1 h2 XC NC w ba)) (B3 (aTile o h1 h2 XC NC w ba) (uTile o h1 h2 XC NC w ba bi)) hp)

/-- One block of 128 lanes of the state after the tile. -/
def blkH (o : Nat) (h1 : S512x1024.Slices ![0, o] S512x128) (h2 : S1x1024.Slices ![0, o] S1x128)
    (XC : FVec Ideal S512x1024 .f32) (NC : FVec Ideal S1x1024 .f32) (w : Vec Ideal S1x128x256 .bf16)
    (ba bi : Vec Ideal S1x128 .f32) (hp : FVec Ideal S1x128 .f32) : FVec Ideal S1x128 .f32 :=
  shapeCast S1x128 (carry (A3 (aTile o h1 h2 XC NC w ba))
    (B3 (aTile o h1 h2 XC NC w ba) (uTile o h1 h2 XC NC w ba bi)) hp 64) shapeCasts_S1x128_S1x128

end Cert.LruProof
-- ==== Proof.LruSpec.lean ====
module

public import Idealize.ShloMosaic.Lib.Pipeline.ValueKit
public import Idealize.ShloMosaic.Lib.Pointwise

@[expose] public section

noncomputable section

open Idealize.ShloMosaic

namespace Cert.LruProof

/-- `k` steps of `h ↦ a s * h + u s` from `h0`. -/
def scan (a u : Nat → EReal) (h0 : EReal) (k : Nat) : EReal := Nat.rec h0 (fun s p => a s * p + u s) k

/-- The recurrence starts at its initial state. -/
theorem scan_zero (a u : Nat → EReal) (h0 : EReal) : scan a u h0 0 = h0 := rfl

/-- One step of the recurrence. -/
theorem scan_succ (a u : Nat → EReal) (h0 : EReal) (k : Nat) : scan a u h0 (k + 1) = a k * scan a u h0 k + u k := rfl

/-- A decay that distributes: nonnegative and not the top. -/
def Good (a : EReal) : Prop := 0 ≤ a ∧ a ≠ ⊤

/-- A product of two distributing factors distributes. -/
theorem Good.mul {a b : EReal} (ha : Good a) (hb : Good b) : Good (a * b) := by
  refine ⟨mul_nonneg ha.1 hb.1, ?_⟩
  intro h
  rcases (EReal.mul_eq_top a b).mp h with h | h | h | h
  · exact absurd h.1 (ne_of_gt (lt_of_lt_of_le (EReal.bot_lt_zero) ha.1))
  · exact absurd h.2 (ne_of_gt (lt_of_lt_of_le (EReal.bot_lt_zero) hb.1))
  · exact ha.2 h.1
  · exact hb.2 h.2

/-- A good decay distributes over a sum. -/
theorem dist {a : EReal} (x y : EReal) (g : Good a) : a * (x + y) = a * x + a * y :=
  EReal.left_distrib_of_nonneg_of_ne_top g.1 g.2 x y

/-- The logistic function. -/
def sg (z : EReal) : EReal := Ideal.div 1 (1 + Ideal.exp (-z))

/-- The literal -8. -/
abbrev m8 : EReal := Ideal.ofBits FTy.f32 0xC1000000#32

/-- `softplus`. -/
def sp (z : EReal) : EReal := max z 0 + Ideal.log1p (Ideal.exp (-(max z (-z))))

/-- The gelu gate. -/
def gelu (g : EReal) : EReal :=
  Ideal.ofBits FTy.f32 0x3F000000#32 * g * (1 + Ideal.tanh (Ideal.ofBits FTy.f32 0x3F4C422A#32 *
    (g + Ideal.ofBits FTy.f32 0x3D372713#32 * (g * g * g))))

/-! ## The branch, entry by entry -/

/-- The branch's arguments: inputs, input projection, convolution taps and bias, the two gates' weights and biases, the
decay parameter. -/
structure Par where
  x : Fin 2 → Fin 8192 → Fin 1024 → EReal
  w : Fin 1024 → Fin 2048 → EReal
  cw : Fin 4 → Fin 1024 → EReal
  cb : Fin 1024 → EReal
  wa : Fin 8 → Fin 128 → Fin 128 → EReal
  ba : Fin 1024 → EReal
  wi : Fin 8 → Fin 128 → Fin 128 → EReal
  bi : Fin 1024 → EReal
  lam : Fin 1024 → EReal

namespace Par

variable (p : Par)

/-- Row `s` of a sequence, projected. -/
def px (b : Fin 2) (s : Nat) (c : Fin 2048) : EReal := if h : s < 8192 then ∑ k : Fin 1024, p.x b ⟨s, h⟩ k * p.w k c else 0

/-- Row `s - d` of the projection, zero before the sequence. -/
def sh (d : Nat) (b : Fin 2) (s : Nat) (l : Fin 1024) : EReal := if d ≤ s then p.px b (s - d) ⟨l.val, by omega⟩ else 0

/-- The causal convolution. -/
def xc (b : Fin 2) (s : Nat) (l : Fin 1024) : EReal :=
  p.cb l + p.cw 3 l * p.px b s ⟨l.val, by omega⟩ + p.cw 0 l * p.sh 3 b s l + p.cw 1 l * p.sh 2 b s l + p.cw 2 l * p.sh 1 b s l

/-- A gate: the logistic of a block-diagonal product and a bias. -/
def gt (W : Fin 8 → Fin 128 → Fin 128 → EReal) (B : Fin 1024 → EReal) (b : Fin 2) (s : Nat) (l : Fin 1024) : EReal :=
  sg (∑ k : Fin 128, p.xc b s ⟨128 * (l.val / 128) + k.val, by omega⟩ * W ⟨l.val / 128, by omega⟩ k ⟨l.val % 128, by omega⟩ + B l)

/-- The decay. -/
def a (b : Fin 2) (l : Fin 1024) (s : Nat) : EReal := Ideal.exp (m8 * sp (-p.lam l) * p.gt p.wa p.ba b s l)

/-- The input term. -/
def u (b : Fin 2) (l : Fin 1024) (s : Nat) : EReal :=
  Ideal.sqrt (1 - p.a b l s * p.a b l s) * (p.gt p.wi p.bi b s l * p.xc b s l)

/-- The state after `s` rows. -/
def h (b : Fin 2) (l : Fin 1024) (s : Nat) : EReal := scan (p.a b l) (p.u b l) 0 s

/-- The branch's result. -/
def out (b : Fin 2) (s : Nat) (l : Fin 1024) : EReal := gelu (p.px b s ⟨1024 + l.val, by omega⟩) * p.h b l (s + 1)

end Par

/-! ## Facts about the scalars -/

/-- An exponential is not negative. -/
theorem exp_nonneg (z : EReal) : 0 ≤ Ideal.exp z := by
  induction z with
  | bot => exact le_refl _
  | top => exact le_top
  | coe r => exact EReal.coe_nonneg.mpr (Real.exp_pos r).le

/-- The exponential of a number not positive distributes. -/
theorem exp_good {z : EReal} (h : z ≤ 0) : Good (Ideal.exp z) := by
  refine ⟨exp_nonneg z, ?_⟩
  induction z with
  | bot => exact EReal.zero_ne_top
  | top => exact absurd h (by simp)
  | coe r => exact EReal.coe_ne_top _

/-- The logistic function is not negative. -/
theorem sg_nonneg (z : EReal) : 0 ≤ sg z := by
  have h := exp_nonneg (-z)
  unfold sg
  generalize Ideal.exp (-z) = e at h
  have h1 : (1 : EReal) ≤ 1 + e := le_add_of_nonneg_right h
  have h0 : (0 : EReal) < 1 + e := lt_of_lt_of_le zero_lt_one h1
  unfold Ideal.div
  rw [if_neg (ne_of_gt h0), one_mul]
  exact EReal.inv_nonneg_of_nonneg h0.le

/-- The logarithm of one plus a number not negative is not negative. -/
theorem log1p_nonneg {e : EReal} (h : 0 ≤ e) : 0 ≤ Ideal.log1p e := by
  have h1 : (1 : EReal) ≤ 1 + e := le_add_of_nonneg_right h
  show 0 ≤ Ideal.log (1 + e)
  generalize 1 + e = y at h1
  induction y with
  | bot => exact absurd (lt_of_lt_of_le (EReal.bot_lt_coe 1) h1) (lt_irrefl _)
  | top => exact le_top
  | coe r =>
    have hr : (1 : ℝ) ≤ r := by exact_mod_cast h1
    show (0 : EReal) ≤ if r ≤ 0 then ⊥ else ((Real.log r : ℝ) : EReal)
    rw [if_neg (by linarith)]
    exact EReal.coe_nonneg.mpr (Real.log_nonneg hr)

/-- The softplus is not negative. -/
theorem sp_nonneg (z : EReal) : 0 ≤ sp z := add_nonneg (le_max_right _ _) (log1p_nonneg (exp_nonneg _))

/-- The decay's scale is not positive. -/
theorem m8_nonpos : m8 ≤ 0 := by
  have h : m8 = ((-(8 : ℝ)) : EReal) := by
    simp [m8, Ideal.ofBits, Ideal.ieee, -EReal.coe_mul, -EReal.coe_neg]; norm_num
  rw [h, ← EReal.coe_neg]
  exact EReal.coe_nonpos.mpr (by norm_num)

/-- The decay factor distributes over sums. -/
theorem Par.a_good (p : Par) (b : Fin 2) (l : Fin 1024) (s : Nat) : Good (p.a b l s) :=
  exp_good (mul_nonpos_of_nonpos_of_nonneg (mul_nonpos_of_nonpos_of_nonneg m8_nonpos (sp_nonneg _)) (sg_nonneg _))

/-- The square of an exponential. -/
theorem exp_two (l : EReal) (two : EReal) (h : two = 2) : Ideal.exp l * Ideal.exp l = Ideal.exp (two * l) := by
  subst h
  induction l with
  | bot => show (0 : EReal) * 0 = Ideal.exp (2 * ⊥); rw [EReal.mul_bot_of_pos (by norm_num)]; exact mul_zero 0
  | top => rw [EReal.mul_top_of_pos (by norm_num : (0 : EReal) < 2)]; exact EReal.top_mul_top
  | coe r =>
    have e : (2 : EReal) * (r : EReal) = ((2 * r : ℝ) : EReal) := by push_cast; rfl
    rw [e]
    show ((Real.exp r : ℝ) : EReal) * ((Real.exp r : ℝ) : EReal) = ((Real.exp (2 * r) : ℝ) : EReal)
    rw [two_mul, Real.exp_add]; push_cast; rfl

/-- A difference from one, turned round. -/
theorem one_sub (e : EReal) : 1 - e = -(e - 1) := by
  have h := EReal.neg_sub (x := e) (y := 1) (Or.inr (EReal.coe_ne_bot 1)) (Or.inr (EReal.coe_ne_top 1))
  rw [h, add_comm, sub_eq_add_neg]

/-- Continuing a recurrence. -/
theorem scan_add (a u : Nat → EReal) (h0 : EReal) (c k : Nat) :
    scan (fun s => a (c + s)) (fun s => u (c + s)) (scan a u h0 c) k = scan a u h0 (c + k) := by
  induction k with
  | zero => rfl
  | succ k ih => rw [scan_succ, ih]; rfl

/-- The recurrence reads its sequences before the step alone. -/
theorem scan_congr (a u a' u' : Nat → EReal) (h0 : EReal) (k : Nat) (h : ∀ s < k, a s = a' s ∧ u s = u' s) :
    scan a u h0 k = scan a' u' h0 k := by
  induction k with
  | zero => rfl
  | succ k ih => rw [scan_succ, scan_succ, ih (fun s hs => h s (by omega)), (h k (by omega)).1, (h k (by omega)).2]

end Cert.LruProof
-- ==== Proof.LruRows.lean ====
module

public import proofs.«01_k».proof.Proof.LruTile
public import proofs.«01_k».proof.Proof.LruSpec
public import Idealize.ShloMosaic.Lib.Pipeline.ValueKit
public import Idealize.ShloMosaic.Lib.Pointwise

@[expose] public section

set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.LruProof

open Cert.LruKernelIdeal Cert.LruKernelIdeal.Gen

/-! ## The recurrence, and combining its steps -/

/-- One doubling step over the 8 rows of a group, on the decays. -/
def sA (k : Fin 8) (a : Fin 8 → EReal) (q : Fin 8) : EReal := if k ≤ q then a q * a (q - k) else a q

/-- One doubling step over the 8 rows of a group, on the inputs. -/
def sB (k : Fin 8) (a b : Fin 8 → EReal) (q : Fin 8) : EReal := if k ≤ q then a q * b (q - k) + b q else b q

/-- After the three doubling steps a row holds all the steps of its group up to it. -/
theorem group_eq (a u : Fin 8 → EReal) (h : EReal) (hg : ∀ q, Good (a q)) (q : Fin 8) (av uv : Nat → EReal)
    (ha : ∀ q : Fin 8, av q.val = a q) (hu : ∀ q : Fin 8, uv q.val = u q) :
    sA 4 (sA 2 (sA 1 a)) q * h + sB 4 (sA 2 (sA 1 a)) (sB 2 (sA 1 a) (sB 1 a u)) q = scan av uv h (q.val + 1) := by
  have g0 := hg 0
  have g1 := hg 1
  have g2 := hg 2
  have g3 := hg 3
  have g4 := hg 4
  have g5 := hg 5
  have g6 := hg 6
  have g7 := hg 7
  have e0 := ha 0
  have e1 := ha 1
  have e2 := ha 2
  have e3 := ha 3
  have e4 := ha 4
  have e5 := ha 5
  have e6 := ha 6
  have e7 := ha 7
  have f0 := hu 0
  have f1 := hu 1
  have f2 := hu 2
  have f3 := hu 3
  have f4 := hu 4
  have f5 := hu 5
  have f6 := hu 6
  have f7 := hu 7
  simp only [show (0 : Fin 8).val = 0 from rfl, show (1 : Fin 8).val = 1 from rfl, show (2 : Fin 8).val = 2 from rfl,
    show (3 : Fin 8).val = 3 from rfl, show (4 : Fin 8).val = 4 from rfl, show (5 : Fin 8).val = 5 from rfl,
    show (6 : Fin 8).val = 6 from rfl, show (7 : Fin 8).val = 7 from rfl] at e0 e1 e2 e3 e4 e5 e6 e7 f0 f1 f2 f3 f4 f5 f6 f7
  have hq : q = 0 ∨ q = 1 ∨ q = 2 ∨ q = 3 ∨ q = 4 ∨ q = 5 ∨ q = 6 ∨ q = 7 := by revert q; decide
  rcases hq with rfl | rfl | rfl | rfl | rfl | rfl | rfl | rfl <;>
  simp only [show (0 : Fin 8).val = 0 from rfl, show (1 : Fin 8).val = 1 from rfl, show (2 : Fin 8).val = 2 from rfl,
    show (3 : Fin 8).val = 3 from rfl, show (4 : Fin 8).val = 4 from rfl, show (5 : Fin 8).val = 5 from rfl,
    show (6 : Fin 8).val = 6 from rfl, show (7 : Fin 8).val = 7 from rfl, scan_succ, scan_zero,
    e0, e1, e2, e3, e4, e5, e6, e7, f0, f1, f2, f3, f4, f5, f6, f7] <;>
  simp (config := { maxDischargeDepth := 10 }) [sA, sB, (by decide : (7 : Fin 8) - 4 = 3), (by decide : (7 : Fin 8) - 2 = 5), (by decide : (7 : Fin 8) - 1 = 6),
    (by decide : (6 : Fin 8) - 4 = 2), (by decide : (6 : Fin 8) - 2 = 4), (by decide : (6 : Fin 8) - 1 = 5),
    (by decide : (5 : Fin 8) - 4 = 1), (by decide : (5 : Fin 8) - 2 = 3), (by decide : (5 : Fin 8) - 1 = 4),
    (by decide : (4 : Fin 8) - 4 = 0), (by decide : (4 : Fin 8) - 2 = 2), (by decide : (4 : Fin 8) - 1 = 3),
    (by decide : (3 : Fin 8) - 2 = 1), (by decide : (3 : Fin 8) - 1 = 2),
    (by decide : (2 : Fin 8) - 2 = 0), (by decide : (2 : Fin 8) - 1 = 1), (by decide : (1 : Fin 8) - 1 = 0),
    (by decide : (4 : Fin 8) ≤ 7), (by decide : (2 : Fin 8) ≤ 7), (by decide : (4 : Fin 8) ≤ 6), (by decide : (2 : Fin 8) ≤ 6),
    (by decide : (4 : Fin 8) ≤ 5), (by decide : (2 : Fin 8) ≤ 5), (by decide : (2 : Fin 8) ≤ 4), (by decide : (2 : Fin 8) ≤ 3),
    (by decide : ¬ (4 : Fin 8) ≤ 3), (by decide : ¬ (4 : Fin 8) ≤ 2), (by decide : ¬ (4 : Fin 8) ≤ 1), (by decide : ¬ (2 : Fin 8) ≤ 1),
    (by decide : (1 : Fin 8) ≤ 7), (by decide : (1 : Fin 8) ≤ 6), (by decide : (1 : Fin 8) ≤ 5), (by decide : (1 : Fin 8) ≤ 4),
    (by decide : (1 : Fin 8) ≤ 3), (by decide : (1 : Fin 8) ≤ 2),
    dist, mul_assoc, add_assoc, g0, g1, g2, g3, g4, g5, g6, g7]

/-! ## The doubling steps of a tile -/

/-- The eight rows of a group, one by one. -/
theorem fin8 (q : Fin 8) : q = 0 ∨ q = 1 ∨ q = 2 ∨ q = 3 ∨ q = 4 ∨ q = 5 ∨ q = 6 ∨ q = 7 := by revert q; decide

/-- A doubling step by 1 of the factors, on a group. -/
theorem stepA_at1 (a : FVec Ideal S64x8x128 .f32) (g : Fin 64) (q : Fin 8) (l : Fin 128) :
    stepA 1#32 a (ix3 g q l) = sA 1 (fun q => a (ix3 g q l)) q := by
  pointwise [stepA, geq, lanes]
  rcases fin8 q with rfl | rfl | rfl | rfl | rfl | rfl | rfl | rfl <;> rfl

/-- A doubling step by 1 of the inputs, on a group. -/
theorem stepB_at1 (a b : FVec Ideal S64x8x128 .f32) (g : Fin 64) (q : Fin 8) (l : Fin 128) :
    stepB 1#32 a b (ix3 g q l) = sB 1 (fun q => a (ix3 g q l)) (fun q => b (ix3 g q l)) q := by
  pointwise [stepB, geq, lanes]
  rcases fin8 q with rfl | rfl | rfl | rfl | rfl | rfl | rfl | rfl <;> rfl

/-- A doubling step by 2 of the factors, on a group. -/
theorem stepA_at2 (a : FVec Ideal S64x8x128 .f32) (g : Fin 64) (q : Fin 8) (l : Fin 128) :
    stepA 2#32 a (ix3 g q l) = sA 2 (fun q => a (ix3 g q l)) q := by
  pointwise [stepA, geq, lanes]
  rcases fin8 q with rfl | rfl | rfl | rfl | rfl | rfl | rfl | rfl <;> rfl

/-- A doubling step by 2 of the inputs, on a group. -/
theorem stepB_at2 (a b : FVec Ideal S64x8x128 .f32) (g : Fin 64) (q : Fin 8) (l : Fin 128) :
    stepB 2#32 a b (ix3 g q l) = sB 2 (fun q => a (ix3 g q l)) (fun q => b (ix3 g q l)) q := by
  pointwise [stepB, geq, lanes]
  rcases fin8 q with rfl | rfl | rfl | rfl | rfl | rfl | rfl | rfl <;> rfl

/-- A doubling step by 4 of the factors, on a group. -/
theorem stepA_at4 (a : FVec Ideal S64x8x128 .f32) (g : Fin 64) (q : Fin 8) (l : Fin 128) :
    stepA 4#32 a (ix3 g q l) = sA 4 (fun q => a (ix3 g q l)) q := by
  pointwise [stepA, geq, lanes]
  rcases fin8 q with rfl | rfl | rfl | rfl | rfl | rfl | rfl | rfl <;> rfl

/-- A doubling step by 4 of the inputs, on a group. -/
theorem stepB_at4 (a b : FVec Ideal S64x8x128 .f32) (g : Fin 64) (q : Fin 8) (l : Fin 128) :
    stepB 4#32 a b (ix3 g q l) = sB 4 (fun q => a (ix3 g q l)) (fun q => b (ix3 g q l)) q := by
  pointwise [stepB, geq, lanes]
  rcases fin8 q with rfl | rfl | rfl | rfl | rfl | rfl | rfl | rfl <;> rfl

/-- A tile of 512 rows read as 64 groups of 8. -/
theorem fold_at (a : FVec Ideal S512x128 .f32) (g : Fin 64) (q : Fin 8) (l : Fin 128) :
    (shapeCast S64x8x128 a shapeCasts_S512x128_S64x8x128 : FVec Ideal S64x8x128 .f32) (ix3 g q l)
      = a (ix2 ⟨g.val * 8 + q.val, by omega⟩ l) := by
  pointwise

/-- The factors after the three doubling steps. -/
theorem A3_at (a : FVec Ideal S512x128 .f32) (g : Fin 64) (q : Fin 8) (l : Fin 128) :
    A3 a (ix3 g q l) = sA 4 (sA 2 (sA 1 (fun q => a (ix2 ⟨g.val * 8 + q.val, by omega⟩ l)))) q := by
  unfold A3
  rw [stepA_at4]; congr 1; funext q
  rw [stepA_at2]; congr 1; funext q
  rw [stepA_at1]; congr 1; funext q
  exact fold_at a g q l

/-- The inputs after the three doubling steps. -/
theorem B3_at (a u : FVec Ideal S512x128 .f32) (g : Fin 64) (q : Fin 8) (l : Fin 128) :
    B3 a u (ix3 g q l) = sB 4 (sA 2 (sA 1 (fun q => a (ix2 ⟨g.val * 8 + q.val, by omega⟩ l))))
      (sB 2 (sA 1 (fun q => a (ix2 ⟨g.val * 8 + q.val, by omega⟩ l)))
        (sB 1 (fun q => a (ix2 ⟨g.val * 8 + q.val, by omega⟩ l)) (fun q => u (ix2 ⟨g.val * 8 + q.val, by omega⟩ l)))) q := by
  unfold B3
  rw [stepB_at4]
  congr 1
  · funext q
    rw [stepA_at2]; congr 1; funext q
    rw [stepA_at1]; congr 1; funext q
    exact fold_at a g q l
  · funext q
    rw [stepB_at2]
    congr 1
    · funext q
      rw [stepA_at1]; congr 1; funext q
      exact fold_at a g q l
    · funext q
      rw [stepB_at1]
      congr 1
      · funext q; exact fold_at a g q l
      · funext q; exact fold_at u g q l

/-- A column of a tile as a sequence. -/
def col (a : FVec Ideal S512x128 .f32) (l : Fin 128) (s : Nat) : EReal :=
  if h : s < 512 then a (ix2 ⟨s, h⟩ l) else 0

/-- A group's states, from the state before it. -/
theorem stepRow_at (A B : FVec Ideal S64x8x128 .f32) (g : Fin 64) (hp : FVec Ideal S1x128 .f32) (q : Fin 8) (l : Fin 128) :
    stepRow A B g.val hp (ix2 q l) = A (ix3 g q l) * hp (ix2 0 l) + B (ix3 g q l) := by
  pointwise [stepRow]
  have e : (⟨g.val % 64, Nat.mod_lt _ (by decide)⟩ : Fin 64) = g := Fin.ext (Nat.mod_eq_of_lt g.isLt)
  rw [e]

/-- A row of group `g`, started from the state before the group. -/
theorem row_at (a u : FVec Ideal S512x128 .f32) (l : Fin 128) (hg : ∀ r, Good (a (ix2 r l))) (g : Fin 64)
    (hp : FVec Ideal S1x128 .f32) (h0 : EReal) (e : hp (ix2 0 l) = scan (col a l) (col u l) h0 (8 * g.val)) (q : Fin 8) :
    stepRow (A3 a) (B3 a u) g.val hp (ix2 q l) = scan (col a l) (col u l) h0 (8 * g.val + q.val + 1) := by
  rw [stepRow_at, A3_at, B3_at, group_eq _ _ _ (fun q => hg _) q (fun s => col a l (8 * g.val + s)) (fun s => col u l (8 * g.val + s))
    (fun q => ?_) (fun q => ?_), e]
  · have : ∀ k, scan (fun s => col a l (8 * g.val + s)) (fun s => col u l (8 * g.val + s))
        (scan (col a l) (col u l) h0 (8 * g.val)) k = scan (col a l) (col u l) h0 (8 * g.val + k) := by
      intro k
      induction k with
      | zero => rfl
      | succ k ih => rw [scan_succ, ih]; rfl
    rw [this]; rfl
  · have hb : 8 * g.val + q.val < 512 := by omega
    simp only [col, dif_pos hb]
    congr 2; exact Fin.ext (by show 8 * g.val + q.val = g.val * 8 + q.val; omega)
  · have hb : 8 * g.val + q.val < 512 := by omega
    simp only [col, dif_pos hb]
    congr 2; exact Fin.ext (by show 8 * g.val + q.val = g.val * 8 + q.val; omega)

/-- The state before group `g`. -/
theorem carry_at (a u : FVec Ideal S512x128 .f32) (l : Fin 128) (hg : ∀ r, Good (a (ix2 r l)))
    (hp : FVec Ideal S1x128 .f32) (g : Nat) (hgt : g ≤ 64) :
    carry (A3 a) (B3 a u) hp g (ix2 0 l) = scan (col a l) (col u l) (hp (ix2 0 l)) (8 * g) := by
  induction g with
  | zero => rfl
  | succ g ih =>
    have h1 := row_at a u l hg ⟨g, by omega⟩ _ _ (ih (by omega)) 7
    have h2 : 8 * g + 7 + 1 = 8 * (g + 1) := by omega
    have h3 : (⟨g, by omega⟩ : Fin 64).val = g := rfl
    have h4 : (7 : Fin 8).val = 7 := rfl
    rw [h3, h4, h2] at h1
    rw [← h1]
    have h5 : carry (A3 a) (B3 a u) hp (g + 1) = extractStridedSlice S1x128 ![7, 0]
      (stepRow (A3 a) (B3 a u) g (carry (A3 a) (B3 a u) hp g)) slices_S8x128_o7_0_S1x128 := rfl
    rw [h5]
    generalize stepRow (A3 a) (B3 a u) g (carry (A3 a) (B3 a u) hp g) = z
    pointwise

/-- Row `r` of the tile's recurrence. -/
theorem hTile_at (a u : FVec Ideal S512x128 .f32) (l : Fin 128) (hg : ∀ r, Good (a (ix2 r l)))
    (hp : FVec Ideal S1x128 .f32) (r : Fin 512) :
    hTile (A3 a) (B3 a u) hp (ix2 r l) = scan (col a l) (col u l) (hp (ix2 0 l)) (r.val + 1) := by
  have h1 := row_at a u l hg ⟨r.val / 8, by omega⟩ _ _ (carry_at a u l hg hp (r.val / 8) (by omega)) ⟨r.val % 8, by omega⟩
  have h2 : 8 * (r.val / 8) + r.val % 8 + 1 = r.val + 1 := by omega
  simp only [h2] at h1
  rw [← h1]
  unfold hTile
  pointwise

end Cert.LruProof
-- ==== Proof.LruBlock.lean ====
module

public import proofs.«01_k».proof.Proof.LruRows
public import Idealize.ShloMosaic.Lib.Pipeline.ValueKit
public import Idealize.ShloMosaic.Lib.Pointwise

@[expose] public section

set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.LruProof

open Cert.LruKernelIdeal Cert.LruKernelIdeal.Gen

/-- A projected row at a column: the sum over the features. -/
theorem P_at (X0 : Vec Ideal S1x512x1024 .f32) (W : Vec Ideal S1024x2048 .bf16) (r : Fin 512) (c : Fin 2048) :
    k0_pay4 X0 W (ix2 r c) = ∑ k : Fin 1024, X0 (ix3 0 r k) * W (ix2 k c) := by
  pointwise [k0_pay4]

/-- The convolved row at a lane: the bias and the four shifted products. -/
theorem XC_at (X0 : Vec Ideal S1x512x1024 .f32) (W : Vec Ideal S1024x2048 .bf16) (CW : Vec Ideal S4x1024 .f32)
    (CB : Vec Ideal S1x1024 .f32) (e5 e6 e7 : Vec Ideal S512x1024 .f32) (r : Fin 512) (l : Fin 1024) :
    k0_pay7 X0 W CW CB e5 e6 e7 (ix2 r l) = CB (ix2 0 l) + CW (ix2 3 l) * k0_pay4 X0 W (ix2 r ⟨l.val, by omega⟩)
      + CW (ix2 0 l) * e5 (ix2 r l) + CW (ix2 1 l) * e6 (ix2 r l) + CW (ix2 2 l) * e7 (ix2 r l) := by
  have hcur : ∀ r l, k0_pay5 X0 W (ix2 r l) = k0_pay4 X0 W (ix2 r ⟨l.val, by omega⟩) := by
    intro r l
    unfold k0_pay5
    generalize k0_pay4 X0 W = z
    pointwise
  rw [← hcur]
  unfold k0_pay7
  generalize k0_pay5 X0 W = z
  pointwise

/-- The decay coefficient of a lane. -/
theorem NC_at (L : Vec Ideal S1x1024 .f32) (l : Fin 1024) : k0_pay10 L (ix2 0 l) = m8 * sp (-L (ix2 0 l)) := by
  pointwise [k0_pay10]
  simp only [zero_sub]
  rfl

/-- The tile's logistic function at an entry. -/
theorem sgm_at (x : FVec Ideal S512x128 .f32) (r : Fin 512) (l : Fin 128) : sgm x (ix2 r l) = sg (x (ix2 r l)) := by
  pointwise [sgm]
  simp only [zero_sub]
  rfl

/-- A block's two gate projections at a column. -/
theorem gates_at (o : Nat) (ho : o + 128 ≤ 1024) (h1 : S512x1024.Slices ![0, o] S512x128) (XC : FVec Ideal S512x1024 .f32)
    (w : Vec Ideal S1x128x256 .bf16) (r : Fin 512) (j : Fin 256) :
    gates o h1 XC w (ix2 r j) = ∑ k : Fin 128, XC (ix2 r ⟨o + k.val, by omega⟩) * w (ix3 0 k j) := by
  pointwise [gates]

/-- A block's decay gate at an entry. -/
theorem rGate_at (o : Nat) (ho : o + 128 ≤ 1024) (h1 : S512x1024.Slices ![0, o] S512x128) (XC : FVec Ideal S512x1024 .f32)
    (w : Vec Ideal S1x128x256 .bf16) (ba : Vec Ideal S1x128 .f32) (r : Fin 512) (l : Fin 128) :
    rGate o h1 XC w ba (ix2 r l) = sg (∑ k : Fin 128, XC (ix2 r ⟨o + k.val, by omega⟩) * w (ix3 0 k ⟨l.val, by omega⟩)
      + ba (ix2 0 l)) := by
  rw [← gates_at o ho h1]
  unfold rGate
  rw [sgm_at]
  congr 1
  generalize gates o h1 XC w = z
  pointwise

/-- A block's input gate at an entry. -/
theorem iGate_at (o : Nat) (ho : o + 128 ≤ 1024) (h1 : S512x1024.Slices ![0, o] S512x128) (XC : FVec Ideal S512x1024 .f32)
    (w : Vec Ideal S1x128x256 .bf16) (bi : Vec Ideal S1x128 .f32) (r : Fin 512) (l : Fin 128) :
    iGate o h1 XC w bi (ix2 r l) = sg (∑ k : Fin 128, XC (ix2 r ⟨o + k.val, by omega⟩) * w (ix3 0 k ⟨128 + l.val, by omega⟩)
      + bi (ix2 0 l)) := by
  rw [← gates_at o ho h1]
  unfold iGate
  rw [sgm_at]
  congr 1
  generalize gates o h1 XC w = z
  pointwise

/-- A block's decay factors at an entry. -/
theorem aTile_at (o : Nat) (ho : o + 128 ≤ 1024) (h1 : S512x1024.Slices ![0, o] S512x128) (h2 : S1x1024.Slices ![0, o] S1x128)
    (XC : FVec Ideal S512x1024 .f32) (NC : FVec Ideal S1x1024 .f32)
    (w : Vec Ideal S1x128x256 .bf16) (ba : Vec Ideal S1x128 .f32) (r : Fin 512) (l : Fin 128) :
    aTile o h1 h2 XC NC w ba (ix2 r l) = Ideal.exp (NC (ix2 0 ⟨o + l.val, by omega⟩) *
      sg (∑ k : Fin 128, XC (ix2 r ⟨o + k.val, by omega⟩) * w (ix3 0 k ⟨l.val, by omega⟩) + ba (ix2 0 l))) := by
  rw [← rGate_at o ho h1]
  unfold aTile
  generalize rGate o h1 XC w ba = z
  pointwise

/-- A block's inputs to the recurrence at an entry. -/
theorem uTile_at (o : Nat) (ho : o + 128 ≤ 1024) (h1 : S512x1024.Slices ![0, o] S512x128) (h2 : S1x1024.Slices ![0, o] S1x128)
    (XC : FVec Ideal S512x1024 .f32) (NC : FVec Ideal S1x1024 .f32)
    (w : Vec Ideal S1x128x256 .bf16) (ba bi : Vec Ideal S1x128 .f32) (r : Fin 512) (l : Fin 128) :
    uTile o h1 h2 XC NC w ba bi (ix2 r l) = Ideal.sqrt (1 - aTile o h1 h2 XC NC w ba (ix2 r l) * aTile o h1 h2 XC NC w ba (ix2 r l))
      * (sg (∑ k : Fin 128, XC (ix2 r ⟨o + k.val, by omega⟩) * w (ix3 0 k ⟨128 + l.val, by omega⟩) + bi (ix2 0 l))
        * XC (ix2 r ⟨o + l.val, by omega⟩)) := by
  rw [← iGate_at o ho h1]
  unfold uTile
  generalize iGate o h1 XC w bi = z
  generalize aTile o h1 h2 XC NC w ba = z'
  pointwise

/-- A block's output at an entry: the gelu of the gate column times the state. -/
theorem kOut_at (og : Nat) (ho : og + 128 ≤ 2048) (hg : S512x2048.Slices ![0, og] S512x128) (P : FVec Ideal S512x2048 .f32)
    (h : FVec Ideal S512x128 .f32) (r : Fin 512) (l : Fin 128) :
    kOut og hg P h (ix3 0 r l) = gelu (P (ix2 r ⟨og + l.val, by omega⟩)) * h (ix2 r l) := by
  pointwise [kOut]
  rfl

end Cert.LruProof
-- ==== Proof.LruComb.lean ====
module

public import proofs.«01_k».proof.Proof.LruBlock
public import Idealize.ShloMosaic.Lib.Pipeline.ValueKit
public import Idealize.ShloMosaic.Lib.Pointwise

@[expose] public section

set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.LruProof

open Cert.LruKernelIdeal Cert.LruKernelIdeal.Gen

/-- What a tile of 512 rows from row `512 * j` of sequence `b` holds on the lanes from `o`. -/
structure TileOf (p : Par) (b : Fin 2) (j : Nat) (P : FVec Ideal S512x2048 .f32) (XC : FVec Ideal S512x1024 .f32)
    (NC : FVec Ideal S1x1024 .f32) : Prop where
  hP : ∀ (r : Fin 512) (c : Fin 2048), P (ix2 r c) = p.px b (512 * j + r.val) c
  hX : ∀ (r : Fin 512) (l : Fin 1024), XC (ix2 r l) = p.xc b (512 * j + r.val) l
  hN : ∀ l : Fin 1024, NC (ix2 0 l) = m8 * sp (-p.lam l)

/-- The weights, biases and incoming state of block `n` of 128 lanes. -/
structure BlockOf (p : Par) (b : Fin 2) (j : Nat) (n : Fin 8) (w : Vec Ideal S1x128x256 .bf16)
    (ba bi hp : Vec Ideal S1x128 .f32) : Prop where
  hwa : ∀ k l : Fin 128, w (ix3 0 k ⟨l.val, by omega⟩) = p.wa n k l
  hwi : ∀ k l : Fin 128, w (ix3 0 k ⟨128 + l.val, by omega⟩) = p.wi n k l
  hba : ∀ l : Fin 128, ba (ix2 0 l) = p.ba ⟨128 * n.val + l.val, by omega⟩
  hbi : ∀ l : Fin 128, bi (ix2 0 l) = p.bi ⟨128 * n.val + l.val, by omega⟩
  hh : ∀ l : Fin 128, hp (ix2 0 l) = p.h b ⟨128 * n.val + l.val, by omega⟩ (512 * j)

section

variable {p : Par} {b : Fin 2} {j : Nat} {P : FVec Ideal S512x2048 .f32} {XC : FVec Ideal S512x1024 .f32}
  {NC : FVec Ideal S1x1024 .f32} {n : Fin 8} {w : Vec Ideal S1x128x256 .bf16} {ba bi hp : Vec Ideal S1x128 .f32}

/-- Lane `128 * n + l` lies in block `n` at `l`. -/
theorem gt_lane (W : Fin 8 → Fin 128 → Fin 128 → EReal) (B : Fin 1024 → EReal) (s : Nat) (l : Fin 128) :
    p.gt W B b s ⟨128 * n.val + l.val, by omega⟩ = sg (∑ k : Fin 128, p.xc b s ⟨128 * n.val + k.val, by omega⟩ * W n k l
      + B ⟨128 * n.val + l.val, by omega⟩) := by
  have h1 : (128 * n.val + l.val) / 128 = n.val := by omega
  have h2 : (128 * n.val + l.val) % 128 = l.val := by omega
  unfold Par.gt
  simp only [h1, h2, Fin.eta]

/-- A decay gate's argument is the specification's. -/
theorem gateA (T : TileOf p b j P XC NC) (K : BlockOf p b j n w ba bi hp) (r : Fin 512) (l : Fin 128) :
    sg (∑ k : Fin 128, XC (ix2 r ⟨128 * n.val + k.val, by omega⟩) * w (ix3 0 k ⟨l.val, by omega⟩) + ba (ix2 0 l))
      = p.gt p.wa p.ba b (512 * j + r.val) ⟨128 * n.val + l.val, by omega⟩ := by
  rw [gt_lane]
  simp only [T.hX, K.hwa, K.hba]

/-- An input gate's argument is the specification's. -/
theorem gateI (T : TileOf p b j P XC NC) (K : BlockOf p b j n w ba bi hp) (r : Fin 512) (l : Fin 128) :
    sg (∑ k : Fin 128, XC (ix2 r ⟨128 * n.val + k.val, by omega⟩) * w (ix3 0 k ⟨128 + l.val, by omega⟩) + bi (ix2 0 l))
      = p.gt p.wi p.bi b (512 * j + r.val) ⟨128 * n.val + l.val, by omega⟩ := by
  rw [gt_lane]
  simp only [T.hX, K.hwi, K.hbi]

/-- A block's decay factors are the specification's. -/
theorem a_tile (T : TileOf p b j P XC NC) (K : BlockOf p b j n w ba bi hp)
    (h1 : S512x1024.Slices ![0, 128 * n.val] S512x128) (h2 : S1x1024.Slices ![0, 128 * n.val] S1x128) (r : Fin 512) (l : Fin 128) :
    aTile (128 * n.val) h1 h2 XC NC w ba (ix2 r l) = p.a b ⟨128 * n.val + l.val, by omega⟩ (512 * j + r.val) := by
  rw [aTile_at _ (by omega), gateA T K, T.hN]
  rfl

/-- A block's inputs to the recurrence are the specification's. -/
theorem u_tile (T : TileOf p b j P XC NC) (K : BlockOf p b j n w ba bi hp)
    (h1 : S512x1024.Slices ![0, 128 * n.val] S512x128) (h2 : S1x1024.Slices ![0, 128 * n.val] S1x128) (r : Fin 512) (l : Fin 128) :
    uTile (128 * n.val) h1 h2 XC NC w ba bi (ix2 r l) = p.u b ⟨128 * n.val + l.val, by omega⟩ (512 * j + r.val) := by
  rw [uTile_at _ (by omega), gateI T K, T.hX, a_tile T K]
  rfl

/-- The recurrence over a tile's rows continues the specification's states. -/
theorem scan_tile (T : TileOf p b j P XC NC) (K : BlockOf p b j n w ba bi hp)
    (h1 : S512x1024.Slices ![0, 128 * n.val] S512x128) (h2 : S1x1024.Slices ![0, 128 * n.val] S1x128) (l : Fin 128)
    (k : Nat) (hk : k ≤ 512) :
    scan (col (aTile (128 * n.val) h1 h2 XC NC w ba) l) (col (uTile (128 * n.val) h1 h2 XC NC w ba bi) l) (hp (ix2 0 l)) k
      = p.h b ⟨128 * n.val + l.val, by omega⟩ (512 * j + k) := by
  rw [K.hh]
  unfold Par.h
  rw [← scan_add]
  refine scan_congr _ _ _ _ _ _ fun s hs => ?_
  have hs' : s < 512 := by omega
  simp only [col, dif_pos hs']
  exact ⟨a_tile T K h1 h2 ⟨s, hs'⟩ l, u_tile T K h1 h2 ⟨s, hs'⟩ l⟩

/-- A block of the output is the branch's result there. -/
theorem blkOut_at (T : TileOf p b j P XC NC) (K : BlockOf p b j n w ba bi hp)
    (h1 : S512x1024.Slices ![0, 128 * n.val] S512x128) (h2 : S1x1024.Slices ![0, 128 * n.val] S1x128)
    (hg : S512x2048.Slices ![0, 1024 + 128 * n.val] S512x128) (r : Fin 512) (l : Fin 128) :
    blkOut (128 * n.val) (1024 + 128 * n.val) h1 h2 hg P XC NC w ba bi hp (ix3 0 r l)
      = p.out b (512 * j + r.val) ⟨128 * n.val + l.val, by omega⟩ := by
  unfold blkOut
  rw [kOut_at _ (by omega), hTile_at _ _ _ (fun r => by rw [a_tile T K]; exact p.a_good _ _ _), scan_tile T K h1 h2 l _ (by omega), T.hP]
  unfold Par.out
  have e : (⟨1024 + 128 * n.val + l.val, by omega⟩ : Fin 2048) = ⟨1024 + (128 * n.val + l.val), by omega⟩ :=
    Fin.ext (by show 1024 + 128 * n.val + l.val = 1024 + (128 * n.val + l.val); omega)
  rw [e, add_assoc]

/-- The state a block leaves is the branch's state after the tile. -/
theorem blkH_at (T : TileOf p b j P XC NC) (K : BlockOf p b j n w ba bi hp)
    (h1 : S512x1024.Slices ![0, 128 * n.val] S512x128) (h2 : S1x1024.Slices ![0, 128 * n.val] S1x128) (l : Fin 128) :
    blkH (128 * n.val) h1 h2 XC NC w ba bi hp (ix2 0 l) = p.h b ⟨128 * n.val + l.val, by omega⟩ (512 * (j + 1)) := by
  have e := carry_at (aTile (128 * n.val) h1 h2 XC NC w ba) (uTile (128 * n.val) h1 h2 XC NC w ba bi) l (fun r => by rw [a_tile T K h1 h2]; exact p.a_good _ _ _) hp 64 le_rfl
  rw [scan_tile T K h1 h2 l _ (by omega)] at e
  have h3 : 512 * j + 8 * 64 = 512 * (j + 1) := by omega
  rw [h3] at e
  rw [← e]
  unfold blkH
  generalize carry _ _ _ _ = z
  pointwise

end

end Cert.LruProof
-- ==== Proof.LruRunA.lean ====
module

public import proofs.«01_k».proof.Proof.LruTile
public import Idealize.ShloMosaic.Lib.Pipeline.ValueKit
public import Idealize.ShloMosaic.Lib.Pointwise

@[expose] public section

set_option maxRecDepth 65536
noncomputable section

open Idealize.ShloMosaic Idealize.ShloMosaic.TcCoe Idealize.ShloMosaic.ValueIdx Idealize.SL.Sem
open Idealize.ShloMosaic.Pipeline (Dat)
namespace Cert.LruProof

open Cert.LruKernelIdeal Cert.LruKernelIdeal.Gen

/-- What a first point of a sequence writes to its output block, block by block. -/
theorem outA_pieces (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (P : FVec Ideal S512x2048 .f32) (hP : P = k0_pay4 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)))
    (XC : FVec Ideal S512x1024 .f32) (hXC : XC = k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S4x1024) ![0, 0] S4x1024.size inb_S4x1024_S4x1024_0_0).toLoadRect (harg4.unread x2)) (View.readAt (Elt Ideal) arg5.view (Rect.unit (s := S1x1024) ![0, 0] S1x1024.size inb_S1x1024_S1x1024_0_0).toLoadRect (harg5.unread x3))
      (kernelRun0_A.sl.v22 (F := Ideal) c arg2 harg2 arg3 harg3 arg11 x0 x1)
      (kernelRun0_A.sl.v27 (F := Ideal) c arg2 harg2 arg3 harg3 arg11 x0 x1)
      (kernelRun0_A.sl.v32 (F := Ideal) c arg2 harg2 arg3 harg3 arg11 x0 x1))
    (NC : FVec Ideal S1x1024 .f32) (hNC : NC = k0_pay10 (View.readAt (Elt Ideal) arg9.view (Rect.unit (s := S1x1024) ![0, 0] S1x1024.size inb_S1x1024_S1x1024_0_0).toLoadRect (harg9.unread x7))) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7).1 =
      [⟨Rect.unit (s := S1x512x1024) ![0, 0, 896] S1x512x128.size inb_S1x512x1024_S1x512x128_0_0_896, blkOut 896 1920 slices_S512x1024_o0_896_S512x128 slices_S1x1024_o0_896_S1x128 slices_S512x2048_o0_1920_S512x128 P XC NC
          (View.readAt (Elt Ideal) arg6.view (Rect.unit (s := S8x128x256) ![7, 0, 0] S1x128x256.size inb_S8x128x256_S1x128x256_7_0_0).toLoadRect (harg6.unread x4))
          (View.readAt (Elt Ideal) arg7.view (Rect.unit (s := S1x1024) ![0, 896] S1x128.size inb_S1x1024_S1x128_0_896).toLoadRect (harg7.unread x5))
          (View.readAt (Elt Ideal) arg8.view (Rect.unit (s := S1x1024) ![0, 896] S1x128.size inb_S1x1024_S1x128_0_896).toLoadRect (harg8.unread x6))
          (kernelRun0_A.sl.v4807 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x512x1024) ![0, 0, 768] S1x512x128.size inb_S1x512x1024_S1x512x128_0_0_768, blkOut 768 1792 slices_S512x1024_o0_768_S512x128 slices_S1x1024_o0_768_S1x128 slices_S512x2048_o0_1792_S512x128 P XC NC
          (View.readAt (Elt Ideal) arg6.view (Rect.unit (s := S8x128x256) ![6, 0, 0] S1x128x256.size inb_S8x128x256_S1x128x256_6_0_0).toLoadRect (harg6.unread x4))
          (View.readAt (Elt Ideal) arg7.view (Rect.unit (s := S1x1024) ![0, 768] S1x128.size inb_S1x1024_S1x128_0_768).toLoadRect (harg7.unread x5))
          (View.readAt (Elt Ideal) arg8.view (Rect.unit (s := S1x1024) ![0, 768] S1x128.size inb_S1x1024_S1x128_0_768).toLoadRect (harg8.unread x6))
          (kernelRun0_A.sl.v4138 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x512x1024) ![0, 0, 640] S1x512x128.size inb_S1x512x1024_S1x512x128_0_0_640, blkOut 640 1664 slices_S512x1024_o0_640_S512x128 slices_S1x1024_o0_640_S1x128 slices_S512x2048_o0_1664_S512x128 P XC NC
          (View.readAt (Elt Ideal) arg6.view (Rect.unit (s := S8x128x256) ![5, 0, 0] S1x128x256.size inb_S8x128x256_S1x128x256_5_0_0).toLoadRect (harg6.unread x4))
          (View.readAt (Elt Ideal) arg7.view (Rect.unit (s := S1x1024) ![0, 640] S1x128.size inb_S1x1024_S1x128_0_640).toLoadRect (harg7.unread x5))
          (View.readAt (Elt Ideal) arg8.view (Rect.unit (s := S1x1024) ![0, 640] S1x128.size inb_S1x1024_S1x128_0_640).toLoadRect (harg8.unread x6))
          (kernelRun0_A.sl.v3469 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x512x1024) ![0, 0, 512] S1x512x128.size inb_S1x512x1024_S1x512x128_0_0_512, blkOut 512 1536 slices_S512x1024_o0_512_S512x128 slices_S1x1024_o0_512_S1x128 slices_S512x2048_o0_1536_S512x128 P XC NC
          (View.readAt (Elt Ideal) arg6.view (Rect.unit (s := S8x128x256) ![4, 0, 0] S1x128x256.size inb_S8x128x256_S1x128x256_4_0_0).toLoadRect (harg6.unread x4))
          (View.readAt (Elt Ideal) arg7.view (Rect.unit (s := S1x1024) ![0, 512] S1x128.size inb_S1x1024_S1x128_0_512).toLoadRect (harg7.unread x5))
          (View.readAt (Elt Ideal) arg8.view (Rect.unit (s := S1x1024) ![0, 512] S1x128.size inb_S1x1024_S1x128_0_512).toLoadRect (harg8.unread x6))
          (kernelRun0_A.sl.v2800 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x512x1024) ![0, 0, 384] S1x512x128.size inb_S1x512x1024_S1x512x128_0_0_384, blkOut 384 1408 slices_S512x1024_o0_384_S512x128 slices_S1x1024_o0_384_S1x128 slices_S512x2048_o0_1408_S512x128 P XC NC
          (View.readAt (Elt Ideal) arg6.view (Rect.unit (s := S8x128x256) ![3, 0, 0] S1x128x256.size inb_S8x128x256_S1x128x256_3_0_0).toLoadRect (harg6.unread x4))
          (View.readAt (Elt Ideal) arg7.view (Rect.unit (s := S1x1024) ![0, 384] S1x128.size inb_S1x1024_S1x128_0_384).toLoadRect (harg7.unread x5))
          (View.readAt (Elt Ideal) arg8.view (Rect.unit (s := S1x1024) ![0, 384] S1x128.size inb_S1x1024_S1x128_0_384).toLoadRect (harg8.unread x6))
          (kernelRun0_A.sl.v2131 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x512x1024) ![0, 0, 256] S1x512x128.size inb_S1x512x1024_S1x512x128_0_0_256, blkOut 256 1280 slices_S512x1024_o0_256_S512x128 slices_S1x1024_o0_256_S1x128 slices_S512x2048_o0_1280_S512x128 P XC NC
          (View.readAt (Elt Ideal) arg6.view (Rect.unit (s := S8x128x256) ![2, 0, 0] S1x128x256.size inb_S8x128x256_S1x128x256_2_0_0).toLoadRect (harg6.unread x4))
          (View.readAt (Elt Ideal) arg7.view (Rect.unit (s := S1x1024) ![0, 256] S1x128.size inb_S1x1024_S1x128_0_256).toLoadRect (harg7.unread x5))
          (View.readAt (Elt Ideal) arg8.view (Rect.unit (s := S1x1024) ![0, 256] S1x128.size inb_S1x1024_S1x128_0_256).toLoadRect (harg8.unread x6))
          (kernelRun0_A.sl.v1462 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x512x1024) ![0, 0, 128] S1x512x128.size inb_S1x512x1024_S1x512x128_0_0_128, blkOut 128 1152 slices_S512x1024_o0_128_S512x128 slices_S1x1024_o0_128_S1x128 slices_S512x2048_o0_1152_S512x128 P XC NC
          (View.readAt (Elt Ideal) arg6.view (Rect.unit (s := S8x128x256) ![1, 0, 0] S1x128x256.size inb_S8x128x256_S1x128x256_1_0_0).toLoadRect (harg6.unread x4))
          (View.readAt (Elt Ideal) arg7.view (Rect.unit (s := S1x1024) ![0, 128] S1x128.size inb_S1x1024_S1x128_0_128).toLoadRect (harg7.unread x5))
          (View.readAt (Elt Ideal) arg8.view (Rect.unit (s := S1x1024) ![0, 128] S1x128.size inb_S1x1024_S1x128_0_128).toLoadRect (harg8.unread x6))
          (kernelRun0_A.sl.v793 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x512x1024) ![0, 0, 0] S1x512x128.size inb_S1x512x1024_S1x512x128_0_0_0, blkOut 0 1024 slices_S512x1024_o0_0_S512x128 slices_S1x1024_o0_0_S1x128 slices_S512x2048_o0_1024_S512x128 P XC NC
          (View.readAt (Elt Ideal) arg6.view (Rect.unit (s := S8x128x256) ![0, 0, 0] S1x128x256.size inb_S8x128x256_S1x128x256_0_0_0).toLoadRect (harg6.unread x4))
          (View.readAt (Elt Ideal) arg7.view (Rect.unit (s := S1x1024) ![0, 0] S1x128.size inb_S1x1024_S1x128_0_0).toLoadRect (harg7.unread x5))
          (View.readAt (Elt Ideal) arg8.view (Rect.unit (s := S1x1024) ![0, 0] S1x128.size inb_S1x1024_S1x128_0_0).toLoadRect (harg8.unread x6))
          (kernelRun0_A.sl.v124 (F := Ideal) c arg12)⟩] := by
  subst hP hXC hNC
  sl_kernel_rfl

/-- What a first point of a sequence leaves of the projection, block by block. -/
theorem extA_pieces (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
     :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7).2.1 =
      ⟨Rect.unit (s := S520x1024) ![0, 0] S8x1024.size inb_S520x1024_S8x1024_0_0, k0_pay8 (k0_pay5 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)))⟩ :: [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩, ⟨Rect.unit (s := S520x1024) ![0, 0] S8x1024.size inb_S520x1024_S8x1024_0_0, k0_pay2 (F := Ideal)⟩] := by
  skip
  sl_kernel_rfl

/-- What a first point of a sequence leaves as the state, block by block. -/
theorem stA_pieces (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (P : FVec Ideal S512x2048 .f32) (hP : P = k0_pay4 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)))
    (XC : FVec Ideal S512x1024 .f32) (hXC : XC = k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S4x1024) ![0, 0] S4x1024.size inb_S4x1024_S4x1024_0_0).toLoadRect (harg4.unread x2)) (View.readAt (Elt Ideal) arg5.view (Rect.unit (s := S1x1024) ![0, 0] S1x1024.size inb_S1x1024_S1x1024_0_0).toLoadRect (harg5.unread x3))
      (kernelRun0_A.sl.v22 (F := Ideal) c arg2 harg2 arg3 harg3 arg11 x0 x1)
      (kernelRun0_A.sl.v27 (F := Ideal) c arg2 harg2 arg3 harg3 arg11 x0 x1)
      (kernelRun0_A.sl.v32 (F := Ideal) c arg2 harg2 arg3 harg3 arg11 x0 x1))
    (NC : FVec Ideal S1x1024 .f32) (hNC : NC = k0_pay10 (View.readAt (Elt Ideal) arg9.view (Rect.unit (s := S1x1024) ![0, 0] S1x1024.size inb_S1x1024_S1x1024_0_0).toLoadRect (harg9.unread x7))) :
    (kernelRun0_A (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7).2.2.1 =
      [⟨Rect.unit (s := S1x1024) ![0, 896] S1x128.size inb_S1x1024_S1x128_0_896, blkH 896 slices_S512x1024_o0_896_S512x128 slices_S1x1024_o0_896_S1x128 XC NC
          (View.readAt (Elt Ideal) arg6.view (Rect.unit (s := S8x128x256) ![7, 0, 0] S1x128x256.size inb_S8x128x256_S1x128x256_7_0_0).toLoadRect (harg6.unread x4))
          (View.readAt (Elt Ideal) arg7.view (Rect.unit (s := S1x1024) ![0, 896] S1x128.size inb_S1x1024_S1x128_0_896).toLoadRect (harg7.unread x5))
          (View.readAt (Elt Ideal) arg8.view (Rect.unit (s := S1x1024) ![0, 896] S1x128.size inb_S1x1024_S1x128_0_896).toLoadRect (harg8.unread x6))
          (kernelRun0_A.sl.v4807 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x1024) ![0, 768] S1x128.size inb_S1x1024_S1x128_0_768, blkH 768 slices_S512x1024_o0_768_S512x128 slices_S1x1024_o0_768_S1x128 XC NC
          (View.readAt (Elt Ideal) arg6.view (Rect.unit (s := S8x128x256) ![6, 0, 0] S1x128x256.size inb_S8x128x256_S1x128x256_6_0_0).toLoadRect (harg6.unread x4))
          (View.readAt (Elt Ideal) arg7.view (Rect.unit (s := S1x1024) ![0, 768] S1x128.size inb_S1x1024_S1x128_0_768).toLoadRect (harg7.unread x5))
          (View.readAt (Elt Ideal) arg8.view (Rect.unit (s := S1x1024) ![0, 768] S1x128.size inb_S1x1024_S1x128_0_768).toLoadRect (harg8.unread x6))
          (kernelRun0_A.sl.v4138 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x1024) ![0, 640] S1x128.size inb_S1x1024_S1x128_0_640, blkH 640 slices_S512x1024_o0_640_S512x128 slices_S1x1024_o0_640_S1x128 XC NC
          (View.readAt (Elt Ideal) arg6.view (Rect.unit (s := S8x128x256) ![5, 0, 0] S1x128x256.size inb_S8x128x256_S1x128x256_5_0_0).toLoadRect (harg6.unread x4))
          (View.readAt (Elt Ideal) arg7.view (Rect.unit (s := S1x1024) ![0, 640] S1x128.size inb_S1x1024_S1x128_0_640).toLoadRect (harg7.unread x5))
          (View.readAt (Elt Ideal) arg8.view (Rect.unit (s := S1x1024) ![0, 640] S1x128.size inb_S1x1024_S1x128_0_640).toLoadRect (harg8.unread x6))
          (kernelRun0_A.sl.v3469 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x1024) ![0, 512] S1x128.size inb_S1x1024_S1x128_0_512, blkH 512 slices_S512x1024_o0_512_S512x128 slices_S1x1024_o0_512_S1x128 XC NC
          (View.readAt (Elt Ideal) arg6.view (Rect.unit (s := S8x128x256) ![4, 0, 0] S1x128x256.size inb_S8x128x256_S1x128x256_4_0_0).toLoadRect (harg6.unread x4))
          (View.readAt (Elt Ideal) arg7.view (Rect.unit (s := S1x1024) ![0, 512] S1x128.size inb_S1x1024_S1x128_0_512).toLoadRect (harg7.unread x5))
          (View.readAt (Elt Ideal) arg8.view (Rect.unit (s := S1x1024) ![0, 512] S1x128.size inb_S1x1024_S1x128_0_512).toLoadRect (harg8.unread x6))
          (kernelRun0_A.sl.v2800 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x1024) ![0, 384] S1x128.size inb_S1x1024_S1x128_0_384, blkH 384 slices_S512x1024_o0_384_S512x128 slices_S1x1024_o0_384_S1x128 XC NC
          (View.readAt (Elt Ideal) arg6.view (Rect.unit (s := S8x128x256) ![3, 0, 0] S1x128x256.size inb_S8x128x256_S1x128x256_3_0_0).toLoadRect (harg6.unread x4))
          (View.readAt (Elt Ideal) arg7.view (Rect.unit (s := S1x1024) ![0, 384] S1x128.size inb_S1x1024_S1x128_0_384).toLoadRect (harg7.unread x5))
          (View.readAt (Elt Ideal) arg8.view (Rect.unit (s := S1x1024) ![0, 384] S1x128.size inb_S1x1024_S1x128_0_384).toLoadRect (harg8.unread x6))
          (kernelRun0_A.sl.v2131 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x1024) ![0, 256] S1x128.size inb_S1x1024_S1x128_0_256, blkH 256 slices_S512x1024_o0_256_S512x128 slices_S1x1024_o0_256_S1x128 XC NC
          (View.readAt (Elt Ideal) arg6.view (Rect.unit (s := S8x128x256) ![2, 0, 0] S1x128x256.size inb_S8x128x256_S1x128x256_2_0_0).toLoadRect (harg6.unread x4))
          (View.readAt (Elt Ideal) arg7.view (Rect.unit (s := S1x1024) ![0, 256] S1x128.size inb_S1x1024_S1x128_0_256).toLoadRect (harg7.unread x5))
          (View.readAt (Elt Ideal) arg8.view (Rect.unit (s := S1x1024) ![0, 256] S1x128.size inb_S1x1024_S1x128_0_256).toLoadRect (harg8.unread x6))
          (kernelRun0_A.sl.v1462 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x1024) ![0, 128] S1x128.size inb_S1x1024_S1x128_0_128, blkH 128 slices_S512x1024_o0_128_S512x128 slices_S1x1024_o0_128_S1x128 XC NC
          (View.readAt (Elt Ideal) arg6.view (Rect.unit (s := S8x128x256) ![1, 0, 0] S1x128x256.size inb_S8x128x256_S1x128x256_1_0_0).toLoadRect (harg6.unread x4))
          (View.readAt (Elt Ideal) arg7.view (Rect.unit (s := S1x1024) ![0, 128] S1x128.size inb_S1x1024_S1x128_0_128).toLoadRect (harg7.unread x5))
          (View.readAt (Elt Ideal) arg8.view (Rect.unit (s := S1x1024) ![0, 128] S1x128.size inb_S1x1024_S1x128_0_128).toLoadRect (harg8.unread x6))
          (kernelRun0_A.sl.v793 (F := Ideal) c arg2 harg2 arg3 harg3 arg4 harg4 arg5 harg5 arg6 harg6 arg7 harg7 arg8 harg8 arg9 harg9 arg11 arg12 x0 x1 x2 x3 x4 x5 x6 x7)⟩,
        ⟨Rect.unit (s := S1x1024) ![0, 0] S1x128.size inb_S1x1024_S1x128_0_0, blkH 0 slices_S512x1024_o0_0_S512x128 slices_S1x1024_o0_0_S1x128 XC NC
          (View.readAt (Elt Ideal) arg6.view (Rect.unit (s := S8x128x256) ![0, 0, 0] S1x128x256.size inb_S8x128x256_S1x128x256_0_0_0).toLoadRect (harg6.unread x4))
          (View.readAt (Elt Ideal) arg7.view (Rect.unit (s := S1x1024) ![0, 0] S1x128.size inb_S1x1024_S1x128_0_0).toLoadRect (harg7.unread x5))
          (View.readAt (Elt Ideal) arg8.view (Rect.unit (s := S1x1024) ![0, 0] S1x128.size inb_S1x1024_S1x128_0_0).toLoadRect (harg8.unread x6))
          (kernelRun0_A.sl.v124 (F := Ideal) c arg12)⟩,
        ⟨Rect.unit (s := S1x1024) ![0, 0] S1x1024.size inb_S1x1024_S1x1024_0_0, k0_pay3 (F := Ideal)⟩] := by
  subst hP hXC hNC
  sl_kernel_rfl

end Cert.LruProof
-- ==== Proof.LruRunB.lean ====
module

public import proofs.«01_k».proof.Proof.LruTile
public import Idealize.ShloMosaic.Lib.Pipeline.ValueKit
public import Idealize.ShloMosaic.Lib.Pointwise

@[expose] public section

set_option maxRecDepth 65536
noncomputable section

open Idealize.ShloMosaic Idealize.ShloMosaic.TcCoe Idealize.ShloMosaic.ValueIdx Idealize.SL.Sem
open Idealize.ShloMosaic.Pipeline (Dat)
namespace Cert.LruProof

open Cert.LruKernelIdeal Cert.LruKernelIdeal.Gen

/-- What a later point of a sequence writes to its output block, block by block. -/
theorem outB_pieces (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (P : FVec Ideal S512x2048 .f32) (hP : P = k0_pay4 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)))
    (XC : FVec Ideal S512x1024 .f32) (hXC : XC = k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S4x1024) ![0, 0] S4x1024.size inb_S4x1024_S4x1024_0_0).toLoadRect (harg4.unread x2)) (View.readAt (Elt Ideal) arg5.view (Rect.unit (s := S1x1024) ![0, 0] S1x1024.size inb_S1x1024_S1x1024_0_0).toLoadRect (harg5.unread x3))
      (View.readAt (Elt Ideal) arg11.view (Rect.unit (s := S520x1024) ![5, 0] S512x1024.size inb_S520x1024_S512x1024_5_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩]))
      (View.readAt (Elt Ideal) arg11.view (Rect.unit (s := S520x1024) ![6, 0] S512x1024.size inb_S520x1024_S512x1024_6_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩]))
      (View.readAt (Elt Ideal) arg11.view (Rect.unit (s := S520x1024) ![7, 0] S512x1024.size inb_S520x1024_S512x1024_7_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩])))
    (NC : FVec Ideal S1x1024 .f32) (hNC : NC = k0_pay10 (View.readAt (Elt Ideal) arg9.view (Rect.unit (s := S1x1024) ![0, 0] S1x1024.size inb_S1x1024_S1x1024_0_0).toLoadRect (harg9.unread x7))) :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).1 =
      [⟨Rect.unit (s := S1x512x1024) ![0, 0, 896] S1x512x128.size inb_S1x512x1024_S1x512x128_0_0_896, blkOut 896 1920 slices_S512x1024_o0_896_S512x128 slices_S1x1024_o0_896_S1x128 slices_S512x2048_o0_1920_S512x128 P XC NC
          (View.readAt (Elt Ideal) arg6.view (Rect.unit (s := S8x128x256) ![7, 0, 0] S1x128x256.size inb_S8x128x256_S1x128x256_7_0_0).toLoadRect (harg6.unread x4))
          (View.readAt (Elt Ideal) arg7.view (Rect.unit (s := S1x1024) ![0, 896] S1x128.size inb_S1x1024_S1x128_0_896).toLoadRect (harg7.unread x5))
          (View.readAt (Elt Ideal) arg8.view (Rect.unit (s := S1x1024) ![0, 896] S1x128.size inb_S1x1024_S1x128_0_896).toLoadRect (harg8.unread x6))
          (View.readAt (Elt Ideal) arg12.view (Rect.unit (s := S1x1024) ![0, 896] S1x128.size inb_S1x1024_S1x128_0_896).toLoadRect (harg12.unread xs1))⟩,
        ⟨Rect.unit (s := S1x512x1024) ![0, 0, 768] S1x512x128.size inb_S1x512x1024_S1x512x128_0_0_768, blkOut 768 1792 slices_S512x1024_o0_768_S512x128 slices_S1x1024_o0_768_S1x128 slices_S512x2048_o0_1792_S512x128 P XC NC
          (View.readAt (Elt Ideal) arg6.view (Rect.unit (s := S8x128x256) ![6, 0, 0] S1x128x256.size inb_S8x128x256_S1x128x256_6_0_0).toLoadRect (harg6.unread x4))
          (View.readAt (Elt Ideal) arg7.view (Rect.unit (s := S1x1024) ![0, 768] S1x128.size inb_S1x1024_S1x128_0_768).toLoadRect (harg7.unread x5))
          (View.readAt (Elt Ideal) arg8.view (Rect.unit (s := S1x1024) ![0, 768] S1x128.size inb_S1x1024_S1x128_0_768).toLoadRect (harg8.unread x6))
          (View.readAt (Elt Ideal) arg12.view (Rect.unit (s := S1x1024) ![0, 768] S1x128.size inb_S1x1024_S1x128_0_768).toLoadRect (harg12.unread xs1))⟩,
        ⟨Rect.unit (s := S1x512x1024) ![0, 0, 640] S1x512x128.size inb_S1x512x1024_S1x512x128_0_0_640, blkOut 640 1664 slices_S512x1024_o0_640_S512x128 slices_S1x1024_o0_640_S1x128 slices_S512x2048_o0_1664_S512x128 P XC NC
          (View.readAt (Elt Ideal) arg6.view (Rect.unit (s := S8x128x256) ![5, 0, 0] S1x128x256.size inb_S8x128x256_S1x128x256_5_0_0).toLoadRect (harg6.unread x4))
          (View.readAt (Elt Ideal) arg7.view (Rect.unit (s := S1x1024) ![0, 640] S1x128.size inb_S1x1024_S1x128_0_640).toLoadRect (harg7.unread x5))
          (View.readAt (Elt Ideal) arg8.view (Rect.unit (s := S1x1024) ![0, 640] S1x128.size inb_S1x1024_S1x128_0_640).toLoadRect (harg8.unread x6))
          (View.readAt (Elt Ideal) arg12.view (Rect.unit (s := S1x1024) ![0, 640] S1x128.size inb_S1x1024_S1x128_0_640).toLoadRect (harg12.unread xs1))⟩,
        ⟨Rect.unit (s := S1x512x1024) ![0, 0, 512] S1x512x128.size inb_S1x512x1024_S1x512x128_0_0_512, blkOut 512 1536 slices_S512x1024_o0_512_S512x128 slices_S1x1024_o0_512_S1x128 slices_S512x2048_o0_1536_S512x128 P XC NC
          (View.readAt (Elt Ideal) arg6.view (Rect.unit (s := S8x128x256) ![4, 0, 0] S1x128x256.size inb_S8x128x256_S1x128x256_4_0_0).toLoadRect (harg6.unread x4))
          (View.readAt (Elt Ideal) arg7.view (Rect.unit (s := S1x1024) ![0, 512] S1x128.size inb_S1x1024_S1x128_0_512).toLoadRect (harg7.unread x5))
          (View.readAt (Elt Ideal) arg8.view (Rect.unit (s := S1x1024) ![0, 512] S1x128.size inb_S1x1024_S1x128_0_512).toLoadRect (harg8.unread x6))
          (View.readAt (Elt Ideal) arg12.view (Rect.unit (s := S1x1024) ![0, 512] S1x128.size inb_S1x1024_S1x128_0_512).toLoadRect (harg12.unread xs1))⟩,
        ⟨Rect.unit (s := S1x512x1024) ![0, 0, 384] S1x512x128.size inb_S1x512x1024_S1x512x128_0_0_384, blkOut 384 1408 slices_S512x1024_o0_384_S512x128 slices_S1x1024_o0_384_S1x128 slices_S512x2048_o0_1408_S512x128 P XC NC
          (View.readAt (Elt Ideal) arg6.view (Rect.unit (s := S8x128x256) ![3, 0, 0] S1x128x256.size inb_S8x128x256_S1x128x256_3_0_0).toLoadRect (harg6.unread x4))
          (View.readAt (Elt Ideal) arg7.view (Rect.unit (s := S1x1024) ![0, 384] S1x128.size inb_S1x1024_S1x128_0_384).toLoadRect (harg7.unread x5))
          (View.readAt (Elt Ideal) arg8.view (Rect.unit (s := S1x1024) ![0, 384] S1x128.size inb_S1x1024_S1x128_0_384).toLoadRect (harg8.unread x6))
          (View.readAt (Elt Ideal) arg12.view (Rect.unit (s := S1x1024) ![0, 384] S1x128.size inb_S1x1024_S1x128_0_384).toLoadRect (harg12.unread xs1))⟩,
        ⟨Rect.unit (s := S1x512x1024) ![0, 0, 256] S1x512x128.size inb_S1x512x1024_S1x512x128_0_0_256, blkOut 256 1280 slices_S512x1024_o0_256_S512x128 slices_S1x1024_o0_256_S1x128 slices_S512x2048_o0_1280_S512x128 P XC NC
          (View.readAt (Elt Ideal) arg6.view (Rect.unit (s := S8x128x256) ![2, 0, 0] S1x128x256.size inb_S8x128x256_S1x128x256_2_0_0).toLoadRect (harg6.unread x4))
          (View.readAt (Elt Ideal) arg7.view (Rect.unit (s := S1x1024) ![0, 256] S1x128.size inb_S1x1024_S1x128_0_256).toLoadRect (harg7.unread x5))
          (View.readAt (Elt Ideal) arg8.view (Rect.unit (s := S1x1024) ![0, 256] S1x128.size inb_S1x1024_S1x128_0_256).toLoadRect (harg8.unread x6))
          (View.readAt (Elt Ideal) arg12.view (Rect.unit (s := S1x1024) ![0, 256] S1x128.size inb_S1x1024_S1x128_0_256).toLoadRect (harg12.unread xs1))⟩,
        ⟨Rect.unit (s := S1x512x1024) ![0, 0, 128] S1x512x128.size inb_S1x512x1024_S1x512x128_0_0_128, blkOut 128 1152 slices_S512x1024_o0_128_S512x128 slices_S1x1024_o0_128_S1x128 slices_S512x2048_o0_1152_S512x128 P XC NC
          (View.readAt (Elt Ideal) arg6.view (Rect.unit (s := S8x128x256) ![1, 0, 0] S1x128x256.size inb_S8x128x256_S1x128x256_1_0_0).toLoadRect (harg6.unread x4))
          (View.readAt (Elt Ideal) arg7.view (Rect.unit (s := S1x1024) ![0, 128] S1x128.size inb_S1x1024_S1x128_0_128).toLoadRect (harg7.unread x5))
          (View.readAt (Elt Ideal) arg8.view (Rect.unit (s := S1x1024) ![0, 128] S1x128.size inb_S1x1024_S1x128_0_128).toLoadRect (harg8.unread x6))
          (View.readAt (Elt Ideal) arg12.view (Rect.unit (s := S1x1024) ![0, 128] S1x128.size inb_S1x1024_S1x128_0_128).toLoadRect (harg12.unread xs1))⟩,
        ⟨Rect.unit (s := S1x512x1024) ![0, 0, 0] S1x512x128.size inb_S1x512x1024_S1x512x128_0_0_0, blkOut 0 1024 slices_S512x1024_o0_0_S512x128 slices_S1x1024_o0_0_S1x128 slices_S512x2048_o0_1024_S512x128 P XC NC
          (View.readAt (Elt Ideal) arg6.view (Rect.unit (s := S8x128x256) ![0, 0, 0] S1x128x256.size inb_S8x128x256_S1x128x256_0_0_0).toLoadRect (harg6.unread x4))
          (View.readAt (Elt Ideal) arg7.view (Rect.unit (s := S1x1024) ![0, 0] S1x128.size inb_S1x1024_S1x128_0_0).toLoadRect (harg7.unread x5))
          (View.readAt (Elt Ideal) arg8.view (Rect.unit (s := S1x1024) ![0, 0] S1x128.size inb_S1x1024_S1x128_0_0).toLoadRect (harg8.unread x6))
          (View.readAt (Elt Ideal) arg12.view (Rect.unit (s := S1x1024) ![0, 0] S1x128.size inb_S1x1024_S1x128_0_0).toLoadRect (harg12.unread xs1))⟩] := by
  subst hP hXC hNC
  sl_kernel_rfl

/-- What a later point of a sequence leaves of the projection, block by block. -/
theorem extB_pieces (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
     :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).2.1 =
      ⟨Rect.unit (s := S520x1024) ![0, 0] S8x1024.size inb_S520x1024_S8x1024_0_0, k0_pay8 (k0_pay5 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)))⟩ :: [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩] := by
  skip
  sl_kernel_rfl

/-- What a later point of a sequence leaves as the state, block by block. -/
theorem stB_pieces (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (P : FVec Ideal S512x2048 .f32) (hP : P = k0_pay4 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)))
    (XC : FVec Ideal S512x1024 .f32) (hXC : XC = k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S4x1024) ![0, 0] S4x1024.size inb_S4x1024_S4x1024_0_0).toLoadRect (harg4.unread x2)) (View.readAt (Elt Ideal) arg5.view (Rect.unit (s := S1x1024) ![0, 0] S1x1024.size inb_S1x1024_S1x1024_0_0).toLoadRect (harg5.unread x3))
      (View.readAt (Elt Ideal) arg11.view (Rect.unit (s := S520x1024) ![5, 0] S512x1024.size inb_S520x1024_S512x1024_5_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩]))
      (View.readAt (Elt Ideal) arg11.view (Rect.unit (s := S520x1024) ![6, 0] S512x1024.size inb_S520x1024_S512x1024_6_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩]))
      (View.readAt (Elt Ideal) arg11.view (Rect.unit (s := S520x1024) ![7, 0] S512x1024.size inb_S520x1024_S512x1024_7_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩])))
    (NC : FVec Ideal S1x1024 .f32) (hNC : NC = k0_pay10 (View.readAt (Elt Ideal) arg9.view (Rect.unit (s := S1x1024) ![0, 0] S1x1024.size inb_S1x1024_S1x1024_0_0).toLoadRect (harg9.unread x7))) :
    (kernelRun0_B (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1).2.2.1 =
      [⟨Rect.unit (s := S1x1024) ![0, 896] S1x128.size inb_S1x1024_S1x128_0_896, blkH 896 slices_S512x1024_o0_896_S512x128 slices_S1x1024_o0_896_S1x128 XC NC
          (View.readAt (Elt Ideal) arg6.view (Rect.unit (s := S8x128x256) ![7, 0, 0] S1x128x256.size inb_S8x128x256_S1x128x256_7_0_0).toLoadRect (harg6.unread x4))
          (View.readAt (Elt Ideal) arg7.view (Rect.unit (s := S1x1024) ![0, 896] S1x128.size inb_S1x1024_S1x128_0_896).toLoadRect (harg7.unread x5))
          (View.readAt (Elt Ideal) arg8.view (Rect.unit (s := S1x1024) ![0, 896] S1x128.size inb_S1x1024_S1x128_0_896).toLoadRect (harg8.unread x6))
          (View.readAt (Elt Ideal) arg12.view (Rect.unit (s := S1x1024) ![0, 896] S1x128.size inb_S1x1024_S1x128_0_896).toLoadRect (harg12.unread xs1))⟩,
        ⟨Rect.unit (s := S1x1024) ![0, 768] S1x128.size inb_S1x1024_S1x128_0_768, blkH 768 slices_S512x1024_o0_768_S512x128 slices_S1x1024_o0_768_S1x128 XC NC
          (View.readAt (Elt Ideal) arg6.view (Rect.unit (s := S8x128x256) ![6, 0, 0] S1x128x256.size inb_S8x128x256_S1x128x256_6_0_0).toLoadRect (harg6.unread x4))
          (View.readAt (Elt Ideal) arg7.view (Rect.unit (s := S1x1024) ![0, 768] S1x128.size inb_S1x1024_S1x128_0_768).toLoadRect (harg7.unread x5))
          (View.readAt (Elt Ideal) arg8.view (Rect.unit (s := S1x1024) ![0, 768] S1x128.size inb_S1x1024_S1x128_0_768).toLoadRect (harg8.unread x6))
          (View.readAt (Elt Ideal) arg12.view (Rect.unit (s := S1x1024) ![0, 768] S1x128.size inb_S1x1024_S1x128_0_768).toLoadRect (harg12.unread xs1))⟩,
        ⟨Rect.unit (s := S1x1024) ![0, 640] S1x128.size inb_S1x1024_S1x128_0_640, blkH 640 slices_S512x1024_o0_640_S512x128 slices_S1x1024_o0_640_S1x128 XC NC
          (View.readAt (Elt Ideal) arg6.view (Rect.unit (s := S8x128x256) ![5, 0, 0] S1x128x256.size inb_S8x128x256_S1x128x256_5_0_0).toLoadRect (harg6.unread x4))
          (View.readAt (Elt Ideal) arg7.view (Rect.unit (s := S1x1024) ![0, 640] S1x128.size inb_S1x1024_S1x128_0_640).toLoadRect (harg7.unread x5))
          (View.readAt (Elt Ideal) arg8.view (Rect.unit (s := S1x1024) ![0, 640] S1x128.size inb_S1x1024_S1x128_0_640).toLoadRect (harg8.unread x6))
          (View.readAt (Elt Ideal) arg12.view (Rect.unit (s := S1x1024) ![0, 640] S1x128.size inb_S1x1024_S1x128_0_640).toLoadRect (harg12.unread xs1))⟩,
        ⟨Rect.unit (s := S1x1024) ![0, 512] S1x128.size inb_S1x1024_S1x128_0_512, blkH 512 slices_S512x1024_o0_512_S512x128 slices_S1x1024_o0_512_S1x128 XC NC
          (View.readAt (Elt Ideal) arg6.view (Rect.unit (s := S8x128x256) ![4, 0, 0] S1x128x256.size inb_S8x128x256_S1x128x256_4_0_0).toLoadRect (harg6.unread x4))
          (View.readAt (Elt Ideal) arg7.view (Rect.unit (s := S1x1024) ![0, 512] S1x128.size inb_S1x1024_S1x128_0_512).toLoadRect (harg7.unread x5))
          (View.readAt (Elt Ideal) arg8.view (Rect.unit (s := S1x1024) ![0, 512] S1x128.size inb_S1x1024_S1x128_0_512).toLoadRect (harg8.unread x6))
          (View.readAt (Elt Ideal) arg12.view (Rect.unit (s := S1x1024) ![0, 512] S1x128.size inb_S1x1024_S1x128_0_512).toLoadRect (harg12.unread xs1))⟩,
        ⟨Rect.unit (s := S1x1024) ![0, 384] S1x128.size inb_S1x1024_S1x128_0_384, blkH 384 slices_S512x1024_o0_384_S512x128 slices_S1x1024_o0_384_S1x128 XC NC
          (View.readAt (Elt Ideal) arg6.view (Rect.unit (s := S8x128x256) ![3, 0, 0] S1x128x256.size inb_S8x128x256_S1x128x256_3_0_0).toLoadRect (harg6.unread x4))
          (View.readAt (Elt Ideal) arg7.view (Rect.unit (s := S1x1024) ![0, 384] S1x128.size inb_S1x1024_S1x128_0_384).toLoadRect (harg7.unread x5))
          (View.readAt (Elt Ideal) arg8.view (Rect.unit (s := S1x1024) ![0, 384] S1x128.size inb_S1x1024_S1x128_0_384).toLoadRect (harg8.unread x6))
          (View.readAt (Elt Ideal) arg12.view (Rect.unit (s := S1x1024) ![0, 384] S1x128.size inb_S1x1024_S1x128_0_384).toLoadRect (harg12.unread xs1))⟩,
        ⟨Rect.unit (s := S1x1024) ![0, 256] S1x128.size inb_S1x1024_S1x128_0_256, blkH 256 slices_S512x1024_o0_256_S512x128 slices_S1x1024_o0_256_S1x128 XC NC
          (View.readAt (Elt Ideal) arg6.view (Rect.unit (s := S8x128x256) ![2, 0, 0] S1x128x256.size inb_S8x128x256_S1x128x256_2_0_0).toLoadRect (harg6.unread x4))
          (View.readAt (Elt Ideal) arg7.view (Rect.unit (s := S1x1024) ![0, 256] S1x128.size inb_S1x1024_S1x128_0_256).toLoadRect (harg7.unread x5))
          (View.readAt (Elt Ideal) arg8.view (Rect.unit (s := S1x1024) ![0, 256] S1x128.size inb_S1x1024_S1x128_0_256).toLoadRect (harg8.unread x6))
          (View.readAt (Elt Ideal) arg12.view (Rect.unit (s := S1x1024) ![0, 256] S1x128.size inb_S1x1024_S1x128_0_256).toLoadRect (harg12.unread xs1))⟩,
        ⟨Rect.unit (s := S1x1024) ![0, 128] S1x128.size inb_S1x1024_S1x128_0_128, blkH 128 slices_S512x1024_o0_128_S512x128 slices_S1x1024_o0_128_S1x128 XC NC
          (View.readAt (Elt Ideal) arg6.view (Rect.unit (s := S8x128x256) ![1, 0, 0] S1x128x256.size inb_S8x128x256_S1x128x256_1_0_0).toLoadRect (harg6.unread x4))
          (View.readAt (Elt Ideal) arg7.view (Rect.unit (s := S1x1024) ![0, 128] S1x128.size inb_S1x1024_S1x128_0_128).toLoadRect (harg7.unread x5))
          (View.readAt (Elt Ideal) arg8.view (Rect.unit (s := S1x1024) ![0, 128] S1x128.size inb_S1x1024_S1x128_0_128).toLoadRect (harg8.unread x6))
          (View.readAt (Elt Ideal) arg12.view (Rect.unit (s := S1x1024) ![0, 128] S1x128.size inb_S1x1024_S1x128_0_128).toLoadRect (harg12.unread xs1))⟩,
        ⟨Rect.unit (s := S1x1024) ![0, 0] S1x128.size inb_S1x1024_S1x128_0_0, blkH 0 slices_S512x1024_o0_0_S512x128 slices_S1x1024_o0_0_S1x128 XC NC
          (View.readAt (Elt Ideal) arg6.view (Rect.unit (s := S8x128x256) ![0, 0, 0] S1x128x256.size inb_S8x128x256_S1x128x256_0_0_0).toLoadRect (harg6.unread x4))
          (View.readAt (Elt Ideal) arg7.view (Rect.unit (s := S1x1024) ![0, 0] S1x128.size inb_S1x1024_S1x128_0_0).toLoadRect (harg7.unread x5))
          (View.readAt (Elt Ideal) arg8.view (Rect.unit (s := S1x1024) ![0, 0] S1x128.size inb_S1x1024_S1x128_0_0).toLoadRect (harg8.unread x6))
          (View.readAt (Elt Ideal) arg12.view (Rect.unit (s := S1x1024) ![0, 0] S1x128.size inb_S1x1024_S1x128_0_0).toLoadRect (harg12.unread xs1))⟩] := by
  subst hP hXC hNC
  sl_kernel_rfl

end Cert.LruProof
-- ==== Proof.LruPoint.lean ====
module

public import proofs.«01_k».proof.Proof.LruComb
public import proofs.«01_k».proof.Proof.LruRunA
public import proofs.«01_k».proof.Proof.LruRunB
public import Idealize.ShloMosaic.Lib.Pipeline.ValueKit
public import Idealize.ShloMosaic.Lib.Pointwise

@[expose] public section

set_option maxHeartbeats 1000000
set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.LruProof

open Cert.LruKernelIdeal Cert.LruKernelIdeal.Gen

/-- The blocks a point reads: rows from `512 * j` of sequence `b`, and the layer's weights. -/
structure InOf (p : Par) (b : Fin 2) (j : Nat) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) : Prop where
  hx : ∀ (r : Fin 512) (k : Fin 1024) (h : 512 * j + r.val < 8192), x0 (ix3 0 r k) = p.x b ⟨512 * j + r.val, h⟩ k
  hw : ∀ (k : Fin 1024) (c : Fin 2048), x1 (ix2 k c) = p.w k c
  hcw : ∀ (t : Fin 4) (l : Fin 1024), x2 (ix2 t l) = p.cw t l
  hcb : ∀ l : Fin 1024, x3 (ix2 0 l) = p.cb l
  hwa : ∀ (n : Fin 8) (k l : Fin 128), x4 (ix3 n k ⟨l.val, by omega⟩) = p.wa n k l
  hwi : ∀ (n : Fin 8) (k l : Fin 128), x4 (ix3 n k ⟨128 + l.val, by omega⟩) = p.wi n k l
  hba : ∀ l : Fin 1024, x5 (ix2 0 l) = p.ba l
  hbi : ∀ l : Fin 1024, x6 (ix2 0 l) = p.bi l
  hlam : ∀ l : Fin 1024, x7 (ix2 0 l) = p.lam l

/-- The 8 carried rows of the projection: those before row `512 * j`. -/
def ExtOf (p : Par) (b : Fin 2) (j : Nat) (X : Fin 8 → Fin 1024 → EReal) : Prop :=
  ∀ q l, X q l = p.sh 8 b (512 * j + q.val) l

section

variable {p : Par} {b : Fin 2} {j : Nat} {P : FVec Ideal S512x2048 .f32} {XC : FVec Ideal S512x1024 .f32}
  {NC : FVec Ideal S1x1024 .f32} {n : Fin 8} {w : Vec Ideal S1x128x256 .bf16} {ba bi hp : Vec Ideal S1x128 .f32}
  {x0 : Vec Ideal S1x512x1024 .f32} {x1 : Vec Ideal S1024x2048 .bf16} {x2 : Vec Ideal S4x1024 .f32} {x3 : Vec Ideal S1x1024 .f32} {x4 : Vec Ideal S8x128x256 .bf16} {x5 : Vec Ideal S1x1024 .f32} {x6 : Vec Ideal S1x1024 .f32} {x7 : Vec Ideal S1x1024 .f32}

/-- The projected columns are the specification's. -/
theorem P_in (hj : j < 16) (I : InOf p b j x0 x1 x2 x3 x4 x5 x6 x7) (r : Fin 512) (c : Fin 2048) :
    k0_pay4 x0 x1 (ix2 r c) = p.px b (512 * j + r.val) c := by
  have h : 512 * j + r.val < 8192 := by omega
  rw [P_at]
  unfold Par.px
  rw [dif_pos h]
  refine Finset.sum_congr rfl fun k _ => ?_
  rw [I.hx r k h, I.hw]

/-- A tile's own rows are the specification's. -/
theorem cur_in (hj : j < 16) (I : InOf p b j x0 x1 x2 x3 x4 x5 x6 x7) (r : Fin 512) (l : Fin 1024) :
    k0_pay6 x0 x1 (ix2 r l) = p.px b (512 * j + r.val) ⟨l.val, by omega⟩ := by
  rw [← P_in hj I]
  unfold k0_pay6 k0_pay5
  generalize k0_pay4 x0 x1 = z
  pointwise

/-- The rows kept for the next tile are the specification's. -/
theorem keep_in (hj : j < 16) (I : InOf p b j x0 x1 x2 x3 x4 x5 x6 x7) (q : Fin 8) (l : Fin 1024) :
    k0_pay8 (k0_pay5 x0 x1) (ix2 q l) = p.sh 8 b (512 * (j + 1) + q.val) l := by
  have e : k0_pay8 (k0_pay5 x0 x1) (ix2 q l) = k0_pay4 x0 x1 (ix2 ⟨504 + q.val, by omega⟩ ⟨l.val, by omega⟩) := by
    unfold k0_pay8 k0_pay5
    generalize k0_pay4 x0 x1 = z
    pointwise
  rw [e, P_in hj I]
  unfold Par.sh
  rw [if_pos (by omega)]
  congr 1
  show 512 * j + (504 + q.val) = _
  omega

/-- A row of the tile with the 8 rows before it, `k` rows down, is the projection `8 - k` rows up. -/
theorem ext_row (hj : j < 16) (I : InOf p b j x0 x1 x2 x3 x4 x5 x6 x7) (x : Fin 8 → Fin 1024 → EReal) (E : ExtOf p b j x)
    (v : EReal) (k : Nat) (hk : k < 8) (r : Fin 512) (l : Fin 1024)
    (h1 : ∀ h : r.val + k < 8, v = x ⟨r.val + k, h⟩ l)
    (h2 : ∀ h : 8 ≤ r.val + k, v = k0_pay6 x0 x1 (ix2 ⟨r.val + k - 8, by omega⟩ l)) :
    v = p.sh (8 - k) b (512 * j + r.val) l := by
  by_cases h : r.val + k < 8
  · rw [h1 h, E]
    unfold Par.sh
    by_cases h3 : 8 ≤ 512 * j + (r.val + k)
    · rw [if_pos (by exact h3), if_pos (by omega)]
      congr 1
      show 512 * j + (r.val + k) - 8 = _
      omega
    · rw [if_neg (by exact h3), if_neg (by omega)]
  · rw [h2 (by omega), cur_in hj I]
    unfold Par.sh
    rw [if_pos (by omega)]
    congr 1
    show 512 * j + (r.val + k - 8) = _
    omega

/-- The tile's convolved projection, when the three shifted reads are the shifted projection. -/
theorem tile_in (hj : j < 16) (I : InOf p b j x0 x1 x2 x3 x4 x5 x6 x7) (e5 e6 e7 : Vec Ideal S512x1024 .f32)
    (h5 : ∀ r l, e5 (ix2 r l) = p.sh 3 b (512 * j + r.val) l) (h6 : ∀ r l, e6 (ix2 r l) = p.sh 2 b (512 * j + r.val) l)
    (h7 : ∀ r l, e7 (ix2 r l) = p.sh 1 b (512 * j + r.val) l) :
    TileOf p b j (k0_pay4 x0 x1) (k0_pay7 x0 x1 x2 x3 e5 e6 e7) (k0_pay10 x7) := by
  refine ⟨fun r c => P_in hj I r c, fun r l => ?_, fun l => ?_⟩
  · rw [XC_at, P_in hj I, h5, h6, h7, I.hcb, I.hcw, I.hcw, I.hcw, I.hcw]
    rfl
  · rw [NC_at, I.hlam]

/-- A block of a grid point has what the recurrence needs. -/
theorem block_in (I : InOf p b j x0 x1 x2 x3 x4 x5 x6 x7)
    (hw : ∀ (k : Fin 128) (c : Fin 256), w (ix3 0 k c) = x4 (ix3 n k c))
    (hba : ∀ l : Fin 128, ba (ix2 0 l) = x5 (ix2 0 ⟨128 * n.val + l.val, by omega⟩))
    (hbi : ∀ l : Fin 128, bi (ix2 0 l) = x6 (ix2 0 ⟨128 * n.val + l.val, by omega⟩))
    (hh : ∀ l : Fin 128, hp (ix2 0 l) = p.h b ⟨128 * n.val + l.val, by omega⟩ (512 * j)) :
    BlockOf p b j n w ba bi hp :=
  ⟨fun k l => (hw k _).trans (I.hwa n k l), fun k l => (hw k _).trans (I.hwi n k l),
    fun l => (hba l).trans (I.hba _), fun l => (hbi l).trans (I.hbi _), hh⟩

/-- Where a block's piece of the output holds an index, its value is the branch's result. -/
theorem out_tile (T : TileOf p b j P XC NC) (K : BlockOf p b j n w ba bi hp)
    (h1 : S512x1024.Slices ![0, 128 * n.val] S512x128) (h2 : S1x1024.Slices ![0, 128 * n.val] S1x128)
    (hg : S512x2048.Slices ![0, 1024 + 128 * n.val] S512x128) (r : Fin 512) (l : Fin 1024) :
    View.TileAt (Val := Elt Ideal) (S := S1x512x1024) (e := .bf16) (ix3 0 r l) ![0, 0, 128 * n.val] S1x512x128.size
      (blkOut (128 * n.val) (1024 + 128 * n.val) h1 h2 hg P XC NC w ba bi hp) (p.out b (512 * j + r.val) l) := by
  intro x hx
  have hr : r.val = 0 + (x 1).val := hx 1
  have hl : l.val = 128 * n.val + (x 2).val := hx 2
  have ex : x = ix3 0 r (x 2) := by
    funext a
    match a with
    | ⟨0, _⟩ => exact Subsingleton.elim (α := Fin 1) _ _
    | ⟨1, _⟩ => exact Fin.ext (by show (x 1).val = r.val; omega)
    | ⟨2, _⟩ => rfl
  rw [ex]
  refine (blkOut_at T K h1 h2 hg r (x 2)).trans ?_
  congr 1
  exact Fin.ext hl.symm

/-- Where a block's piece of the state holds an index, its value is the branch's state. -/
theorem st_tile (T : TileOf p b j P XC NC) (K : BlockOf p b j n w ba bi hp)
    (h1 : S512x1024.Slices ![0, 128 * n.val] S512x128) (h2 : S1x1024.Slices ![0, 128 * n.val] S1x128) (l : Fin 1024) :
    View.TileAt (Val := Elt Ideal) (S := S1x1024) (e := .f32) (ix2 0 l) ![0, 128 * n.val] S1x128.size
      (blkH (128 * n.val) h1 h2 XC NC w ba bi hp) (p.h b l (512 * (j + 1))) := by
  intro x hx
  have hl : l.val = 128 * n.val + (x 1).val := hx 1
  have ex : x = ix2 0 (x 1) := by
    funext a
    match a with
    | ⟨0, _⟩ => exact Subsingleton.elim (α := Fin 1) _ _
    | ⟨1, _⟩ => rfl
  rw [ex]
  refine (blkH_at T K h1 h2 (x 1)).trans ?_
  congr 1
  exact Fin.ext hl.symm

end

end Cert.LruProof
-- ==== Proof.LruRefA.lean ====
module

public import proofs.«01_k».proof.Proof.Gen.LruReferenceIdeal.Run
public import proofs.«01_k».proof.Proof.Gen.LruReferenceIdeal.Step
public import proofs.«01_k».proof.Proof.LruSpec
public import Idealize.ShloMosaic.Lib.Pipeline.ValueKit
public import Idealize.ShloMosaic.Lib.Pointwise

@[expose] public section

set_option maxRecDepth 65536
set_option maxHeartbeats 1000000
noncomputable section

open Idealize.ShloMosaic Idealize.ShloMosaic.TcCoe Idealize.SL.Sem Idealize.ShloMosaic.StableHlo
open Idealize.ShloMosaic.ValueIdx hiding ix1 ix2 ix3 ix4 ix5
namespace Cert.LruProof

open Cert.LruReferenceIdeal Cert.LruReferenceIdeal.Gen Cert.LruReferenceIdeal.Step

/-- The branch's parameters, read off the nine arguments. -/
def parOf (x : FVec Ideal S2x8192x1024 .f32) (w : FVec Ideal S1024x11296 .f32) (cw : FVec Ideal S4x1024 .f32)
    (cb : FVec Ideal S1024 .f32) (wa : FVec Ideal S8x128x128 .f32) (ba : FVec Ideal S1024 .f32)
    (wi : FVec Ideal S8x128x128 .f32) (bi lam : FVec Ideal S1024 .f32) : Par where
  x b s k := x (ix3 b s k)
  w k c := w (ix2 k ⟨c.val, by omega⟩)
  cw k l := cw (ix2 k l)
  cb l := cb (ix1 l)
  wa g k l := wa (ix3 g k l)
  ba l := ba (ix1 l)
  wi g k l := wi (ix3 g k l)
  bi l := bi (ix1 l)
  lam l := lam (ix1 l)

variable (x : FVec Ideal S2x8192x1024 .f32) (w : FVec Ideal S1024x11296 .f32) (cw : FVec Ideal S4x1024 .f32)
    (cb : FVec Ideal S1024 .f32) (wa : FVec Ideal S8x128x128 .f32) (ba : FVec Ideal S1024 .f32)
    (wi : FVec Ideal S8x128x128 .f32) (bi lam : FVec Ideal S1024 .f32)

/-- The reference at an entry: the projection. -/
theorem v0_at (b : Fin 2) (s : Fin 8192) (c : Fin 11296) :
    A_main_v0 (F := Ideal) x w cw cb wa ba wi bi lam (ix3 b s c) = ∑ k : Fin 1024, x (ix3 b s k) * w (ix2 k c) := by
  pointwise [A_main_v0]

/-- The projected entry, of the arguments. -/
theorem px_eq (b : Fin 2) (s : Fin 8192) (c : Fin 2048) :
    (parOf x w cw cb wa ba wi bi lam).px b s.val c = ∑ k : Fin 1024, x (ix3 b s k) * w (ix2 k ⟨c.val, by omega⟩) := by
  unfold Par.px
  rw [dif_pos s.isLt]
  rfl

/-- The reference at an entry: the branch's columns. -/
theorem v1_at (b : Fin 2) (s : Fin 8192) (l : Fin 1024) :
    A_main_v1 (F := Ideal) x w cw cb wa ba wi bi lam (ix3 b s l) = (parOf x w cw cb wa ba wi bi lam).px b s.val ⟨l.val, by omega⟩ := by
  rw [px_eq, ← v0_at x w cw cb wa ba wi bi lam b s ⟨l.val, by omega⟩]
  unfold A_main_v1
  generalize A_main_v0 (F := Ideal) x w cw cb wa ba wi bi lam = z
  pointwise

/-- The reference at an entry: the rows padded with zeros in front. -/
theorem v8_at (b : Fin 2) (t : Fin 8195) (l : Fin 1024) :
    A_main_v8 (F := Ideal) x w cw cb wa ba wi bi lam (ix3 b t l)
      = if h : 3 ≤ t.val then A_main_v1 (F := Ideal) x w cw cb wa ba wi bi lam (ix3 b ⟨t.val - 3, by omega⟩ l) else 0 := by
  unfold A_main_v8
  generalize A_main_v1 (F := Ideal) x w cw cb wa ba wi bi lam = z
  pointwise [K_main_call0_v0, K_main_c]
  have hz : FloatOps.sitofp (F := Ideal) FTy.f32 0#32 = (0 : EReal) := by
    show (((0#32 : BitVec 32).toInt : ℝ) : EReal) = 0
    simp
  by_cases h : 3 ≤ t.val
  · rw [dif_pos ⟨h, by omega⟩, dif_pos h]
  · rw [dif_neg (fun h' => h h'.1), dif_neg h, hz]

/-- The reference at an entry: the rows three frames earlier. -/
theorem v11_at (b : Fin 2) (s : Fin 8192) (l : Fin 1024) :
    A_main_v11 (F := Ideal) x w cw cb wa ba wi bi lam (ix3 b s l) = (parOf x w cw cb wa ba wi bi lam).sh 3 b s.val l := by
  have e : A_main_v11 (F := Ideal) x w cw cb wa ba wi bi lam (ix3 b s l) = A_main_v8 (F := Ideal) x w cw cb wa ba wi bi lam (ix3 b ⟨s.val, by omega⟩ l) := by
    unfold A_main_v11
    generalize A_main_v8 (F := Ideal) x w cw cb wa ba wi bi lam = z
    pointwise
  rw [e, v8_at]
  unfold Par.sh
  by_cases h : 3 ≤ s.val
  · rw [dif_pos (show 3 ≤ s.val by omega), if_pos h, v1_at]

  · rw [dif_neg (show ¬ 3 ≤ s.val by omega), if_neg h]

/-- The reference at an entry: the rows two frames earlier. -/
theorem v19_at (b : Fin 2) (s : Fin 8192) (l : Fin 1024) :
    A_main_v19 (F := Ideal) x w cw cb wa ba wi bi lam (ix3 b s l) = (parOf x w cw cb wa ba wi bi lam).sh 2 b s.val l := by
  have e : A_main_v19 (F := Ideal) x w cw cb wa ba wi bi lam (ix3 b s l) = A_main_v8 (F := Ideal) x w cw cb wa ba wi bi lam (ix3 b ⟨1 + s.val, by omega⟩ l) := by
    unfold A_main_v19
    generalize A_main_v8 (F := Ideal) x w cw cb wa ba wi bi lam = z
    pointwise
  rw [e, v8_at]
  unfold Par.sh
  by_cases h : 2 ≤ s.val
  · rw [dif_pos (show 3 ≤ 1 + s.val by omega), if_pos h, v1_at]
    congr 1; all_goals (show 1 + s.val - 3 = s.val - 2; omega)
  · rw [dif_neg (show ¬ 3 ≤ 1 + s.val by omega), if_neg h]

/-- The reference at an entry: the rows one frame earlier. -/
theorem v26_at (b : Fin 2) (s : Fin 8192) (l : Fin 1024) :
    A_main_v26 (F := Ideal) x w cw cb wa ba wi bi lam (ix3 b s l) = (parOf x w cw cb wa ba wi bi lam).sh 1 b s.val l := by
  have e : A_main_v26 (F := Ideal) x w cw cb wa ba wi bi lam (ix3 b s l) = A_main_v8 (F := Ideal) x w cw cb wa ba wi bi lam (ix3 b ⟨2 + s.val, by omega⟩ l) := by
    unfold A_main_v26
    generalize A_main_v8 (F := Ideal) x w cw cb wa ba wi bi lam = z
    pointwise
  rw [e, v8_at]
  unfold Par.sh
  by_cases h : 1 ≤ s.val
  · rw [dif_pos (show 3 ≤ 2 + s.val by omega), if_pos h, v1_at]
    congr 1; all_goals (show 2 + s.val - 3 = s.val - 1; omega)
  · rw [dif_neg (show ¬ 3 ≤ 2 + s.val by omega), if_neg h]

/-- The reference at an entry: the rows of the frame. -/
theorem v33_at (b : Fin 2) (s : Fin 8192) (l : Fin 1024) :
    A_main_v33 (F := Ideal) x w cw cb wa ba wi bi lam (ix3 b s l) = (parOf x w cw cb wa ba wi bi lam).sh 0 b s.val l := by
  have e : A_main_v33 (F := Ideal) x w cw cb wa ba wi bi lam (ix3 b s l) = A_main_v8 (F := Ideal) x w cw cb wa ba wi bi lam (ix3 b ⟨3 + s.val, by omega⟩ l) := by
    unfold A_main_v33
    generalize A_main_v8 (F := Ideal) x w cw cb wa ba wi bi lam = z
    pointwise
  rw [e, v8_at]
  unfold Par.sh
  by_cases h : 0 ≤ s.val
  · rw [dif_pos (show 3 ≤ 3 + s.val by omega), if_pos h, v1_at]
    congr 1; all_goals (show 3 + s.val - 3 = s.val - 0; omega)
  · rw [dif_neg (show ¬ 3 ≤ 3 + s.val by omega), if_neg h]

/-- The reference at an entry: the first weight of the convolution, spread. -/
theorem v13_at (b : Fin 2) (s : Fin 8192) (l : Fin 1024) : A_main_v13 (F := Ideal) x w cw cb wa ba wi bi lam (ix3 b s l) = cw (ix2 0 l) := by
  pointwise [A_main_v13, A_main_v12, A_main_v10, A_main_v9]

/-- The reference at an entry: the second weight of the convolution, spread. -/
theorem v21_at (b : Fin 2) (s : Fin 8192) (l : Fin 1024) : A_main_v21 (F := Ideal) x w cw cb wa ba wi bi lam (ix3 b s l) = cw (ix2 1 l) := by
  pointwise [A_main_v21, A_main_v20, A_main_v18, A_main_v17]

/-- The reference at an entry: the third weight of the convolution, spread. -/
theorem v28_at (b : Fin 2) (s : Fin 8192) (l : Fin 1024) : A_main_v28 (F := Ideal) x w cw cb wa ba wi bi lam (ix3 b s l) = cw (ix2 2 l) := by
  pointwise [A_main_v28, A_main_v27, A_main_v25, A_main_v24]

/-- The reference at an entry: the fourth weight of the convolution, spread. -/
theorem v35_at (b : Fin 2) (s : Fin 8192) (l : Fin 1024) : A_main_v35 (F := Ideal) x w cw cb wa ba wi bi lam (ix3 b s l) = cw (ix2 3 l) := by
  pointwise [A_main_v35, A_main_v34, A_main_v32, A_main_v31]

/-- The reference at an entry: the convolved rows. -/
theorem v40_at (b : Fin 2) (s : Fin 8192) (l : Fin 1024) :
    A_main_v40 (F := Ideal) x w cw cb wa ba wi bi lam (ix3 b s l) = (parOf x w cw cb wa ba wi bi lam).xc b s.val l := by
  have e : A_main_v40 (F := Ideal) x w cw cb wa ba wi bi lam (ix3 b s l) =
      ((((0 + A_main_v13 (F := Ideal) x w cw cb wa ba wi bi lam (ix3 b s l) * A_main_v11 (F := Ideal) x w cw cb wa ba wi bi lam (ix3 b s l))
        + A_main_v21 (F := Ideal) x w cw cb wa ba wi bi lam (ix3 b s l) * A_main_v19 (F := Ideal) x w cw cb wa ba wi bi lam (ix3 b s l))
        + A_main_v28 (F := Ideal) x w cw cb wa ba wi bi lam (ix3 b s l) * A_main_v26 (F := Ideal) x w cw cb wa ba wi bi lam (ix3 b s l))
        + A_main_v35 (F := Ideal) x w cw cb wa ba wi bi lam (ix3 b s l) * A_main_v33 (F := Ideal) x w cw cb wa ba wi bi lam (ix3 b s l)) + cb (ix1 l) := by
    unfold A_main_v40 A_main_v37 A_main_v30 A_main_v23 A_main_v16 A_main_v14 A_main_v22 A_main_v29 A_main_v36
    generalize A_main_v13 (F := Ideal) x w cw cb wa ba wi bi lam = z1
    generalize A_main_v21 (F := Ideal) x w cw cb wa ba wi bi lam = z2
    generalize A_main_v28 (F := Ideal) x w cw cb wa ba wi bi lam = z3
    generalize A_main_v35 (F := Ideal) x w cw cb wa ba wi bi lam = z4
    generalize A_main_v11 (F := Ideal) x w cw cb wa ba wi bi lam = z5
    generalize A_main_v19 (F := Ideal) x w cw cb wa ba wi bi lam = z6
    generalize A_main_v26 (F := Ideal) x w cw cb wa ba wi bi lam = z7
    generalize A_main_v33 (F := Ideal) x w cw cb wa ba wi bi lam = z8
    pointwise [A_main_v39, A_main_v38, K_main_v15, K_main_cst]
    try simp only [zero_add]
  rw [e, v13_at, v21_at, v28_at, v35_at, v11_at, v19_at, v26_at, v33_at]
  have h0 : (parOf x w cw cb wa ba wi bi lam).sh 0 b s.val l = (parOf x w cw cb wa ba wi bi lam).px b s.val ⟨l.val, by omega⟩ := by
    unfold Par.sh; rw [if_pos (Nat.zero_le _), Nat.sub_zero]
  rw [h0]
  unfold Par.xc
  show _ = cb (ix1 l) + cw (ix2 3 l) * _ + cw (ix2 0 l) * _ + cw (ix2 1 l) * _ + cw (ix2 2 l) * _
  rw [zero_add]
  generalize cw (ix2 0 l) * _ = a0
  generalize cw (ix2 1 l) * _ = a1
  generalize cw (ix2 2 l) * _ = a2
  generalize cw (ix2 3 l) * _ = a3
  generalize cb (ix1 l) = a4
  ac_rfl

/-- The reference at an entry: the convolved rows by blocks. -/
theorem v41_at (b : Fin 2) (s : Fin 8192) (g : Fin 8) (k : Fin 128) :
    A_main_v41 (F := Ideal) x w cw cb wa ba wi bi lam (ix4 b s g k) = A_main_v40 (F := Ideal) x w cw cb wa ba wi bi lam (ix3 b s ⟨128 * g.val + k.val, by omega⟩) := by
  unfold A_main_v41
  generalize A_main_v40 (F := Ideal) x w cw cb wa ba wi bi lam = z
  simp only [mul_comm 128 g.val]
  pointwise

/-- The reference at an entry: the decay gate's projection. -/
theorem v44_at (b : Fin 2) (s : Fin 8192) (l : Fin 1024) :
    A_main_v44 (F := Ideal) x w cw cb wa ba wi bi lam (ix3 b s l) = ∑ k : Fin 128, wa (ix3 ⟨l.val / 128, by omega⟩ k ⟨l.val % 128, by omega⟩) * A_main_v40 (F := Ideal) x w cw cb wa ba wi bi lam (ix3 b s ⟨128 * (l.val / 128) + k.val, by omega⟩) := by
  have e2 : ∀ (g : Fin 8) (q : Fin 128), A_main_v42 (F := Ideal) x w cw cb wa ba wi bi lam (ix4 g q b s) = ∑ k : Fin 128, wa (ix3 g k q) * A_main_v41 (F := Ideal) x w cw cb wa ba wi bi lam (ix4 b s g k) := by
    intro g q
    unfold A_main_v42
    generalize A_main_v41 (F := Ideal) x w cw cb wa ba wi bi lam = z
    pointwise
  have e1 : A_main_v44 (F := Ideal) x w cw cb wa ba wi bi lam (ix3 b s l) = A_main_v42 (F := Ideal) x w cw cb wa ba wi bi lam (ix4 ⟨l.val / 128, by omega⟩ ⟨l.val % 128, by omega⟩ b s) := by
    unfold A_main_v44 A_main_v43
    generalize A_main_v42 (F := Ideal) x w cw cb wa ba wi bi lam = z
    pointwise
  rw [e1, e2]
  exact Finset.sum_congr rfl fun k _ => by rw [v41_at]

/-- The reference at an entry: the decay gate. -/
theorem v53_at (b : Fin 2) (s : Fin 8192) (l : Fin 1024) :
    A_main_v53 (F := Ideal) x w cw cb wa ba wi bi lam (ix3 b s l) = (parOf x w cw cb wa ba wi bi lam).gt (parOf x w cw cb wa ba wi bi lam).wa (parOf x w cw cb wa ba wi bi lam).ba b s.val l := by
  have e : A_main_v53 (F := Ideal) x w cw cb wa ba wi bi lam (ix3 b s l) = sg (A_main_v44 (F := Ideal) x w cw cb wa ba wi bi lam (ix3 b s l) + ba (ix1 l)) := by
    unfold A_main_v53 A_main_v51 A_main_v49 A_main_v48 A_main_v47
    generalize A_main_v44 (F := Ideal) x w cw cb wa ba wi bi lam = z
    pointwise [A_main_v46, A_main_v45, K_main_v50, K_main_v52, K_main_cst_0, K_main_cst_1]
    rfl
  rw [e, v44_at]
  unfold Par.gt
  congr 2
  refine Finset.sum_congr rfl fun k _ => ?_
  rw [v40_at, mul_comm]
  rfl

/-- The reference at an entry: the input gate's projection. -/
theorem v56_at (b : Fin 2) (s : Fin 8192) (l : Fin 1024) :
    A_main_v56 (F := Ideal) x w cw cb wa ba wi bi lam (ix3 b s l) = ∑ k : Fin 128, wi (ix3 ⟨l.val / 128, by omega⟩ k ⟨l.val % 128, by omega⟩) * A_main_v40 (F := Ideal) x w cw cb wa ba wi bi lam (ix3 b s ⟨128 * (l.val / 128) + k.val, by omega⟩) := by
  have e2 : ∀ (g : Fin 8) (q : Fin 128), A_main_v54 (F := Ideal) x w cw cb wa ba wi bi lam (ix4 g q b s) = ∑ k : Fin 128, wi (ix3 g k q) * A_main_v41 (F := Ideal) x w cw cb wa ba wi bi lam (ix4 b s g k) := by
    intro g q
    unfold A_main_v54
    generalize A_main_v41 (F := Ideal) x w cw cb wa ba wi bi lam = z
    pointwise
  have e1 : A_main_v56 (F := Ideal) x w cw cb wa ba wi bi lam (ix3 b s l) = A_main_v54 (F := Ideal) x w cw cb wa ba wi bi lam (ix4 ⟨l.val / 128, by omega⟩ ⟨l.val % 128, by omega⟩ b s) := by
    unfold A_main_v56 A_main_v55
    generalize A_main_v54 (F := Ideal) x w cw cb wa ba wi bi lam = z
    pointwise
  rw [e1, e2]
  exact Finset.sum_congr rfl fun k _ => by rw [v41_at]

/-- The reference at an entry: the input gate. -/
theorem v65_at (b : Fin 2) (s : Fin 8192) (l : Fin 1024) :
    A_main_v65 (F := Ideal) x w cw cb wa ba wi bi lam (ix3 b s l) = (parOf x w cw cb wa ba wi bi lam).gt (parOf x w cw cb wa ba wi bi lam).wi (parOf x w cw cb wa ba wi bi lam).bi b s.val l := by
  have e : A_main_v65 (F := Ideal) x w cw cb wa ba wi bi lam (ix3 b s l) = sg (A_main_v56 (F := Ideal) x w cw cb wa ba wi bi lam (ix3 b s l) + bi (ix1 l)) := by
    unfold A_main_v65 A_main_v63 A_main_v61 A_main_v60 A_main_v59
    generalize A_main_v56 (F := Ideal) x w cw cb wa ba wi bi lam = z
    pointwise [A_main_v58, A_main_v57, K_main_v62, K_main_v64, K_main_cst_2, K_main_cst_3]
    rfl
  rw [e, v56_at]
  unfold Par.gt
  congr 2
  refine Finset.sum_congr rfl fun k _ => ?_
  rw [v40_at, mul_comm]
  rfl

/-- The reference at an entry: the decay rate. -/
theorem v69_at (l : Fin 1024) : A_main_v69 (F := Ideal) x w cw cb wa ba wi bi lam (ix1 l) = sp (-lam (ix1 l)) := by
  pointwise [A_main_v69, A_main_call1_v11, A_main_call1_v10, A_main_call1_v9, A_main_call1_v8, A_main_call1_v7, A_main_call1_v6,
    A_main_call1_v4, A_main_call1_v3, A_main_call1_v1, A_main_v68, K_main_call1_v0, K_main_call1_v2, K_main_call1_v5, K_main_call1_cst]
  try simp
  try rfl

/-- The reference at an entry: the log decay. -/
theorem v72_at (b : Fin 2) (s : Fin 8192) (l : Fin 1024) :
    A_main_v72 (F := Ideal) x w cw cb wa ba wi bi lam (ix3 b s l) = m8 * sp (-lam (ix1 l)) * (parOf x w cw cb wa ba wi bi lam).gt (parOf x w cw cb wa ba wi bi lam).wa (parOf x w cw cb wa ba wi bi lam).ba b s.val l := by
  have e : A_main_v72 (F := Ideal) x w cw cb wa ba wi bi lam (ix3 b s l) = m8 * A_main_v53 (F := Ideal) x w cw cb wa ba wi bi lam (ix3 b s l) * A_main_v69 (F := Ideal) x w cw cb wa ba wi bi lam (ix1 l) := by
    unfold A_main_v72 A_main_v67 A_main_v71 A_main_v70
    generalize A_main_v53 (F := Ideal) x w cw cb wa ba wi bi lam = z
    generalize A_main_v69 (F := Ideal) x w cw cb wa ba wi bi lam = z'
    pointwise [K_main_v66, K_main_cst_4]
  rw [e, v69_at, v53_at]
  exact mul_right_comm _ _ _

/-- The reference at an entry: the decay factor. -/
theorem v73_at (b : Fin 2) (s : Fin 8192) (l : Fin 1024) :
    A_main_v73 (F := Ideal) x w cw cb wa ba wi bi lam (ix3 b s l) = (parOf x w cw cb wa ba wi bi lam).a b l s.val := by
  have e : A_main_v73 (F := Ideal) x w cw cb wa ba wi bi lam (ix3 b s l) = Ideal.exp (A_main_v72 (F := Ideal) x w cw cb wa ba wi bi lam (ix3 b s l)) := by
    unfold A_main_v73
    generalize A_main_v72 (F := Ideal) x w cw cb wa ba wi bi lam = z
    pointwise
  rw [e, v72_at]
  rfl

/-- The word of the number two. -/
theorem two_eq : Ideal.ofBits FTy.f32 0x40000000#32 = (2 : EReal) := by
  have h : Ideal.ofBits FTy.f32 0x40000000#32 = ((2 : ℝ) : EReal) := by
    simp [Ideal.ofBits, Ideal.ieee, -EReal.coe_mul, -EReal.coe_neg]; norm_num
  rw [h]; rfl

/-- The reference at an entry: the recurrence's input. -/
theorem v80_at (b : Fin 2) (s : Fin 8192) (l : Fin 1024) :
    A_main_v80 (F := Ideal) x w cw cb wa ba wi bi lam (ix3 b s l) = (parOf x w cw cb wa ba wi bi lam).u b l s.val := by
  have e : A_main_v80 (F := Ideal) x w cw cb wa ba wi bi lam (ix3 b s l) =
      Ideal.sqrt (-(Ideal.exp (Ideal.ofBits FTy.f32 0x40000000#32 * A_main_v72 (F := Ideal) x w cw cb wa ba wi bi lam (ix3 b s l)) - 1))
        * (A_main_v65 (F := Ideal) x w cw cb wa ba wi bi lam (ix3 b s l) * A_main_v40 (F := Ideal) x w cw cb wa ba wi bi lam (ix3 b s l)) := by
    unfold A_main_v80 A_main_v79 A_main_v78 A_main_v77 A_main_v76 A_main_v75
    generalize A_main_v72 (F := Ideal) x w cw cb wa ba wi bi lam = z
    generalize A_main_v65 (F := Ideal) x w cw cb wa ba wi bi lam = z'
    generalize A_main_v40 (F := Ideal) x w cw cb wa ba wi bi lam = z''
    pointwise [K_main_v74, K_main_cst_5]
    try rfl
  rw [e, v72_at, v65_at, v40_at]
  unfold Par.u Par.a
  rw [exp_two _ _ two_eq, one_sub]
  rfl

/-- The decays the loop reads. -/
theorem v82_at (s : Fin 8192) (b : Fin 2) (l : Fin 1024) :
    A_main_v82 (F := Ideal) x w cw cb wa ba wi bi lam (ix3 s b l) = (parOf x w cw cb wa ba wi bi lam).a b l s.val := by
  rw [← v73_at]
  unfold A_main_v82
  generalize A_main_v73 (F := Ideal) x w cw cb wa ba wi bi lam = z
  pointwise

/-- The input terms the loop reads. -/
theorem v83_at (s : Fin 8192) (b : Fin 2) (l : Fin 1024) :
    A_main_v83 (F := Ideal) x w cw cb wa ba wi bi lam (ix3 s b l) = (parOf x w cw cb wa ba wi bi lam).u b l s.val := by
  rw [← v80_at]
  unfold A_main_v83
  generalize A_main_v80 (F := Ideal) x w cw cb wa ba wi bi lam = z
  pointwise

end Cert.LruProof
-- ==== Proof.LruRef.lean ====
module

public import proofs.«01_k».proof.Proof.Gen.LruReferenceIdeal.Run
public import proofs.«01_k».proof.Proof.Gen.LruReferenceIdeal.Step
public import proofs.«01_k».proof.Proof.LruRefA
public import Idealize.ShloMosaic.Lib.Pipeline.ValueKit
public import Idealize.ShloMosaic.Lib.Pointwise

@[expose] public section

set_option maxRecDepth 65536
set_option maxHeartbeats 1000000
noncomputable section

open Idealize.ShloMosaic Idealize.ShloMosaic.TcCoe Idealize.SL.Sem Idealize.ShloMosaic.StableHlo
open Idealize.ShloMosaic.ValueIdx hiding ix1 ix2 ix3 ix4 ix5
namespace Cert.LruProof

open Cert.LruReferenceIdeal Cert.LruReferenceIdeal.Gen Cert.LruReferenceIdeal.Step Cert.LruReferenceIdeal.Value

/-- What the loop's contents are before trip `k`: the coefficients, the counter, the state and the states written so far. -/
structure Holds (p : Par) (V0 : Valuation τ sig (Elt Ideal)) (k : Nat) : Prop where
  f0 : ∀ s b l, (V0 (Proc.devRef .tc main_v85_0) : FVec Ideal S8192x2x1024 .f32) (ix3 s b l) = p.a b l s.val
  f1 : ∀ s b l, (V0 (Proc.devRef .tc main_v85_1) : FVec Ideal S8192x2x1024 .f32) (ix3 s b l) = p.u b l s.val
  n2 : V0 (Proc.devRef .tc main_v85_2) = constantI S_ 32 (BitVec.ofNat 32 k)
  f3 : ∀ b l, (V0 (Proc.devRef .tc main_v85_3) : FVec Ideal S2x1024 .f32) (ix2 b l) = p.h b l k
  f4 : ∀ s b l, s.val < k → (V0 (Proc.devRef .tc main_v85_4) : FVec Ideal S8192x2x1024 .f32) (ix3 s b l) = p.h b l (s.val + 1)

/-- The slice's start of trip `k`. -/
def at3 (k : Nat) : Fin 3 → Int := fun a => (((![constantI S_ 32 (BitVec.ofNat 32 k), constantI S_ 32 0#32, constantI S_ 32 0#32] :
  Fin 3 → (⟨S_, .i32⟩ : BufTy).Contents (Elt Ideal))) a (Shape.Idx.first h_S_)).toInt

/-- The loop's frame, as the first offset. -/
theorem at3_zero (k : Nat) (hk : k < 8192) : at3 k 0 = (k : Int) := by
  show (BitVec.ofNat 32 k).toInt = (k : Int)
  rw [BitVec.toInt_eq_toNat_of_lt (by rw [BitVec.toNat_ofNat]; omega), BitVec.toNat_ofNat, Nat.mod_eq_of_lt (by omega)]

/-- The offsets of a trip's slice. -/
theorem at3_off (k : Nat) (hk : k < 8192) : ∀ a : Fin 3, at3 k a = (((![k, 0, 0] : Fin 3 → Nat) a : Nat) : Int) := by
  intro a
  match a with
  | ⟨0, _⟩ => exact at3_zero k hk
  | ⟨1, _⟩ => rfl
  | ⟨2, _⟩ => rfl

/-- The offsets of a trip lie inside, so they are not moved. -/
theorem clamp3 (k : Nat) (hk : k < 8192) (hr : S1x2x1024.rank = S8192x2x1024.rank) (a : Fin 3) :
    Host.clampedStart S8192x2x1024 S1x2x1024 hr (at3 k) a = (![k, 0, 0] : Fin 3 → Nat) a := by
  refine Host.clampedStart_of_le hr (at3 k) a _ (at3_off k hk a) ?_
  match a with
  | ⟨0, _⟩ => show k + 1 ≤ 8192; omega
  | ⟨1, _⟩ => show 0 + 2 ≤ 2; omega
  | ⟨2, _⟩ => show 0 + 1024 ≤ 1024; omega

/-- A trip's slice is the frame of the array. -/
theorem slice_at (k : Nat) (hk : k < 8192) (A : FVec Ideal S8192x2x1024 .f32) (b : Fin 2) (l : Fin 1024) :
    Host.dynamicSlice S1x2x1024 A (at3 k) sliceFits_S8192x2x1024_S1x2x1024 (ix3 0 b l) = A (ix3 ⟨k, hk⟩ b l) := by
  rw [Host.dynamicSlice_apply, Shape.Idx.norm_def]
  congr 1
  funext a
  refine Fin.ext ?_
  have h := clamp3 k hk rfl a
  match a with
  | ⟨0, _⟩ => exact (congrArg (· + 0) h)
  | ⟨1, _⟩ => exact (congrArg (· + b.val) h).trans (Nat.zero_add _)
  | ⟨2, _⟩ => exact (congrArg (· + l.val) h).trans (Nat.zero_add _)

/-- A trip's update changes its frame alone. -/
theorem update_at (k : Nat) (hk : k < 8192) (A : FVec Ideal S8192x2x1024 .f32) (U : FVec Ideal S1x2x1024 .f32) (s : Fin 8192)
    (b : Fin 2) (l : Fin 1024) :
    Host.dynamicUpdateSlice A U (at3 k) updateFits_S8192x2x1024_S1x2x1024 (ix3 s b l) = if s.val = k then U (ix3 0 b l) else A (ix3 s b l) := by
  rw [Host.dynamicUpdateSlice_apply]
  have h := clamp3 k hk rfl
  by_cases e : s.val = k
  · rw [if_pos e, dif_pos, Shape.Idx.norm_def]
    · congr 1
      funext a
      refine Fin.ext ?_
      match a with
      | ⟨0, _⟩ => exact (congrArg (s.val - ·) (h 0)).trans (by show s.val - k = 0; omega)
      | ⟨1, _⟩ => exact (congrArg (b.val - ·) (h 1)).trans (Nat.sub_zero _)
      | ⟨2, _⟩ => exact (congrArg (l.val - ·) (h 2)).trans (Nat.sub_zero _)
    · intro a
      rw [h a]
      match a with
      | ⟨0, _⟩ => show k ≤ s.val ∧ s.val < k + 1; omega
      | ⟨1, _⟩ => show 0 ≤ b.val ∧ b.val < 0 + 2; omega
      | ⟨2, _⟩ => show 0 ≤ l.val ∧ l.val < 0 + 1024; omega
  · rw [if_neg e, dif_neg]
    intro hall
    have h0 := hall 0
    rw [h 0] at h0
    have h1 : k ≤ s.val ∧ s.val < k + 1 := h0
    omega

variable {p : Par} {V0 : Valuation τ sig (Elt Ideal)} {k : Nat}

/-- A trip's new state is the specification's next one. -/
theorem new_at (h : Holds p V0 k) (hk : k < 8192) (b : Fin 2) (l : Fin 1024) :
    (res_main_while0b_v113 V0 : FVec Ideal S2x1024 .f32) (ix2 b l) = p.h b l (k + 1) := by
  unfold res_main_while0b_v113
  rw [h.n2]
  have e : p.h b l (k + 1) = p.a b l k * p.h b l k + p.u b l k := rfl
  have h0 := slice_at k hk (V0 (Proc.devRef .tc main_v85_0)) b l
  have h1 := slice_at k hk (V0 (Proc.devRef .tc main_v85_1)) b l
  rw [e, ← h.f3 b l, ← h.f0 ⟨k, hk⟩ b l, ← h.f1 ⟨k, hk⟩ b l, ← h0, ← h1]
  unfold at3
  generalize Host.dynamicSlice S1x2x1024 (V0 (Proc.devRef .tc main_v85_0)) _ sliceFits_S8192x2x1024_S1x2x1024 = z0
  generalize Host.dynamicSlice S1x2x1024 (V0 (Proc.devRef .tc main_v85_1)) _ sliceFits_S8192x2x1024_S1x2x1024 = z1
  generalize V0 (Proc.devRef .tc main_v85_3) = z2
  change FVec Ideal S1x2x1024 .f32 at z0 z1
  change FVec Ideal S2x1024 .f32 at z2
  pointwise

/-- One trip. -/
theorem Holds.step (h : Holds p V0 k) (hk : k < 8192) : Holds p (STEP V0) (k + 1) where
  f0 := fun s b l => by rw [STEP_main_v85_0]; exact h.f0 s b l
  f1 := fun s b l => by rw [STEP_main_v85_1]; exact h.f1 s b l
  n2 := by
    rw [STEP_main_v85_2]
    unfold step_main_v85_2
    rw [h.n2]
    funext y
    show BitVec.ofNat 32 k + 1#32 = BitVec.ofNat 32 (k + 1)
    simp only [BitVec.ofNat_add]
  f3 := fun b l => by rw [STEP_main_v85_3]; exact new_at h hk b l
  f4 := fun s b l hs => by
    rw [STEP_main_v85_4]
    unfold Cert.LruReferenceIdeal.Value.step_main_v85_4
    rw [h.n2]
    refine (update_at k hk _ _ s b l).trans ?_
    by_cases e : s.val = k
    · rw [if_pos e, e, ← new_at h hk b l]
      generalize (res_main_while0b_v113 V0) = z
      change FVec Ideal S2x1024 .f32 at z
      pointwise
    · rw [if_neg e]
      exact h.f4 s b l (by omega)

variable (m : (ℓ : Loc nD τ sig) → Buf (Elt Ideal) ℓ) (c : Dev nD)

/-- The parameters of a launch's memory. -/
abbrev refPar : Par := parOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The loop's array 0 at its entry. -/
theorem entry0 : entryContents (F := Ideal) preI m c (Proc.devRef .tc main_v85_0) = A_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  simp only [entryContents, afterL_cons, afterL_nil]; after_reads_simp <;> rfl
/-- The loop's array 1 at its entry. -/
theorem entry1 : entryContents (F := Ideal) preI m c (Proc.devRef .tc main_v85_1) = A_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  simp only [entryContents, afterL_cons, afterL_nil]; after_reads_simp <;> rfl
/-- The loop's array 2 at its entry. -/
theorem entry2 : entryContents (F := Ideal) preI m c (Proc.devRef .tc main_v85_2) = constantI S_ 32 (BitVec.ofNat 32 0) := by
  simp only [entryContents, afterL_cons, afterL_nil]; after_reads_simp <;> rfl
/-- The loop's array 3 at its entry. -/
theorem entry3 : entryContents (F := Ideal) preI m c (Proc.devRef .tc main_v85_3) = K_main_v81 (F := Ideal) := by
  simp only [entryContents, afterL_cons, afterL_nil]; after_reads_simp <;> rfl

/-- Before the first trip. -/
theorem Holds.entry : Holds (refPar m c) (entryContents (F := Ideal) preI m c) 0 where
  f0 := fun s b l => by rw [entry0]; exact v82_at _ _ _ _ _ _ _ _ _ s b l
  f1 := fun s b l => by rw [entry1]; exact v83_at _ _ _ _ _ _ _ _ _ s b l
  n2 := entry2 m c
  f3 := fun b l => by
    rw [entry3]
    have e : (refPar m c).h b l 0 = 0 := rfl
    rw [e]
    pointwise [K_main_v81, K_main_cst_6]
  f4 := fun s b l hs => absurd hs (Nat.not_lt_zero _)

/-- The invariant holds after every number of trips. -/
theorem Holds.iter : ∀ k, k ≤ 8192 → Holds (refPar m c) (STEP^[k] (entryContents (F := Ideal) preI m c)) k
  | 0, _ => Holds.entry m c
  | k + 1, hk => by
    rw [Function.iterate_succ_apply']
    exact (Holds.iter k (by omega)).step (by omega)

/-- The kernel's gelu is the reference's. -/
theorem gelu_eq (g : EReal) : gelu g = g * (Ideal.ofBits FTy.f32 0x3F000000#32 * (1 + Ideal.tanh (Ideal.ofBits FTy.f32 0x3F4C422A#32 *
    (g + Ideal.ofBits FTy.f32 0x3D372713#32 * (g * g * g))))) := by
  unfold gelu
  rw [mul_comm (Ideal.ofBits FTy.f32 0x3F000000#32) g, mul_assoc]

/-- The reference's result. -/
theorem ref_at (b : Fin 2) (s : Fin 8192) (l : Fin 1024) :
    (out_main_v109 (STEP^[8192] (entryContents (F := Ideal) preI m c)) : FVec Ideal S2x8192x1024 .bf16) (ix3 b s l) = (refPar m c).out b s.val l := by
  have h := Holds.iter m c 8192 (le_refl _)
  have e0 := iter_main_arg0 (F := Ideal) m c 8192
  have e1 := iter_main_arg1 (F := Ideal) m c 8192
  generalize STEP^[8192] (entryContents (F := Ideal) preI m c) = V at h e0 e1 ⊢
  unfold out_main_v109 Par.out
  rw [e0, e1, ← h.f4 s b l s.isLt, gelu_eq, px_eq]
  generalize V (Proc.devRef .tc main_v85_4) = z
  generalize m ((c.tc : Thread nD τ).loc main_arg0) = x
  generalize m ((c.tc : Thread nD τ).loc main_arg1) = w
  change FVec Ideal S8192x2x1024 .f32 at z
  change FVec Ideal S2x8192x1024 .f32 at x
  change FVec Ideal S1024x11296 .f32 at w
  have ed : ∀ t : Fin 11296, Host.dotGeneral dot_S2x8192x1024_S1024x11296_S2x8192x11296_2_0_01_1_n_n none x w (ix3 b s t) = ∑ k : Fin 1024, x (ix3 b s k) * w (ix2 k t) := by
    intro t
    pointwise
  rw [← ed]
  generalize Host.dotGeneral dot_S2x8192x1024_S1024x11296_S2x8192x11296_2_0_01_1_n_n none x w = d
  pointwise
  try rfl

end Cert.LruProof
-- ==== Proof.LruIn.lean ====
module

public import proofs.«01_k».proof.Proof.LruPoint
public import Idealize.ShloMosaic.Lib.StableHlo.ReadAt
public import proofs.«01_k».proof.Proof.LruRef
public import proofs.«01_k».proof.Proof.Gen.LruKernelIdeal.Value

@[expose] public section

/-! The gated linear recurrence: the blocks the grid's points read, entry by entry. -/

set_option maxRecDepth 65536
set_option maxHeartbeats 1000000
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.LruProof

open Cert.LruKernelIdeal Cert.LruKernelIdeal.Gen

variable (m : (ℓ : Loc nD τ sig) → Buf (Elt Ideal) ℓ)

/-- Every window's block index at every grid point. -/
theorem idx : ∀ t : Fin cfg0.N, win0_0.index t = ![t.val / 16, t.val % 16, 0] ∧ win0_1.index t = ![0, 0]
    ∧ win0_2.index t = ![0, 0] ∧ win0_3.index t = ![0, 0] ∧ win0_4.index t = ![0, 0, 0] ∧ win0_5.index t = ![0, 0]
    ∧ win0_6.index t = ![0, 0] ∧ win0_7.index t = ![0, 0] ∧ win0_8.index t = ![t.val / 16, t.val % 16, 0] :=
  (by decide +kernel : ∀ t : Fin grid0.N, _)

/-- The branch's parameters, of the kernel's memory. -/
def kerPar (c : Dev nD) : Par := parOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- There are 32 grid points. -/
theorem lt32 (t : Fin cfg0.N) : t.val < 32 := t.isLt

/-- The sequence point `t` works on. -/
def seq (t : Fin cfg0.N) : Fin 2 := ⟨t.val / 16, by have := lt32 t; omega⟩

/-- The block of the stream, of the argument. -/
theorem in_hx (c : Dev nD) (t : Fin cfg0.N) (r : Fin 512) (k : Fin 1024) (h : 512 * (t.val % 16) + r.val < 8192) :
    (iblk m c 0 t : FVec Ideal S1x512x1024 .f32) (ix3 0 r k) = (m ((c.tc : Thread nD τ).loc main_arg0) : FVec Ideal S2x8192x1024 .f32) (ix3 (seq t) ⟨512 * (t.val % 16) + r.val, h⟩ k) := by
  unfold seq
  blk_point [iblk, V, idx t]

/-- The block of the projection's weights, of the argument. -/
theorem in_hw (c : Dev nD) (t : Fin cfg0.N) (k : Fin 1024) (n : Fin 2048) :
    (iblk m c 1 t : FVec Ideal S1024x2048 .bf16) (ix2 k n) = (m ((c.tc : Thread nD τ).loc main_arg1) : FVec Ideal S1024x11296 .f32) (ix2 k ⟨n.val, by omega⟩) := by
  blk_point [iblk, V, idx t]

/-- The block of the convolution's weights, of the argument. -/
theorem in_hcw (c : Dev nD) (t : Fin cfg0.N) (k : Fin 4) (n : Fin 1024) :
    (iblk m c 2 t : FVec Ideal S4x1024 .f32) (ix2 k n) = (m ((c.tc : Thread nD τ).loc main_arg2) : FVec Ideal S4x1024 .f32) (ix2 k n) := by
  blk_point [iblk, V, idx t]

/-- The block of the convolution's bias, of the argument. -/
theorem in_hcb (c : Dev nD) (t : Fin cfg0.N) (l : Fin 1024) :
    (iblk m c 3 t : FVec Ideal S1x1024 .f32) (ix2 0 l) = (m ((c.tc : Thread nD τ).loc main_arg3) : FVec Ideal S1024 .f32) (ix1 l) := by
  blk_point [iblk, V, idx t]

/-- The block of the two gates' weights side by side. -/
theorem in_w (c : Dev nD) (t : Fin cfg0.N) (n : Fin 8) (k : Fin 128) (q : Fin 256) :
    (iblk m c 4 t : FVec Ideal S8x128x256 .bf16) (ix3 n k q)
      = if h : q.val < 128 then (m ((c.tc : Thread nD τ).loc main_arg4) : FVec Ideal S8x128x128 .f32) (ix3 n k ⟨q.val, h⟩)
        else (m ((c.tc : Thread nD τ).loc main_arg6) : FVec Ideal S8x128x128 .f32) (ix3 n k ⟨q.val - 128, by omega⟩) := by
  have he : (win0_4.blk t).view.emb (ix3 n k q) = ix3 n k q := by
    funext i
    match i with
    | ⟨0, _⟩ => exact Fin.ext (by simp [Pipeline.Window.blk, View.slice, View.whole, idx t])
    | ⟨1, _⟩ => exact Fin.ext (by simp [Pipeline.Window.blk, View.slice, View.whole, idx t])
    | ⟨2, _⟩ => exact Fin.ext (by simp [Pipeline.Window.blk, View.slice, View.whole, idx t])
  show V m c main_v3 ((win0_4.blk t).view.emb (ix3 n k q)) = _
  rw [he]
  unfold V
  after_reads_at
  have e4 : StableHlo.upto hostOps0 (fun b => m (c, b)) 2 (Proc.devRef .tc main_arg4) = m ((c.tc : Thread nD τ).loc main_arg4) := by
    first | rfl | (simp only [StableHlo.upto]; after_reads_simp; try rfl)
  have e6 : StableHlo.upto hostOps0 (fun b => m (c, b)) 2 (Proc.devRef .tc main_arg6) = m ((c.tc : Thread nD τ).loc main_arg6) := by
    first | rfl | (simp only [StableHlo.upto]; after_reads_simp; try rfl)
  rw [e4, e6]

/-- The block of the decay gate's weights, of the argument. -/
theorem in_hwa (c : Dev nD) (t : Fin cfg0.N) (n : Fin 8) (k l : Fin 128) :
    (iblk m c 4 t : FVec Ideal S8x128x256 .bf16) (ix3 n k ⟨l.val, by omega⟩) = (m ((c.tc : Thread nD τ).loc main_arg4) : FVec Ideal S8x128x128 .f32) (ix3 n k l) := by
  rw [in_w]
  rw [dif_pos (show l.val < 128 from l.isLt)]

/-- The block of the input gate's weights, of the argument. -/
theorem in_hwi (c : Dev nD) (t : Fin cfg0.N) (n : Fin 8) (k l : Fin 128) :
    (iblk m c 4 t : FVec Ideal S8x128x256 .bf16) (ix3 n k ⟨128 + l.val, by omega⟩) = (m ((c.tc : Thread nD τ).loc main_arg6) : FVec Ideal S8x128x128 .f32) (ix3 n k l) := by
  rw [in_w]
  rw [dif_neg (show ¬ 128 + l.val < 128 by omega)]
  refine congrArg _ (congrArg _ (Fin.ext ?_))
  show 128 + l.val - 128 = l.val
  omega

/-- The block of the decay gate's bias, of the argument. -/
theorem in_hba (c : Dev nD) (t : Fin cfg0.N) (l : Fin 1024) :
    (iblk m c 5 t : FVec Ideal S1x1024 .f32) (ix2 0 l) = (m ((c.tc : Thread nD τ).loc main_arg5) : FVec Ideal S1024 .f32) (ix1 l) := by
  blk_point [iblk, V, idx t]

/-- The block of the input gate's bias, of the argument. -/
theorem in_hbi (c : Dev nD) (t : Fin cfg0.N) (l : Fin 1024) :
    (iblk m c 6 t : FVec Ideal S1x1024 .f32) (ix2 0 l) = (m ((c.tc : Thread nD τ).loc main_arg7) : FVec Ideal S1024 .f32) (ix1 l) := by
  blk_point [iblk, V, idx t]

/-- The block of the decay parameter, of the argument. -/
theorem in_hlam (c : Dev nD) (t : Fin cfg0.N) (l : Fin 1024) :
    (iblk m c 7 t : FVec Ideal S1x1024 .f32) (ix2 0 l) = (m ((c.tc : Thread nD τ).loc main_arg8) : FVec Ideal S1024 .f32) (ix1 l) := by
  blk_point [iblk, V, idx t]

end Cert.LruProof
-- ==== Proof.LruLoads.lean ====
module

public import proofs.«01_k».proof.Proof.LruPoint
public import Idealize.ShloMosaic.Lib.WritesUnit
public import Idealize.ShloMosaic.Lib.Pipeline.ValueKit
public import Idealize.ShloMosaic.Lib.Pointwise

@[expose] public section

set_option maxHeartbeats 1000000
set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.LruProof

open Cert.LruKernelIdeal Cert.LruKernelIdeal.Gen

/-- A load of a whole buffer's rectangle, at an index. -/
theorem load_at {sp : Space} {s : Shape} {e : EltTy} (mr : Memref sig .tc sp s e) (h : mr.IsWhole) (X : s.Idx → Elt Ideal e)
    (off size : Fin s.rank → Nat) (inb : ∀ a, off a + size a ≤ s.size a) (x : (Rect.unit off size inb).shape.Idx) (i : s.Idx)
    (hi : ∀ a, (i a : Nat) = off a + x a) :
    View.readAt (Elt Ideal) mr.view (Rect.unit off size inb).toLoadRect (h.unread X) x = X i := by
  rw [View.readAt_eq_ld, h.read_unread]
  exact View.ld_unit_apply_of X off size inb x i hi

/-- A load of a whole buffer. -/
theorem load_all {sp : Space} {s : Shape} {e : EltTy} (mr : Memref sig .tc sp s e) (h : mr.IsWhole) (X : s.Idx → Elt Ideal e)
    (off : Fin s.rank → Nat) (inb : ∀ a, off a + s.size a ≤ s.size a) (ho : ∀ a, off a = 0) :
    View.readAt (Elt Ideal) mr.view (Rect.unit off s.size inb).toLoadRect (h.unread X) = X := by
  funext x
  exact load_at mr h X off s.size inb x x fun a => by rw [ho a, Nat.zero_add]

/-- Rows read back after the tile's 512 rows were stored from row 8: a stored row. -/
theorem ext_new {sp : Space} (mr : Memref sig .tc sp S520x1024 .f32) (f : mr.view.ty.Contents (Elt Ideal))
    (cur : Vec Ideal S512x1024 .f32) (L : List (View.Piece (Elt Ideal) S520x1024 .f32)) (k : Nat)
    (inb8 : ∀ a, (![8, 0] : Fin 2 → Nat) a + S512x1024.size a ≤ S520x1024.size a)
    (inb : ∀ a, (![k, 0] : Fin 2 → Nat) a + S512x1024.size a ≤ S520x1024.size a) (r : Fin 512) (l : Fin 1024)
    (hr : 8 ≤ r.val + k) (hk : k < 8) :
    View.readAt (Elt Ideal) mr.view (Rect.unit (s := S520x1024) ![k, 0] S512x1024.size inb).toLoadRect
      (mr.view.writes (Elt Ideal) f (⟨Rect.unit (s := S520x1024) ![8, 0] S512x1024.size inb8, cur⟩ :: L)) (ix2 r l)
      = cur (ix2 ⟨r.val + k - 8, by omega⟩ l) := by
  rw [View.readAt_eq_ld]
  refine View.read_writes_cons_unit_of_mem (s := S520x1024) mr.view f inb8 cur L _ (ix2 ⟨r.val + k - 8, by omega⟩ l) rfl fun a => ?_
  rw [Rect.idx_unit_val]
  match a with
  | ⟨0, _⟩ => show k + r.val = 8 + (r.val + k - 8); omega
  | ⟨1, _⟩ => rfl

/-- Rows read back after the tile's 512 rows were stored from row 8: a row before them. -/
theorem ext_old {sp : Space} (mr : Memref sig .tc sp S520x1024 .f32) (f : mr.view.ty.Contents (Elt Ideal))
    (cur : Vec Ideal S512x1024 .f32) (L : List (View.Piece (Elt Ideal) S520x1024 .f32)) (k : Nat)
    (inb8 : ∀ a, (![8, 0] : Fin 2 → Nat) a + S512x1024.size a ≤ S520x1024.size a)
    (inb : ∀ a, (![k, 0] : Fin 2 → Nat) a + S512x1024.size a ≤ S520x1024.size a) (r : Fin 512) (l : Fin 1024)
    (hr : r.val + k < 8) :
    View.readAt (Elt Ideal) mr.view (Rect.unit (s := S520x1024) ![k, 0] S512x1024.size inb).toLoadRect
      (mr.view.writes (Elt Ideal) f (⟨Rect.unit (s := S520x1024) ![8, 0] S512x1024.size inb8, cur⟩ :: L)) (ix2 r l)
      = View.read (Elt Ideal) mr.view (mr.view.writes (Elt Ideal) f L) (ix2 ⟨r.val + k, by omega⟩ l) := by
  rw [View.readAt_eq_ld]
  have e : (Rect.unit (s := S520x1024) ![k, 0] S512x1024.size inb).idx (ix2 r l) = ix2 ⟨r.val + k, by omega⟩ l := by
    funext a
    refine Fin.ext ((Rect.idx_unit_val _ _ _ _ a).trans ?_)
    match a with
    | ⟨0, _⟩ => show k + r.val = r.val + k; omega
    | ⟨1, _⟩ => exact Nat.zero_add _
  show View.read (Elt Ideal) mr.view _ ((Rect.unit (s := S520x1024) ![k, 0] S512x1024.size inb).idx (ix2 r l)) = _
  rw [e]
  exact View.read_writes_cons_unit_of_not_mem (s := S520x1024) mr.view f inb8 cur L _ rfl 0 (Or.inl hr)

/-- Zero at an index, whatever was in the buffer before. -/
def ZeroAt (v : View sig .tc .vmem S1x1024 .f32) (L : List (View.Piece (Elt Ideal) S1x1024 .f32)) (y : S1x1024.Idx) : Prop :=
  ∀ f, View.read (Elt Ideal) v (v.writes (Elt Ideal) f L) y = (0 : EReal)

/-- A whole row written with zeros is zero at each entry. -/
theorem zero_base (v : View sig .tc .vmem S1x1024 .f32) (inb : ∀ a, (![0, 0] : Fin 2 → Nat) a + S1x1024.size a ≤ S1x1024.size a)
    (y : S1x1024.Idx) : ZeroAt v [⟨Rect.unit (s := S1x1024) ![0, 0] S1x1024.size inb, k0_pay3 (F := Ideal)⟩] y := by
  intro f
  refine (View.read_writes_cons_unit_of_mem (s := S1x1024) v f inb _ [] y y rfl fun a => ?_).trans ?_
  · match a with
    | ⟨0, _⟩ => exact (Nat.zero_add _).symm
    | ⟨1, _⟩ => exact (Nat.zero_add _).symm
  · obtain ⟨i, l, rfl⟩ : ∃ (i : Fin 1) (l : Fin 1024), y = ix2 i l := ⟨y 0, y 1, by funext a; match a with | ⟨0, _⟩ => rfl | ⟨1, _⟩ => rfl⟩
    pointwise [k0_pay3]

/-- A later write below a lane leaves the entry zero. -/
theorem zero_cons (v : View sig .tc .vmem S1x1024 .f32) (L : List (View.Piece (Elt Ideal) S1x1024 .f32)) (y : S1x1024.Idx) (o : Nat)
    (inb : ∀ a, (![0, o] : Fin 2 → Nat) a + S1x128.size a ≤ S1x1024.size a) (w : (Rect.unit (s := S1x1024) ![0, o] S1x128.size inb).shape.Idx → Elt Ideal .f32)
    (h : o + 128 ≤ (y 1).val) (z : ZeroAt v L y) : ZeroAt v (⟨Rect.unit (s := S1x1024) ![0, o] S1x128.size inb, w⟩ :: L) y := by
  intro f
  exact (View.read_writes_cons_unit_of_not_mem (s := S1x1024) v f inb w L y rfl 1 (Or.inr h)).trans (z f)

/-- A read of lanes that are all zero is zero. -/
theorem zero_read (v : View sig .tc .vmem S1x1024 .f32) (L : List (View.Piece (Elt Ideal) S1x1024 .f32)) (o : Nat)
    (inb : ∀ a, (![0, o] : Fin 2 → Nat) a + S1x128.size a ≤ S1x1024.size a) (l : Fin 128)
    (z : ∀ y : S1x1024.Idx, o ≤ (y 1).val → ZeroAt v L y) :
    v.readCov L (Rect.unit (s := S1x1024) ![0, o] S1x128.size inb).toLoadRect (ix2 0 l) = (0 : EReal) := by
  refine z ((Rect.unit (s := S1x1024) ![0, o] S1x128.size inb).idx (ix2 0 l)) ?_ v.junk
  rw [Rect.idx_unit_val]
  exact Nat.le_add_right _ _

/-- The newest piece read where it holds the lane, the rest of the list elsewhere. -/
theorem canon_here (o : Nat) (inb : ∀ a, (![0, o] : Fin 2 → Nat) a + S1x128.size a ≤ S1x1024.size a)
    (w : (Rect.unit (s := S1x1024) ![0, o] S1x128.size inb).shape.Idx → Elt Ideal .f32)
    (L : List (View.Piece (Elt Ideal) S1x1024 .f32)) (l : Fin 1024) (v : Elt Ideal .f32)
    (h : View.TileAt (Val := Elt Ideal) (S := S1x1024) (e := .f32) (ix2 0 l) ![0, o] S1x128.size w v)
    (h' : (l.val < o ∨ o + 128 ≤ l.val) → View.canon L (ix2 0 l) = v) :
    View.canon (⟨Rect.unit (s := S1x1024) ![0, o] S1x128.size inb, w⟩ :: L) (ix2 0 l) = v := by
  by_cases hl : o ≤ l.val ∧ l.val < o + 128
  · have e : (Rect.unit (s := S1x1024) ![0, o] S1x128.size inb).emb (ix2 0 ⟨l.val - o, by omega⟩) = ix2 0 l := by
      funext a
      refine Fin.ext ((Rect.idx_unit_val _ _ _ _ a).trans ?_)
      match a with
      | ⟨0, _⟩ => rfl
      | ⟨1, _⟩ => show o + (l.val - o) = l.val; omega
    rw [← e, View.canon_cons_emb]
    refine h _ fun a => ?_
    match a with
    | ⟨0, _⟩ => rfl
    | ⟨1, _⟩ => show l.val = o + (l.val - o); omega
  · refine (View.canon_cons_of_not_mem _ _ ?_).trans (h' (by omega))
    rw [Rect.mem_set_unit]
    intro hall
    have h1 := hall 1
    have h2 : o ≤ l.val ∧ l.val < o + 128 := h1
    exact hl h2

end Cert.LruProof
-- ==== Proof.LruCaseA.lean ====
module

public import proofs.«01_k».proof.Proof.LruLoads
public import Idealize.ShloMosaic.Lib.WritesUnit
public import Idealize.ShloMosaic.Lib.Pipeline.ValueKit
public import Idealize.ShloMosaic.Lib.Pointwise

@[expose] public section

set_option maxHeartbeats 1000000
set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.LruProof

open Cert.LruKernelIdeal Cert.LruKernelIdeal.Gen

/-- Rows of a buffer written whole with zeros read zero. -/
theorem zero_rows {sp : Space} (mr : Memref sig .tc sp S520x1024 .f32) (f : mr.view.ty.Contents (Elt Ideal)) (q : Fin 8) (l : Fin 1024) :
    View.read (Elt Ideal) mr.view (mr.view.writes (Elt Ideal) f
      [⟨Rect.unit (s := S520x1024) ![0, 0] S8x1024.size inb_S520x1024_S8x1024_0_0, k0_pay2 (F := Ideal)⟩]) (ix2 ⟨q.val, by omega⟩ l) = (0 : EReal) := by
  refine (View.read_writes_cons_unit_of_mem (s := S520x1024) mr.view f inb_S520x1024_S8x1024_0_0 _ [] _ (ix2 q l) rfl fun a => ?_).trans ?_
  · match a with
    | ⟨0, _⟩ => exact (Nat.zero_add _).symm
    | ⟨1, _⟩ => exact (Nat.zero_add _).symm
  · pointwise [k0_pay2]

/-- The tile a point computes (first points). -/
theorem tileA (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) :
    TileOf p b 0 (k0_pay4 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)))
      (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S4x1024) ![0, 0] S4x1024.size inb_S4x1024_S4x1024_0_0).toLoadRect (harg4.unread x2)) (View.readAt (Elt Ideal) arg5.view (Rect.unit (s := S1x1024) ![0, 0] S1x1024.size inb_S1x1024_S1x1024_0_0).toLoadRect (harg5.unread x3))
      (kernelRun0_A.sl.v22 (F := Ideal) c arg2 harg2 arg3 harg3 arg11 x0 x1)
      (kernelRun0_A.sl.v27 (F := Ideal) c arg2 harg2 arg3 harg3 arg11 x0 x1)
      (kernelRun0_A.sl.v32 (F := Ideal) c arg2 harg2 arg3 harg3 arg11 x0 x1))
      (k0_pay10 (View.readAt (Elt Ideal) arg9.view (Rect.unit (s := S1x1024) ![0, 0] S1x1024.size inb_S1x1024_S1x1024_0_0).toLoadRect (harg9.unread x7))) := by
  have l0 := load_all arg2 harg2 x0 ![0, 0, 0] inb_S1x512x1024_S1x512x1024_0_0_0 (by decide)
  have l1 := load_all arg3 harg3 x1 ![0, 0] inb_S1024x2048_S1024x2048_0_0 (by decide)
  have l2 := load_all arg4 harg4 x2 ![0, 0] inb_S4x1024_S4x1024_0_0 (by decide)
  have l3 := load_all arg5 harg5 x3 ![0, 0] inb_S1x1024_S1x1024_0_0 (by decide)
  have l7 := load_all arg9 harg9 x7 ![0, 0] inb_S1x1024_S1x1024_0_0 (by decide)
  refine (congr (congr (congrArg (TileOf p b 0) ?_) ?_) ?_).mpr (tile_in (by omega) I
    (kernelRun0_A.sl.v22 (F := Ideal) c arg2 harg2 arg3 harg3 arg11 x0 x1)
    (kernelRun0_A.sl.v27 (F := Ideal) c arg2 harg2 arg3 harg3 arg11 x0 x1)
    (kernelRun0_A.sl.v32 (F := Ideal) c arg2 harg2 arg3 harg3 arg11 x0 x1) ?_ ?_ ?_)
  · exact congr (congrArg k0_pay4 l0) l1
  · exact congr (congr (congr (congr (congr (congr (congrArg k0_pay7 l0) l1) l2) l3) rfl) rfl) rfl
  · exact congrArg k0_pay10 l7
  · have hc : k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) = k0_pay6 x0 x1 := congr (congrArg k0_pay6 l0) l1
    exact fun r l => ext_row (by omega) I (fun q l => 0) (fun q l => by show (0 : EReal) = p.sh 8 b (512 * 0 + q.val) l; unfold Par.sh; rw [if_neg (by omega)]) _ 5 (by omega) r l
      (fun h => (ext_old arg11 _ _ [⟨Rect.unit (s := S520x1024) ![0, 0] S8x1024.size inb_S520x1024_S8x1024_0_0, k0_pay2 (F := Ideal)⟩] 5 _ _ r l h).trans        (zero_rows arg11 _ ⟨r.val + 5, h⟩ l))
      (fun h => (ext_new arg11 _ _ _ 5 _ _ r l h (by omega)).trans (congrFun hc _))
  · have hc : k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) = k0_pay6 x0 x1 := congr (congrArg k0_pay6 l0) l1
    exact fun r l => ext_row (by omega) I (fun q l => 0) (fun q l => by show (0 : EReal) = p.sh 8 b (512 * 0 + q.val) l; unfold Par.sh; rw [if_neg (by omega)]) _ 6 (by omega) r l
      (fun h => (ext_old arg11 _ _ [⟨Rect.unit (s := S520x1024) ![0, 0] S8x1024.size inb_S520x1024_S8x1024_0_0, k0_pay2 (F := Ideal)⟩] 6 _ _ r l h).trans        (zero_rows arg11 _ ⟨r.val + 6, h⟩ l))
      (fun h => (ext_new arg11 _ _ _ 6 _ _ r l h (by omega)).trans (congrFun hc _))
  · have hc : k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) = k0_pay6 x0 x1 := congr (congrArg k0_pay6 l0) l1
    exact fun r l => ext_row (by omega) I (fun q l => 0) (fun q l => by show (0 : EReal) = p.sh 8 b (512 * 0 + q.val) l; unfold Par.sh; rw [if_neg (by omega)]) _ 7 (by omega) r l
      (fun h => (ext_old arg11 _ _ [⟨Rect.unit (s := S520x1024) ![0, 0] S8x1024.size inb_S520x1024_S8x1024_0_0, k0_pay2 (F := Ideal)⟩] 7 _ _ r l h).trans        (zero_rows arg11 _ ⟨r.val + 7, h⟩ l))
      (fun h => (ext_new arg11 _ _ _ 7 _ _ r l h (by omega)).trans (congrFun hc _))

/-- Block 0 of the first tile has what the recurrence needs, from zero rows. -/
theorem blockA0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) :
    BlockOf p b 0 0 (View.readAt (Elt Ideal) arg6.view (Rect.unit (s := S8x128x256) ![0, 0, 0] S1x128x256.size inb_S8x128x256_S1x128x256_0_0_0).toLoadRect (harg6.unread x4))
      (View.readAt (Elt Ideal) arg7.view (Rect.unit (s := S1x1024) ![0, 0] S1x128.size inb_S1x1024_S1x128_0_0).toLoadRect (harg7.unread x5))
      (View.readAt (Elt Ideal) arg8.view (Rect.unit (s := S1x1024) ![0, 0] S1x128.size inb_S1x1024_S1x128_0_0).toLoadRect (harg8.unread x6))
      (kernelRun0_A.sl.v124 (F := Ideal) c arg12) :=
  block_in I
    (fun k q => load_at arg6 harg6 x4 _ _ _ (ix3 0 k q) (ix3 0 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (0 : Fin 8).val + l.val, by have := l.isLt; show 128 * 0 + l.val < 1024; omega⟩) (fun a => by match a with | ⟨0, _⟩ => rfl | ⟨1, _⟩ => rfl))
    (fun l => load_at arg8 harg8 x6 _ _ _ (ix2 0 l) (ix2 0 ⟨128 * (0 : Fin 8).val + l.val, by have := l.isLt; show 128 * 0 + l.val < 1024; omega⟩) (fun a => by match a with | ⟨0, _⟩ => rfl | ⟨1, _⟩ => rfl))
    (fun l => zero_read arg12.view _ 0 inb_S1x1024_S1x128_0_0 l fun y hy => zero_base _ _ y)

/-- Block 1 of the first tile has what the recurrence needs, from zero rows. -/
theorem blockA1 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) :
    BlockOf p b 0 1 (View.readAt (Elt Ideal) arg6.view (Rect.unit (s := S8x128x256) ![1, 0, 0] S1x128x256.size inb_S8x128x256_S1x128x256_1_0_0).toLoadRect (harg6.unread x4))
      (View.readAt (Elt Ideal) arg7.view (Rect.unit (s := S1x1024) ![0, 128] S1x128.size inb_S1x1024_S1x128_0_128).toLoadRect (harg7.unread x5))
      (View.readAt (Elt Ideal) arg8.view (Rect.unit (s := S1x1024) ![0, 128] S1x128.size inb_S1x1024_S1x128_0_128).toLoadRect (harg8.unread x6))
      (kernelRun0_A.sl.v793 (F := Ideal) c arg2 harg2 arg3 harg3 arg4 harg4 arg5 harg5 arg6 harg6 arg7 harg7 arg8 harg8 arg9 harg9 arg11 arg12 x0 x1 x2 x3 x4 x5 x6 x7) :=
  block_in I
    (fun k q => load_at arg6 harg6 x4 _ _ _ (ix3 0 k q) (ix3 1 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (1 : Fin 8).val + l.val, by have := l.isLt; show 128 * 1 + l.val < 1024; omega⟩) (fun a => by match a with | ⟨0, _⟩ => rfl | ⟨1, _⟩ => rfl))
    (fun l => load_at arg8 harg8 x6 _ _ _ (ix2 0 l) (ix2 0 ⟨128 * (1 : Fin 8).val + l.val, by have := l.isLt; show 128 * 1 + l.val < 1024; omega⟩) (fun a => by match a with | ⟨0, _⟩ => rfl | ⟨1, _⟩ => rfl))
    (fun l => zero_read arg12.view _ 128 inb_S1x1024_S1x128_0_128 l fun y hy => zero_cons _ _ y 0 _ _ (by omega) (zero_base _ _ y))

/-- Block 2 of the first tile has what the recurrence needs, from zero rows. -/
theorem blockA2 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) :
    BlockOf p b 0 2 (View.readAt (Elt Ideal) arg6.view (Rect.unit (s := S8x128x256) ![2, 0, 0] S1x128x256.size inb_S8x128x256_S1x128x256_2_0_0).toLoadRect (harg6.unread x4))
      (View.readAt (Elt Ideal) arg7.view (Rect.unit (s := S1x1024) ![0, 256] S1x128.size inb_S1x1024_S1x128_0_256).toLoadRect (harg7.unread x5))
      (View.readAt (Elt Ideal) arg8.view (Rect.unit (s := S1x1024) ![0, 256] S1x128.size inb_S1x1024_S1x128_0_256).toLoadRect (harg8.unread x6))
      (kernelRun0_A.sl.v1462 (F := Ideal) c arg2 harg2 arg3 harg3 arg4 harg4 arg5 harg5 arg6 harg6 arg7 harg7 arg8 harg8 arg9 harg9 arg11 arg12 x0 x1 x2 x3 x4 x5 x6 x7) :=
  block_in I
    (fun k q => load_at arg6 harg6 x4 _ _ _ (ix3 0 k q) (ix3 2 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (2 : Fin 8).val + l.val, by have := l.isLt; show 128 * 2 + l.val < 1024; omega⟩) (fun a => by match a with | ⟨0, _⟩ => rfl | ⟨1, _⟩ => rfl))
    (fun l => load_at arg8 harg8 x6 _ _ _ (ix2 0 l) (ix2 0 ⟨128 * (2 : Fin 8).val + l.val, by have := l.isLt; show 128 * 2 + l.val < 1024; omega⟩) (fun a => by match a with | ⟨0, _⟩ => rfl | ⟨1, _⟩ => rfl))
    (fun l => zero_read arg12.view _ 256 inb_S1x1024_S1x128_0_256 l fun y hy => zero_cons _ _ y 128 _ _ (by omega) (zero_cons _ _ y 0 _ _ (by omega) (zero_base _ _ y)))

/-- Block 3 of the first tile has what the recurrence needs, from zero rows. -/
theorem blockA3 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) :
    BlockOf p b 0 3 (View.readAt (Elt Ideal) arg6.view (Rect.unit (s := S8x128x256) ![3, 0, 0] S1x128x256.size inb_S8x128x256_S1x128x256_3_0_0).toLoadRect (harg6.unread x4))
      (View.readAt (Elt Ideal) arg7.view (Rect.unit (s := S1x1024) ![0, 384] S1x128.size inb_S1x1024_S1x128_0_384).toLoadRect (harg7.unread x5))
      (View.readAt (Elt Ideal) arg8.view (Rect.unit (s := S1x1024) ![0, 384] S1x128.size inb_S1x1024_S1x128_0_384).toLoadRect (harg8.unread x6))
      (kernelRun0_A.sl.v2131 (F := Ideal) c arg2 harg2 arg3 harg3 arg4 harg4 arg5 harg5 arg6 harg6 arg7 harg7 arg8 harg8 arg9 harg9 arg11 arg12 x0 x1 x2 x3 x4 x5 x6 x7) :=
  block_in I
    (fun k q => load_at arg6 harg6 x4 _ _ _ (ix3 0 k q) (ix3 3 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (3 : Fin 8).val + l.val, by have := l.isLt; show 128 * 3 + l.val < 1024; omega⟩) (fun a => by match a with | ⟨0, _⟩ => rfl | ⟨1, _⟩ => rfl))
    (fun l => load_at arg8 harg8 x6 _ _ _ (ix2 0 l) (ix2 0 ⟨128 * (3 : Fin 8).val + l.val, by have := l.isLt; show 128 * 3 + l.val < 1024; omega⟩) (fun a => by match a with | ⟨0, _⟩ => rfl | ⟨1, _⟩ => rfl))
    (fun l => zero_read arg12.view _ 384 inb_S1x1024_S1x128_0_384 l fun y hy => zero_cons _ _ y 256 _ _ (by omega) (zero_cons _ _ y 128 _ _ (by omega) (zero_cons _ _ y 0 _ _ (by omega) (zero_base _ _ y))))

/-- Block 4 of the first tile has what the recurrence needs, from zero rows. -/
theorem blockA4 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) :
    BlockOf p b 0 4 (View.readAt (Elt Ideal) arg6.view (Rect.unit (s := S8x128x256) ![4, 0, 0] S1x128x256.size inb_S8x128x256_S1x128x256_4_0_0).toLoadRect (harg6.unread x4))
      (View.readAt (Elt Ideal) arg7.view (Rect.unit (s := S1x1024) ![0, 512] S1x128.size inb_S1x1024_S1x128_0_512).toLoadRect (harg7.unread x5))
      (View.readAt (Elt Ideal) arg8.view (Rect.unit (s := S1x1024) ![0, 512] S1x128.size inb_S1x1024_S1x128_0_512).toLoadRect (harg8.unread x6))
      (kernelRun0_A.sl.v2800 (F := Ideal) c arg2 harg2 arg3 harg3 arg4 harg4 arg5 harg5 arg6 harg6 arg7 harg7 arg8 harg8 arg9 harg9 arg11 arg12 x0 x1 x2 x3 x4 x5 x6 x7) :=
  block_in I
    (fun k q => load_at arg6 harg6 x4 _ _ _ (ix3 0 k q) (ix3 4 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (4 : Fin 8).val + l.val, by have := l.isLt; show 128 * 4 + l.val < 1024; omega⟩) (fun a => by match a with | ⟨0, _⟩ => rfl | ⟨1, _⟩ => rfl))
    (fun l => load_at arg8 harg8 x6 _ _ _ (ix2 0 l) (ix2 0 ⟨128 * (4 : Fin 8).val + l.val, by have := l.isLt; show 128 * 4 + l.val < 1024; omega⟩) (fun a => by match a with | ⟨0, _⟩ => rfl | ⟨1, _⟩ => rfl))
    (fun l => zero_read arg12.view _ 512 inb_S1x1024_S1x128_0_512 l fun y hy => zero_cons _ _ y 384 _ _ (by omega) (zero_cons _ _ y 256 _ _ (by omega) (zero_cons _ _ y 128 _ _ (by omega) (zero_cons _ _ y 0 _ _ (by omega) (zero_base _ _ y)))))

/-- Block 5 of the first tile has what the recurrence needs, from zero rows. -/
theorem blockA5 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) :
    BlockOf p b 0 5 (View.readAt (Elt Ideal) arg6.view (Rect.unit (s := S8x128x256) ![5, 0, 0] S1x128x256.size inb_S8x128x256_S1x128x256_5_0_0).toLoadRect (harg6.unread x4))
      (View.readAt (Elt Ideal) arg7.view (Rect.unit (s := S1x1024) ![0, 640] S1x128.size inb_S1x1024_S1x128_0_640).toLoadRect (harg7.unread x5))
      (View.readAt (Elt Ideal) arg8.view (Rect.unit (s := S1x1024) ![0, 640] S1x128.size inb_S1x1024_S1x128_0_640).toLoadRect (harg8.unread x6))
      (kernelRun0_A.sl.v3469 (F := Ideal) c arg2 harg2 arg3 harg3 arg4 harg4 arg5 harg5 arg6 harg6 arg7 harg7 arg8 harg8 arg9 harg9 arg11 arg12 x0 x1 x2 x3 x4 x5 x6 x7) :=
  block_in I
    (fun k q => load_at arg6 harg6 x4 _ _ _ (ix3 0 k q) (ix3 5 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (5 : Fin 8).val + l.val, by have := l.isLt; show 128 * 5 + l.val < 1024; omega⟩) (fun a => by match a with | ⟨0, _⟩ => rfl | ⟨1, _⟩ => rfl))
    (fun l => load_at arg8 harg8 x6 _ _ _ (ix2 0 l) (ix2 0 ⟨128 * (5 : Fin 8).val + l.val, by have := l.isLt; show 128 * 5 + l.val < 1024; omega⟩) (fun a => by match a with | ⟨0, _⟩ => rfl | ⟨1, _⟩ => rfl))
    (fun l => zero_read arg12.view _ 640 inb_S1x1024_S1x128_0_640 l fun y hy => zero_cons _ _ y 512 _ _ (by omega) (zero_cons _ _ y 384 _ _ (by omega) (zero_cons _ _ y 256 _ _ (by omega) (zero_cons _ _ y 128 _ _ (by omega) (zero_cons _ _ y 0 _ _ (by omega) (zero_base _ _ y))))))

/-- Block 6 of the first tile has what the recurrence needs, from zero rows. -/
theorem blockA6 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) :
    BlockOf p b 0 6 (View.readAt (Elt Ideal) arg6.view (Rect.unit (s := S8x128x256) ![6, 0, 0] S1x128x256.size inb_S8x128x256_S1x128x256_6_0_0).toLoadRect (harg6.unread x4))
      (View.readAt (Elt Ideal) arg7.view (Rect.unit (s := S1x1024) ![0, 768] S1x128.size inb_S1x1024_S1x128_0_768).toLoadRect (harg7.unread x5))
      (View.readAt (Elt Ideal) arg8.view (Rect.unit (s := S1x1024) ![0, 768] S1x128.size inb_S1x1024_S1x128_0_768).toLoadRect (harg8.unread x6))
      (kernelRun0_A.sl.v4138 (F := Ideal) c arg2 harg2 arg3 harg3 arg4 harg4 arg5 harg5 arg6 harg6 arg7 harg7 arg8 harg8 arg9 harg9 arg11 arg12 x0 x1 x2 x3 x4 x5 x6 x7) :=
  block_in I
    (fun k q => load_at arg6 harg6 x4 _ _ _ (ix3 0 k q) (ix3 6 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (6 : Fin 8).val + l.val, by have := l.isLt; show 128 * 6 + l.val < 1024; omega⟩) (fun a => by match a with | ⟨0, _⟩ => rfl | ⟨1, _⟩ => rfl))
    (fun l => load_at arg8 harg8 x6 _ _ _ (ix2 0 l) (ix2 0 ⟨128 * (6 : Fin 8).val + l.val, by have := l.isLt; show 128 * 6 + l.val < 1024; omega⟩) (fun a => by match a with | ⟨0, _⟩ => rfl | ⟨1, _⟩ => rfl))
    (fun l => zero_read arg12.view _ 768 inb_S1x1024_S1x128_0_768 l fun y hy => zero_cons _ _ y 640 _ _ (by omega) (zero_cons _ _ y 512 _ _ (by omega) (zero_cons _ _ y 384 _ _ (by omega) (zero_cons _ _ y 256 _ _ (by omega) (zero_cons _ _ y 128 _ _ (by omega) (zero_cons _ _ y 0 _ _ (by omega) (zero_base _ _ y)))))))

/-- Block 7 of the first tile has what the recurrence needs, from zero rows. -/
theorem blockA7 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) :
    BlockOf p b 0 7 (View.readAt (Elt Ideal) arg6.view (Rect.unit (s := S8x128x256) ![7, 0, 0] S1x128x256.size inb_S8x128x256_S1x128x256_7_0_0).toLoadRect (harg6.unread x4))
      (View.readAt (Elt Ideal) arg7.view (Rect.unit (s := S1x1024) ![0, 896] S1x128.size inb_S1x1024_S1x128_0_896).toLoadRect (harg7.unread x5))
      (View.readAt (Elt Ideal) arg8.view (Rect.unit (s := S1x1024) ![0, 896] S1x128.size inb_S1x1024_S1x128_0_896).toLoadRect (harg8.unread x6))
      (kernelRun0_A.sl.v4807 (F := Ideal) c arg2 harg2 arg3 harg3 arg4 harg4 arg5 harg5 arg6 harg6 arg7 harg7 arg8 harg8 arg9 harg9 arg11 arg12 x0 x1 x2 x3 x4 x5 x6 x7) :=
  block_in I
    (fun k q => load_at arg6 harg6 x4 _ _ _ (ix3 0 k q) (ix3 7 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (7 : Fin 8).val + l.val, by have := l.isLt; show 128 * 7 + l.val < 1024; omega⟩) (fun a => by match a with | ⟨0, _⟩ => rfl | ⟨1, _⟩ => rfl))
    (fun l => load_at arg8 harg8 x6 _ _ _ (ix2 0 l) (ix2 0 ⟨128 * (7 : Fin 8).val + l.val, by have := l.isLt; show 128 * 7 + l.val < 1024; omega⟩) (fun a => by match a with | ⟨0, _⟩ => rfl | ⟨1, _⟩ => rfl))
    (fun l => zero_read arg12.view _ 896 inb_S1x1024_S1x128_0_896 l fun y hy => zero_cons _ _ y 768 _ _ (by omega) (zero_cons _ _ y 640 _ _ (by omega) (zero_cons _ _ y 512 _ _ (by omega) (zero_cons _ _ y 384 _ _ (by omega) (zero_cons _ _ y 256 _ _ (by omega) (zero_cons _ _ y 128 _ _ (by omega) (zero_cons _ _ y 0 _ _ (by omega) (zero_base _ _ y))))))))

/-- The first points' output is the branch's result. -/
theorem outA_at (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) (r : Fin 512) (l : Fin 1024) :
    out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix3 0 r l) = p.out b (512 * 0 + r.val) l := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  refine View.canon_eq_of_allAt _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7 _) ?_
  rw [outA_pieces c i arg2 harg2 arg3 harg3 arg4 harg4 arg5 harg5 arg6 harg6 arg7 harg7 arg8 harg8 arg9 harg9 arg10 harg10 arg11 harg11 arg12 harg12 hc0 x0 x1 x2 x3 x4 x5 x6 x7 _ rfl _ rfl _ rfl]
  have T := tileA c i arg2 harg2 arg3 harg3 arg4 harg4 arg5 harg5 arg6 harg6 arg7 harg7 arg8 harg8 arg9 harg9 arg10 harg10 arg11 harg11 arg12 harg12 hc0 x0 x1 x2 x3 x4 x5 x6 x7 p b I
  refine View.allAt_cons_unit _ _ _ _ _ (out_tile (n := 7) T (blockA7 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ _ r l) ?_
  refine View.allAt_cons_unit _ _ _ _ _ (out_tile (n := 6) T (blockA6 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ _ r l) ?_
  refine View.allAt_cons_unit _ _ _ _ _ (out_tile (n := 5) T (blockA5 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ _ r l) ?_
  refine View.allAt_cons_unit _ _ _ _ _ (out_tile (n := 4) T (blockA4 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ _ r l) ?_
  refine View.allAt_cons_unit _ _ _ _ _ (out_tile (n := 3) T (blockA3 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ _ r l) ?_
  refine View.allAt_cons_unit _ _ _ _ _ (out_tile (n := 2) T (blockA2 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ _ r l) ?_
  refine View.allAt_cons_unit _ _ _ _ _ (out_tile (n := 1) T (blockA1 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ _ r l) ?_
  refine View.allAt_cons_unit _ _ _ _ _ (out_tile (n := 0) T (blockA0 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ _ r l) ?_
  exact View.allAt_nil _ _

/-- The state the first points leave is the branch's state after the tile. -/
theorem stA_at (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) (l : Fin 1024) :
    sout0_A_1 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix2 0 l) = p.h b l (512 * (0 + 1)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6 x7)]
  rw [stA_pieces c i arg2 harg2 arg3 harg3 arg4 harg4 arg5 harg5 arg6 harg6 arg7 harg7 arg8 harg8 arg9 harg9 arg10 harg10 arg11 harg11 arg12 harg12 hc0 x0 x1 x2 x3 x4 x5 x6 x7 _ rfl _ rfl _ rfl]
  have T := tileA c i arg2 harg2 arg3 harg3 arg4 harg4 arg5 harg5 arg6 harg6 arg7 harg7 arg8 harg8 arg9 harg9 arg10 harg10 arg11 harg11 arg12 harg12 hc0 x0 x1 x2 x3 x4 x5 x6 x7 p b I
  refine canon_here 896 inb_S1x1024_S1x128_0_896 _ _ l _ (st_tile (n := 7) T (blockA7 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ l) (fun hl7 => ?_)
  refine canon_here 768 inb_S1x1024_S1x128_0_768 _ _ l _ (st_tile (n := 6) T (blockA6 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ l) (fun hl6 => ?_)
  refine canon_here 640 inb_S1x1024_S1x128_0_640 _ _ l _ (st_tile (n := 5) T (blockA5 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ l) (fun hl5 => ?_)
  refine canon_here 512 inb_S1x1024_S1x128_0_512 _ _ l _ (st_tile (n := 4) T (blockA4 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ l) (fun hl4 => ?_)
  refine canon_here 384 inb_S1x1024_S1x128_0_384 _ _ l _ (st_tile (n := 3) T (blockA3 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ l) (fun hl3 => ?_)
  refine canon_here 256 inb_S1x1024_S1x128_0_256 _ _ l _ (st_tile (n := 2) T (blockA2 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ l) (fun hl2 => ?_)
  refine canon_here 128 inb_S1x1024_S1x128_0_128 _ _ l _ (st_tile (n := 1) T (blockA1 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ l) (fun hl1 => ?_)
  refine canon_here 0 inb_S1x1024_S1x128_0_0 _ _ l _ (st_tile (n := 0) T (blockA0 c i arg2 harg2 arg3 harg3 arg4 harg4 arg5 harg5 arg6 harg6 arg7 harg7 arg8 harg8 arg9 harg9 arg10 harg10 arg11 harg11 arg12 harg12 hc0 x0 x1 x2 x3 x4 x5 x6 x7 p b I) _ _ l) (fun hl0 => ?_)
  omega

/-- The rows the first points carry are the last 8 rows of the tile's projection. -/
theorem extA_at (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2)
    (I : InOf p b 0 x0 x1 x2 x3 x4 x5 x6 x7) :
    ExtOf p b (0 + 1) fun q l => sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 (ix2 ⟨q.val, by omega⟩ l) := by
  intro q l
  have l0 := load_all arg2 harg2 x0 ![0, 0, 0] inb_S1x512x1024_S1x512x1024_0_0_0 (by decide)
  have l1 := load_all arg3 harg3 x1 ![0, 0] inb_S1024x2048_S1024x2048_0_0 (by decide)
  refine Eq.trans ?_ (keep_in (by omega) I q l)
  unfold sout0_A_0
  rw [extA_pieces c i arg2 harg2 arg3 harg3 arg4 harg4 arg5 harg5 arg6 harg6 arg7 harg7 arg8 harg8 arg9 harg9 arg10 harg10 arg11 harg11 arg12 harg12 hc0 x0 x1 x2 x3 x4 x5 x6 x7]
  refine (View.read_writes_cons_unit_of_mem (s := S520x1024) VS0_0 _ inb_S520x1024_S8x1024_0_0 _ _ _ (ix2 q l) rfl fun a => ?_).trans ?_
  · match a with
    | ⟨0, _⟩ => exact (Nat.zero_add _).symm
    | ⟨1, _⟩ => exact (Nat.zero_add _).symm
  · exact congrFun (congrArg k0_pay8 (congr (congrArg k0_pay5 l0) l1)) _

end Cert.LruProof
-- ==== Proof.LruCaseB.lean ====
module

public import proofs.«01_k».proof.Proof.LruLoads
public import Idealize.ShloMosaic.Lib.WritesUnit
public import Idealize.ShloMosaic.Lib.Pipeline.ValueKit
public import Idealize.ShloMosaic.Lib.Pointwise

@[expose] public section

set_option maxHeartbeats 1000000
set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.LruProof

open Cert.LruKernelIdeal Cert.LruKernelIdeal.Gen

/-- The tile a point computes (later points). -/
theorem tileB (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) (E : ExtOf p b j fun q l => xs0 (ix2 ⟨q.val, by omega⟩ l)) (S : ∀ l : Fin 1024, xs1 (ix2 0 l) = p.h b l (512 * j)) :
    TileOf p b j (k0_pay4 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)))
      (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) (View.readAt (Elt Ideal) arg4.view (Rect.unit (s := S4x1024) ![0, 0] S4x1024.size inb_S4x1024_S4x1024_0_0).toLoadRect (harg4.unread x2)) (View.readAt (Elt Ideal) arg5.view (Rect.unit (s := S1x1024) ![0, 0] S1x1024.size inb_S1x1024_S1x1024_0_0).toLoadRect (harg5.unread x3))
      (View.readAt (Elt Ideal) arg11.view (Rect.unit (s := S520x1024) ![5, 0] S512x1024.size inb_S520x1024_S512x1024_5_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩]))
      (View.readAt (Elt Ideal) arg11.view (Rect.unit (s := S520x1024) ![6, 0] S512x1024.size inb_S520x1024_S512x1024_6_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩]))
      (View.readAt (Elt Ideal) arg11.view (Rect.unit (s := S520x1024) ![7, 0] S512x1024.size inb_S520x1024_S512x1024_7_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩])))
      (k0_pay10 (View.readAt (Elt Ideal) arg9.view (Rect.unit (s := S1x1024) ![0, 0] S1x1024.size inb_S1x1024_S1x1024_0_0).toLoadRect (harg9.unread x7))) := by
  have l0 := load_all arg2 harg2 x0 ![0, 0, 0] inb_S1x512x1024_S1x512x1024_0_0_0 (by decide)
  have l1 := load_all arg3 harg3 x1 ![0, 0] inb_S1024x2048_S1024x2048_0_0 (by decide)
  have l2 := load_all arg4 harg4 x2 ![0, 0] inb_S4x1024_S4x1024_0_0 (by decide)
  have l3 := load_all arg5 harg5 x3 ![0, 0] inb_S1x1024_S1x1024_0_0 (by decide)
  have l7 := load_all arg9 harg9 x7 ![0, 0] inb_S1x1024_S1x1024_0_0 (by decide)
  refine (congr (congr (congrArg (TileOf p b j) ?_) ?_) ?_).mpr (tile_in hj I
    (View.readAt (Elt Ideal) arg11.view (Rect.unit (s := S520x1024) ![5, 0] S512x1024.size inb_S520x1024_S512x1024_5_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩]))
    (View.readAt (Elt Ideal) arg11.view (Rect.unit (s := S520x1024) ![6, 0] S512x1024.size inb_S520x1024_S512x1024_6_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩]))
    (View.readAt (Elt Ideal) arg11.view (Rect.unit (s := S520x1024) ![7, 0] S512x1024.size inb_S520x1024_S512x1024_7_0).toLoadRect (arg11.view.writes (Elt Ideal) (harg11.unread xs0) [⟨Rect.unit (s := S520x1024) ![8, 0] S512x1024.size inb_S520x1024_S512x1024_8_0, k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1))⟩])) ?_ ?_ ?_)
  · exact congr (congrArg k0_pay4 l0) l1
  · exact congr (congr (congr (congr (congr (congr (congrArg k0_pay7 l0) l1) l2) l3) rfl) rfl) rfl
  · exact congrArg k0_pay10 l7
  · have hc : k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) = k0_pay6 x0 x1 := congr (congrArg k0_pay6 l0) l1
    exact fun r l => ext_row hj I (fun q l => xs0 (ix2 ⟨q.val, by omega⟩ l)) E _ 5 (by omega) r l
      (fun h => (ext_old arg11 _ _ [] 5 _ _ r l h).trans (congrFun (harg11.read_unread xs0) _))
      (fun h => (ext_new arg11 _ _ _ 5 _ _ r l h (by omega)).trans (congrFun hc _))
  · have hc : k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) = k0_pay6 x0 x1 := congr (congrArg k0_pay6 l0) l1
    exact fun r l => ext_row hj I (fun q l => xs0 (ix2 ⟨q.val, by omega⟩ l)) E _ 6 (by omega) r l
      (fun h => (ext_old arg11 _ _ [] 6 _ _ r l h).trans (congrFun (harg11.read_unread xs0) _))
      (fun h => (ext_new arg11 _ _ _ 6 _ _ r l h (by omega)).trans (congrFun hc _))
  · have hc : k0_pay6 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1024x2048) ![0, 0] S1024x2048.size inb_S1024x2048_S1024x2048_0_0).toLoadRect (harg3.unread x1)) = k0_pay6 x0 x1 := congr (congrArg k0_pay6 l0) l1
    exact fun r l => ext_row hj I (fun q l => xs0 (ix2 ⟨q.val, by omega⟩ l)) E _ 7 (by omega) r l
      (fun h => (ext_old arg11 _ _ [] 7 _ _ r l h).trans (congrFun (harg11.read_unread xs0) _))
      (fun h => (ext_new arg11 _ _ _ 7 _ _ r l h (by omega)).trans (congrFun hc _))

/-- Block 0 of a later tile has what the recurrence needs, from the carried rows. -/
theorem blockB0 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) (E : ExtOf p b j fun q l => xs0 (ix2 ⟨q.val, by omega⟩ l)) (S : ∀ l : Fin 1024, xs1 (ix2 0 l) = p.h b l (512 * j)) :
    BlockOf p b j 0 (View.readAt (Elt Ideal) arg6.view (Rect.unit (s := S8x128x256) ![0, 0, 0] S1x128x256.size inb_S8x128x256_S1x128x256_0_0_0).toLoadRect (harg6.unread x4))
      (View.readAt (Elt Ideal) arg7.view (Rect.unit (s := S1x1024) ![0, 0] S1x128.size inb_S1x1024_S1x128_0_0).toLoadRect (harg7.unread x5))
      (View.readAt (Elt Ideal) arg8.view (Rect.unit (s := S1x1024) ![0, 0] S1x128.size inb_S1x1024_S1x128_0_0).toLoadRect (harg8.unread x6))
      (View.readAt (Elt Ideal) arg12.view (Rect.unit (s := S1x1024) ![0, 0] S1x128.size inb_S1x1024_S1x128_0_0).toLoadRect (harg12.unread xs1)) :=
  block_in I
    (fun k q => load_at arg6 harg6 x4 _ _ _ (ix3 0 k q) (ix3 0 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (0 : Fin 8).val + l.val, by have := l.isLt; show 128 * 0 + l.val < 1024; omega⟩) (fun a => by match a with | ⟨0, _⟩ => rfl | ⟨1, _⟩ => rfl))
    (fun l => load_at arg8 harg8 x6 _ _ _ (ix2 0 l) (ix2 0 ⟨128 * (0 : Fin 8).val + l.val, by have := l.isLt; show 128 * 0 + l.val < 1024; omega⟩) (fun a => by match a with | ⟨0, _⟩ => rfl | ⟨1, _⟩ => rfl))
    (fun l => (load_at arg12 harg12 xs1 _ _ _ (ix2 0 l) (ix2 0 ⟨128 * (0 : Fin 8).val + l.val, by have := l.isLt; show 128 * 0 + l.val < 1024; omega⟩) (fun a => by match a with | ⟨0, _⟩ => rfl | ⟨1, _⟩ => rfl)).trans (S _))

/-- Block 1 of a later tile has what the recurrence needs, from the carried rows. -/
theorem blockB1 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) (E : ExtOf p b j fun q l => xs0 (ix2 ⟨q.val, by omega⟩ l)) (S : ∀ l : Fin 1024, xs1 (ix2 0 l) = p.h b l (512 * j)) :
    BlockOf p b j 1 (View.readAt (Elt Ideal) arg6.view (Rect.unit (s := S8x128x256) ![1, 0, 0] S1x128x256.size inb_S8x128x256_S1x128x256_1_0_0).toLoadRect (harg6.unread x4))
      (View.readAt (Elt Ideal) arg7.view (Rect.unit (s := S1x1024) ![0, 128] S1x128.size inb_S1x1024_S1x128_0_128).toLoadRect (harg7.unread x5))
      (View.readAt (Elt Ideal) arg8.view (Rect.unit (s := S1x1024) ![0, 128] S1x128.size inb_S1x1024_S1x128_0_128).toLoadRect (harg8.unread x6))
      (View.readAt (Elt Ideal) arg12.view (Rect.unit (s := S1x1024) ![0, 128] S1x128.size inb_S1x1024_S1x128_0_128).toLoadRect (harg12.unread xs1)) :=
  block_in I
    (fun k q => load_at arg6 harg6 x4 _ _ _ (ix3 0 k q) (ix3 1 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (1 : Fin 8).val + l.val, by have := l.isLt; show 128 * 1 + l.val < 1024; omega⟩) (fun a => by match a with | ⟨0, _⟩ => rfl | ⟨1, _⟩ => rfl))
    (fun l => load_at arg8 harg8 x6 _ _ _ (ix2 0 l) (ix2 0 ⟨128 * (1 : Fin 8).val + l.val, by have := l.isLt; show 128 * 1 + l.val < 1024; omega⟩) (fun a => by match a with | ⟨0, _⟩ => rfl | ⟨1, _⟩ => rfl))
    (fun l => (load_at arg12 harg12 xs1 _ _ _ (ix2 0 l) (ix2 0 ⟨128 * (1 : Fin 8).val + l.val, by have := l.isLt; show 128 * 1 + l.val < 1024; omega⟩) (fun a => by match a with | ⟨0, _⟩ => rfl | ⟨1, _⟩ => rfl)).trans (S _))

/-- Block 2 of a later tile has what the recurrence needs, from the carried rows. -/
theorem blockB2 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) (E : ExtOf p b j fun q l => xs0 (ix2 ⟨q.val, by omega⟩ l)) (S : ∀ l : Fin 1024, xs1 (ix2 0 l) = p.h b l (512 * j)) :
    BlockOf p b j 2 (View.readAt (Elt Ideal) arg6.view (Rect.unit (s := S8x128x256) ![2, 0, 0] S1x128x256.size inb_S8x128x256_S1x128x256_2_0_0).toLoadRect (harg6.unread x4))
      (View.readAt (Elt Ideal) arg7.view (Rect.unit (s := S1x1024) ![0, 256] S1x128.size inb_S1x1024_S1x128_0_256).toLoadRect (harg7.unread x5))
      (View.readAt (Elt Ideal) arg8.view (Rect.unit (s := S1x1024) ![0, 256] S1x128.size inb_S1x1024_S1x128_0_256).toLoadRect (harg8.unread x6))
      (View.readAt (Elt Ideal) arg12.view (Rect.unit (s := S1x1024) ![0, 256] S1x128.size inb_S1x1024_S1x128_0_256).toLoadRect (harg12.unread xs1)) :=
  block_in I
    (fun k q => load_at arg6 harg6 x4 _ _ _ (ix3 0 k q) (ix3 2 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (2 : Fin 8).val + l.val, by have := l.isLt; show 128 * 2 + l.val < 1024; omega⟩) (fun a => by match a with | ⟨0, _⟩ => rfl | ⟨1, _⟩ => rfl))
    (fun l => load_at arg8 harg8 x6 _ _ _ (ix2 0 l) (ix2 0 ⟨128 * (2 : Fin 8).val + l.val, by have := l.isLt; show 128 * 2 + l.val < 1024; omega⟩) (fun a => by match a with | ⟨0, _⟩ => rfl | ⟨1, _⟩ => rfl))
    (fun l => (load_at arg12 harg12 xs1 _ _ _ (ix2 0 l) (ix2 0 ⟨128 * (2 : Fin 8).val + l.val, by have := l.isLt; show 128 * 2 + l.val < 1024; omega⟩) (fun a => by match a with | ⟨0, _⟩ => rfl | ⟨1, _⟩ => rfl)).trans (S _))

/-- Block 3 of a later tile has what the recurrence needs, from the carried rows. -/
theorem blockB3 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) (E : ExtOf p b j fun q l => xs0 (ix2 ⟨q.val, by omega⟩ l)) (S : ∀ l : Fin 1024, xs1 (ix2 0 l) = p.h b l (512 * j)) :
    BlockOf p b j 3 (View.readAt (Elt Ideal) arg6.view (Rect.unit (s := S8x128x256) ![3, 0, 0] S1x128x256.size inb_S8x128x256_S1x128x256_3_0_0).toLoadRect (harg6.unread x4))
      (View.readAt (Elt Ideal) arg7.view (Rect.unit (s := S1x1024) ![0, 384] S1x128.size inb_S1x1024_S1x128_0_384).toLoadRect (harg7.unread x5))
      (View.readAt (Elt Ideal) arg8.view (Rect.unit (s := S1x1024) ![0, 384] S1x128.size inb_S1x1024_S1x128_0_384).toLoadRect (harg8.unread x6))
      (View.readAt (Elt Ideal) arg12.view (Rect.unit (s := S1x1024) ![0, 384] S1x128.size inb_S1x1024_S1x128_0_384).toLoadRect (harg12.unread xs1)) :=
  block_in I
    (fun k q => load_at arg6 harg6 x4 _ _ _ (ix3 0 k q) (ix3 3 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (3 : Fin 8).val + l.val, by have := l.isLt; show 128 * 3 + l.val < 1024; omega⟩) (fun a => by match a with | ⟨0, _⟩ => rfl | ⟨1, _⟩ => rfl))
    (fun l => load_at arg8 harg8 x6 _ _ _ (ix2 0 l) (ix2 0 ⟨128 * (3 : Fin 8).val + l.val, by have := l.isLt; show 128 * 3 + l.val < 1024; omega⟩) (fun a => by match a with | ⟨0, _⟩ => rfl | ⟨1, _⟩ => rfl))
    (fun l => (load_at arg12 harg12 xs1 _ _ _ (ix2 0 l) (ix2 0 ⟨128 * (3 : Fin 8).val + l.val, by have := l.isLt; show 128 * 3 + l.val < 1024; omega⟩) (fun a => by match a with | ⟨0, _⟩ => rfl | ⟨1, _⟩ => rfl)).trans (S _))

/-- Block 4 of a later tile has what the recurrence needs, from the carried rows. -/
theorem blockB4 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) (E : ExtOf p b j fun q l => xs0 (ix2 ⟨q.val, by omega⟩ l)) (S : ∀ l : Fin 1024, xs1 (ix2 0 l) = p.h b l (512 * j)) :
    BlockOf p b j 4 (View.readAt (Elt Ideal) arg6.view (Rect.unit (s := S8x128x256) ![4, 0, 0] S1x128x256.size inb_S8x128x256_S1x128x256_4_0_0).toLoadRect (harg6.unread x4))
      (View.readAt (Elt Ideal) arg7.view (Rect.unit (s := S1x1024) ![0, 512] S1x128.size inb_S1x1024_S1x128_0_512).toLoadRect (harg7.unread x5))
      (View.readAt (Elt Ideal) arg8.view (Rect.unit (s := S1x1024) ![0, 512] S1x128.size inb_S1x1024_S1x128_0_512).toLoadRect (harg8.unread x6))
      (View.readAt (Elt Ideal) arg12.view (Rect.unit (s := S1x1024) ![0, 512] S1x128.size inb_S1x1024_S1x128_0_512).toLoadRect (harg12.unread xs1)) :=
  block_in I
    (fun k q => load_at arg6 harg6 x4 _ _ _ (ix3 0 k q) (ix3 4 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (4 : Fin 8).val + l.val, by have := l.isLt; show 128 * 4 + l.val < 1024; omega⟩) (fun a => by match a with | ⟨0, _⟩ => rfl | ⟨1, _⟩ => rfl))
    (fun l => load_at arg8 harg8 x6 _ _ _ (ix2 0 l) (ix2 0 ⟨128 * (4 : Fin 8).val + l.val, by have := l.isLt; show 128 * 4 + l.val < 1024; omega⟩) (fun a => by match a with | ⟨0, _⟩ => rfl | ⟨1, _⟩ => rfl))
    (fun l => (load_at arg12 harg12 xs1 _ _ _ (ix2 0 l) (ix2 0 ⟨128 * (4 : Fin 8).val + l.val, by have := l.isLt; show 128 * 4 + l.val < 1024; omega⟩) (fun a => by match a with | ⟨0, _⟩ => rfl | ⟨1, _⟩ => rfl)).trans (S _))

/-- Block 5 of a later tile has what the recurrence needs, from the carried rows. -/
theorem blockB5 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) (E : ExtOf p b j fun q l => xs0 (ix2 ⟨q.val, by omega⟩ l)) (S : ∀ l : Fin 1024, xs1 (ix2 0 l) = p.h b l (512 * j)) :
    BlockOf p b j 5 (View.readAt (Elt Ideal) arg6.view (Rect.unit (s := S8x128x256) ![5, 0, 0] S1x128x256.size inb_S8x128x256_S1x128x256_5_0_0).toLoadRect (harg6.unread x4))
      (View.readAt (Elt Ideal) arg7.view (Rect.unit (s := S1x1024) ![0, 640] S1x128.size inb_S1x1024_S1x128_0_640).toLoadRect (harg7.unread x5))
      (View.readAt (Elt Ideal) arg8.view (Rect.unit (s := S1x1024) ![0, 640] S1x128.size inb_S1x1024_S1x128_0_640).toLoadRect (harg8.unread x6))
      (View.readAt (Elt Ideal) arg12.view (Rect.unit (s := S1x1024) ![0, 640] S1x128.size inb_S1x1024_S1x128_0_640).toLoadRect (harg12.unread xs1)) :=
  block_in I
    (fun k q => load_at arg6 harg6 x4 _ _ _ (ix3 0 k q) (ix3 5 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (5 : Fin 8).val + l.val, by have := l.isLt; show 128 * 5 + l.val < 1024; omega⟩) (fun a => by match a with | ⟨0, _⟩ => rfl | ⟨1, _⟩ => rfl))
    (fun l => load_at arg8 harg8 x6 _ _ _ (ix2 0 l) (ix2 0 ⟨128 * (5 : Fin 8).val + l.val, by have := l.isLt; show 128 * 5 + l.val < 1024; omega⟩) (fun a => by match a with | ⟨0, _⟩ => rfl | ⟨1, _⟩ => rfl))
    (fun l => (load_at arg12 harg12 xs1 _ _ _ (ix2 0 l) (ix2 0 ⟨128 * (5 : Fin 8).val + l.val, by have := l.isLt; show 128 * 5 + l.val < 1024; omega⟩) (fun a => by match a with | ⟨0, _⟩ => rfl | ⟨1, _⟩ => rfl)).trans (S _))

/-- Block 6 of a later tile has what the recurrence needs, from the carried rows. -/
theorem blockB6 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) (E : ExtOf p b j fun q l => xs0 (ix2 ⟨q.val, by omega⟩ l)) (S : ∀ l : Fin 1024, xs1 (ix2 0 l) = p.h b l (512 * j)) :
    BlockOf p b j 6 (View.readAt (Elt Ideal) arg6.view (Rect.unit (s := S8x128x256) ![6, 0, 0] S1x128x256.size inb_S8x128x256_S1x128x256_6_0_0).toLoadRect (harg6.unread x4))
      (View.readAt (Elt Ideal) arg7.view (Rect.unit (s := S1x1024) ![0, 768] S1x128.size inb_S1x1024_S1x128_0_768).toLoadRect (harg7.unread x5))
      (View.readAt (Elt Ideal) arg8.view (Rect.unit (s := S1x1024) ![0, 768] S1x128.size inb_S1x1024_S1x128_0_768).toLoadRect (harg8.unread x6))
      (View.readAt (Elt Ideal) arg12.view (Rect.unit (s := S1x1024) ![0, 768] S1x128.size inb_S1x1024_S1x128_0_768).toLoadRect (harg12.unread xs1)) :=
  block_in I
    (fun k q => load_at arg6 harg6 x4 _ _ _ (ix3 0 k q) (ix3 6 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (6 : Fin 8).val + l.val, by have := l.isLt; show 128 * 6 + l.val < 1024; omega⟩) (fun a => by match a with | ⟨0, _⟩ => rfl | ⟨1, _⟩ => rfl))
    (fun l => load_at arg8 harg8 x6 _ _ _ (ix2 0 l) (ix2 0 ⟨128 * (6 : Fin 8).val + l.val, by have := l.isLt; show 128 * 6 + l.val < 1024; omega⟩) (fun a => by match a with | ⟨0, _⟩ => rfl | ⟨1, _⟩ => rfl))
    (fun l => (load_at arg12 harg12 xs1 _ _ _ (ix2 0 l) (ix2 0 ⟨128 * (6 : Fin 8).val + l.val, by have := l.isLt; show 128 * 6 + l.val < 1024; omega⟩) (fun a => by match a with | ⟨0, _⟩ => rfl | ⟨1, _⟩ => rfl)).trans (S _))

/-- Block 7 of a later tile has what the recurrence needs, from the carried rows. -/
theorem blockB7 (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) (E : ExtOf p b j fun q l => xs0 (ix2 ⟨q.val, by omega⟩ l)) (S : ∀ l : Fin 1024, xs1 (ix2 0 l) = p.h b l (512 * j)) :
    BlockOf p b j 7 (View.readAt (Elt Ideal) arg6.view (Rect.unit (s := S8x128x256) ![7, 0, 0] S1x128x256.size inb_S8x128x256_S1x128x256_7_0_0).toLoadRect (harg6.unread x4))
      (View.readAt (Elt Ideal) arg7.view (Rect.unit (s := S1x1024) ![0, 896] S1x128.size inb_S1x1024_S1x128_0_896).toLoadRect (harg7.unread x5))
      (View.readAt (Elt Ideal) arg8.view (Rect.unit (s := S1x1024) ![0, 896] S1x128.size inb_S1x1024_S1x128_0_896).toLoadRect (harg8.unread x6))
      (View.readAt (Elt Ideal) arg12.view (Rect.unit (s := S1x1024) ![0, 896] S1x128.size inb_S1x1024_S1x128_0_896).toLoadRect (harg12.unread xs1)) :=
  block_in I
    (fun k q => load_at arg6 harg6 x4 _ _ _ (ix3 0 k q) (ix3 7 k q) (fun a => by match a with | ⟨0, _⟩ => rfl | ⟨1, _⟩ => exact (Nat.zero_add _).symm | ⟨2, _⟩ => exact (Nat.zero_add _).symm))
    (fun l => load_at arg7 harg7 x5 _ _ _ (ix2 0 l) (ix2 0 ⟨128 * (7 : Fin 8).val + l.val, by have := l.isLt; show 128 * 7 + l.val < 1024; omega⟩) (fun a => by match a with | ⟨0, _⟩ => rfl | ⟨1, _⟩ => rfl))
    (fun l => load_at arg8 harg8 x6 _ _ _ (ix2 0 l) (ix2 0 ⟨128 * (7 : Fin 8).val + l.val, by have := l.isLt; show 128 * 7 + l.val < 1024; omega⟩) (fun a => by match a with | ⟨0, _⟩ => rfl | ⟨1, _⟩ => rfl))
    (fun l => (load_at arg12 harg12 xs1 _ _ _ (ix2 0 l) (ix2 0 ⟨128 * (7 : Fin 8).val + l.val, by have := l.isLt; show 128 * 7 + l.val < 1024; omega⟩) (fun a => by match a with | ⟨0, _⟩ => rfl | ⟨1, _⟩ => rfl)).trans (S _))

/-- The later points' output is the branch's result. -/
theorem outB_at (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) (E : ExtOf p b j fun q l => xs0 (ix2 ⟨q.val, by omega⟩ l)) (S : ∀ l : Fin 1024, xs1 (ix2 0 l) = p.h b l (512 * j)) (r : Fin 512) (l : Fin 1024) :
    out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 (ix3 0 r l) = p.out b (512 * j + r.val) l := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  refine View.canon_eq_of_allAt _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 _) ?_
  rw [outB_pieces c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 _ rfl _ rfl _ rfl]
  have T := tileB c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S
  refine View.allAt_cons_unit _ _ _ _ _ (out_tile (n := 7) T (blockB7 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ _ r l) ?_
  refine View.allAt_cons_unit _ _ _ _ _ (out_tile (n := 6) T (blockB6 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ _ r l) ?_
  refine View.allAt_cons_unit _ _ _ _ _ (out_tile (n := 5) T (blockB5 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ _ r l) ?_
  refine View.allAt_cons_unit _ _ _ _ _ (out_tile (n := 4) T (blockB4 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ _ r l) ?_
  refine View.allAt_cons_unit _ _ _ _ _ (out_tile (n := 3) T (blockB3 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ _ r l) ?_
  refine View.allAt_cons_unit _ _ _ _ _ (out_tile (n := 2) T (blockB2 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ _ r l) ?_
  refine View.allAt_cons_unit _ _ _ _ _ (out_tile (n := 1) T (blockB1 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ _ r l) ?_
  refine View.allAt_cons_unit _ _ _ _ _ (out_tile (n := 0) T (blockB0 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ _ r l) ?_
  exact View.allAt_nil _ _

/-- The state the later points leave is the branch's state after the tile. -/
theorem stB_at (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) (E : ExtOf p b j fun q l => xs0 (ix2 ⟨q.val, by omega⟩ l)) (S : ∀ l : Fin 1024, xs1 (ix2 0 l) = p.h b l (512 * j)) (l : Fin 1024) :
    sout0_B_1 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 (ix2 0 l) = p.h b l (512 * (j + 1)) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  refine View.canon_eq_of_allAt _ _ _ (scover0_B_1 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 _) ?_
  rw [stB_pieces c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 _ rfl _ rfl _ rfl]
  have T := tileB c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S
  refine View.allAt_cons_unit _ _ _ _ _ (st_tile (n := 7) T (blockB7 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ l) ?_
  refine View.allAt_cons_unit _ _ _ _ _ (st_tile (n := 6) T (blockB6 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ l) ?_
  refine View.allAt_cons_unit _ _ _ _ _ (st_tile (n := 5) T (blockB5 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ l) ?_
  refine View.allAt_cons_unit _ _ _ _ _ (st_tile (n := 4) T (blockB4 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ l) ?_
  refine View.allAt_cons_unit _ _ _ _ _ (st_tile (n := 3) T (blockB3 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ l) ?_
  refine View.allAt_cons_unit _ _ _ _ _ (st_tile (n := 2) T (blockB2 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ l) ?_
  refine View.allAt_cons_unit _ _ _ _ _ (st_tile (n := 1) T (blockB1 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ l) ?_
  refine View.allAt_cons_unit _ _ _ _ _ (st_tile (n := 0) T (blockB0 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b j hj I E S) _ _ l) ?_
  exact View.allAt_nil _ _

/-- The rows the later points carry are the last 8 rows of the tile's projection. -/
theorem extB_at (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (j : Nat) (hj : j < 16)
    (I : InOf p b j x0 x1 x2 x3 x4 x5 x6 x7) :
    ExtOf p b (j + 1) fun q l => sout0_B_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 (ix2 ⟨q.val, by omega⟩ l) := by
  intro q l
  have l0 := load_all arg2 harg2 x0 ![0, 0, 0] inb_S1x512x1024_S1x512x1024_0_0_0 (by decide)
  have l1 := load_all arg3 harg3 x1 ![0, 0] inb_S1024x2048_S1024x2048_0_0 (by decide)
  refine Eq.trans ?_ (keep_in hj I q l)
  unfold sout0_B_0
  rw [extB_pieces c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1]
  refine (View.read_writes_cons_unit_of_mem (s := S520x1024) VS0_0 _ inb_S520x1024_S8x1024_0_0 _ _ _ (ix2 q l) rfl fun a => ?_).trans ?_
  · match a with
    | ⟨0, _⟩ => exact (Nat.zero_add _).symm
    | ⟨1, _⟩ => exact (Nat.zero_add _).symm
  · exact congrFun (congrArg k0_pay8 (congr (congrArg k0_pay5 l0) l1)) _

end Cert.LruProof
-- ==== Proof.LruValue.lean ====
module

public import proofs.«01_k».proof.Proof.LruIn
public import proofs.«01_k».proof.Proof.LruCaseA
public import proofs.«01_k».proof.Proof.LruCaseB
public import proofs.«01_k».proof.Proof.LruRef
public import proofs.«01_k».proof.Proof.Gen.LruKernelIdeal.Value

@[expose] public section

/-! The gated linear recurrence: the blocks the grid's points read, what every point carries to the next, and the kernel's
result as the reference's. -/

set_option maxRecDepth 65536
set_option maxHeartbeats 1000000
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.LruProof

open Cert.LruKernelIdeal Cert.LruKernelIdeal.Gen

variable (m : (ℓ : Loc nD τ sig) → Buf (Elt Ideal) ℓ)

/-- What a point reads. -/
theorem inOf (c : Dev nD) (t : Fin cfg0.N) : InOf (kerPar m c) (seq t) (t.val % 16) (iblk m c 0 t) (iblk m c 1 t) (iblk m c 2 t) (iblk m c 3 t) (iblk m c 4 t) (iblk m c 5 t) (iblk m c 6 t) (iblk m c 7 t) where
  hx := in_hx m c t
  hw := in_hw m c t
  hcw := in_hcw m c t
  hcb := in_hcb m c t
  hwa := in_hwa m c t
  hwi := in_hwi m c t
  hba := in_hba m c t
  hbi := in_hbi m c t
  hlam := in_hlam m c t

/-- What holds after a point on rows from `512 * j` of sequence `b`: the block's rows, the carried rows and the carried state. -/
def After (p : Par) (b : Fin 2) (j : Nat) (o : FVec Ideal S1x512x1024 .bf16) (e : FVec Ideal S520x1024 .f32) (s : FVec Ideal S1x1024 .f32) : Prop :=
  (∀ (r : Fin 512) (l : Fin 1024), o (ix3 0 r l) = p.out b (512 * j + r.val) l)
    ∧ ExtOf p b (j + 1) (fun q l => e (ix2 ⟨q.val, by omega⟩ l))
    ∧ ∀ l : Fin 1024, s (ix2 0 l) = p.h b l (512 * (j + 1))

/-- The first point of a sequence. -/
theorem caseA_after (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32)
    (p : Par) (b : Fin 2) (j : Nat) (h : j = 0) (I : InOf p b j x0 x1 x2 x3 x4 x5 x6 x7) :
    After p b j (out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7) (sout0_A_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7) (sout0_A_1 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7) := by
  subst h
  exact ⟨fun r l => outA_at c i arg2 harg2 arg3 harg3 arg4 harg4 arg5 harg5 arg6 harg6 arg7 harg7 arg8 harg8 arg9 harg9 arg10 harg10 arg11 harg11 arg12 harg12 hc0 x0 x1 x2 x3 x4 x5 x6 x7 p b I r l, extA_at c i arg2 harg2 arg3 harg3 arg4 harg4 arg5 harg5 arg6 harg6 arg7 harg7 arg8 harg8 arg9 harg9 arg10 harg10 arg11 harg11 arg12 harg12 hc0 x0 x1 x2 x3 x4 x5 x6 x7 p b I, fun l => stA_at c i arg2 harg2 arg3 harg3 arg4 harg4 arg5 harg5 arg6 harg6 arg7 harg7 arg8 harg8 arg9 harg9 arg10 harg10 arg11 harg11 arg12 harg12 hc0 x0 x1 x2 x3 x4 x5 x6 x7 p b I l⟩

/-- A later point. -/
theorem caseB_after (c : Dev nD) (i : grid0.Coords) (arg2 : Memref sig .tc .vmem S1x512x1024 .f32) (harg2 : arg2.IsWhole) (arg3 : Memref sig .tc .vmem S1024x2048 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S8x128x256 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .bf16) (harg10 : arg10.IsWhole) (arg11 : Memref sig .tc .vmem S520x1024 .f32) (harg11 : arg11.IsWhole) (arg12 : Memref sig .tc .vmem S1x1024 .f32) (harg12 : arg12.IsWhole) (hc0 : ¬ cond0_0 i) (x0 : Vec Ideal S1x512x1024 .f32) (x1 : Vec Ideal S1024x2048 .bf16) (x2 : Vec Ideal S4x1024 .f32) (x3 : Vec Ideal S1x1024 .f32) (x4 : Vec Ideal S8x128x256 .bf16) (x5 : Vec Ideal S1x1024 .f32) (x6 : Vec Ideal S1x1024 .f32) (x7 : Vec Ideal S1x1024 .f32) (xs0 : Vec Ideal S520x1024 .f32) (xs1 : Vec Ideal S1x1024 .f32)
    (p : Par) (b : Fin 2) (k j : Nat) (h : j = k + 1) (hj : j < 16) (I : InOf p b j x0 x1 x2 x3 x4 x5 x6 x7) (o : FVec Ideal S1x512x1024 .bf16) (ih : After p b k o xs0 xs1) :
    After p b j (out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1) (sout0_B_0 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1) (sout0_B_1 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1) := by
  subst h
  exact ⟨fun r l => outB_at c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b (k + 1) hj I ih.2.1 ih.2.2 r l, extB_at c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b (k + 1) hj I, fun l => stB_at c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 p b (k + 1) hj I ih.2.1 ih.2.2 l⟩

/-- What point `t` leaves. -/
def AfterAt (c : Dev nD) (t : Fin cfg0.N) : Prop :=
  After (kerPar m c) (seq t) (t.val % 16) (outsAt0 m c t.val t.isLt).1 (outsAt0 m c t.val t.isLt).2.1 (outsAt0 m c t.val t.isLt).2.2

/-- What a point leaves, of its three contents. -/
theorem after_of_eq (c : Dev nD) (t : Fin cfg0.N) (a : Vec Ideal S1x512x1024 .bf16) (b : Vec Ideal S520x1024 .f32) (s : Vec Ideal S1x1024 .f32)
    (e : outsAt0 m c t.val t.isLt = (a, b, s)) (h : After (kerPar m c) (seq t) (t.val % 16) a b s) : AfterAt m c t := by
  unfold AfterAt
  rw [e]
  exact h

/-- The first point of a sequence leaves what the invariant says. -/
theorem after_first (c : Dev nD) (t : Fin cfg0.N) (h0 : t.val % 16 = 0) : AfterAt m c t :=
  after_of_eq m c t _ _ _ (outsAt0_A m c t h0)
    (caseA_after c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (kerPar m c) (seq t) _ h0 (inOf m c t))

/-- A later point leaves what the invariant says, from the one before. -/
theorem after_later (c : Dev nD) (t : Fin cfg0.N) (h0 : ¬ t.val % 16 = 0) (hlt : t.val - 1 < cfg0.N)
    (ih : AfterAt m c ⟨t.val - 1, hlt⟩) : AfterAt m c t := by
  have es : seq ⟨t.val - 1, hlt⟩ = seq t := Fin.ext (by show (t.val - 1) / 16 = t.val / 16; omega)
  have ej : t.val % 16 = (t.val - 1) % 16 + 1 := by omega
  have hj : t.val % 16 < 16 := Nat.mod_lt _ (by omega)
  unfold AfterAt at ih
  rw [es] at ih
  exact after_of_eq m c t _ _ _ (outsAt0_B m c t h0)
    (caseB_after c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) hlt).2.1 (outsAt0 m c (t.val - 1) hlt).2.2 (kerPar m c) (seq t)
      _ _ ej hj (inOf m c t) (outsAt0 m c (t.val - 1) hlt).1 ih)

/-- After every point. -/
theorem after_all (c : Dev nD) : ∀ (n : Nat) (hn : n < cfg0.N), AfterAt m c ⟨n, hn⟩
  | 0, hn => after_first m c ⟨0, hn⟩ rfl
  | n + 1, hn => by
    by_cases h0 : (n + 1) % 16 = 0
    · exact after_first m c ⟨n + 1, hn⟩ h0
    · exact after_later m c ⟨n + 1, hn⟩ h0 (Nat.lt_of_succ_lt hn) (after_all c n (Nat.lt_of_succ_lt hn))

/-- The array the kernel leaves is the reference's result. -/
theorem final (m' : (ℓ : Loc Cert.LruReferenceIdeal.nD Cert.LruReferenceIdeal.τ Cert.LruReferenceIdeal.sig) → Buf (Elt Ideal) ℓ)
    (c : Dev nD)
    (h0 : m' ((c.tc : Thread _ _).loc Cert.LruReferenceIdeal.main_arg0) = m ((c.tc : Thread _ _).loc main_arg0))
    (h1 : m' ((c.tc : Thread _ _).loc Cert.LruReferenceIdeal.main_arg1) = m ((c.tc : Thread _ _).loc main_arg1))
    (h2 : m' ((c.tc : Thread _ _).loc Cert.LruReferenceIdeal.main_arg2) = m ((c.tc : Thread _ _).loc main_arg2))
    (h3 : m' ((c.tc : Thread _ _).loc Cert.LruReferenceIdeal.main_arg3) = m ((c.tc : Thread _ _).loc main_arg3))
    (h4 : m' ((c.tc : Thread _ _).loc Cert.LruReferenceIdeal.main_arg4) = m ((c.tc : Thread _ _).loc main_arg4))
    (h5 : m' ((c.tc : Thread _ _).loc Cert.LruReferenceIdeal.main_arg5) = m ((c.tc : Thread _ _).loc main_arg5))
    (h6 : m' ((c.tc : Thread _ _).loc Cert.LruReferenceIdeal.main_arg6) = m ((c.tc : Thread _ _).loc main_arg6))
    (h7 : m' ((c.tc : Thread _ _).loc Cert.LruReferenceIdeal.main_arg7) = m ((c.tc : Thread _ _).loc main_arg7))
    (h8 : m' ((c.tc : Thread _ _).loc Cert.LruReferenceIdeal.main_arg8) = m ((c.tc : Thread _ _).loc main_arg8)) :
    (dats m 0 c).arrAt 8 (cfgs 0).N = Cert.LruReferenceIdeal.Value.out_main_v109
      (Cert.LruReferenceIdeal.Value.STEP^[8192] (StableHlo.entryContents (F := Ideal) Cert.LruReferenceIdeal.Value.preI m' c)) := by
  have hp : refPar m' c = kerPar m c := by
    unfold refPar kerPar
    rw [h0, h1, h2, h3, h4, h5, h6, h7, h8]
  refine (dats m 0 c).arrAt_eq_of_covers 8 _ (by decide +kernel) fun t _ y => ?_
  blk_simp
  rw [after0_8]
  have hy : y = ix3 (0 : Fin 1) (y 1) (y 2) :=
    (Idealize.ShloMosaic.ix3_eta (n0 := 1) (n1 := 512) (n2 := 1024) y).symm.trans
      (congrArg (fun a => ix3 (n0 := 1) (n1 := 512) (n2 := 1024) a (y 1) (y 2)) (Subsingleton.elim (α := Fin 1) (y 0) 0))
  have hb : 512 * (t.val % 16) + (y 1 : Fin 512).val < 8192 := by have h1 : (y 1).val < 512 := (y 1).isLt; have h2 := lt32 t; show 512 * (t.val % 16) + (y 1).val < 8192; omega
  refine (congrArg _ hy).trans (((after_all m c t.val t.isLt).1 (y 1) (y 2)).trans ?_)
  rw [← hp]
  refine (ref_at m' c (seq t) ⟨512 * (t.val % 16) + (y 1 : Fin 512).val, hb⟩ (y 2)).symm.trans ?_
  refine congrArg _ (funext fun i => ?_)
  match i with
  | ⟨0, _⟩ => exact Fin.ext (by simp [seq, Pipeline.Window.blk, View.slice, View.whole, idx t])
  | ⟨1, _⟩ => exact Fin.ext (by simp [Pipeline.Window.blk, View.slice, View.whole, idx t]; exact Nat.mul_comm _ _)
  | ⟨2, _⟩ => exact Fin.ext (by simp [Pipeline.Window.blk, View.slice, View.whole, idx t])

end Cert.LruProof
-- ==== Proof.SsdTile.lean ====
module

public import proofs.«01_k».proof.Proof.Gen.SsdKernelIdeal.Value
public import Idealize.ShloMosaic.Lib.Pipeline.ValueKit
public import Idealize.ShloMosaic.Lib.Pointwise

@[expose] public section

set_option maxRecDepth 65536
noncomputable section

open Idealize.ShloMosaic Idealize.ShloMosaic.TcCoe Idealize.ShloMosaic.ValueIdx Idealize.SL.Sem
open Idealize.ShloMosaic.Pipeline (Dat)
namespace Cert.SsdProof

open Cert.SsdKernelIdeal Cert.SsdKernelIdeal.Gen

/-- The 128 rows of a chunk, of an array of 128 lanes. -/
theorem sl_rows128 (o : Fin 2) : S256x128.Slices ![128 * o.val, 0] S128x128 :=
  ⟨rfl, fun a => by
    revert a
    rw [Fin.forall_fin_two]
    refine ⟨?_, ?_⟩
    · show 128 * o.val + 128 ≤ 256; omega
    · show 0 + 128 ≤ 128; omega⟩

/-- A chunk's rows of the values. -/
theorem sl_rows2048 (o : Fin 2) : S256x3072.Slices ![128 * o.val, 0] S128x2048 :=
  ⟨rfl, fun a => by
    revert a
    rw [Fin.forall_fin_two]
    refine ⟨?_, ?_⟩
    · show 128 * o.val + 128 ≤ 256; omega
    · show 0 + 2048 ≤ 3072; omega⟩

/-- A chunk's rows of the gate's projection. -/
theorem sl_rowsZ (o : Fin 2) : S256x5248.Slices ![128 * o.val, 0] S128x2048 :=
  ⟨rfl, fun a => by
    revert a
    rw [Fin.forall_fin_two]
    refine ⟨?_, ?_⟩
    · show 128 * o.val + 128 ≤ 256; omega
    · show 0 + 2048 ≤ 5248; omega⟩

/-- A chunk's rows of a group's input vectors. -/
theorem sl_B (o : Fin 2) (g : Fin 4) : S256x3072.Slices ![128 * o.val, 2048 + 128 * g.val] S128x128 :=
  ⟨rfl, fun a => by
    revert a
    rw [Fin.forall_fin_two]
    refine ⟨?_, ?_⟩
    · show 128 * o.val + 128 ≤ 256; omega
    · show 2048 + 128 * g.val + 128 ≤ 3072; omega⟩

/-- A chunk's rows of a group's output vectors. -/
theorem sl_C (o : Fin 2) (g : Fin 4) : S256x3072.Slices ![128 * o.val, 2560 + 128 * g.val] S128x128 :=
  ⟨rfl, fun a => by
    revert a
    rw [Fin.forall_fin_two]
    refine ⟨?_, ?_⟩
    · show 128 * o.val + 128 ≤ 256; omega
    · show 2560 + 128 * g.val + 128 ≤ 3072; omega⟩

/-- The 128 columns of a head. -/
theorem sl_col (h : Fin 32) : S128x4096.Slices ![0, 128 * h.val] S128x128 :=
  ⟨rfl, fun a => by
    revert a
    rw [Fin.forall_fin_two]
    refine ⟨?_, ?_⟩
    · show 0 + 128 ≤ 128; omega
    · show 128 * h.val + 128 ≤ 4096; omega⟩

/-- The row of a head. -/
theorem sl_row (h : Fin 32) : S128x128.Slices ![h.val, 0] S1x128 :=
  ⟨rfl, fun a => by
    revert a
    rw [Fin.forall_fin_two]
    refine ⟨?_, ?_⟩
    · show h.val + 1 ≤ 128; omega
    · show 0 + 128 ≤ 128; omega⟩

/-- The 128 lanes of a pair of heads. -/
theorem sl_pair (t : Fin 16) : S128x2048.Slices ![0, 128 * t.val] S128x128 :=
  ⟨rfl, fun a => by
    revert a
    rw [Fin.forall_fin_two]
    refine ⟨?_, ?_⟩
    · show 0 + 128 ≤ 128; omega
    · show 128 * t.val + 128 ≤ 2048; omega⟩

/-- The 512 lanes of a group. -/
theorem sl_group (g : Fin 4) : S128x2048.Slices ![0, 512 * g.val] S128x512 :=
  ⟨rfl, fun a => by
    revert a
    rw [Fin.forall_fin_two]
    refine ⟨?_, ?_⟩
    · show 0 + 128 ≤ 128; omega
    · show 512 * g.val + 512 ≤ 2048; omega⟩

/-- The last row on the 512 lanes of a group. -/
theorem sl_last (g : Fin 4) : S128x2048.Slices ![127, 512 * g.val] S1x512 :=
  ⟨rfl, fun a => by
    revert a
    rw [Fin.forall_fin_two]
    refine ⟨?_, ?_⟩
    · show 127 + 1 ≤ 128; omega
    · show 512 * g.val + 512 ≤ 2048; omega⟩

/-- What one rounding of a tile leaves. -/
def rem (v : FVec Ideal S128x128 .f32) : FVec Ideal S128x128 .f32 :=
  subf v (extf .f32 (truncf .bf16 v bitsLt_bf16_f32) bitsLt_bf16_f32)

/-- A tile as three rounded terms, side by side. -/
def three (v : FVec Ideal S128x128 .f32) : FVec Ideal S128x384 .bf16 :=
  concatenate S128x384 1 [⟨S128x128, truncf .bf16 v bitsLt_bf16_f32⟩, ⟨S128x128, truncf .bf16 (rem v) bitsLt_bf16_f32⟩,
    ⟨S128x128, truncf .bf16 (rem (rem v)) bitsLt_bf16_f32⟩] concatenates_S128x128_S128x128_S128x128_S128x384_d1

/-- A tile as two rounded terms, side by side. -/
def two (v : FVec Ideal S128x128 .f32) : FVec Ideal S128x256 .bf16 :=
  concatenate S128x256 1 [⟨S128x128, truncf .bf16 v bitsLt_bf16_f32⟩, ⟨S128x128, truncf .bf16 (rem v) bitsLt_bf16_f32⟩]
    concatenates_S128x128_S128x128_S128x256_d1

/-- The product of the triangle with the three terms of a chunk's log decays. -/
def csum3 (TRI : FVec Ideal S128x128 .bf16) (v : FVec Ideal S128x128 .f32) : FVec Ideal S128x384 .f32 :=
  matmul dot_S128x128_S128x384_S128x384_1_0_0_1_n_n none TRI (three v) (constant S128x384 .f32 0x00000000#32)

/-- The cumulative log decays of a chunk, by row and head. -/
def csum (o : Fin 2) (DA : FVec Ideal S256x128 .f32) (TRI : FVec Ideal S128x128 .bf16) : FVec Ideal S128x128 .f32 :=
  addf (addf (extractStridedSlice S128x128 ![0, 0] (csum3 TRI (extractStridedSlice S128x128 ![128 * o.val, 0] DA (sl_rows128 o))) slices_S128x384_o0_0_S128x128)
      (extractStridedSlice S128x128 ![0, 128] (csum3 TRI (extractStridedSlice S128x128 ![128 * o.val, 0] DA (sl_rows128 o))) slices_S128x384_o0_128_S128x128))
    (extractStridedSlice S128x128 ![0, 256] (csum3 TRI (extractStridedSlice S128x128 ![128 * o.val, 0] DA (sl_rows128 o))) slices_S128x384_o0_256_S128x128)

/-- The cumulative log decays spread over each head's 128 columns. -/
def spread (EC : FVec Ideal S384x4096 .bf16) (cs : FVec Ideal S128x128 .f32) : FVec Ideal S128x4096 .f32 :=
  matmul dot_S128x384_S384x4096_S128x4096_1_0_0_1_n_n none (three cs) EC (constant S128x4096 .f32 0x00000000#32)

/-- A per-head tile spread over each head's 64 lanes. -/
def widen (EH : FVec Ideal S256x2048 .bf16) (v : FVec Ideal S128x128 .f32) : FVec Ideal S128x2048 .f32 :=
  matmul dot_S128x256_S256x2048_S128x2048_1_0_0_1_n_n none (two v) EH (constant S128x2048 .f32 0x00000000#32)

/-- A chunk's step sizes. -/
def dtc (o : Fin 2) (DT : FVec Ideal S256x128 .f32) : FVec Ideal S128x128 .f32 :=
  extractStridedSlice S128x128 ![128 * o.val, 0] DT (sl_rows128 o)

/-- The weight of each row in the state after the chunk. -/
def wst (dt cs : FVec Ideal S128x128 .f32) : FVec Ideal S128x128 .f32 :=
  mulf dt (exp (subf (broadcastTo S128x128 (extractStridedSlice S1x128 ![127, 0] cs slices_S128x128_o127_0_S1x128) broadcasts_S1x128_S128x128) cs))

/-- A chunk's values. -/
def xsT (o : Fin 2) (X : FVec Ideal S256x3072 .f32) : FVec Ideal S128x2048 .f32 :=
  extractStridedSlice S128x2048 ![128 * o.val, 0] X (sl_rows2048 o)

/-- A chunk's input vectors of a group. -/
def bT (o : Fin 2) (g : Fin 4) (X : FVec Ideal S256x3072 .f32) : FVec Ideal S128x128 .f32 :=
  extractStridedSlice S128x128 ![128 * o.val, 2048 + 128 * g.val] X (sl_B o g)

/-- A chunk's output vectors of a group. -/
def cT (o : Fin 2) (g : Fin 4) (X : FVec Ideal S256x3072 .f32) : FVec Ideal S128x128 .bf16 :=
  truncf .bf16 (extractStridedSlice S128x128 ![128 * o.val, 2560 + 128 * g.val] X (sl_C o g) : FVec Ideal S128x128 .f32) bitsLt_bf16_f32

/-- The products of output and input vectors of a group, by row and row. -/
def cbT (o : Fin 2) (g : Fin 4) (X : FVec Ideal S256x3072 .f32) : FVec Ideal S128x128 .f32 :=
  matmul dot_S128x128_S128x128_S128x128_1_1_0_0_n_n none (cT o g X) (truncf .bf16 (bT o g X) bitsLt_bf16_f32)
    (constant S128x128 .f32 0x00000000#32)

/-- One head's matrix from input rows to output rows of a chunk. -/
def headM (h : Fin 32) (cb cst dtt : FVec Ideal S128x128 .f32) (COL : FVec Ideal S128x4096 .f32) : FVec Ideal S128x128 .bf16 :=
  truncf .bf16 (mulf (mulf cb (select k0_pay12 (exp (minimumf
      (subf (extractStridedSlice S128x128 ![0, 128 * h.val] COL (sl_col h))
        (broadcastTo S128x128 (extractStridedSlice S1x128 ![h.val, 0] cst (sl_row h)) broadcasts_S1x128_S128x128))
      (broadcast S128x128 (Scalar.ofBits .f32 0x00000000#32)))) (broadcast S128x128 (Scalar.ofBits .f32 0x00000000#32))))
    (broadcastTo S128x128 (extractStridedSlice S1x128 ![h.val, 0] dtt (sl_row h)) broadcasts_S1x128_S128x128)) bitsLt_bf16_f32

/-- Two heads' values, stacked, each kept on its own 64 lanes. -/
def stackX (t : Fin 16) (xs : FVec Ideal S128x2048 .f32) : FVec Ideal S256x128 .bf16 :=
  truncf .bf16 (concatenate S256x128 0 [
      ⟨S128x128, select k0_pay13 (extractStridedSlice S128x128 ![0, 128 * t.val] xs (sl_pair t)) (broadcast S128x128 (Scalar.ofBits .f32 0x00000000#32))⟩,
      ⟨S128x128, select k0_pay13 (broadcast S128x128 (Scalar.ofBits .f32 0x00000000#32)) (extractStridedSlice S128x128 ![0, 128 * t.val] xs (sl_pair t))⟩]
    concatenates_S128x128_S128x128_S256x128_d0 : FVec Ideal S256x128 .f32) bitsLt_bf16_f32

/-- The part of two heads' outputs that comes from the chunk itself. -/
def pairT (t : Fin 16) (cb cst dtt : FVec Ideal S128x128 .f32) (COL : FVec Ideal S128x4096 .f32)
    (xs : FVec Ideal S128x2048 .f32) : FVec Ideal S128x128 .f32 :=
  matmul dot_S128x256_S256x128_S128x128_1_0_0_1_n_n none
    (concatenate S128x256 1 [⟨S128x128, headM ⟨2 * t.val, by omega⟩ cb cst dtt COL⟩, ⟨S128x128, headM ⟨2 * t.val + 1, by omega⟩ cb cst dtt COL⟩]
      concatenates_S128x128_S128x128_S128x256_d1)
    (stackX t xs) (constant S128x128 .f32 0x00000000#32)

/-- A group's outputs: the chunk's own part and the part from the state before it. -/
def yG (o : Fin 2) (g : Fin 4) (X : FVec Ideal S256x3072 .f32) (cst dtt : FVec Ideal S128x128 .f32) (COL : FVec Ideal S128x4096 .f32)
    (WO : FVec Ideal S128x2048 .f32) (st : Vec Ideal S1x128x512 .f32) : FVec Ideal S128x512 .f32 :=
  addf (concatenate S128x512 1 [
      ⟨S128x128, pairT ⟨4 * g.val, by omega⟩ (cbT o g X) cst dtt COL (xsT o X)⟩, ⟨S128x128, pairT ⟨4 * g.val + 1, by omega⟩ (cbT o g X) cst dtt COL (xsT o X)⟩,
      ⟨S128x128, pairT ⟨4 * g.val + 2, by omega⟩ (cbT o g X) cst dtt COL (xsT o X)⟩, ⟨S128x128, pairT ⟨4 * g.val + 3, by omega⟩ (cbT o g X) cst dtt COL (xsT o X)⟩]
      concatenates_S128x128_S128x128_S128x128_S128x128_S128x512_d1)
    (mulf (matmul dot_S128x128_S128x512_S128x512_1_0_0_1_n_n none (cT o g X)
        (truncf .bf16 (shapeCast S128x512 st shapeCasts_S1x128x512_S128x512 : FVec Ideal S128x512 .f32) bitsLt_bf16_f32) (constant S128x512 .f32 0x00000000#32))
      (extractStridedSlice S128x512 ![0, 512 * g.val] WO (sl_group g)))

/-- A group's state after a chunk. -/
def stG (o : Fin 2) (g : Fin 4) (X : FVec Ideal S256x3072 .f32) (WS WO : FVec Ideal S128x2048 .f32)
    (st : Vec Ideal S1x128x512 .f32) : FVec Ideal S1x128x512 .f32 :=
  shapeCast S1x128x512 (addf
    (mulf (shapeCast S128x512 st shapeCasts_S1x128x512_S128x512 : FVec Ideal S128x512 .f32)
      (broadcastTo S128x512 (extractStridedSlice S1x512 ![127, 512 * g.val] WO (sl_last g)) broadcasts_S1x512_S128x512))
    (matmul dot_S128x128_S128x512_S128x512_1_0_0_1_n_n none
      (truncf .bf16 (transpose S128x128 [1, 0] (bT o g X) transposes_S128x128_p1_0_S128x128) bitsLt_bf16_f32)
      (truncf .bf16 (mulf (extractStridedSlice S128x512 ![0, 512 * g.val] (xsT o X) (sl_group g))
        (extractStridedSlice S128x512 ![0, 512 * g.val] WS (sl_group g))) bitsLt_bf16_f32)
      (constant S128x512 .f32 0x00000000#32))) shapeCasts_S128x512_S1x128x512

/-- `z` times the logistic function of `z`, over a tile. -/
def siluT (z : FVec Ideal S128x2048 .f32) : FVec Ideal S128x2048 .f32 :=
  mulf z (divf (broadcast S128x2048 (Scalar.ofBits .f32 0x3F800000#32))
    (addf (broadcast S128x2048 (Scalar.ofBits .f32 0x3F800000#32))
      (exp (subf (broadcast S128x2048 (Scalar.ofBits .f32 0x00000000#32)) z))))

/-- A chunk's gated outputs before the norm. -/
def gated (o : Fin 2) (P : FVec Ideal S256x5248 .f32) (X : FVec Ideal S256x3072 .f32) (DS : Vec Ideal S1x2048 .f32)
    (y0 y1 y2 y3 : FVec Ideal S128x512 .f32) : FVec Ideal S128x2048 .f32 :=
  mulf (addf (concatenate S128x2048 1 [⟨S128x512, y0⟩, ⟨S128x512, y1⟩, ⟨S128x512, y2⟩, ⟨S128x512, y3⟩]
      concatenates_S128x512_S128x512_S128x512_S128x512_S128x2048_d1)
    (mulf (broadcastTo S128x2048 (shapeCast S1x2048 DS shapeCasts_S1x2048_S1x2048) broadcasts_S1x2048_S128x2048) (xsT o X)))
    (siluT (extractStridedSlice S128x2048 ![128 * o.val, 0] P (sl_rowsZ o)))

/-- A group scaled to unit mean square. -/
def normG (g : Fin 4) (y : FVec Ideal S128x2048 .f32) : FVec Ideal S128x512 .f32 :=
  mulf (extractStridedSlice S128x512 ![0, 512 * g.val] y (sl_group g)) (broadcastTo S128x512 (rsqrt (addf
    (divf (shapeCast S128x1 (multiReduction .add [1] S128 (mulf (extractStridedSlice S128x512 ![0, 512 * g.val] y (sl_group g))
      (extractStridedSlice S128x512 ![0, 512 * g.val] y (sl_group g))) 0x00000000#32 reduces_S128x512_S128 (.inl rfl) rfl) shapeCasts_S128_S128x1)
      (broadcast S128x1 (Scalar.ofBits .f32 0x44000000#32)))
    (broadcast S128x1 (Scalar.ofBits .f32 0x3727C5AC#32)))) broadcasts_S128x1_S128x512)

/-- A chunk's rows of the output. -/
def outN (y : FVec Ideal S128x2048 .f32) (NW : Vec Ideal S1x2048 .f32) : FVec Ideal S1x128x2048 .bf16 :=
  shapeCast S1x128x2048 (truncf .bf16 (mulf (concatenate S128x2048 1 [⟨S128x512, normG 0 y⟩, ⟨S128x512, normG 1 y⟩,
      ⟨S128x512, normG 2 y⟩, ⟨S128x512, normG 3 y⟩] concatenates_S128x512_S128x512_S128x512_S128x512_S128x2048_d1)
    (broadcastTo S128x2048 (shapeCast S1x2048 NW shapeCasts_S1x2048_S1x2048) broadcasts_S1x2048_S128x2048)) bitsLt_bf16_f32)
    shapeCasts_S128x2048_S1x128x2048

/-- What a chunk works with, as the point's tiles give it. -/
structure Chunk where
  P : FVec Ideal S256x5248 .f32
  X : FVec Ideal S256x3072 .f32
  DT : FVec Ideal S256x128 .f32
  DA : FVec Ideal S256x128 .f32
  TRI : FVec Ideal S128x128 .bf16
  EC : FVec Ideal S384x4096 .bf16
  EH : FVec Ideal S256x2048 .bf16

/-- The tiles of a point, from its blocks and the three shifted reads of the projection. -/
def mkC (x : Vec Ideal S1x256x1024 .f32) (w : Vec Ideal S1024x5248 .bf16) (cw : Vec Ideal S4x3072 .f32) (cb : Vec Ideal S1x3072 .f32)
    (e5 e6 e7 : Vec Ideal S256x3072 .f32) (dtb alog : Vec Ideal S1x128 .f32) (tri : Vec Ideal S128x128 .bf16)
    (ec : Vec Ideal S384x4096 .bf16) (eh : Vec Ideal S256x2048 .bf16) : Chunk where
  P := k0_pay4 x w
  X := k0_pay9 (k0_pay7 x w cw cb e5 e6 e7)
  DT := k0_pay10 (k0_pay4 x w) dtb
  DA := k0_pay11 (k0_pay4 x w) dtb alog
  TRI := k0_pay14 tri
  EC := k0_pay15 ec
  EH := k0_pay16 eh

/-- The chunk's cumulative log decays. -/
def Chunk.cs (c : Chunk) (o : Fin 2) : FVec Ideal S128x128 .f32 := csum o c.DA c.TRI

/-- The weight of the state before the chunk in each row. -/
def Chunk.WO (c : Chunk) (o : Fin 2) : FVec Ideal S128x2048 .f32 := widen c.EH (exp (c.cs o))

/-- The weight of each row in the state after the chunk, by lane. -/
def Chunk.WS (c : Chunk) (o : Fin 2) : FVec Ideal S128x2048 .f32 := widen c.EH (wst (dtc o c.DT) (c.cs o))

/-- A group's outputs in a chunk. -/
def Chunk.y (c : Chunk) (o : Fin 2) (g : Fin 4) (st : Vec Ideal S1x128x512 .f32) : FVec Ideal S128x512 .f32 :=
  yG o g c.X (transpose S128x128 [1, 0] (c.cs o) transposes_S128x128_p1_0_S128x128)
    (transpose S128x128 [1, 0] (dtc o c.DT) transposes_S128x128_p1_0_S128x128) (spread c.EC (c.cs o)) (c.WO o) st

/-- A group's state after a chunk. -/
def Chunk.st (c : Chunk) (o : Fin 2) (g : Fin 4) (st : Vec Ideal S1x128x512 .f32) : FVec Ideal S1x128x512 .f32 :=
  stG o g c.X (c.WS o) (c.WO o) st

/-- A chunk's rows of the output. -/
def Chunk.out (c : Chunk) (o : Fin 2) (DS NW : Vec Ideal S1x2048 .f32) (s0 s1 s2 s3 : Vec Ideal S1x128x512 .f32) :
    FVec Ideal S1x128x2048 .bf16 :=
  outN (gated o c.P c.X DS (c.y o 0 s0) (c.y o 1 s1) (c.y o 2 s2) (c.y o 3 s3)) NW

end Cert.SsdProof
-- ==== Proof.SsdAt.lean ====
module

public import proofs.«01_k».proof.Proof.SsdTile
public import Idealize.ShloMosaic.Lib.Pipeline.ValueKit
public import Idealize.ShloMosaic.Lib.Pointwise

@[expose] public section

set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.SsdProof

open Cert.SsdKernelIdeal Cert.SsdKernelIdeal.Gen

/-- What a rounding leaves of an entry. -/
theorem rem_at (v : FVec Ideal S128x128 .f32) (r h : Fin 128) : rem v (ix2 r h) = v (ix2 r h) - v (ix2 r h) := by
  pointwise [rem]

/-- The first third of a three-way split. -/
theorem three_at0 (v : FVec Ideal S128x128 .f32) (r h : Fin 128) : three v (ix2 r ⟨h.val, by omega⟩) = v (ix2 r h) := by
  unfold three
  generalize rem (rem v) = z2
  generalize rem v = z1
  pointwise

/-- The second third of a three-way split. -/
theorem three_at1 (v : FVec Ideal S128x128 .f32) (r h : Fin 128) : three v (ix2 r ⟨128 + h.val, by omega⟩) = rem v (ix2 r h) := by
  unfold three
  generalize rem (rem v) = z2
  generalize rem v = z1
  pointwise

/-- The last third of a three-way split. -/
theorem three_at2 (v : FVec Ideal S128x128 .f32) (r h : Fin 128) : three v (ix2 r ⟨256 + h.val, by omega⟩) = rem (rem v) (ix2 r h) := by
  unfold three
  generalize rem (rem v) = z2
  generalize rem v = z1
  pointwise
  rw [dif_neg (by omega), dif_neg (by omega)]
  congr 2
  apply Fin.ext
  change 256 + h.val - 128 - 128 = h.val
  omega

/-- The first half of a two-way split. -/
theorem two_at0 (v : FVec Ideal S128x128 .f32) (r h : Fin 128) : two v (ix2 r ⟨h.val, by omega⟩) = v (ix2 r h) := by
  unfold two
  generalize rem v = z1
  pointwise

/-- The second half of a two-way split. -/
theorem two_at1 (v : FVec Ideal S128x128 .f32) (r h : Fin 128) : two v (ix2 r ⟨128 + h.val, by omega⟩) = rem v (ix2 r h) := by
  unfold two
  generalize rem v = z1
  pointwise

/-- The product of the triangle with split columns. -/
theorem csum3_at (TRI : FVec Ideal S128x128 .bf16) (v : FVec Ideal S128x128 .f32) (l : Fin 128) (c : Fin 384) :
    csum3 TRI v (ix2 l c) = ∑ i : Fin 128, TRI (ix2 l i) * three v (ix2 i c) := by
  unfold csum3
  generalize three v = z
  pointwise

/-- The cumulative sums at an entry: the three parts' sums. -/
theorem csum_at (o : Fin 2) (DA : FVec Ideal S256x128 .f32) (TRI : FVec Ideal S128x128 .bf16) (l h : Fin 128) :
    csum o DA TRI (ix2 l h) = csum3 TRI (dtc o DA) (ix2 l ⟨h.val, by omega⟩) + csum3 TRI (dtc o DA) (ix2 l ⟨128 + h.val, by omega⟩)
      + csum3 TRI (dtc o DA) (ix2 l ⟨256 + h.val, by omega⟩) := by
  unfold csum
  change addf (addf (extractStridedSlice S128x128 ![0, 0] (csum3 TRI (dtc o DA)) _) (extractStridedSlice S128x128 ![0, 128] (csum3 TRI (dtc o DA)) _))
    (extractStridedSlice S128x128 ![0, 256] (csum3 TRI (dtc o DA)) _) _ = _
  generalize csum3 TRI (dtc o DA) = z
  pointwise

/-- A chunk's steps at an entry. -/
theorem dtc_at (o : Fin 2) (D : FVec Ideal S256x128 .f32) (r h : Fin 128) : dtc o D (ix2 r h) = D (ix2 ⟨128 * o.val + r.val, by omega⟩ h) := by
  pointwise [dtc]

/-- The sums spread over the heads' columns, at an entry. -/
theorem spread_at (EC : FVec Ideal S384x4096 .bf16) (cs : FVec Ideal S128x128 .f32) (l : Fin 128) (c : Fin 4096) :
    spread EC cs (ix2 l c) = ∑ k : Fin 384, three cs (ix2 l k) * EC (ix2 k c) := by
  unfold spread
  generalize three cs = z
  pointwise

/-- Values of the heads spread over their lanes, at an entry. -/
theorem widen_at (EH : FVec Ideal S256x2048 .bf16) (v : FVec Ideal S128x128 .f32) (l : Fin 128) (q : Fin 2048) :
    widen EH v (ix2 l q) = ∑ k : Fin 256, two v (ix2 l k) * EH (ix2 k q) := by
  unfold widen
  generalize two v = z
  pointwise

/-- The weight of a frame in the chunk's new state. -/
theorem wst_at (dt cs : FVec Ideal S128x128 .f32) (r h : Fin 128) :
    wst dt cs (ix2 r h) = dt (ix2 r h) * Ideal.exp (cs (ix2 127 h) - cs (ix2 r h)) := by
  pointwise [wst]

/-- A chunk's inputs at an entry. -/
theorem xsT_at (o : Fin 2) (X : FVec Ideal S256x3072 .f32) (r : Fin 128) (q : Fin 2048) :
    xsT o X (ix2 r q) = X (ix2 ⟨128 * o.val + r.val, by omega⟩ ⟨q.val, by omega⟩) := by
  pointwise [xsT]

/-- A group's input directions at an entry. -/
theorem bT_at (o : Fin 2) (g : Fin 4) (X : FVec Ideal S256x3072 .f32) (r n : Fin 128) :
    bT o g X (ix2 r n) = X (ix2 ⟨128 * o.val + r.val, by omega⟩ ⟨2048 + 128 * g.val + n.val, by omega⟩) := by
  pointwise [bT]

/-- A group's output directions at an entry. -/
theorem cT_at (o : Fin 2) (g : Fin 4) (X : FVec Ideal S256x3072 .f32) (r n : Fin 128) :
    cT o g X (ix2 r n) = X (ix2 ⟨128 * o.val + r.val, by omega⟩ ⟨2560 + 128 * g.val + n.val, by omega⟩) := by
  pointwise [cT]

/-- The products of output and input directions of two frames. -/
theorem cbT_at (o : Fin 2) (g : Fin 4) (X : FVec Ideal S256x3072 .f32) (r s : Fin 128) :
    cbT o g X (ix2 r s) = ∑ n : Fin 128, cT o g X (ix2 r n) * bT o g X (ix2 s n) := by
  unfold cbT
  generalize cT o g X = z
  generalize bT o g X = z'
  pointwise

/-- The causal mask at an entry. -/
theorem mask_at (r s : Fin 128) : k0_pay12 (ix2 r s) = if s.val ≤ r.val then 1#1 else 0#1 := by
  have e : ∀ r s : Fin 128, IntOp.cmpi CmpIPredicate.sge (BitVec.ofNat 32 r.val) (BitVec.ofNat 32 s.val) = if s.val ≤ r.val then 1#1 else 0#1 := by
    decide +kernel
  pointwise [k0_pay12]
  exact e r s

/-- The mask of the first half of the lanes. -/
theorem half_at (r s : Fin 128) : k0_pay13 (ix2 r s) = if s.val < 64 then 1#1 else 0#1 := by
  have e : ∀ s : Fin 128, IntOp.cmpi CmpIPredicate.slt (BitVec.ofNat 32 s.val) 64#32 = if s.val < 64 then 1#1 else 0#1 := by
    decide +kernel
  pointwise [k0_pay13]
  exact e s

/-- A head's weights of earlier frames at an entry. -/
theorem headM_at (h : Fin 32) (cb cst dtt : FVec Ideal S128x128 .f32) (COL : FVec Ideal S128x4096 .f32) (r s : Fin 128) :
    headM h cb cst dtt COL (ix2 r s) = if s.val ≤ r.val then cb (ix2 r s) *
      Ideal.exp (min (COL (ix2 r ⟨128 * h.val + s.val, by omega⟩) - cst (ix2 ⟨h.val, by omega⟩ s)) 0) * dtt (ix2 ⟨h.val, by omega⟩ s) else 0 := by
  have e := mask_at r s
  unfold headM
  generalize (k0_pay12 : IVec S128x128 1) = m at e
  pointwise
  rw [e]
  split <;> rfl

/-- The upper half of a pair's stacked inputs. -/
theorem stackX_at0 (t : Fin 16) (xs : FVec Ideal S128x2048 .f32) (r l : Fin 128) :
    stackX t xs (ix2 ⟨r.val, by omega⟩ l) = if l.val < 64 then xs (ix2 r ⟨128 * t.val + l.val, by omega⟩) else 0 := by
  have e := half_at r l
  unfold stackX
  generalize (k0_pay13 : IVec S128x128 1) = m at e
  pointwise
  rw [e]
  split <;> rfl

/-- The lower half of a pair's stacked inputs. -/
theorem stackX_at1 (t : Fin 16) (xs : FVec Ideal S128x2048 .f32) (r l : Fin 128) :
    stackX t xs (ix2 ⟨128 + r.val, by omega⟩ l) = if l.val < 64 then 0 else xs (ix2 r ⟨128 * t.val + l.val, by omega⟩) := by
  have e := half_at r l
  unfold stackX
  generalize (k0_pay13 : IVec S128x128 1) = m at e
  pointwise
  rw [e]
  split <;> rfl

/-- A transposed entry. -/
theorem tr_at (v : FVec Ideal S128x128 .f32) (r s : Fin 128) :
    transpose S128x128 [1, 0] v transposes_S128x128_p1_0_S128x128 (ix2 r s) = v (ix2 s r) := by
  pointwise

/-- The gate's activation at an entry. -/
theorem siluT_at (z : FVec Ideal S128x2048 .f32) (r : Fin 128) (q : Fin 2048) :
    siluT z (ix2 r q) = z (ix2 r q) * Ideal.div 1 (1 + Ideal.exp (-z (ix2 r q))) := by
  pointwise [siluT]
  simp only [zero_sub]

/-- A group's new state at an entry. -/
theorem stG_at (o : Fin 2) (g : Fin 4) (X : FVec Ideal S256x3072 .f32) (WS WO : FVec Ideal S128x2048 .f32)
    (st : Vec Ideal S1x128x512 .f32) (n : Fin 128) (q : Fin 512) :
    stG o g X WS WO st (ix3 0 n q) = st (ix3 0 n q) * WO (ix2 127 ⟨512 * g.val + q.val, by omega⟩)
      + ∑ l : Fin 128, bT o g X (ix2 l n) * (xsT o X (ix2 l ⟨512 * g.val + q.val, by omega⟩) * WS (ix2 l ⟨512 * g.val + q.val, by omega⟩)) := by
  unfold stG
  generalize bT o g X = z
  generalize xsT o X = z'
  pointwise

/-- A group's norm at an entry. -/
theorem normG_at (g : Fin 4) (y : FVec Ideal S128x2048 .f32) (r : Fin 128) (q : Fin 512) :
    normG g y (ix2 r q) = y (ix2 r ⟨512 * g.val + q.val, by omega⟩) * Ideal.rsqrt (Ideal.div
      (∑ k : Fin 512, y (ix2 r ⟨512 * g.val + k.val, by omega⟩) * y (ix2 r ⟨512 * g.val + k.val, by omega⟩)) (Ideal.ofBits FTy.f32 0x44000000#32)
      + Ideal.ofBits FTy.f32 0x3727C5AC#32) := by
  pointwise [normG]

end Cert.SsdProof
-- ==== Proof.SsdSpec.lean ====
module

public import proofs.«01_k».proof.Proof.LruSpec
public import Idealize.ShloMosaic.Lib.Pipeline.ValueKit
public import Idealize.ShloMosaic.Lib.Pointwise

@[expose] public section

set_option maxRecDepth 65536
noncomputable section

open Idealize.ShloMosaic Idealize.ShloMosaic.TcCoe Idealize.ShloMosaic.ValueIdx Idealize.SL.Sem
open Idealize.ShloMosaic.Pipeline (Dat)
namespace Cert.SsdProof

open Cert.LruProof (sg sp scan scan_zero scan_succ exp_nonneg log1p_nonneg sp_nonneg)

/-- A number that is not infinite. -/
def IsR (v : EReal) : Prop := ∃ r : ℝ, v = r

/-- A real number is one. -/
theorem IsR.coe (r : ℝ) : IsR r := ⟨r, rfl⟩

/-- Zero is real. -/
theorem IsR.zero : IsR 0 := ⟨0, rfl⟩

/-- A real number is its real value. -/
theorem IsR.eq {v : EReal} (h : IsR v) : v = ((v.toReal : ℝ) : EReal) := by
  obtain ⟨r, rfl⟩ := h
  rfl

/-- A sum of real numbers is real. -/
theorem IsR.add {a b : EReal} (ha : IsR a) (hb : IsR b) : IsR (a + b) := by
  obtain ⟨r, rfl⟩ := ha
  obtain ⟨s, rfl⟩ := hb
  exact ⟨r + s, by push_cast; rfl⟩

/-- A product of real numbers is real. -/
theorem IsR.mul {a b : EReal} (ha : IsR a) (hb : IsR b) : IsR (a * b) := by
  obtain ⟨r, rfl⟩ := ha
  obtain ⟨s, rfl⟩ := hb
  exact ⟨r * s, by push_cast; rfl⟩

/-- A negated real number is real. -/
theorem IsR.neg {a : EReal} (ha : IsR a) : IsR (-a) := by
  obtain ⟨r, rfl⟩ := ha
  exact ⟨-r, by push_cast; rfl⟩

/-- A maximum of real numbers is real. -/
theorem IsR.max {a b : EReal} (ha : IsR a) (hb : IsR b) : IsR (max a b) := by
  rcases max_choice a b with h | h <;> rw [h] <;> assumption

/-- An exponential of a real number is real. -/
theorem IsR.exp {a : EReal} (ha : IsR a) : IsR (Ideal.exp a) := by
  obtain ⟨r, rfl⟩ := ha
  exact ⟨Real.exp r, rfl⟩

/-- The logarithm of one plus a number not negative is real. -/
theorem IsR.log1p {a : EReal} (ha : IsR a) (h0 : 0 ≤ a) : IsR (Ideal.log1p a) := by
  obtain ⟨r, rfl⟩ := ha
  have hr : (0 : ℝ) ≤ r := EReal.coe_nonneg.mp h0
  refine ⟨Real.log (1 + r), ?_⟩
  change (if 1 + r ≤ 0 then ⊥ else ((Real.log (1 + r) : ℝ) : EReal)) = _
  rw [if_neg (by linarith)]

/-- The logistic function of a real number is real. -/
theorem IsR.sg {a : EReal} (ha : IsR a) : IsR (sg a) := by
  obtain ⟨r, rfl⟩ := ha
  refine ⟨1 * (1 + Real.exp (-r))⁻¹, ?_⟩
  have hp := Real.exp_pos (-r)
  change Ideal.div ((1 : ℝ) : EReal) (((1 : ℝ) : EReal) + ((Real.exp (-r) : ℝ) : EReal)) = _
  rw [← EReal.coe_add]
  unfold Ideal.div
  rw [if_neg (by
    rw [← EReal.coe_zero]
    exact fun h => absurd (EReal.coe_eq_coe_iff.mp h) (by linarith))]
  rw [← EReal.coe_inv, ← EReal.coe_mul]

/-- The softplus of a real number is real. -/
theorem IsR.sp {a : EReal} (ha : IsR a) : IsR (sp a) :=
  (ha.max IsR.zero).add (((ha.max ha.neg).neg.exp).log1p (exp_nonneg _))

/-- A finite sum of reals, taken in the reals. -/
theorem coe_sum {ι : Type} (t : Finset ι) (f : ι → ℝ) : ∑ i ∈ t, (f i : EReal) = ((∑ i ∈ t, f i : ℝ) : EReal) := by
  classical
  induction t using Finset.induction with
  | empty => simp
  | insert a t ha ih => rw [Finset.sum_insert ha, Finset.sum_insert ha, ih]; push_cast; rfl

/-- A finite sum of real numbers is real. -/
theorem IsR.sum {ι : Type} (t : Finset ι) (f : ι → EReal) (h : ∀ i, IsR (f i)) : IsR (∑ i ∈ t, f i) := by
  refine ⟨∑ i ∈ t, (f i).toReal, ?_⟩
  rw [← coe_sum]
  exact Finset.sum_congr rfl fun i _ => (h i).eq

/-! ## The branch, entry by entry -/

/-- The branch's arguments: inputs, the input projection's gate, convolution and step columns, convolution taps and bias,
step bias, decay parameter, skip weights and norm weights. -/
structure Par where
  x : Fin 2 → Fin 8192 → Fin 1024 → EReal
  wz : Fin 1024 → Fin 2048 → EReal
  wx : Fin 1024 → Fin 3072 → EReal
  wd : Fin 1024 → Fin 32 → EReal
  cw : Fin 4 → Fin 3072 → EReal
  cb : Fin 3072 → EReal
  dtb : Fin 32 → EReal
  alog : Fin 32 → EReal
  dd : Fin 32 → EReal
  nw : Fin 2048 → EReal

namespace Par

variable (p : Par)

/-- The gate's columns of a projected row. -/
def pz (b : Fin 2) (s : Nat) (q : Fin 2048) : EReal := if h : s < 8192 then ∑ k : Fin 1024, p.x b ⟨s, h⟩ k * p.wz k q else 0

/-- The convolution's columns of a projected row. -/
def px (b : Fin 2) (s : Nat) (l : Fin 3072) : EReal := if h : s < 8192 then ∑ k : Fin 1024, p.x b ⟨s, h⟩ k * p.wx k l else 0

/-- The steps' columns of a projected row. -/
def pd (b : Fin 2) (s : Nat) (h : Fin 32) : EReal := if hs : s < 8192 then ∑ k : Fin 1024, p.x b ⟨s, hs⟩ k * p.wd k h else 0

/-- Row `s - d` of the projection, zero before the sequence. -/
def sh (d : Nat) (b : Fin 2) (s : Nat) (l : Fin 3072) : EReal := if d ≤ s then p.px b (s - d) l else 0

/-- The causal convolution. -/
def xc (b : Fin 2) (s : Nat) (l : Fin 3072) : EReal :=
  p.cb l + p.cw 3 l * p.px b s l + p.cw 0 l * p.sh 3 b s l + p.cw 1 l * p.sh 2 b s l + p.cw 2 l * p.sh 1 b s l

/-- The convolution's output, through its activation. -/
def xv (b : Fin 2) (s : Nat) (l : Fin 3072) : EReal := p.xc b s l * sg (p.xc b s l)

/-- A head's step. -/
def dt (b : Fin 2) (h : Fin 32) (s : Nat) : EReal := sp (p.pd b s h + p.dtb h)

/-- A head's log decay. -/
def a (b : Fin 2) (h : Fin 32) (s : Nat) : EReal := p.dt b h s * (-(Ideal.exp (p.alog h)))

/-- The recurrence's input. -/
def X (b : Fin 2) (q : Fin 2048) (s : Nat) : EReal := p.xv b s ⟨q.val, by omega⟩

/-- The input map of a group. -/
def B (b : Fin 2) (g : Fin 4) (n : Fin 128) (s : Nat) : EReal := p.xv b s ⟨2048 + 128 * g.val + n.val, by omega⟩

/-- The output map of a group. -/
def C (b : Fin 2) (g : Fin 4) (n : Fin 128) (s : Nat) : EReal := p.xv b s ⟨2560 + 128 * g.val + n.val, by omega⟩

/-- The head of a lane. -/
def hd (q : Fin 2048) : Fin 32 := ⟨q.val / 64, by omega⟩

/-- The group of a lane. -/
def gp (q : Fin 2048) : Fin 4 := ⟨q.val / 512, by omega⟩

/-- The state after `s` rows. -/
def H (b : Fin 2) (q : Fin 2048) (n : Fin 128) (s : Nat) : EReal :=
  scan (fun t => Ideal.exp (p.a b (hd q) t)) (fun t => p.X b q t * p.dt b (hd q) t * p.B b (gp q) n t) 0 s

/-- The recurrence's output, with the skip. -/
def y (b : Fin 2) (s : Nat) (q : Fin 2048) : EReal :=
  ∑ n : Fin 128, p.H b q n (s + 1) * p.C b (gp q) n s + p.dd (hd q) * p.X b q s

/-- The gated output. -/
def gt (b : Fin 2) (s : Nat) (q : Fin 2048) : EReal := p.y b s q * (p.pz b s q * sg (p.pz b s q))

/-- The branch's result. -/
def out (b : Fin 2) (s : Nat) (q : Fin 2048) : EReal :=
  p.gt b s q * Ideal.rsqrt (Ideal.div (∑ k : Fin 512, p.gt b s ⟨512 * (q.val / 512) + k.val, by omega⟩ * p.gt b s ⟨512 * (q.val / 512) + k.val, by omega⟩)
    (Ideal.ofBits FTy.f32 0x44000000#32) + Ideal.ofBits FTy.f32 0x3727C5AC#32) * p.nw q

/-- Arguments without infinities, where the recurrence reads them. -/
structure Reals : Prop where
  x : ∀ b s k, IsR (p.x b s k)
  wx : ∀ k l, IsR (p.wx k l)
  wd : ∀ k h, IsR (p.wd k h)
  cw : ∀ t l, IsR (p.cw t l)
  cb : ∀ l, IsR (p.cb l)
  dtb : ∀ h, IsR (p.dtb h)
  alog : ∀ h, IsR (p.alog h)

variable {p}

/-- The branch's projected entries are real. -/
theorem px_real (f : p.Reals) (b s l) : IsR (p.px b s l) := by
  unfold px
  split
  · exact IsR.sum _ _ fun k => (f.x _ _ _).mul (f.wx _ _)
  · exact IsR.zero

/-- The steps' projected entries are real. -/
theorem pd_real (f : p.Reals) (b s h) : IsR (p.pd b s h) := by
  unfold pd
  split
  · exact IsR.sum _ _ fun k => (f.x _ _ _).mul (f.wd _ _)
  · exact IsR.zero

/-- The shifted rows are real. -/
theorem sh_real (f : p.Reals) (d b s l) : IsR (p.sh d b s l) := by
  unfold sh
  split
  · exact px_real f _ _ _
  · exact IsR.zero

/-- The convolved rows are real. -/
theorem xc_real (f : p.Reals) (b s l) : IsR (p.xc b s l) :=
  ((((f.cb l).add ((f.cw _ _).mul (px_real f _ _ _))).add ((f.cw _ _).mul (sh_real f _ _ _ _))).add
    ((f.cw _ _).mul (sh_real f _ _ _ _))).add ((f.cw _ _).mul (sh_real f _ _ _ _))

/-- The activated rows are real. -/
theorem xv_real (f : p.Reals) (b s l) : IsR (p.xv b s l) := (xc_real f b s l).mul (xc_real f b s l).sg

/-- The steps are real. -/
theorem dt_real (f : p.Reals) (b h s) : IsR (p.dt b h s) := ((pd_real f b s h).add (f.dtb h)).sp

/-- The log decays are real. -/
theorem a_real (f : p.Reals) (b h s) : IsR (p.a b h s) := (dt_real f b h s).mul (f.alog h).exp.neg

/-- The log decays are not positive. -/
theorem a_nonpos (p : Par) (b h s) : p.a b h s ≤ 0 := by
  unfold a
  exact mul_nonpos_of_nonneg_of_nonpos (sp_nonneg _) (by rw [EReal.neg_le, neg_zero]; exact exp_nonneg _)

end Par

/-! ## The recurrence over the reals -/

/-- A state entry after `t` rows, from log decays, inputs and an input map. -/
def SR (a u B : ℕ → ℝ) (t : ℕ) : ℝ := Nat.rec 0 (fun s p => Real.exp (a s) * p + u s * B s) t

/-- One step of the real recurrence. -/
theorem SR_succ (a u B : ℕ → ℝ) (t : ℕ) : SR a u B (t + 1) = Real.exp (a t) * SR a u B t + u t * B t := rfl

/-- The log decay from row `t0` through row `t0 + k - 1`. -/
def cd (a : ℕ → ℝ) (t0 k : ℕ) : ℝ := ∑ i ∈ Finset.range k, a (t0 + i)

/-- One more term of the cumulative sum. -/
theorem cd_succ (a : ℕ → ℝ) (t0 k : ℕ) : cd a t0 (k + 1) = cd a t0 k + a (t0 + k) := Finset.sum_range_succ _ _

/-- With nonpositive log decays, a later total is no larger. -/
theorem cd_le {a : ℕ → ℝ} (h : ∀ t, a t ≤ 0) (t0 : ℕ) {s l : ℕ} (hs : s ≤ l) : cd a t0 l ≤ cd a t0 s := by
  induction l with
  | zero => rw [Nat.le_zero.mp hs]
  | succ l ih =>
    rcases Nat.lt_or_ge l s with h1 | h1
    · rw [show s = l + 1 by omega]
    · rw [cd_succ]
      linarith [ih h1, h (t0 + l)]

/-- The state `k` rows on, from the state at `t0` and the rows between. -/
theorem SR_add (a u B : ℕ → ℝ) (t0 k : ℕ) : SR a u B (t0 + k) = SR a u B t0 * Real.exp (cd a t0 k)
    + ∑ s ∈ Finset.range k, Real.exp (cd a t0 k - cd a t0 (s + 1)) * (u (t0 + s) * B (t0 + s)) := by
  induction k with
  | zero => simp [cd]
  | succ k ih =>
    rw [← Nat.add_assoc, SR_succ, ih, Finset.sum_range_succ, sub_self, Real.exp_zero, one_mul, mul_add, Finset.mul_sum, cd_succ, Real.exp_add]
    have e : ∀ s ∈ Finset.range k, Real.exp (a (t0 + k)) * (Real.exp (cd a t0 k - cd a t0 (s + 1)) * (u (t0 + s) * B (t0 + s)))
        = Real.exp (cd a t0 k + a (t0 + k) - cd a t0 (s + 1)) * (u (t0 + s) * B (t0 + s)) := by
      intro s _
      rw [← mul_assoc, ← Real.exp_add]
      congr 2
      ring
    rw [Finset.sum_congr rfl e]
    ring

/-- The state after a chunk, as the chunk's weights give it. -/
theorem chunk_state (a x d B : ℕ → ℝ) (t0 : ℕ) :
    SR a (fun t => x t * d t) B t0 * Real.exp (cd a t0 128)
      + ∑ l : Fin 128, B (t0 + l.val) * (x (t0 + l.val) * (d (t0 + l.val) * Real.exp (cd a t0 128 - cd a t0 (l.val + 1))))
      = SR a (fun t => x t * d t) B (t0 + 128) := by
  rw [SR_add, ← Fin.sum_univ_eq_sum_range (fun s => Real.exp (cd a t0 128 - cd a t0 (s + 1)) * (x (t0 + s) * d (t0 + s) * B (t0 + s)))]
  congr 1
  exact Finset.sum_congr rfl fun l _ => by ring

/-- A row's output in a chunk: its own rows up to it, and the state before the chunk. -/
theorem chunk_out {a : ℕ → ℝ} (ha : ∀ t, a t ≤ 0) (x d : ℕ → ℝ) (B C : Fin 128 → ℕ → ℝ) (t0 : ℕ) (r : Fin 128) :
    ∑ s : Fin 128, (if s.val ≤ r.val then (∑ n, C n (t0 + r.val) * B n (t0 + s.val))
        * Real.exp (min (cd a t0 (r.val + 1) - cd a t0 (s.val + 1)) 0) * d (t0 + s.val) else 0) * x (t0 + s.val)
      + (∑ n, C n (t0 + r.val) * SR a (fun t => x t * d t) (B n) t0) * Real.exp (cd a t0 (r.val + 1))
      = ∑ n, SR a (fun t => x t * d t) (B n) (t0 + r.val + 1) * C n (t0 + r.val) := by
  have e1 : ∑ s : Fin 128, (if s.val ≤ r.val then (∑ n, C n (t0 + r.val) * B n (t0 + s.val))
        * Real.exp (min (cd a t0 (r.val + 1) - cd a t0 (s.val + 1)) 0) * d (t0 + s.val) else 0) * x (t0 + s.val)
      = ∑ s ∈ Finset.range (r.val + 1), ∑ n, Real.exp (cd a t0 (r.val + 1) - cd a t0 (s + 1)) * (x (t0 + s) * d (t0 + s) * B n (t0 + s)) * C n (t0 + r.val) := by
    rw [Fin.sum_univ_eq_sum_range (fun s => (if s ≤ r.val then (∑ n, C n (t0 + r.val) * B n (t0 + s))
        * Real.exp (min (cd a t0 (r.val + 1) - cd a t0 (s + 1)) 0) * d (t0 + s) else 0) * x (t0 + s)) 128]
    symm
    refine (Finset.sum_congr rfl fun s hs => ?_).trans (Finset.sum_subset (Finset.range_subset_range.mpr (by omega)) fun s _ hs => ?_)
    · have hs' : s ≤ r.val := by have := Finset.mem_range.mp hs; omega
      rw [if_pos hs', min_eq_left (by linarith [cd_le ha t0 (Nat.succ_le_succ hs')]), Finset.sum_mul, Finset.sum_mul, Finset.sum_mul]
      exact Finset.sum_congr rfl fun n _ => by ring
    · rw [if_neg (by have := mt Finset.mem_range.mpr hs; omega), zero_mul]
  rw [e1, Finset.sum_comm, Finset.sum_mul, ← Finset.sum_add_distrib]
  refine Finset.sum_congr rfl fun n _ => ?_
  rw [Nat.add_assoc, SR_add, add_mul, Finset.sum_mul]
  ring

/-! ## The branch's recurrence in the reals -/

namespace Par

variable {p : Par}

/-- A head's log decays, as reals. -/
def aR (p : Par) (b : Fin 2) (h : Fin 32) (s : Nat) : ℝ := (p.a b h s).toReal

/-- A head's steps, as reals. -/
def dR (p : Par) (b : Fin 2) (h : Fin 32) (s : Nat) : ℝ := (p.dt b h s).toReal

/-- The convolution's output, as reals. -/
def vR (p : Par) (b : Fin 2) (l : Fin 3072) (s : Nat) : ℝ := (p.xv b s l).toReal

/-- The log decay is its real value. -/
theorem a_eq (f : p.Reals) (b h s) : p.a b h s = ((p.aR b h s : ℝ) : EReal) := (a_real f b h s).eq

/-- The step is its real value. -/
theorem dt_eq (f : p.Reals) (b h s) : p.dt b h s = ((p.dR b h s : ℝ) : EReal) := (dt_real f b h s).eq

/-- The activated entry is its real value. -/
theorem xv_eq (f : p.Reals) (b s l) : p.xv b s l = ((p.vR b l s : ℝ) : EReal) := (xv_real f b s l).eq

/-- The real log decays are not positive. -/
theorem aR_nonpos (f : p.Reals) (b h s) : p.aR b h s ≤ 0 := by
  have := a_nonpos p b h s
  rw [a_eq f] at this
  exact EReal.coe_nonpos.mp this

/-- The state of a lane, as reals. -/
def HR (p : Par) (b : Fin 2) (q : Fin 2048) (n : Fin 128) (s : Nat) : ℝ :=
  SR (p.aR b (hd q)) (fun t => p.vR b ⟨q.val, by omega⟩ t * p.dR b (hd q) t) (p.vR b ⟨2048 + 128 * (gp q).val + n.val, by omega⟩) s

/-- The state is the real recurrence's. -/
theorem H_eq (f : p.Reals) (b q n s) : p.H b q n s = ((p.HR b q n s : ℝ) : EReal) := by
  induction s with
  | zero => rfl
  | succ s ih =>
    have e : p.H b q n (s + 1) = Ideal.exp (p.a b (hd q) s) * p.H b q n s + p.X b q s * p.dt b (hd q) s * p.B b (gp q) n s := rfl
    rw [e, ih, a_eq f, dt_eq f]
    unfold X B
    rw [xv_eq f, xv_eq f]
    change ((Real.exp (p.aR b (hd q) s) : ℝ) : EReal) * _ + _ = _
    unfold HR
    rw [SR_succ]
    push_cast
    rfl

end Par

end Cert.SsdProof
-- ==== Proof.SsdChunk.lean ====
module

public import proofs.«01_k».proof.Proof.SsdAt
public import proofs.«01_k».proof.Proof.SsdSpec
public import Idealize.ShloMosaic.Lib.Pipeline.ValueKit
public import Idealize.ShloMosaic.Lib.Pointwise

@[expose] public section

set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.SsdProof

open Cert.SsdKernelIdeal Cert.SsdKernelIdeal.Gen
open Cert.LruProof (sg)

/-! ## Four tiles side by side -/

/-- An entry of four tiles of 128 lanes side by side. -/
theorem cat128_at (z : Fin 4 → FVec Ideal S128x128 .f32) (p : Fin 4) (r l : Fin 128) :
    (concatenate S128x512 1 [⟨S128x128, z 0⟩, ⟨S128x128, z 1⟩, ⟨S128x128, z 2⟩, ⟨S128x128, z 3⟩]
      concatenates_S128x128_S128x128_S128x128_S128x128_S128x512_d1 : FVec Ideal S128x512 .f32) (ix2 r ⟨128 * p.val + l.val, by omega⟩) = z p (ix2 r l) := by
  have e0 : ∀ (i : Nat) (hi : i < 128), i = l.val → (⟨i, hi⟩ : Fin 128) = l := fun i hi h => Fin.ext h
  pointwise
  obtain ⟨p, hp⟩ := p
  interval_cases p
  · rw [dif_pos (by change 128 * 0 + l.val < 128; omega)]
    rw [e0 _ _ (by change 128 * 0 + l.val = _; omega)]
    rfl
  · rw [dif_neg (by change ¬128 * 1 + l.val < 128; omega), dif_pos (by change 128 * 1 + l.val - 128 < 128; omega)]
    rw [e0 _ _ (by change 128 * 1 + l.val - 128 = _; omega)]
    rfl
  · rw [dif_neg (by change ¬128 * 2 + l.val < 128; omega), dif_neg (by change ¬128 * 2 + l.val - 128 < 128; omega),
      dif_pos (by change 128 * 2 + l.val - 128 - 128 < 128; omega)]
    rw [e0 _ _ (by change 128 * 2 + l.val - 128 - 128 = _; omega)]
    rfl
  · rw [dif_neg (by change ¬128 * 3 + l.val < 128; omega), dif_neg (by change ¬128 * 3 + l.val - 128 < 128; omega),
      dif_neg (by change ¬128 * 3 + l.val - 128 - 128 < 128; omega)]
    rw [e0 _ _ (by change 128 * 3 + l.val - 128 - 128 - 128 = _; omega)]
    rfl

/-- An entry of four tiles of 512 lanes side by side. -/
theorem cat512_at (z : Fin 4 → FVec Ideal S128x512 .f32) (p : Fin 4) (r : Fin 128) (l : Fin 512) :
    (concatenate S128x2048 1 [⟨S128x512, z 0⟩, ⟨S128x512, z 1⟩, ⟨S128x512, z 2⟩, ⟨S128x512, z 3⟩]
      concatenates_S128x512_S128x512_S128x512_S128x512_S128x2048_d1 : FVec Ideal S128x2048 .f32) (ix2 r ⟨512 * p.val + l.val, by omega⟩) = z p (ix2 r l) := by
  have e0 : ∀ (i : Nat) (hi : i < 512), i = l.val → (⟨i, hi⟩ : Fin 512) = l := fun i hi h => Fin.ext h
  pointwise
  obtain ⟨p, hp⟩ := p
  interval_cases p
  · rw [dif_pos (by change 512 * 0 + l.val < 512; omega)]
    rw [e0 _ _ (by change 512 * 0 + l.val = _; omega)]
    rfl
  · rw [dif_neg (by change ¬512 * 1 + l.val < 512; omega), dif_pos (by change 512 * 1 + l.val - 512 < 512; omega)]
    rw [e0 _ _ (by change 512 * 1 + l.val - 512 = _; omega)]
    rfl
  · rw [dif_neg (by change ¬512 * 2 + l.val < 512; omega), dif_neg (by change ¬512 * 2 + l.val - 512 < 512; omega),
      dif_pos (by change 512 * 2 + l.val - 512 - 512 < 512; omega)]
    rw [e0 _ _ (by change 512 * 2 + l.val - 512 - 512 = _; omega)]
    rfl
  · rw [dif_neg (by change ¬512 * 3 + l.val < 512; omega), dif_neg (by change ¬512 * 3 + l.val - 512 < 512; omega),
      dif_neg (by change ¬512 * 3 + l.val - 512 - 512 < 512; omega)]
    rw [e0 _ _ (by change 512 * 3 + l.val - 512 - 512 - 512 = _; omega)]
    rfl

/-! ## A pair of heads -/

/-- A pair's product, over the two heads' rows. -/
theorem pair_sum (M : FVec Ideal S128x256 .bf16) (N : FVec Ideal S256x128 .bf16) (r l : Fin 128) :
    matmul dot_S128x256_S256x128_S128x128_1_0_0_1_n_n none M N (constant S128x128 .f32 0x00000000#32) (ix2 r l)
      = ∑ s : Fin 128, M (ix2 r ⟨s.val, by omega⟩) * N (ix2 ⟨s.val, by omega⟩ l)
        + ∑ s : Fin 128, M (ix2 r ⟨128 + s.val, by omega⟩) * N (ix2 ⟨128 + s.val, by omega⟩ l) := by
  pointwise
  exact Fin.sum_univ_add (a := 128) (b := 128) (fun k : Fin (128 + 128) => M (ix2 r k) * N (ix2 k l))

/-- The left half of a pair's weights. -/
theorem pairM_at0 (z w : FVec Ideal S128x128 .bf16) (r s : Fin 128) :
    (concatenate S128x256 1 [⟨S128x128, z⟩, ⟨S128x128, w⟩] concatenates_S128x128_S128x128_S128x256_d1 : FVec Ideal S128x256 .bf16) (ix2 r ⟨s.val, by omega⟩)
      = z (ix2 r s) := by
  pointwise

/-- The right half of a pair's weights. -/
theorem pairM_at1 (z w : FVec Ideal S128x128 .bf16) (r s : Fin 128) :
    (concatenate S128x256 1 [⟨S128x128, z⟩, ⟨S128x128, w⟩] concatenates_S128x128_S128x128_S128x256_d1 : FVec Ideal S128x256 .bf16) (ix2 r ⟨128 + s.val, by omega⟩)
      = w (ix2 r s) := by
  pointwise

/-- A lane of a pair's output sees its own head alone. -/
theorem pairT_at (t : Fin 16) (cb cst dtt : FVec Ideal S128x128 .f32) (COL : FVec Ideal S128x4096 .f32) (xs : FVec Ideal S128x2048 .f32)
    (r l : Fin 128) :
    pairT t cb cst dtt COL xs (ix2 r l)
      = ∑ s : Fin 128, headM ⟨2 * t.val + l.val / 64, by omega⟩ cb cst dtt COL (ix2 r s) * xs (ix2 s ⟨128 * t.val + l.val, by omega⟩) := by
  unfold pairT
  rw [pair_sum]
  simp only [pairM_at0, pairM_at1, stackX_at0, stackX_at1]
  by_cases h : l.val < 64
  · simp only [if_pos h, mul_zero, Finset.sum_const_zero, add_zero]
    have e : (⟨2 * t.val + l.val / 64, by omega⟩ : Fin 32) = ⟨2 * t.val, by omega⟩ := Fin.ext (by change 2 * t.val + l.val / 64 = 2 * t.val; omega)
    rw [e]
  · simp only [if_neg h, mul_zero, Finset.sum_const_zero, zero_add]
    have e : (⟨2 * t.val + l.val / 64, by omega⟩ : Fin 32) = ⟨2 * t.val + 1, by omega⟩ := Fin.ext (by change 2 * t.val + l.val / 64 = 2 * t.val + 1; omega)
    rw [e]

/-- The part of a group's output that reads the state. -/
theorem yS_at (Ct : FVec Ideal S128x128 .bf16) (WO : FVec Ideal S128x2048 .f32) (g : Fin 4) (st : Vec Ideal S1x128x512 .f32) (r : Fin 128) (q : Fin 512) :
    mulf (matmul dot_S128x128_S128x512_S128x512_1_0_0_1_n_n none Ct
        (truncf .bf16 (shapeCast S128x512 st shapeCasts_S1x128x512_S128x512 : FVec Ideal S128x512 .f32) bitsLt_bf16_f32) (constant S128x512 .f32 0x00000000#32))
      (extractStridedSlice S128x512 ![0, 512 * g.val] WO (sl_group g)) (ix2 r q)
      = (∑ n : Fin 128, Ct (ix2 r n) * st (ix3 0 n q)) * WO (ix2 r ⟨512 * g.val + q.val, by omega⟩) := by
  pointwise

/-- A group's output, its own rows and the state's part. -/
theorem yG_at (o : Fin 2) (g : Fin 4) (X : FVec Ideal S256x3072 .f32) (cst dtt : FVec Ideal S128x128 .f32) (COL : FVec Ideal S128x4096 .f32)
    (WO : FVec Ideal S128x2048 .f32) (st : Vec Ideal S1x128x512 .f32) (r : Fin 128) (q : Fin 512) :
    yG o g X cst dtt COL WO st (ix2 r q)
      = ∑ s : Fin 128, headM ⟨8 * g.val + q.val / 64, by omega⟩ (cbT o g X) cst dtt COL (ix2 r s) * xsT o X (ix2 s ⟨512 * g.val + q.val, by omega⟩)
        + (∑ n : Fin 128, cT o g X (ix2 r n) * st (ix3 0 n q)) * WO (ix2 r ⟨512 * g.val + q.val, by omega⟩) := by
  unfold yG
  change _ + mulf _ _ _ = _
  rw [yS_at]
  congr 1
  have hq : q = ⟨128 * (⟨q.val / 128, by omega⟩ : Fin 4).val + (⟨q.val % 128, by omega⟩ : Fin 128).val, by change 128 * (q.val / 128) + q.val % 128 < 512; omega⟩ :=
    Fin.ext (by change q.val = 128 * (q.val / 128) + q.val % 128; omega)
  have e := cat128_at (fun p => pairT ⟨4 * g.val + p.val, by omega⟩ (cbT o g X) cst dtt COL (xsT o X)) ⟨q.val / 128, by omega⟩ r ⟨q.val % 128, by omega⟩
  rw [← hq] at e
  refine e.trans ?_
  rw [pairT_at]
  have e1 : (⟨2 * (⟨4 * g.val + q.val / 128, by omega⟩ : Fin 16).val + (⟨q.val % 128, by omega⟩ : Fin 128).val / 64, by
      change 2 * (4 * g.val + q.val / 128) + q.val % 128 / 64 < 32; omega⟩ : Fin 32) = ⟨8 * g.val + q.val / 64, by omega⟩ :=
    Fin.ext (by change 2 * (4 * g.val + q.val / 128) + q.val % 128 / 64 = 8 * g.val + q.val / 64; omega)
  have e2 : (⟨128 * (⟨4 * g.val + q.val / 128, by omega⟩ : Fin 16).val + (⟨q.val % 128, by omega⟩ : Fin 128).val, by
      change 128 * (4 * g.val + q.val / 128) + q.val % 128 < 2048; omega⟩ : Fin 2048) = ⟨512 * g.val + q.val, by omega⟩ :=
    Fin.ext (by change 128 * (4 * g.val + q.val / 128) + q.val % 128 = 512 * g.val + q.val; omega)
  rw [e1, e2]

/-! ## Real decays, through the split products -/

/-- A masked sum of reals. -/
theorem tri_sum (f : ℕ → ℝ) (l : Fin 128) :
    ∑ i : Fin 128, (if i.val ≤ l.val then (1 : EReal) else 0) * (f i.val : EReal) = ((∑ i ∈ Finset.range (l.val + 1), f i : ℝ) : EReal) := by
  rw [Fin.sum_univ_eq_sum_range (fun i => (if i ≤ l.val then (1 : EReal) else 0) * (f i : EReal)) 128, ← coe_sum]
  symm
  refine (Finset.sum_congr rfl fun s hs => ?_).trans (Finset.sum_subset (Finset.range_subset_range.mpr (by omega)) fun s _ hs => ?_)
  · rw [if_pos (by have := Finset.mem_range.mp hs; omega), one_mul]
  · rw [if_neg (by have := mt Finset.mem_range.mpr hs; omega), zero_mul]

/-- A real number less itself is zero. -/
theorem sub_self_real {v : EReal} (h : IsR v) : v - v = 0 := by
  obtain ⟨r, rfl⟩ := h
  rw [← EReal.coe_sub, sub_self, EReal.coe_zero]

/-- A rounding leaves nothing of a real number. -/
theorem rem_real {v : FVec Ideal S128x128 .f32} {r h : Fin 128} (hv : IsR (v (ix2 r h))) : rem v (ix2 r h) = 0 := by
  rw [rem_at, sub_self_real hv]

/-- A second rounding leaves nothing of a real number. -/
theorem rem2_real {v : FVec Ideal S128x128 .f32} {r h : Fin 128} (hv : IsR (v (ix2 r h))) : rem (rem v) (ix2 r h) = 0 :=
  rem_real (by rw [rem_real hv]; exact IsR.zero)

/-- Each head's column repeated: the one-hot product picks it. -/
theorem spread_real {EC : FVec Ideal S384x4096 .bf16} {cs : FVec Ideal S128x128 .f32}
    (hEC : ∀ (k : Fin 384) (q : Fin 4096), EC (ix2 k q) = if k.val % 128 = q.val / 128 then 1 else 0)
    (l s : Fin 128) (h : Fin 32) (hv : IsR (cs (ix2 l ⟨h.val, by omega⟩))) :
    spread EC cs (ix2 l ⟨128 * h.val + s.val, by omega⟩) = cs (ix2 l ⟨h.val, by omega⟩) := by
  rw [spread_at, Finset.sum_eq_single (⟨h.val, by omega⟩ : Fin 384)]
  · rw [hEC, if_pos (by change h.val % 128 = (128 * h.val + s.val) / 128; omega), mul_one]
    exact three_at0 cs l ⟨h.val, by omega⟩
  · intro k _ hk
    rw [hEC]
    by_cases h1 : k.val % 128 = (128 * h.val + s.val) / 128
    · have hk' : k.val ≠ h.val := fun e => hk (Fin.ext e)
      rcases (by omega : k.val = 128 + h.val ∨ k.val = 256 + h.val) with e | e
      · have ek : k = ⟨128 + (⟨h.val, by omega⟩ : Fin 128).val, by change 128 + h.val < 384; omega⟩ := Fin.ext e
        rw [ek, three_at1, rem_real hv, zero_mul]
      · have ek : k = ⟨256 + (⟨h.val, by omega⟩ : Fin 128).val, by change 256 + h.val < 384; omega⟩ := Fin.ext e
        rw [ek, three_at2, rem2_real hv, zero_mul]
    · rw [if_neg h1, mul_zero]
  · intro h; exact absurd (Finset.mem_univ _) h

/-- A head's weight over its lanes: the one-hot product picks it. -/
theorem widen_real {EH : FVec Ideal S256x2048 .bf16} {v : FVec Ideal S128x128 .f32}
    (hEH : ∀ (k : Fin 256) (q : Fin 2048), EH (ix2 k q) = if k.val % 128 = q.val / 64 then 1 else 0)
    (l : Fin 128) (q : Fin 2048) (hv : IsR (v (ix2 l ⟨q.val / 64, by omega⟩))) :
    widen EH v (ix2 l q) = v (ix2 l ⟨q.val / 64, by omega⟩) := by
  rw [widen_at, Finset.sum_eq_single (⟨q.val / 64, by omega⟩ : Fin 256)]
  · rw [hEH, if_pos (by change q.val / 64 % 128 = q.val / 64; omega), mul_one]
    exact two_at0 v l ⟨q.val / 64, by omega⟩
  · intro k _ hk
    rw [hEH]
    by_cases h1 : k.val % 128 = q.val / 64
    · have hk' : k.val ≠ q.val / 64 := fun e => hk (Fin.ext e)
      have ek : k = ⟨128 + (⟨q.val / 64, by omega⟩ : Fin 128).val, by change 128 + q.val / 64 < 256; omega⟩ :=
        Fin.ext (by change k.val = 128 + q.val / 64; omega)
      rw [ek, two_at1, rem_real hv, zero_mul]
    · rw [if_neg h1, mul_zero]
  · intro h; exact absurd (Finset.mem_univ _) h

/-- A chunk's tiles carry the branch's entries from row `T` of sequence `b` on. -/
structure Chunk.Of (c : Chunk) (p : Par) (b : Fin 2) (T : Nat) : Prop where
  tri : ∀ r s : Fin 128, c.TRI (ix2 r s) = if s.val ≤ r.val then 1 else 0
  ec : ∀ (k : Fin 384) (q : Fin 4096), c.EC (ix2 k q) = if k.val % 128 = q.val / 128 then 1 else 0
  eh : ∀ (k : Fin 256) (q : Fin 2048), c.EH (ix2 k q) = if k.val % 128 = q.val / 64 then 1 else 0
  da : ∀ (r : Fin 256) (h : Fin 32), c.DA (ix2 r ⟨h.val, by omega⟩) = p.a b h (T + r.val)
  dt : ∀ (r : Fin 256) (h : Fin 32), c.DT (ix2 r ⟨h.val, by omega⟩) = p.dt b h (T + r.val)
  x : ∀ (r : Fin 256) (l : Fin 3072), c.X (ix2 r l) = p.xv b (T + r.val) l
  z : ∀ (r : Fin 256) (q : Fin 2048), c.P (ix2 r ⟨q.val, by omega⟩) = p.pz b (T + r.val) q

variable {c : Chunk} {p : Par} {b : Fin 2} {T : Nat}

open Par (hd gp a_eq dt_eq xv_eq aR_nonpos H_eq)

/-- A row's total log decay within its chunk. -/
theorem Chunk.cs_at (k : c.Of p b T) (f : p.Reals) (o : Fin 2) (l : Fin 128) (h : Fin 32) :
    c.cs o (ix2 l ⟨h.val, by omega⟩) = ((cd (p.aR b h) (T + 128 * o.val) (l.val + 1) : ℝ) : EReal) := by
  have hv : ∀ i : Fin 128, dtc o c.DA (ix2 i ⟨h.val, by omega⟩) = ((p.aR b h (T + 128 * o.val + i.val) : ℝ) : EReal) := by
    intro i
    rw [dtc_at, k.da, ← a_eq f]
    congr 1
    change T + (128 * o.val + i.val) = _
    omega
  unfold Chunk.cs
  rw [csum_at o c.DA c.TRI l ⟨h.val, by omega⟩, csum3_at, csum3_at, csum3_at]
  have e0 : ∑ i : Fin 128, c.TRI (ix2 l i) * three (dtc o c.DA) (ix2 i ⟨(⟨h.val, by omega⟩ : Fin 128).val, by change h.val < 384; omega⟩)
      = ((cd (p.aR b h) (T + 128 * o.val) (l.val + 1) : ℝ) : EReal) := by
    refine Eq.trans (Finset.sum_congr rfl fun i _ => ?_) (tri_sum (fun i => p.aR b h (T + 128 * o.val + i)) l)
    rw [k.tri, three_at0, hv]
  have e1 : ∑ i : Fin 128, c.TRI (ix2 l i) * three (dtc o c.DA) (ix2 i ⟨128 + (⟨h.val, by omega⟩ : Fin 128).val, by change 128 + h.val < 384; omega⟩) = 0 := by
    refine Finset.sum_eq_zero fun i _ => ?_
    rw [three_at1, rem_real (by rw [hv]; exact IsR.coe _), mul_zero]
  have e2 : ∑ i : Fin 128, c.TRI (ix2 l i) * three (dtc o c.DA) (ix2 i ⟨256 + (⟨h.val, by omega⟩ : Fin 128).val, by change 256 + h.val < 384; omega⟩) = 0 := by
    refine Finset.sum_eq_zero fun i _ => ?_
    rw [three_at2, rem2_real (by rw [hv]; exact IsR.coe _), mul_zero]
  rw [e0, e1, e2, add_zero, add_zero]

/-- A chunk's steps are the specification's. -/
theorem Chunk.dt_at (k : c.Of p b T) (f : p.Reals) (o : Fin 2) (l : Fin 128) (h : Fin 32) :
    dtc o c.DT (ix2 l ⟨h.val, by omega⟩) = ((p.dR b h (T + 128 * o.val + l.val) : ℝ) : EReal) := by
  rw [dtc_at, k.dt, ← dt_eq f]
  congr 1
  change T + (128 * o.val + l.val) = _
  omega

/-- A chunk's inputs are the specification's. -/
theorem Chunk.x_at (k : c.Of p b T) (f : p.Reals) (o : Fin 2) (r : Fin 128) (q : Fin 2048) :
    xsT o c.X (ix2 r q) = ((p.vR b ⟨q.val, by omega⟩ (T + 128 * o.val + r.val) : ℝ) : EReal) := by
  rw [xsT_at, k.x, ← xv_eq f]
  congr 1
  change T + (128 * o.val + r.val) = _
  omega

/-- A chunk's input directions are the specification's. -/
theorem Chunk.b_at (k : c.Of p b T) (f : p.Reals) (o : Fin 2) (g : Fin 4) (r n : Fin 128) :
    bT o g c.X (ix2 r n) = ((p.vR b ⟨2048 + 128 * g.val + n.val, by omega⟩ (T + 128 * o.val + r.val) : ℝ) : EReal) := by
  rw [bT_at, k.x, ← xv_eq f]
  congr 1
  change T + (128 * o.val + r.val) = _
  omega

/-- A chunk's output directions are the specification's. -/
theorem Chunk.c_at (k : c.Of p b T) (f : p.Reals) (o : Fin 2) (g : Fin 4) (r n : Fin 128) :
    cT o g c.X (ix2 r n) = ((p.vR b ⟨2560 + 128 * g.val + n.val, by omega⟩ (T + 128 * o.val + r.val) : ℝ) : EReal) := by
  rw [cT_at, k.x, ← xv_eq f]
  congr 1
  change T + (128 * o.val + r.val) = _
  omega

/-- The carried state's factor at a frame. -/
theorem Chunk.wo_at (k : c.Of p b T) (f : p.Reals) (o : Fin 2) (r : Fin 128) (q : Fin 2048) :
    c.WO o (ix2 r q) = ((Real.exp (cd (p.aR b (hd q)) (T + 128 * o.val) (r.val + 1)) : ℝ) : EReal) := by
  have e : exp (c.cs o) (ix2 r ⟨q.val / 64, by omega⟩) = ((Real.exp (cd (p.aR b (hd q)) (T + 128 * o.val) (r.val + 1)) : ℝ) : EReal) := by
    change Ideal.exp (c.cs o (ix2 r ⟨(hd q).val, by omega⟩)) = _
    rw [Chunk.cs_at k f]
    rfl
  unfold Chunk.WO
  rw [widen_real k.eh _ _ (by rw [e]; exact IsR.coe _), e]

/-- A frame's weight in the new state. -/
theorem Chunk.ws_at (k : c.Of p b T) (f : p.Reals) (o : Fin 2) (r : Fin 128) (q : Fin 2048) :
    c.WS o (ix2 r q) = ((p.dR b (hd q) (T + 128 * o.val + r.val) * Real.exp (cd (p.aR b (hd q)) (T + 128 * o.val) 128
      - cd (p.aR b (hd q)) (T + 128 * o.val) (r.val + 1)) : ℝ) : EReal) := by
  have e : wst (dtc o c.DT) (c.cs o) (ix2 r ⟨q.val / 64, by omega⟩) = ((p.dR b (hd q) (T + 128 * o.val + r.val) * Real.exp (cd (p.aR b (hd q)) (T + 128 * o.val) 128
      - cd (p.aR b (hd q)) (T + 128 * o.val) (r.val + 1)) : ℝ) : EReal) := by
    rw [wst_at]
    change dtc o c.DT (ix2 r ⟨(hd q).val, by omega⟩) * Ideal.exp (c.cs o (ix2 127 ⟨(hd q).val, by omega⟩) - c.cs o (ix2 r ⟨(hd q).val, by omega⟩)) = _
    rw [Chunk.cs_at k f, Chunk.cs_at k f, Chunk.dt_at k f, ← EReal.coe_sub, EReal.coe_mul]
    rfl
  unfold Chunk.WS
  rw [widen_real k.eh _ _ (by rw [e]; exact IsR.coe _), e]

/-- Two heads' mask entry: scores, decay between the rows, step. -/
theorem Chunk.m_at (k : c.Of p b T) (f : p.Reals) (o : Fin 2) (g : Fin 4) (h : Fin 32) (r s : Fin 128) :
    headM h (cbT o g c.X) (transpose S128x128 [1, 0] (c.cs o) transposes_S128x128_p1_0_S128x128)
      (transpose S128x128 [1, 0] (dtc o c.DT) transposes_S128x128_p1_0_S128x128) (spread c.EC (c.cs o)) (ix2 r s)
      = ((if s.val ≤ r.val then (∑ n : Fin 128, p.vR b ⟨2560 + 128 * g.val + n.val, by omega⟩ (T + 128 * o.val + r.val)
          * p.vR b ⟨2048 + 128 * g.val + n.val, by omega⟩ (T + 128 * o.val + s.val))
        * Real.exp (min (cd (p.aR b h) (T + 128 * o.val) (r.val + 1) - cd (p.aR b h) (T + 128 * o.val) (s.val + 1)) 0)
        * p.dR b h (T + 128 * o.val + s.val) else 0 : ℝ) : EReal) := by
  rw [headM_at]
  by_cases hs : s.val ≤ r.val
  · rw [if_pos hs, if_pos hs, spread_real k.ec r s h (by rw [Chunk.cs_at k f]; exact IsR.coe _), tr_at, tr_at,
      Chunk.cs_at k f, Chunk.cs_at k f, Chunk.dt_at k f, cbT_at]
    simp only [Chunk.b_at k f, Chunk.c_at k f]
    rw [← EReal.coe_sub, ← EReal.coe_zero, ← EReal.coe_strictMono.monotone.map_min]
    simp only [← EReal.coe_mul]
    rw [coe_sum, EReal.coe_mul, EReal.coe_mul]
    rfl
  · rw [if_neg hs, if_neg hs]
    rfl

/-- A lane's state, its group named. -/
theorem HR_at (p : Par) (b : Fin 2) (g : Fin 4) (q : Fin 512) (n : Fin 128) (s : Nat) :
    p.HR b ⟨512 * g.val + q.val, by omega⟩ n s = SR (p.aR b (hd ⟨512 * g.val + q.val, by omega⟩))
      (fun t => p.vR b ⟨512 * g.val + q.val, by omega⟩ t * p.dR b (hd ⟨512 * g.val + q.val, by omega⟩) t)
      (p.vR b ⟨2048 + 128 * g.val + n.val, by omega⟩) s := by
  have e : (⟨2048 + 128 * (gp ⟨512 * g.val + q.val, by omega⟩).val + n.val, by have := (gp ⟨512 * g.val + q.val, by omega⟩).isLt; omega⟩ : Fin 3072)
      = ⟨2048 + 128 * g.val + n.val, by omega⟩ :=
    Fin.ext (by change 2048 + 128 * ((512 * g.val + q.val) / 512) + n.val = 2048 + 128 * g.val + n.val; omega)
  unfold Par.HR
  rw [e]

/-- The state after a chunk. -/
theorem Chunk.st_at (k : c.Of p b T) (f : p.Reals) (o : Fin 2) (g : Fin 4) {st : Vec Ideal S1x128x512 .f32}
    (hst : ∀ (n : Fin 128) (q : Fin 512), st (ix3 0 n q) = p.H b ⟨512 * g.val + q.val, by omega⟩ n (T + 128 * o.val)) (n : Fin 128) (q : Fin 512) :
    c.st o g st (ix3 0 n q) = p.H b ⟨512 * g.val + q.val, by omega⟩ n (T + 128 * (o.val + 1)) := by
  unfold Chunk.st
  rw [stG_at, hst, H_eq f, H_eq f]
  simp only [Chunk.b_at k f, Chunk.x_at k f, Chunk.ws_at k f, Chunk.wo_at k f, ← EReal.coe_mul]
  rw [coe_sum, ← EReal.coe_add]
  congr 1
  rw [HR_at, HR_at]
  refine Eq.trans (chunk_state _ _ _ _ _) ?_
  rw [show T + 128 * o.val + 128 = T + 128 * (o.val + 1) by omega]

/-- A group's output in a chunk: the recurrence's output. -/
theorem Chunk.y_at (k : c.Of p b T) (f : p.Reals) (o : Fin 2) (g : Fin 4) {st : Vec Ideal S1x128x512 .f32}
    (hst : ∀ (n : Fin 128) (q : Fin 512), st (ix3 0 n q) = p.H b ⟨512 * g.val + q.val, by omega⟩ n (T + 128 * o.val)) (r : Fin 128) (q : Fin 512) :
    c.y o g st (ix2 r q) = ∑ n : Fin 128, p.H b ⟨512 * g.val + q.val, by omega⟩ n (T + 128 * o.val + r.val + 1) * p.C b g n (T + 128 * o.val + r.val) := by
  have eh : (⟨8 * g.val + q.val / 64, by omega⟩ : Fin 32) = hd ⟨512 * g.val + q.val, by omega⟩ :=
    Fin.ext (by change 8 * g.val + q.val / 64 = (512 * g.val + q.val) / 64; omega)
  unfold Chunk.y Par.C
  rw [yG_at, eh]
  simp only [hst, H_eq f, xv_eq f, Chunk.m_at k f, Chunk.c_at k f, Chunk.x_at k f, Chunk.wo_at k f, ← EReal.coe_mul]
  rw [coe_sum, coe_sum, coe_sum, ← EReal.coe_mul, ← EReal.coe_add]
  congr 1
  simp only [HR_at]
  exact chunk_out (aR_nonpos f b _) _ _ _ _ _ _

end Cert.SsdProof
-- ==== Proof.SsdPoint.lean ====
module

public import proofs.«01_k».proof.Proof.SsdChunk
public import Idealize.ShloMosaic.Lib.Pipeline.ValueKit
public import Idealize.ShloMosaic.Lib.Pointwise

@[expose] public section

set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.SsdProof

open Cert.SsdKernelIdeal Cert.SsdKernelIdeal.Gen
open Cert.LruProof (sg sp)
open Par (hd gp)

/-! ## A point's tiles, entry by entry -/

/-- A projected row at a column: the sum over the features. -/
theorem P_at (X0 : Vec Ideal S1x256x1024 .f32) (W : Vec Ideal S1024x5248 .bf16) (r : Fin 256) (c : Fin 5248) :
    k0_pay4 X0 W (ix2 r c) = ∑ k : Fin 1024, X0 (ix3 0 r k) * W (ix2 k c) := by
  pointwise [k0_pay4]

/-- A tile's own row at a lane. -/
theorem cur_at (X0 : Vec Ideal S1x256x1024 .f32) (W : Vec Ideal S1024x5248 .bf16) (r : Fin 256) (l : Fin 3072) :
    k0_pay5 X0 W (ix2 r l) = k0_pay4 X0 W (ix2 r ⟨2048 + l.val, by omega⟩) := by
  unfold k0_pay5
  generalize k0_pay4 X0 W = z
  pointwise

/-- The convolved row at a lane. -/
theorem XC_at (X0 : Vec Ideal S1x256x1024 .f32) (W : Vec Ideal S1024x5248 .bf16) (CW : Vec Ideal S4x3072 .f32)
    (CB : Vec Ideal S1x3072 .f32) (e5 e6 e7 : Vec Ideal S256x3072 .f32) (r : Fin 256) (l : Fin 3072) :
    k0_pay7 X0 W CW CB e5 e6 e7 (ix2 r l) = CB (ix2 0 l) + CW (ix2 3 l) * k0_pay4 X0 W (ix2 r ⟨2048 + l.val, by omega⟩)
      + CW (ix2 0 l) * e5 (ix2 r l) + CW (ix2 1 l) * e6 (ix2 r l) + CW (ix2 2 l) * e7 (ix2 r l) := by
  rw [← cur_at]
  unfold k0_pay7
  generalize k0_pay5 X0 W = z
  pointwise

/-- The activated row at a lane. -/
theorem XV_at (z : FVec Ideal S256x3072 .f32) (r : Fin 256) (l : Fin 3072) : k0_pay9 z (ix2 r l) = z (ix2 r l) * sg (z (ix2 r l)) := by
  pointwise [k0_pay9]
  simp only [zero_sub]
  rfl

/-- The step of a head at a frame. -/
theorem DT_at (P : FVec Ideal S256x5248 .f32) (B : Vec Ideal S1x128 .f32) (r : Fin 256) (h : Fin 128) :
    k0_pay10 P B (ix2 r h) = sp (P (ix2 r ⟨5120 + h.val, by omega⟩) + B (ix2 0 h)) := by
  pointwise [k0_pay10]
  simp only [zero_sub]
  rfl

/-- The log decay of a head at a frame. -/
theorem DA_at (P : FVec Ideal S256x5248 .f32) (B A : Vec Ideal S1x128 .f32) (r : Fin 256) (h : Fin 128) :
    k0_pay11 P B A (ix2 r h) = k0_pay10 P B (ix2 r h) * (-(Ideal.exp (A (ix2 0 h)))) := by
  unfold k0_pay11
  generalize k0_pay10 P B = z
  pointwise
  simp only [zero_sub]

/-! ## A chunk's output -/

/-- A chunk's gated output at an entry. -/
theorem gated_at (o : Fin 2) (P : FVec Ideal S256x5248 .f32) (X : FVec Ideal S256x3072 .f32) (DS : Vec Ideal S1x2048 .f32)
    (y : Fin 4 → FVec Ideal S128x512 .f32) (g : Fin 4) (r : Fin 128) (q : Fin 512) :
    gated o P X DS (y 0) (y 1) (y 2) (y 3) (ix2 r ⟨512 * g.val + q.val, by omega⟩)
      = (y g (ix2 r q) + DS (ix2 0 ⟨512 * g.val + q.val, by omega⟩) * xsT o X (ix2 r ⟨512 * g.val + q.val, by omega⟩))
        * (P (ix2 ⟨128 * o.val + r.val, by omega⟩ ⟨512 * g.val + q.val, by omega⟩)
          * sg (P (ix2 ⟨128 * o.val + r.val, by omega⟩ ⟨512 * g.val + q.val, by omega⟩))) := by
  rw [← cat512_at y g r q]
  unfold gated
  generalize (concatenate S128x2048 1 [⟨S128x512, y 0⟩, ⟨S128x512, y 1⟩, ⟨S128x512, y 2⟩, ⟨S128x512, y 3⟩]
      concatenates_S128x512_S128x512_S128x512_S128x512_S128x2048_d1 : FVec Ideal S128x2048 .f32) = z
  generalize xsT o X = z'
  have e : extractStridedSlice S128x2048 ![128 * o.val, 0] P (sl_rowsZ o) (ix2 r ⟨512 * g.val + q.val, by omega⟩)
      = P (ix2 ⟨128 * o.val + r.val, by omega⟩ ⟨512 * g.val + q.val, by omega⟩) := by pointwise
  rw [← e]
  generalize extractStridedSlice S128x2048 ![128 * o.val, 0] P (sl_rowsZ o) = z''
  have e2 := siluT_at z'' r ⟨512 * g.val + q.val, by omega⟩
  generalize siluT z'' = w at e2 ⊢
  pointwise
  rw [e2]
  rfl

/-- A chunk's normed output at an entry. -/
theorem outN_at (y : FVec Ideal S128x2048 .f32) (NW : Vec Ideal S1x2048 .f32) (g : Fin 4) (r : Fin 128) (q : Fin 512) :
    outN y NW (ix3 0 r ⟨512 * g.val + q.val, by omega⟩) = normG g y (ix2 r q) * NW (ix2 0 ⟨512 * g.val + q.val, by omega⟩) := by
  rw [← cat512_at (fun g => normG g y) g r q]
  unfold outN
  generalize (concatenate S128x2048 1 [⟨S128x512, normG 0 y⟩, ⟨S128x512, normG 1 y⟩, ⟨S128x512, normG 2 y⟩, ⟨S128x512, normG 3 y⟩]
      concatenates_S128x512_S128x512_S128x512_S128x512_S128x2048_d1 : FVec Ideal S128x2048 .f32) = z
  pointwise

section

variable {c : Chunk} {p : Par} {b : Fin 2} {T : Nat}

/-- A chunk's rows of the output are the branch's result. -/
theorem Chunk.out_at (k : c.Of p b T) (f : p.Reals) (o : Fin 2) {DS NW : Vec Ideal S1x2048 .f32} (s : Fin 4 → Vec Ideal S1x128x512 .f32)
    (hd' : ∀ q : Fin 2048, DS (ix2 0 q) = p.dd (hd q)) (hn : ∀ q : Fin 2048, NW (ix2 0 q) = p.nw q)
    (hs : ∀ (g : Fin 4) (n : Fin 128) (q : Fin 512), s g (ix3 0 n q) = p.H b ⟨512 * g.val + q.val, by omega⟩ n (T + 128 * o.val))
    (r : Fin 128) (q : Fin 2048) :
    c.out o DS NW (s 0) (s 1) (s 2) (s 3) (ix3 0 r q) = p.out b (T + 128 * o.val + r.val) q := by
  have ht : T + (128 * o.val + r.val) = T + 128 * o.val + r.val := by omega
  have hg : ∀ (g : Fin 4) (q : Fin 512), gated o c.P c.X DS (c.y o 0 (s 0)) (c.y o 1 (s 1)) (c.y o 2 (s 2)) (c.y o 3 (s 3))
      (ix2 r ⟨512 * g.val + q.val, by omega⟩) = p.gt b (T + 128 * o.val + r.val) ⟨512 * g.val + q.val, by omega⟩ := by
    intro g q
    refine (gated_at o c.P c.X DS (fun g => c.y o g (s g)) g r q).trans ?_
    have eg : gp ⟨512 * g.val + q.val, by omega⟩ = g := Fin.ext (by change (512 * g.val + q.val) / 512 = g.val; omega)
    have e1 := k.z ⟨128 * o.val + r.val, by omega⟩ ⟨512 * g.val + q.val, by omega⟩
    have e2 := k.x ⟨128 * o.val + r.val, by omega⟩ ⟨512 * g.val + q.val, by omega⟩
    rw [Chunk.y_at k f o g (hs g), xsT_at, hd']
    refine congr (congrArg _ ?_) ?_
    · unfold Par.y Par.X
      rw [eg, e2, ht]
    · rw [e1, ht]
  have hq : ∀ q : Fin 2048, q = ⟨512 * (⟨q.val / 512, by omega⟩ : Fin 4).val + (⟨q.val % 512, by omega⟩ : Fin 512).val, by change 512 * (q.val / 512) + q.val % 512 < 2048; omega⟩ :=
    fun q => Fin.ext (by change q.val = 512 * (q.val / 512) + q.val % 512; omega)
  have hg' : ∀ q : Fin 2048, gated o c.P c.X DS (c.y o 0 (s 0)) (c.y o 1 (s 1)) (c.y o 2 (s 2)) (c.y o 3 (s 3))
      (ix2 r q) = p.gt b (T + 128 * o.val + r.val) q := by
    intro q
    have := hg ⟨q.val / 512, by omega⟩ ⟨q.val % 512, by omega⟩
    rw [← hq q] at this
    exact this
  have e := outN_at (gated o c.P c.X DS (c.y o 0 (s 0)) (c.y o 1 (s 1)) (c.y o 2 (s 2)) (c.y o 3 (s 3))) NW ⟨q.val / 512, by omega⟩ r ⟨q.val % 512, by omega⟩
  rw [normG_at] at e
  simp only [hg'] at e
  rw [← hq q, hn] at e
  exact e

end

/-- The blocks a point reads: rows from `256 * j` of sequence `b`, the layer's weights, and the three tables. -/
structure InOf (p : Par) (b : Fin 2) (j : Nat) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16) : Prop where
  hx : ∀ (r : Fin 256) (k : Fin 1024) (h : 256 * j + r.val < 8192), x0 (ix3 0 r k) = p.x b ⟨256 * j + r.val, h⟩ k
  hwz : ∀ (k : Fin 1024) (q : Fin 2048), x1 (ix2 k ⟨q.val, by omega⟩) = p.wz k q
  hwx : ∀ (k : Fin 1024) (l : Fin 3072), x1 (ix2 k ⟨2048 + l.val, by omega⟩) = p.wx k l
  hwd : ∀ (k : Fin 1024) (h : Fin 32), x1 (ix2 k ⟨5120 + h.val, by omega⟩) = p.wd k h
  hcw : ∀ (t : Fin 4) (l : Fin 3072), x2 (ix2 t l) = p.cw t l
  hcb : ∀ l : Fin 3072, x3 (ix2 0 l) = p.cb l
  hdtb : ∀ h : Fin 32, x4 (ix2 0 ⟨h.val, by omega⟩) = p.dtb h
  halog : ∀ h : Fin 32, x5 (ix2 0 ⟨h.val, by omega⟩) = p.alog h
  hdd : ∀ q : Fin 2048, x6 (ix2 0 q) = p.dd (hd q)
  hnw : ∀ q : Fin 2048, x7 (ix2 0 q) = p.nw q
  htri : ∀ r s : Fin 128, x8 (ix2 r s) = if s.val ≤ r.val then 1 else 0
  hec : ∀ (k : Fin 384) (q : Fin 4096), x9 (ix2 k q) = if k.val % 128 = q.val / 128 then 1 else 0
  heh : ∀ (k : Fin 256) (q : Fin 2048), x10 (ix2 k q) = if k.val % 128 = q.val / 64 then 1 else 0

/-- The 8 carried rows of the projection: those before row `256 * j`. -/
def ExtOf (p : Par) (b : Fin 2) (j : Nat) (X : Fin 8 → Fin 3072 → EReal) : Prop :=
  ∀ q l, X q l = p.sh 8 b (256 * j + q.val) l

/-- The carried state: the recurrence's before row `256 * j`. -/
def StOf (p : Par) (b : Fin 2) (t : Nat) (X : Fin 4 → Fin 128 → Fin 512 → EReal) : Prop :=
  ∀ g n q, X g n q = p.H b ⟨512 * g.val + q.val, by omega⟩ n t

section

variable {p : Par} {b : Fin 2} {j : Nat} {x0 : Vec Ideal S1x256x1024 .f32} {x1 : Vec Ideal S1024x5248 .bf16} {x2 : Vec Ideal S4x3072 .f32} {x3 : Vec Ideal S1x3072 .f32} {x4 : Vec Ideal S1x128 .f32} {x5 : Vec Ideal S1x128 .f32} {x6 : Vec Ideal S1x2048 .f32} {x7 : Vec Ideal S1x2048 .f32} {x8 : Vec Ideal S128x128 .bf16} {x9 : Vec Ideal S384x4096 .bf16} {x10 : Vec Ideal S256x2048 .bf16}

/-- The projected columns are the specification's. -/
theorem P_in (hj : j < 32) (I : InOf p b j x0 x1 x2 x3 x4 x5 x6 x7 x8 x9 x10) (r : Fin 256) (l : Fin 3072) :
    k0_pay4 x0 x1 (ix2 r ⟨2048 + l.val, by omega⟩) = p.px b (256 * j + r.val) l := by
  have h : 256 * j + r.val < 8192 := by omega
  rw [P_at]
  unfold Par.px
  rw [dif_pos h]
  refine Finset.sum_congr rfl fun k _ => ?_
  rw [I.hx r k h, I.hwx]

/-- The gate's columns are the specification's. -/
theorem Z_in (hj : j < 32) (I : InOf p b j x0 x1 x2 x3 x4 x5 x6 x7 x8 x9 x10) (r : Fin 256) (q : Fin 2048) :
    k0_pay4 x0 x1 (ix2 r ⟨q.val, by omega⟩) = p.pz b (256 * j + r.val) q := by
  have h : 256 * j + r.val < 8192 := by omega
  rw [P_at]
  unfold Par.pz
  rw [dif_pos h]
  refine Finset.sum_congr rfl fun k _ => ?_
  rw [I.hx r k h, I.hwz]

/-- The steps' columns are the specification's. -/
theorem D_in (hj : j < 32) (I : InOf p b j x0 x1 x2 x3 x4 x5 x6 x7 x8 x9 x10) (r : Fin 256) (d : Fin 32) :
    k0_pay4 x0 x1 (ix2 r ⟨5120 + d.val, by omega⟩) = p.pd b (256 * j + r.val) d := by
  have h : 256 * j + r.val < 8192 := by omega
  rw [P_at]
  unfold Par.pd
  rw [dif_pos h]
  refine Finset.sum_congr rfl fun k _ => ?_
  rw [I.hx r k h, I.hwd]

/-- The steps are the specification's. -/
theorem dt_in (hj : j < 32) (I : InOf p b j x0 x1 x2 x3 x4 x5 x6 x7 x8 x9 x10) (r : Fin 256) (d : Fin 32) :
    k0_pay10 (k0_pay4 x0 x1) x4 (ix2 r ⟨d.val, by omega⟩) = p.dt b d (256 * j + r.val) := by
  rw [DT_at (k0_pay4 x0 x1) x4 r ⟨d.val, by omega⟩, I.hdtb]
  unfold Par.dt
  congr 2
  exact D_in hj I r d

/-- A tile's own rows are the specification's. -/
theorem cur_in (hj : j < 32) (I : InOf p b j x0 x1 x2 x3 x4 x5 x6 x7 x8 x9 x10) (r : Fin 256) (l : Fin 3072) :
    k0_pay6 x0 x1 (ix2 r l) = p.px b (256 * j + r.val) l := by
  rw [← P_in hj I, ← cur_at]
  unfold k0_pay6
  generalize k0_pay5 x0 x1 = z
  pointwise

/-- The rows kept for the next tile are the specification's. -/
theorem keep_in (hj : j < 32) (I : InOf p b j x0 x1 x2 x3 x4 x5 x6 x7 x8 x9 x10) (q : Fin 8) (l : Fin 3072) :
    k0_pay8 (k0_pay5 x0 x1) (ix2 q l) = p.sh 8 b (256 * (j + 1) + q.val) l := by
  have e : k0_pay8 (k0_pay5 x0 x1) (ix2 q l) = k0_pay5 x0 x1 (ix2 ⟨248 + q.val, by omega⟩ l) := by
    unfold k0_pay8
    generalize k0_pay5 x0 x1 = z
    pointwise
  rw [e, cur_at, P_in hj I]
  unfold Par.sh
  rw [if_pos (by omega)]
  congr 1
  show 256 * j + (248 + q.val) = _
  omega

/-- A row of the tile with the 8 rows before it, `k` rows down, is the projection `8 - k` rows up. -/
theorem ext_row (hj : j < 32) (I : InOf p b j x0 x1 x2 x3 x4 x5 x6 x7 x8 x9 x10) (x : Fin 8 → Fin 3072 → EReal) (E : ExtOf p b j x)
    (v : EReal) (k : Nat) (hk : k < 8) (r : Fin 256) (l : Fin 3072)
    (h1 : ∀ h : r.val + k < 8, v = x ⟨r.val + k, h⟩ l)
    (h2 : ∀ h : 8 ≤ r.val + k, v = k0_pay6 x0 x1 (ix2 ⟨r.val + k - 8, by omega⟩ l)) :
    v = p.sh (8 - k) b (256 * j + r.val) l := by
  by_cases h : r.val + k < 8
  · rw [h1 h, E]
    unfold Par.sh
    by_cases h3 : 8 ≤ 256 * j + (r.val + k)
    · rw [if_pos (by exact h3), if_pos (by omega)]
      congr 1
      show 256 * j + (r.val + k) - 8 = _
      omega
    · rw [if_neg (by exact h3), if_neg (by omega)]
  · rw [h2 (by omega), cur_in hj I]
    unfold Par.sh
    rw [if_pos (by omega)]
    congr 1
    show 256 * j + (r.val + k - 8) = _
    omega

/-- A point's tiles carry the branch's entries. -/
theorem chunk_in (hj : j < 32) (I : InOf p b j x0 x1 x2 x3 x4 x5 x6 x7 x8 x9 x10) {e5 e6 e7 : Vec Ideal S256x3072 .f32}
    (h5 : ∀ r l, e5 (ix2 r l) = p.sh 3 b (256 * j + r.val) l) (h6 : ∀ r l, e6 (ix2 r l) = p.sh 2 b (256 * j + r.val) l)
    (h7 : ∀ r l, e7 (ix2 r l) = p.sh 1 b (256 * j + r.val) l) :
    (mkC x0 x1 x2 x3 e5 e6 e7 x4 x5 x8 x9 x10).Of p b (256 * j) := by
  refine ⟨fun r s => ?_, fun k q => ?_, fun k q => ?_, fun r h => ?_, fun r h => dt_in hj I r h, fun r l => ?_, fun r q => Z_in hj I r q⟩
  · refine Eq.trans ?_ (I.htri r s)
    change k0_pay14 x8 _ = _
    pointwise [k0_pay14]
  · refine Eq.trans ?_ (I.hec k q)
    change k0_pay15 x9 _ = _
    pointwise [k0_pay15]
  · refine Eq.trans ?_ (I.heh k q)
    change k0_pay16 x10 _ = _
    pointwise [k0_pay16]
  · change k0_pay11 (k0_pay4 x0 x1) x4 x5 (ix2 r ⟨h.val, by omega⟩) = _
    rw [DA_at (k0_pay4 x0 x1) x4 x5 r ⟨h.val, by omega⟩, dt_in hj I, I.halog]
    rfl
  · change k0_pay9 (k0_pay7 x0 x1 x2 x3 e5 e6 e7) (ix2 r l) = _
    rw [XV_at, XC_at, P_in hj I, h5, h6, h7, I.hcb, I.hcw, I.hcw, I.hcw, I.hcw]
    rfl

end

end Cert.SsdProof
-- ==== Proof.SsdRefA.lean ====
module

public import proofs.«01_k».proof.Proof.Gen.SsdReferenceIdeal.Run
public import proofs.«01_k».proof.Proof.Gen.SsdReferenceIdeal.Step
public import proofs.«01_k».proof.Proof.SsdSpec
public import Idealize.ShloMosaic.Lib.Pipeline.ValueKit
public import Idealize.ShloMosaic.Lib.Pointwise

@[expose] public section

/-! The state-space branch's reference: the arrays its loop reads, entry by entry. -/

set_option maxRecDepth 65536
set_option maxHeartbeats 1000000
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.SsdProof

open Idealize.ShloMosaic.StableHlo
open Cert.SsdReferenceIdeal Cert.SsdReferenceIdeal.Gen Cert.SsdReferenceIdeal.Step
open Cert.LruProof (sg sp scan)

/-- The branch's parameters, read off the eight arguments. -/
def parOf (x : FVec Ideal S2x8192x1024 .f32) (w : FVec Ideal S1024x11296 .f32) (cw : FVec Ideal S4x3072 .f32)
    (cb : FVec Ideal S3072 .f32) (dtb alog dd : FVec Ideal S32 .f32) (nw : FVec Ideal S2048 .f32) : Par where
  x b s k := x (ix3 b s k)
  wz k q := w (ix2 k ⟨2048 + q.val, by omega⟩)
  wx k l := w (ix2 k ⟨4096 + l.val, by omega⟩)
  wd k h := w (ix2 k ⟨7168 + h.val, by omega⟩)
  cw k l := cw (ix2 k l)
  cb l := cb (ix1 l)
  dtb h := dtb (ix1 h)
  alog h := alog (ix1 h)
  dd h := dd (ix1 h)
  nw q := nw (ix1 q)

/-- The lane of a group, a head of the group and a place in the head. -/
def ln (g : Fin 4) (k : Fin 8) (p : Fin 64) : Fin 2048 := ⟨g.val * 512 + k.val * 64 + p.val, by omega⟩

/-- The head of a group and a head of the group. -/
def hh (g : Fin 4) (k : Fin 8) : Fin 32 := ⟨g.val * 8 + k.val, by omega⟩

/-- The head of a lane. -/
theorem hd_ln (g : Fin 4) (k : Fin 8) (p : Fin 64) : Par.hd (ln g k p) = hh g k := Fin.ext (by show (g.val * 512 + k.val * 64 + p.val) / 64 = g.val * 8 + k.val; omega)

/-- The group of a lane. -/
theorem gp_ln (g : Fin 4) (k : Fin 8) (p : Fin 64) : Par.gp (ln g k p) = g := Fin.ext (by show (g.val * 512 + k.val * 64 + p.val) / 512 = g.val; omega)

variable (x : FVec Ideal S2x8192x1024 .f32) (w : FVec Ideal S1024x11296 .f32) (cw : FVec Ideal S4x3072 .f32)
    (cb : FVec Ideal S3072 .f32) (dtb alog dd : FVec Ideal S32 .f32) (nw : FVec Ideal S2048 .f32)

/-- The projection of a row. -/
theorem v0_at (b : Fin 2) (s : Fin 8192) (c : Fin 11296) :
    A_main_v0 (F := Ideal) x w cw cb dtb alog (ix3 b s c) = ∑ k : Fin 1024, x (ix3 b s k) * w (ix2 k c) := by
  pointwise [A_main_v0]

/-- The branch's projected entry, of the arguments. -/
theorem px_eq (b : Fin 2) (s : Fin 8192) (c : Fin 3072) :
    (parOf x w cw cb dtb alog dd nw).px b s.val c = ∑ k : Fin 1024, x (ix3 b s k) * w (ix2 k ⟨4096 + c.val, by omega⟩) := by
  unfold Par.px
  rw [dif_pos s.isLt]
  rfl

/-- The steps' projected entry, of the arguments. -/
theorem pd_eq (b : Fin 2) (s : Fin 8192) (c : Fin 32) :
    (parOf x w cw cb dtb alog dd nw).pd b s.val c = ∑ k : Fin 1024, x (ix3 b s k) * w (ix2 k ⟨7168 + c.val, by omega⟩) := by
  unfold Par.pd
  rw [dif_pos s.isLt]
  rfl

/-- The gate's projected entry, of the arguments. -/
theorem pz_eq (b : Fin 2) (s : Fin 8192) (c : Fin 2048) :
    (parOf x w cw cb dtb alog dd nw).pz b s.val c = ∑ k : Fin 1024, x (ix3 b s k) * w (ix2 k ⟨2048 + c.val, by omega⟩) := by
  unfold Par.pz
  rw [dif_pos s.isLt]
  rfl

/-- The convolution's columns. -/
theorem v4_at (b : Fin 2) (s : Fin 8192) (l : Fin 3072) :
    A_main_v4 (F := Ideal) x w cw cb dtb alog (ix3 b s l) = (parOf x w cw cb dtb alog dd nw).px b s.val l := by
  rw [px_eq, ← v0_at x w cw cb dtb alog b s ⟨4096 + l.val, by omega⟩]
  unfold A_main_v4
  generalize A_main_v0 (F := Ideal) x w cw cb dtb alog = z
  pointwise

/-- The steps' columns. -/
theorem v5_at (b : Fin 2) (s : Fin 8192) (l : Fin 32) :
    A_main_v5 (F := Ideal) x w cw cb dtb alog (ix3 b s l) = (parOf x w cw cb dtb alog dd nw).pd b s.val l := by
  rw [pd_eq, ← v0_at x w cw cb dtb alog b s ⟨7168 + l.val, by omega⟩]
  unfold A_main_v5
  generalize A_main_v0 (F := Ideal) x w cw cb dtb alog = z
  pointwise

/-- Three rows of zeros stand before the sequence. -/
theorem v8_at (b : Fin 2) (t : Fin 8195) (l : Fin 3072) :
    A_main_v8 (F := Ideal) x w cw cb dtb alog (ix3 b t l)
      = if h : 3 ≤ t.val then A_main_v4 (F := Ideal) x w cw cb dtb alog (ix3 b ⟨t.val - 3, by omega⟩ l) else 0 := by
  unfold A_main_v8
  generalize A_main_v4 (F := Ideal) x w cw cb dtb alog = z
  pointwise [K_main_call0_v0, K_main_c]
  have hz : FloatOps.sitofp (F := Ideal) FTy.f32 0#32 = (0 : EReal) := by
    show (((0#32 : BitVec 32).toInt : ℝ) : EReal) = 0
    simp
  by_cases h : 3 ≤ t.val
  · rw [dif_pos ⟨h, by omega⟩, dif_pos h]
  · rw [dif_neg (fun h' => h h'.1), dif_neg h, hz]

/-- The rows 3 before. -/
theorem v11_at (b : Fin 2) (s : Fin 8192) (l : Fin 3072) :
    A_main_v11 (F := Ideal) x w cw cb dtb alog (ix3 b s l) = (parOf x w cw cb dtb alog dd nw).sh 3 b s.val l := by
  have e : A_main_v11 (F := Ideal) x w cw cb dtb alog (ix3 b s l) = A_main_v8 (F := Ideal) x w cw cb dtb alog (ix3 b ⟨s.val, by omega⟩ l) := by
    unfold A_main_v11
    generalize A_main_v8 (F := Ideal) x w cw cb dtb alog = z
    pointwise
  rw [e, v8_at]
  unfold Par.sh
  by_cases h : 3 ≤ s.val
  · rw [dif_pos (show 3 ≤ s.val by omega), if_pos h, v4_at x w cw cb dtb alog dd nw]
  · rw [dif_neg (show ¬ 3 ≤ s.val by omega), if_neg h]

/-- The rows 2 before. -/
theorem v19_at (b : Fin 2) (s : Fin 8192) (l : Fin 3072) :
    A_main_v19 (F := Ideal) x w cw cb dtb alog (ix3 b s l) = (parOf x w cw cb dtb alog dd nw).sh 2 b s.val l := by
  have e : A_main_v19 (F := Ideal) x w cw cb dtb alog (ix3 b s l) = A_main_v8 (F := Ideal) x w cw cb dtb alog (ix3 b ⟨1 + s.val, by omega⟩ l) := by
    unfold A_main_v19
    generalize A_main_v8 (F := Ideal) x w cw cb dtb alog = z
    pointwise
  rw [e, v8_at]
  unfold Par.sh
  by_cases h : 2 ≤ s.val
  · rw [dif_pos (show 3 ≤ 1 + s.val by omega), if_pos h, v4_at x w cw cb dtb alog dd nw]
    congr 1; all_goals (show 1 + s.val - 3 = s.val - 2; omega)
  · rw [dif_neg (show ¬ 3 ≤ 1 + s.val by omega), if_neg h]

/-- The rows 1 before. -/
theorem v26_at (b : Fin 2) (s : Fin 8192) (l : Fin 3072) :
    A_main_v26 (F := Ideal) x w cw cb dtb alog (ix3 b s l) = (parOf x w cw cb dtb alog dd nw).sh 1 b s.val l := by
  have e : A_main_v26 (F := Ideal) x w cw cb dtb alog (ix3 b s l) = A_main_v8 (F := Ideal) x w cw cb dtb alog (ix3 b ⟨2 + s.val, by omega⟩ l) := by
    unfold A_main_v26
    generalize A_main_v8 (F := Ideal) x w cw cb dtb alog = z
    pointwise
  rw [e, v8_at]
  unfold Par.sh
  by_cases h : 1 ≤ s.val
  · rw [dif_pos (show 3 ≤ 2 + s.val by omega), if_pos h, v4_at x w cw cb dtb alog dd nw]
    congr 1; all_goals (show 2 + s.val - 3 = s.val - 1; omega)
  · rw [dif_neg (show ¬ 3 ≤ 2 + s.val by omega), if_neg h]

/-- The rows 0 before. -/
theorem v33_at (b : Fin 2) (s : Fin 8192) (l : Fin 3072) :
    A_main_v33 (F := Ideal) x w cw cb dtb alog (ix3 b s l) = (parOf x w cw cb dtb alog dd nw).sh 0 b s.val l := by
  have e : A_main_v33 (F := Ideal) x w cw cb dtb alog (ix3 b s l) = A_main_v8 (F := Ideal) x w cw cb dtb alog (ix3 b ⟨3 + s.val, by omega⟩ l) := by
    unfold A_main_v33
    generalize A_main_v8 (F := Ideal) x w cw cb dtb alog = z
    pointwise
  rw [e, v8_at]
  unfold Par.sh
  by_cases h : 0 ≤ s.val
  · rw [dif_pos (show 3 ≤ 3 + s.val by omega), if_pos h, v4_at x w cw cb dtb alog dd nw]
    congr 1; all_goals (show 3 + s.val - 3 = s.val - 0; omega)
  · rw [dif_neg (show ¬ 3 ≤ 3 + s.val by omega), if_neg h]

/-- Tap 0. -/
theorem v13_at (b : Fin 2) (s : Fin 8192) (l : Fin 3072) : A_main_v13 (F := Ideal) x w cw cb dtb alog (ix3 b s l) = cw (ix2 0 l) := by
  pointwise [A_main_v13, A_main_v12, A_main_v10, A_main_v9]

/-- Tap 1. -/
theorem v21_at (b : Fin 2) (s : Fin 8192) (l : Fin 3072) : A_main_v21 (F := Ideal) x w cw cb dtb alog (ix3 b s l) = cw (ix2 1 l) := by
  pointwise [A_main_v21, A_main_v20, A_main_v18, A_main_v17]

/-- Tap 2. -/
theorem v28_at (b : Fin 2) (s : Fin 8192) (l : Fin 3072) : A_main_v28 (F := Ideal) x w cw cb dtb alog (ix3 b s l) = cw (ix2 2 l) := by
  pointwise [A_main_v28, A_main_v27, A_main_v25, A_main_v24]

/-- Tap 3. -/
theorem v35_at (b : Fin 2) (s : Fin 8192) (l : Fin 3072) : A_main_v35 (F := Ideal) x w cw cb dtb alog (ix3 b s l) = cw (ix2 3 l) := by
  pointwise [A_main_v35, A_main_v34, A_main_v32, A_main_v31]

/-- The causal convolution. -/
theorem v40_at (b : Fin 2) (s : Fin 8192) (l : Fin 3072) :
    A_main_v40 (F := Ideal) x w cw cb dtb alog (ix3 b s l) = (parOf x w cw cb dtb alog dd nw).xc b s.val l := by
  have e : A_main_v40 (F := Ideal) x w cw cb dtb alog (ix3 b s l) =
      ((((0 + A_main_v13 (F := Ideal) x w cw cb dtb alog (ix3 b s l) * A_main_v11 (F := Ideal) x w cw cb dtb alog (ix3 b s l))
        + A_main_v21 (F := Ideal) x w cw cb dtb alog (ix3 b s l) * A_main_v19 (F := Ideal) x w cw cb dtb alog (ix3 b s l))
        + A_main_v28 (F := Ideal) x w cw cb dtb alog (ix3 b s l) * A_main_v26 (F := Ideal) x w cw cb dtb alog (ix3 b s l))
        + A_main_v35 (F := Ideal) x w cw cb dtb alog (ix3 b s l) * A_main_v33 (F := Ideal) x w cw cb dtb alog (ix3 b s l)) + cb (ix1 l) := by
    unfold A_main_v40 A_main_v37 A_main_v30 A_main_v23 A_main_v16 A_main_v14 A_main_v22 A_main_v29 A_main_v36
    generalize A_main_v13 (F := Ideal) x w cw cb dtb alog = z1
    generalize A_main_v21 (F := Ideal) x w cw cb dtb alog = z2
    generalize A_main_v28 (F := Ideal) x w cw cb dtb alog = z3
    generalize A_main_v35 (F := Ideal) x w cw cb dtb alog = z4
    generalize A_main_v11 (F := Ideal) x w cw cb dtb alog = z5
    generalize A_main_v19 (F := Ideal) x w cw cb dtb alog = z6
    generalize A_main_v26 (F := Ideal) x w cw cb dtb alog = z7
    generalize A_main_v33 (F := Ideal) x w cw cb dtb alog = z8
    pointwise [A_main_v39, A_main_v38, K_main_v15, K_main_cst]
    try simp only [zero_add]
  rw [e, v13_at, v21_at, v28_at, v35_at, v11_at x w cw cb dtb alog dd nw, v19_at x w cw cb dtb alog dd nw, v26_at x w cw cb dtb alog dd nw, v33_at x w cw cb dtb alog dd nw]
  have h0 : (parOf x w cw cb dtb alog dd nw).sh 0 b s.val l = (parOf x w cw cb dtb alog dd nw).px b s.val l := by
    unfold Par.sh; rw [if_pos (Nat.zero_le _), Nat.sub_zero]
  rw [h0]
  unfold Par.xc
  show _ = cb (ix1 l) + cw (ix2 3 l) * _ + cw (ix2 0 l) * _ + cw (ix2 1 l) * _ + cw (ix2 2 l) * _
  rw [zero_add]
  generalize cw (ix2 0 l) * _ = a0
  generalize cw (ix2 1 l) * _ = a1
  generalize cw (ix2 2 l) * _ = a2
  generalize cw (ix2 3 l) * _ = a3
  generalize cb (ix1 l) = a4
  ac_rfl

/-- The convolution through its activation. -/
theorem v41_at (b : Fin 2) (s : Fin 8192) (l : Fin 3072) :
    A_main_v41 (F := Ideal) x w cw cb dtb alog (ix3 b s l) = (parOf x w cw cb dtb alog dd nw).xv b s.val l := by
  have e : A_main_v41 (F := Ideal) x w cw cb dtb alog (ix3 b s l) = A_main_v40 (F := Ideal) x w cw cb dtb alog (ix3 b s l) * sg (A_main_v40 (F := Ideal) x w cw cb dtb alog (ix3 b s l)) := by
    unfold A_main_v41 A_main_call1_v5 A_main_call1_v3 A_main_call1_v1 A_main_call1_v0
    generalize A_main_v40 (F := Ideal) x w cw cb dtb alog = z
    pointwise [K_main_call1_v2, K_main_call1_v4, K_main_call1_cst, K_main_call1_cst_0]
    rfl
  rw [e, v40_at x w cw cb dtb alog dd nw]
  rfl

/-- The loop's inputs. -/
theorem v61_at (s : Fin 8192) (b : Fin 2) (g : Fin 4) (k : Fin 8) (q : Fin 64) :
    A_main_v61 (F := Ideal) x w cw cb dtb alog (ix5 s b g k q) = (parOf x w cw cb dtb alog dd nw).X b (ln g k q) s.val := by
  unfold Par.X
  rw [← v41_at x w cw cb dtb alog dd nw b s ⟨(ln g k q).val, by have := (ln g k q).isLt; omega⟩]
  unfold A_main_v61 A_main_v45 A_main_v42 ln
  generalize A_main_v41 (F := Ideal) x w cw cb dtb alog = z
  pointwise

/-- The loop's input maps. -/
theorem v64_at (s : Fin 8192) (b : Fin 2) (g : Fin 4) (n : Fin 128) :
    A_main_v64 (F := Ideal) x w cw cb dtb alog (ix4 s b g n) = (parOf x w cw cb dtb alog dd nw).B b g n s.val := by
  unfold Par.B
  rw [← v41_at x w cw cb dtb alog dd nw b s ⟨2048 + 128 * g.val + n.val, by omega⟩]
  unfold A_main_v64 A_main_v46 A_main_v43
  generalize A_main_v41 (F := Ideal) x w cw cb dtb alog = z
  simp only [mul_comm 128 g.val, Nat.add_assoc]
  pointwise

/-- The loop's output maps. -/
theorem v65_at (s : Fin 8192) (b : Fin 2) (g : Fin 4) (n : Fin 128) :
    A_main_v65 (F := Ideal) x w cw cb dtb alog (ix4 s b g n) = (parOf x w cw cb dtb alog dd nw).C b g n s.val := by
  unfold Par.C
  rw [← v41_at x w cw cb dtb alog dd nw b s ⟨2560 + 128 * g.val + n.val, by omega⟩]
  unfold A_main_v65 A_main_v47 A_main_v44
  generalize A_main_v41 (F := Ideal) x w cw cb dtb alog = z
  simp only [mul_comm 128 g.val, Nat.add_assoc]
  pointwise

/-- The steps. -/
theorem v51_at (b : Fin 2) (s : Fin 8192) (l : Fin 32) :
    A_main_v51 (F := Ideal) x w cw cb dtb alog (ix3 b s l) = (parOf x w cw cb dtb alog dd nw).dt b l s.val := by
  have e : A_main_v51 (F := Ideal) x w cw cb dtb alog (ix3 b s l) = sp (A_main_v5 (F := Ideal) x w cw cb dtb alog (ix3 b s l) + dtb (ix1 l)) := by
    unfold A_main_v51 A_main_call2_v11 A_main_call2_v10 A_main_call2_v9 A_main_call2_v8 A_main_call2_v7 A_main_call2_v6 A_main_call2_v4 A_main_call2_v3 A_main_call2_v1 A_main_v50
    generalize A_main_v5 (F := Ideal) x w cw cb dtb alog = z
    pointwise [A_main_v49, A_main_v48, K_main_call2_v0, K_main_call2_v2, K_main_call2_v5, K_main_call2_cst]
    try simp
    try rfl
  rw [e, v5_at x w cw cb dtb alog dd nw]
  rfl

/-- The decays. -/
theorem v57_at (b : Fin 2) (s : Fin 8192) (l : Fin 32) :
    A_main_v57 (F := Ideal) x w cw cb dtb alog (ix3 b s l) = Ideal.exp ((parOf x w cw cb dtb alog dd nw).a b l s.val) := by
  have e : A_main_v57 (F := Ideal) x w cw cb dtb alog (ix3 b s l) = Ideal.exp (A_main_v51 (F := Ideal) x w cw cb dtb alog (ix3 b s l) * (-(Ideal.exp (alog (ix1 l))))) := by
    unfold A_main_v57 A_main_v56
    generalize A_main_v51 (F := Ideal) x w cw cb dtb alog = z
    pointwise [A_main_v55, A_main_v54, A_main_v53, A_main_v52]
    try rfl
  rw [e, v51_at x w cw cb dtb alog dd nw]
  rfl

/-- The loop's steps. -/
theorem v62_at (s : Fin 8192) (b : Fin 2) (g : Fin 4) (k : Fin 8) :
    A_main_v62 (F := Ideal) x w cw cb dtb alog (ix4 s b g k) = (parOf x w cw cb dtb alog dd nw).dt b (hh g k) s.val := by
  rw [← v51_at x w cw cb dtb alog dd nw b s (hh g k)]
  unfold A_main_v62 A_main_v59 hh
  generalize A_main_v51 (F := Ideal) x w cw cb dtb alog = z
  pointwise

/-- The loop's decays. -/
theorem v63_at (s : Fin 8192) (b : Fin 2) (g : Fin 4) (k : Fin 8) :
    A_main_v63 (F := Ideal) x w cw cb dtb alog (ix4 s b g k) = Ideal.exp ((parOf x w cw cb dtb alog dd nw).a b (hh g k) s.val) := by
  rw [← v57_at x w cw cb dtb alog dd nw b s (hh g k)]
  unfold A_main_v63 A_main_v58 hh
  generalize A_main_v57 (F := Ideal) x w cw cb dtb alog = z
  pointwise

end Cert.SsdProof
-- ==== Proof.SsdRef.lean ====
module

public import proofs.«01_k».proof.Proof.Gen.SsdReferenceIdeal.Run
public import proofs.«01_k».proof.Proof.Gen.SsdReferenceIdeal.Step
public import proofs.«01_k».proof.Proof.SsdRefA
public import Idealize.ShloMosaic.Lib.Pipeline.ValueKit
public import Idealize.ShloMosaic.Lib.Pointwise

@[expose] public section

/-! The state-space branch's reference: its loop, trip by trip, and its result. -/

set_option maxRecDepth 65536
set_option maxHeartbeats 1000000
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.SsdProof

open Idealize.ShloMosaic.StableHlo
open Cert.SsdReferenceIdeal Cert.SsdReferenceIdeal.Gen Cert.SsdReferenceIdeal.Step Cert.SsdReferenceIdeal.Value
open Cert.LruProof (sg sp scan scan_zero scan_succ)

/-- What the loop's contents are before trip `t`: its inputs, steps, decays and maps, the skip, the counter, the state and the
outputs written so far. -/
structure Holds (p : Par) (V0 : Valuation τ sig (Elt Ideal)) (t : Nat) : Prop where
  f0 : ∀ s b g k q, (V0 (Proc.devRef .tc main_v67_0) : FVec Ideal S8192x2x4x8x64 .f32) (ix5 s b g k q) = p.X b (ln g k q) s.val
  f1 : ∀ s b g k, (V0 (Proc.devRef .tc main_v67_1) : FVec Ideal S8192x2x4x8 .f32) (ix4 s b g k) = p.dt b (hh g k) s.val
  f2 : ∀ s b g k, (V0 (Proc.devRef .tc main_v67_2) : FVec Ideal S8192x2x4x8 .f32) (ix4 s b g k) = Ideal.exp (p.a b (hh g k) s.val)
  f3 : ∀ s b g n, (V0 (Proc.devRef .tc main_v67_3) : FVec Ideal S8192x2x4x128 .f32) (ix4 s b g n) = p.B b g n s.val
  f4 : ∀ s b g n, (V0 (Proc.devRef .tc main_v67_4) : FVec Ideal S8192x2x4x128 .f32) (ix4 s b g n) = p.C b g n s.val
  f5 : ∀ h, (V0 (Proc.devRef .tc main_v67_5) : FVec Ideal S32 .f32) (ix1 h) = p.dd h
  n6 : V0 (Proc.devRef .tc main_v67_6) = constantI S_ 32 (BitVec.ofNat 32 t)
  f7 : ∀ b g k q n, (V0 (Proc.devRef .tc main_v67_7) : FVec Ideal S2x4x8x64x128 .f32) (ix5 b g k q n) = p.H b (ln g k q) n t
  f8 : ∀ s b g k q, s.val < t → (V0 (Proc.devRef .tc main_v67_8) : FVec Ideal S8192x2x4x8x64 .f32) (ix5 s b g k q) = p.y b s.val (ln g k q)

/-- The slice's start of trip `t`, at 4 axes. -/
def at4 (t : Nat) : Fin 4 → Int := fun a => (((![constantI S_ 32 (BitVec.ofNat 32 t), constantI S_ 32 0#32, constantI S_ 32 0#32, constantI S_ 32 0#32] :
  Fin 4 → (⟨S_, .i32⟩ : BufTy).Contents (Elt Ideal))) a (Shape.Idx.first h_S_)).toInt

/-- The loop's frame, as the first of four offsets. -/
theorem at4_zero (t : Nat) (ht : t < 8192) : at4 t 0 = (t : Int) := by
  show (BitVec.ofNat 32 t).toInt = (t : Int)
  rw [BitVec.toInt_eq_toNat_of_lt (by rw [BitVec.toNat_ofNat]; omega), BitVec.toNat_ofNat, Nat.mod_eq_of_lt (by omega)]

/-- The four offsets of a trip's slice. -/
theorem at4_off (t : Nat) (ht : t < 8192) : ∀ a : Fin 4, at4 t a = (((![t, 0, 0, 0] : Fin 4 → Nat) a : Nat) : Int) := by
  intro a
  match a with
  | ⟨0, _⟩ => exact at4_zero t ht
  | ⟨1, _⟩ => rfl
  | ⟨2, _⟩ => rfl
  | ⟨3, _⟩ => rfl

/-- The slice's start of trip `t`, at 5 axes. -/
def at5 (t : Nat) : Fin 5 → Int := fun a => (((![constantI S_ 32 (BitVec.ofNat 32 t), constantI S_ 32 0#32, constantI S_ 32 0#32, constantI S_ 32 0#32, constantI S_ 32 0#32] :
  Fin 5 → (⟨S_, .i32⟩ : BufTy).Contents (Elt Ideal))) a (Shape.Idx.first h_S_)).toInt

/-- The loop's frame, as the first of five offsets. -/
theorem at5_zero (t : Nat) (ht : t < 8192) : at5 t 0 = (t : Int) := by
  show (BitVec.ofNat 32 t).toInt = (t : Int)
  rw [BitVec.toInt_eq_toNat_of_lt (by rw [BitVec.toNat_ofNat]; omega), BitVec.toNat_ofNat, Nat.mod_eq_of_lt (by omega)]

/-- The five offsets of a trip's slice. -/
theorem at5_off (t : Nat) (ht : t < 8192) : ∀ a : Fin 5, at5 t a = (((![t, 0, 0, 0, 0] : Fin 5 → Nat) a : Nat) : Int) := by
  intro a
  match a with
  | ⟨0, _⟩ => exact at5_zero t ht
  | ⟨1, _⟩ => rfl
  | ⟨2, _⟩ => rfl
  | ⟨3, _⟩ => rfl
  | ⟨4, _⟩ => rfl

/-- The offsets of the inputs' slice lie inside. -/
theorem clamp_a (t : Nat) (ht : t < 8192) (hr : S1x2x4x8x64.rank = S8192x2x4x8x64.rank) (a : Fin 5) :
    Host.clampedStart S8192x2x4x8x64 S1x2x4x8x64 hr (at5 t) a = (![t, 0, 0, 0, 0] : Fin 5 → Nat) a := by
  refine Host.clampedStart_of_le hr (at5 t) a _ (at5_off t ht a) ?_
  match a with
  | ⟨0, _⟩ => show t + 1 ≤ 8192; omega
  | ⟨1, _⟩ => show 0 + 2 ≤ 2; omega
  | ⟨2, _⟩ => show 0 + 4 ≤ 4; omega
  | ⟨3, _⟩ => show 0 + 8 ≤ 8; omega
  | ⟨4, _⟩ => show 0 + 64 ≤ 64; omega

/-- The slice trip `t` takes. -/
theorem slice_a (t : Nat) (ht : t < 8192) (A : FVec Ideal S8192x2x4x8x64 .f32) (b : Fin 2) (g : Fin 4) (k : Fin 8) (q : Fin 64) :
    Host.dynamicSlice S1x2x4x8x64 A (at5 t) sliceFits_S8192x2x4x8x64_S1x2x4x8x64 (ix5 0 b g k q) = A (ix5 ⟨t, ht⟩ b g k q) := by
  rw [Host.dynamicSlice_apply, Shape.Idx.norm_def]
  congr 1
  funext a
  refine Fin.ext ?_
  have h := clamp_a t ht rfl a
  match a with
  | ⟨0, _⟩ => exact (congrArg (· + 0) h)
  | ⟨1, _⟩ => exact (congrArg (· + b.val) h).trans (Nat.zero_add _)
  | ⟨2, _⟩ => exact (congrArg (· + g.val) h).trans (Nat.zero_add _)
  | ⟨3, _⟩ => exact (congrArg (· + k.val) h).trans (Nat.zero_add _)
  | ⟨4, _⟩ => exact (congrArg (· + q.val) h).trans (Nat.zero_add _)

/-- The offsets of the steps' slice lie inside. -/
theorem clamp_b (t : Nat) (ht : t < 8192) (hr : S1x2x4x8.rank = S8192x2x4x8.rank) (a : Fin 4) :
    Host.clampedStart S8192x2x4x8 S1x2x4x8 hr (at4 t) a = (![t, 0, 0, 0] : Fin 4 → Nat) a := by
  refine Host.clampedStart_of_le hr (at4 t) a _ (at4_off t ht a) ?_
  match a with
  | ⟨0, _⟩ => show t + 1 ≤ 8192; omega
  | ⟨1, _⟩ => show 0 + 2 ≤ 2; omega
  | ⟨2, _⟩ => show 0 + 4 ≤ 4; omega
  | ⟨3, _⟩ => show 0 + 8 ≤ 8; omega

/-- The slice trip `t` takes. -/
theorem slice_b (t : Nat) (ht : t < 8192) (A : FVec Ideal S8192x2x4x8 .f32) (b : Fin 2) (g : Fin 4) (k : Fin 8) :
    Host.dynamicSlice S1x2x4x8 A (at4 t) sliceFits_S8192x2x4x8_S1x2x4x8 (ix4 0 b g k) = A (ix4 ⟨t, ht⟩ b g k) := by
  rw [Host.dynamicSlice_apply, Shape.Idx.norm_def]
  congr 1
  funext a
  refine Fin.ext ?_
  have h := clamp_b t ht rfl a
  match a with
  | ⟨0, _⟩ => exact (congrArg (· + 0) h)
  | ⟨1, _⟩ => exact (congrArg (· + b.val) h).trans (Nat.zero_add _)
  | ⟨2, _⟩ => exact (congrArg (· + g.val) h).trans (Nat.zero_add _)
  | ⟨3, _⟩ => exact (congrArg (· + k.val) h).trans (Nat.zero_add _)

/-- The offsets of the directions' slice lie inside. -/
theorem clamp_c (t : Nat) (ht : t < 8192) (hr : S1x2x4x128.rank = S8192x2x4x128.rank) (a : Fin 4) :
    Host.clampedStart S8192x2x4x128 S1x2x4x128 hr (at4 t) a = (![t, 0, 0, 0] : Fin 4 → Nat) a := by
  refine Host.clampedStart_of_le hr (at4 t) a _ (at4_off t ht a) ?_
  match a with
  | ⟨0, _⟩ => show t + 1 ≤ 8192; omega
  | ⟨1, _⟩ => show 0 + 2 ≤ 2; omega
  | ⟨2, _⟩ => show 0 + 4 ≤ 4; omega
  | ⟨3, _⟩ => show 0 + 128 ≤ 128; omega

/-- The slice trip `t` takes. -/
theorem slice_c (t : Nat) (ht : t < 8192) (A : FVec Ideal S8192x2x4x128 .f32) (b : Fin 2) (g : Fin 4) (k : Fin 128) :
    Host.dynamicSlice S1x2x4x128 A (at4 t) sliceFits_S8192x2x4x128_S1x2x4x128 (ix4 0 b g k) = A (ix4 ⟨t, ht⟩ b g k) := by
  rw [Host.dynamicSlice_apply, Shape.Idx.norm_def]
  congr 1
  funext a
  refine Fin.ext ?_
  have h := clamp_c t ht rfl a
  match a with
  | ⟨0, _⟩ => exact (congrArg (· + 0) h)
  | ⟨1, _⟩ => exact (congrArg (· + b.val) h).trans (Nat.zero_add _)
  | ⟨2, _⟩ => exact (congrArg (· + g.val) h).trans (Nat.zero_add _)
  | ⟨3, _⟩ => exact (congrArg (· + k.val) h).trans (Nat.zero_add _)

/-- The update trip `t` makes. -/
theorem update_at (t : Nat) (ht : t < 8192) (A : FVec Ideal S8192x2x4x8x64 .f32) (U : FVec Ideal S1x2x4x8x64 .f32) (s : Fin 8192)
    (b : Fin 2) (g : Fin 4) (k : Fin 8) (q : Fin 64) :
    Host.dynamicUpdateSlice A U (at5 t) updateFits_S8192x2x4x8x64_S1x2x4x8x64 (ix5 s b g k q) = if s.val = t then U (ix5 0 b g k q) else A (ix5 s b g k q) := by
  rw [Host.dynamicUpdateSlice_apply]
  have h := clamp_a t ht rfl
  by_cases e : s.val = t
  · rw [if_pos e, dif_pos, Shape.Idx.norm_def]
    · congr 1
      funext a
      refine Fin.ext ?_
      match a with
      | ⟨0, _⟩ => exact (congrArg (s.val - ·) (h 0)).trans (by show s.val - t = 0; omega)
      | ⟨1, _⟩ => exact (congrArg (b.val - ·) (h 1)).trans (Nat.sub_zero _)
      | ⟨2, _⟩ => exact (congrArg (g.val - ·) (h 2)).trans (Nat.sub_zero _)
      | ⟨3, _⟩ => exact (congrArg (k.val - ·) (h 3)).trans (Nat.sub_zero _)
      | ⟨4, _⟩ => exact (congrArg (q.val - ·) (h 4)).trans (Nat.sub_zero _)
    · intro a
      rw [h a]
      match a with
      | ⟨0, _⟩ => show t ≤ s.val ∧ s.val < t + 1; omega
      | ⟨1, _⟩ => show 0 ≤ b.val ∧ b.val < 0 + 2; omega
      | ⟨2, _⟩ => show 0 ≤ g.val ∧ g.val < 0 + 4; omega
      | ⟨3, _⟩ => show 0 ≤ k.val ∧ k.val < 0 + 8; omega
      | ⟨4, _⟩ => show 0 ≤ q.val ∧ q.val < 0 + 64; omega
  · rw [if_neg e, dif_neg]
    intro hall
    have h0 := hall 0
    rw [h 0] at h0
    have h1 : t ≤ s.val ∧ s.val < t + 1 := h0
    omega

variable {p : Par} {V0 : Valuation τ sig (Elt Ideal)} {t : Nat}

/-- The row of inputs trip `t` reads. -/
theorem row_at (h : Holds p V0 t) (ht : t < 8192) (b : Fin 2) (g : Fin 4) (k : Fin 8) (q : Fin 64) :
    (res_main_while0b_v96 V0 : FVec Ideal S2x4x8x64 .f32) (ix4 b g k q) = p.X b (ln g k q) t := by
  unfold res_main_while0b_v96
  rw [h.n6]
  have h0 := slice_a t ht (V0 (Proc.devRef .tc main_v67_0)) b g k q
  rw [h.f0 ⟨t, ht⟩ b g k q] at h0
  rw [← h0]
  unfold at5
  generalize Host.dynamicSlice S1x2x4x8x64 (V0 (Proc.devRef .tc main_v67_0)) _ sliceFits_S8192x2x4x8x64_S1x2x4x8x64 = z0
  change FVec Ideal S1x2x4x8x64 .f32 at z0
  pointwise

/-- The state trip `t` leaves. -/
theorem new_at (h : Holds p V0 t) (ht : t < 8192) (b : Fin 2) (g : Fin 4) (k : Fin 8) (q : Fin 64) (n : Fin 128) :
    (res_main_while0b_v112 V0 : FVec Ideal S2x4x8x64x128 .f32) (ix5 b g k q n) = p.H b (ln g k q) n (t + 1) := by
  unfold res_main_while0b_v112
  rw [h.n6]
  have e : p.H b (ln g k q) n (t + 1) = p.H b (ln g k q) n t * Ideal.exp (p.a b (hh g k) t)
      + p.X b (ln g k q) t * p.dt b (hh g k) t * p.B b g n t := by
    rw [mul_comm (p.H b (ln g k q) n t), ← hd_ln g k q]
    show _ = _ + p.X b (ln g k q) t * p.dt b (Par.hd (ln g k q)) t * p.B b g n t
    conv_rhs => rw [← gp_ln g k q]
    rw [gp_ln g k q]
    exact congrArg (fun u => p.H b (ln g k q) n (t + 1) = u) rfl ▸ by
      unfold Par.H
      rw [scan_succ, gp_ln]
  have h1 := slice_b t ht (V0 (Proc.devRef .tc main_v67_1)) b g k
  have h2 := slice_b t ht (V0 (Proc.devRef .tc main_v67_2)) b g k
  have h3 := slice_c t ht (V0 (Proc.devRef .tc main_v67_3)) b g n
  rw [h.f1 ⟨t, ht⟩ b g k] at h1
  rw [h.f2 ⟨t, ht⟩ b g k] at h2
  rw [h.f3 ⟨t, ht⟩ b g n] at h3
  rw [e, ← h.f7 b g k q n, ← row_at h ht b g k q, ← h1, ← h2, ← h3]
  unfold at4
  generalize Host.dynamicSlice S1x2x4x8 (V0 (Proc.devRef .tc main_v67_1)) _ sliceFits_S8192x2x4x8_S1x2x4x8 = z1
  generalize Host.dynamicSlice S1x2x4x8 (V0 (Proc.devRef .tc main_v67_2)) _ sliceFits_S8192x2x4x8_S1x2x4x8 = z2
  generalize Host.dynamicSlice S1x2x4x128 (V0 (Proc.devRef .tc main_v67_3)) _ sliceFits_S8192x2x4x128_S1x2x4x128 = z3
  generalize V0 (Proc.devRef .tc main_v67_7) = z4
  generalize res_main_while0b_v96 V0 = z5
  change FVec Ideal S1x2x4x8 .f32 at z1 z2
  change FVec Ideal S1x2x4x128 .f32 at z3
  change FVec Ideal S2x4x8x64x128 .f32 at z4
  change FVec Ideal S2x4x8x64 .f32 at z5
  pointwise

/-- One trip. -/
theorem Holds.step (h : Holds p V0 t) (ht : t < 8192) : Holds p (STEP V0) (t + 1) where
  f0 := fun s b g k q => by rw [STEP_main_v67_0]; exact h.f0 s b g k q
  f1 := fun s b g k => by rw [STEP_main_v67_1]; exact h.f1 s b g k
  f2 := fun s b g k => by rw [STEP_main_v67_2]; exact h.f2 s b g k
  f3 := fun s b g n => by rw [STEP_main_v67_3]; exact h.f3 s b g n
  f4 := fun s b g n => by rw [STEP_main_v67_4]; exact h.f4 s b g n
  f5 := fun i => by rw [STEP_main_v67_5]; exact h.f5 i
  n6 := by
    rw [STEP_main_v67_6]
    unfold step_main_v67_6
    rw [h.n6]
    funext y
    show BitVec.ofNat 32 t + 1#32 = BitVec.ofNat 32 (t + 1)
    simp only [BitVec.ofNat_add]
  f7 := fun b g k q n => by rw [STEP_main_v67_7]; exact new_at h ht b g k q n
  f8 := fun s b g k q hs => by
    rw [STEP_main_v67_8]
    unfold Cert.SsdReferenceIdeal.Value.step_main_v67_8
    rw [h.n6]
    refine (update_at t ht _ _ s b g k q).trans ?_
    by_cases e : s.val = t
    · have h4 : ∀ n, _ := fun n => slice_c t ht (V0 (Proc.devRef .tc main_v67_4)) b g n
      have h4' : ∀ n, _ := fun n => (h4 n).trans (h.f4 ⟨t, ht⟩ b g n)
      have hN : ∀ n, _ := fun n => new_at h ht b g k q n
      have h5 := h.f5 (hh g k)
      have hr := row_at h ht b g k q
      rw [if_pos e, e]
      unfold Par.y
      rw [gp_ln, hd_ln, ← h5, ← hr, Finset.sum_congr rfl (fun n _ => by rw [← hN n, ← h4' n])]
      unfold at4
      generalize Host.dynamicSlice S1x2x4x128 (V0 (Proc.devRef .tc main_v67_4)) _ sliceFits_S8192x2x4x128_S1x2x4x128 = z3
      generalize (res_main_while0b_v112 V0) = z1
      generalize (res_main_while0b_v96 V0) = z2
      generalize V0 (Proc.devRef .tc main_v67_5) = z4
      change FVec Ideal S1x2x4x128 .f32 at z3
      change FVec Ideal S2x4x8x64x128 .f32 at z1
      change FVec Ideal S2x4x8x64 .f32 at z2
      change FVec Ideal S32 .f32 at z4
      pointwise [hh]
    · rw [if_neg e]
      exact h.f8 s b g k q (by omega)

variable (m : (ℓ : Loc nD τ sig) → Buf (Elt Ideal) ℓ) (c : Dev nD)

/-- The parameters of a launch's memory. -/
abbrev refPar : Par := parOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The loop's array 0 at its entry. -/
theorem entry0 : entryContents (F := Ideal) preI m c (Proc.devRef .tc main_v67_0) = A_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]; after_reads_simp <;> rfl
/-- The loop's array 1 at its entry. -/
theorem entry1 : entryContents (F := Ideal) preI m c (Proc.devRef .tc main_v67_1) = A_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]; after_reads_simp <;> rfl
/-- The loop's array 2 at its entry. -/
theorem entry2 : entryContents (F := Ideal) preI m c (Proc.devRef .tc main_v67_2) = A_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]; after_reads_simp <;> rfl
/-- The loop's array 3 at its entry. -/
theorem entry3 : entryContents (F := Ideal) preI m c (Proc.devRef .tc main_v67_3) = A_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]; after_reads_simp <;> rfl
/-- The loop's array 4 at its entry. -/
theorem entry4 : entryContents (F := Ideal) preI m c (Proc.devRef .tc main_v67_4) = A_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [entryContents, afterL_cons, afterL_nil]; after_reads_simp <;> rfl
/-- The loop's array 5 at its entry. -/
theorem entry5 : entryContents (F := Ideal) preI m c (Proc.devRef .tc main_v67_5) = m ((c.tc : Thread nD τ).loc main_arg6) := by
  simp only [entryContents, afterL_cons, afterL_nil]; after_reads_simp <;> rfl
/-- The loop's array 6 at its entry. -/
theorem entry6 : entryContents (F := Ideal) preI m c (Proc.devRef .tc main_v67_6) = constantI S_ 32 (BitVec.ofNat 32 0) := by
  simp only [entryContents, afterL_cons, afterL_nil]; after_reads_simp <;> rfl
/-- The loop's array 7 at its entry. -/
theorem entry7 : entryContents (F := Ideal) preI m c (Proc.devRef .tc main_v67_7) = K_main_v60 (F := Ideal) := by
  simp only [entryContents, afterL_cons, afterL_nil]; after_reads_simp <;> rfl

/-- Before the first trip. -/
theorem Holds.entry : Holds (refPar m c) (entryContents (F := Ideal) preI m c) 0 where
  f0 := fun s b g k q => by rw [entry0]; exact v61_at _ _ _ _ _ _ _ _ s b g k q
  f1 := fun s b g k => by rw [entry1]; exact v62_at _ _ _ _ _ _ _ _ s b g k
  f2 := fun s b g k => by rw [entry2]; exact v63_at _ _ _ _ _ _ _ _ s b g k
  f3 := fun s b g n => by rw [entry3]; exact v64_at _ _ _ _ _ _ _ _ s b g n
  f4 := fun s b g n => by rw [entry4]; exact v65_at _ _ _ _ _ _ _ _ s b g n
  f5 := fun h => by rw [entry5]; rfl
  n6 := entry6 m c
  f7 := fun b g k q n => by
    rw [entry7]
    have e : (refPar m c).H b (ln g k q) n 0 = 0 := rfl
    rw [e]
    pointwise [K_main_v60, K_main_cst_0]
  f8 := fun s b g k q hs => absurd hs (Nat.not_lt_zero _)

/-- The invariant holds after every number of trips. -/
theorem Holds.iter : ∀ t, t ≤ 8192 → Holds (refPar m c) (STEP^[t] (entryContents (F := Ideal) preI m c)) t
  | 0, _ => Holds.entry m c
  | t + 1, ht => by
    rw [Function.iterate_succ_apply']
    exact (Holds.iter t (by omega)).step (by omega)

/-- A lane, of its group, head and place. -/
theorem ln_of (q : Fin 2048) : ln ⟨q.val / 512, by omega⟩ ⟨q.val / 64 % 8, by omega⟩ ⟨q.val % 64, by omega⟩ = q :=
  Fin.ext (by show q.val / 512 * 512 + q.val / 64 % 8 * 64 + q.val % 64 = q.val; omega)

/-- The reference's result. -/
theorem ref_at (b : Fin 2) (s : Fin 8192) (q : Fin 2048) :
    (out_main_v95 (STEP^[8192] (entryContents (F := Ideal) preI m c)) : FVec Ideal S2x8192x2048 .bf16) (ix3 b s q) = (refPar m c).out b s.val q := by
  have h := Holds.iter m c 8192 (le_refl _)
  have e0 := iter_main_arg0 (F := Ideal) m c 8192
  have e1 := iter_main_arg1 (F := Ideal) m c 8192
  have e7 := iter_main_arg7 (F := Ideal) m c 8192
  generalize STEP^[8192] (entryContents (F := Ideal) preI m c) = V at h e0 e1 e7 ⊢
  have hy : ∀ q : Fin 2048, (V (Proc.devRef .tc main_v67_8) : FVec Ideal S8192x2x4x8x64 .f32)
      (ix5 s b ⟨q.val / 512, by omega⟩ ⟨q.val / 64 % 8, by omega⟩ ⟨q.val % 64, by omega⟩) = (refPar m c).y b s.val q := by
    intro q
    rw [h.f8 s b _ _ _ s.isLt, ln_of]
  have hz : ∀ q : Fin 2048, (Host.dotGeneral (F := Ideal) (φ₁ := .f32) (φ₂ := .f32) dot_S2x8192x1024_S1024x11296_S2x8192x11296_2_0_01_1_n_n none (V (Proc.devRef .tc main_arg0)) (V (Proc.devRef .tc main_arg1)) : FVec Ideal S2x8192x11296 .f32) (ix3 b s ⟨2048 + q.val, by omega⟩) = (refPar m c).pz b s.val q := by
    intro q
    rw [e0, e1, pz_eq]
    generalize m ((c.tc : Thread nD τ).loc main_arg0) = x
    generalize m ((c.tc : Thread nD τ).loc main_arg1) = w
    change FVec Ideal S2x8192x1024 .f32 at x
    change FVec Ideal S1024x11296 .f32 at w
    pointwise
  have hn : (V (Proc.devRef .tc main_arg7) : FVec Ideal S2048 .f32) (ix1 q) = (refPar m c).nw q := by rw [e7]; rfl
  unfold out_main_v95
  generalize V (Proc.devRef .tc main_arg7) = nw at hn ⊢
  generalize V (Proc.devRef .tc main_v67_8) = z at hy ⊢
  change FVec Ideal S8192x2x4x8x64 .f32 at z
  change FVec Ideal S2048 .f32 at nw
  generalize Host.dotGeneral (F := Ideal) (φ₁ := .f32) (φ₂ := .f32) dot_S2x8192x1024_S1024x11296_S2x8192x11296_2_0_01_1_n_n none (V (Proc.devRef .tc main_arg0)) (V (Proc.devRef .tc main_arg1)) = d at hz ⊢
  change FVec Ideal S2x8192x11296 .f32 at d
  generalize hG : mulf (shapeCast _ (transpose S2x8192x4x8x64 [1, 0, 2, 3, 4] z transposes_S8192x2x4x8x64_S2x8192x4x8x64_1_0_2_3_4) shapeCasts_S2x8192x4x8x64_S2x8192x2048) _ = G
  change FVec Ideal S2x8192x2048 .f32 at G
  have hg : ∀ q : Fin 2048, G (ix3 b s q) = (refPar m c).gt b s.val q := by
    intro q
    unfold Par.gt
    rw [← hG, ← hy q, ← hz q]
    pointwise
    rfl
  unfold Par.out
  rw [← hn, ← hg q, Finset.sum_congr rfl (fun k _ => by rw [← hg])]
  simp only [mul_comm 512 (q.val / 512)]
  pointwise

end Cert.SsdProof
-- ==== Proof.SsdIn.lean ====
module

public import proofs.«01_k».proof.Proof.SsdPoint
public import Idealize.ShloMosaic.Lib.StableHlo.ReadAt
public import proofs.«01_k».proof.Proof.SsdRef
public import proofs.«01_k».proof.Proof.Gen.SsdKernelIdeal.Value
public import Idealize.ShloMosaic.Lib.Pipeline.ValueKit
public import Idealize.ShloMosaic.Lib.Pointwise

@[expose] public section

/-! The state-space branch: the blocks the grid's points read, entry by entry. -/

set_option maxRecDepth 65536
set_option maxHeartbeats 1000000
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.SsdProof

open Cert.SsdKernelIdeal Cert.SsdKernelIdeal.Gen

variable (m : (ℓ : Loc nD τ sig) → Buf (Elt Ideal) ℓ)

/-- Every window's block index at every grid point. -/
theorem idx : ∀ t : Fin cfg0.N, win0_0.index t = ![t.val / 32, t.val % 32, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![t.val / 32, t.val % 32, 0] :=
  (by decide +kernel : ∀ t : Fin grid0.N, _)

/-- The branch's parameters, of the kernel's memory. -/
def kerPar (c : Dev nD) : Par := parOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- There are 64 grid points. -/
theorem lt64 (t : Fin cfg0.N) : t.val < 64 := t.isLt

/-- The sequence point `t` works on. -/
def seq (t : Fin cfg0.N) : Fin 2 := ⟨t.val / 32, by have := lt64 t; omega⟩

/-- The block of the stream, of the argument. -/
theorem in_hx (c : Dev nD) (t : Fin cfg0.N) (r : Fin 256) (k : Fin 1024) (h : 256 * (t.val % 32) + r.val < 8192) :
    (iblk m c 0 t : FVec Ideal S1x256x1024 .f32) (ix3 0 r k) = (m ((c.tc : Thread nD τ).loc main_arg0) : FVec Ideal S2x8192x1024 .f32) (ix3 (seq t) ⟨256 * (t.val % 32) + r.val, h⟩ k) := by
  unfold seq
  blk_point [iblk, V, idx t]

/-- The block of the convolution's weights, of the argument. -/
theorem in_hcw (c : Dev nD) (t : Fin cfg0.N) (k : Fin 4) (n : Fin 3072) :
    (iblk m c 2 t : FVec Ideal S4x3072 .f32) (ix2 k n) = (m ((c.tc : Thread nD τ).loc main_arg2) : FVec Ideal S4x3072 .f32) (ix2 k n) := by
  blk_point [iblk, V, idx t]

/-- The remainder of a row number by 128, as a bit operation. -/
theorem and384 : ∀ k : Fin 384, IntOp.andi (BitVec.ofNat 32 k.val) 127#32 = BitVec.ofNat 32 (k.val % 128) := by decide +kernel
/-- The quotient of a column number by 128, as a shift. -/
theorem shr7 : ∀ q : Fin 4096, IntOp.shrui ArithUnit.host (BitVec.ofNat 32 q.val) 7#32 = BitVec.ofNat 32 (q.val / 128) := by decide +kernel
/-- The quotient of a column number by 64, as a shift. -/
theorem shr6 : ∀ q : Fin 2048, IntOp.shrui ArithUnit.host (BitVec.ofNat 32 q.val) 6#32 = BitVec.ofNat 32 (q.val / 64) := by decide +kernel
/-- A comparison of small words is one of the numbers. -/
theorem cmp_eq : ∀ (a : Fin 128) (b : Fin 32), IntOp.cmpi CmpIPredicate.eq (BitVec.ofNat 32 a.val) (BitVec.ofNat 32 b.val)
    = if a.val = b.val then 1#1 else 0#1 := by decide +kernel

/-- A choice of one or zero on a bit that says a proposition. -/
theorem sel_one {p : Prop} [Decidable p] {x : BitVec 1} (h : x = if p then 1#1 else 0#1) : (Scalar.select x (1 : EReal) 0) = if p then 1 else 0 := by
  subst h
  split <;> rfl

/-- The convolution's bias. -/
theorem V_cb (c : Dev nD) (l : Fin 3072) : (V m c main_v12 : FVec Ideal S1x3072 .f32) (ix2 0 l) = (m ((c.tc : Thread nD τ).loc main_arg3) : FVec Ideal S3072 .f32) (ix1 l) := by
  unfold V
  after_reads_at

/-- The norm's weights. -/
theorem V_nw (c : Dev nD) (q : Fin 2048) : (V m c main_v13 : FVec Ideal S1x2048 .f32) (ix2 0 q) = (m ((c.tc : Thread nD τ).loc main_arg7) : FVec Ideal S2048 .f32) (ix1 q) := by
  unfold V
  after_reads_at

/-- The skip, a head's number on each of its lanes. -/
theorem V_dd (c : Dev nD) (q : Fin 2048) : (V m c main_v11 : FVec Ideal S1x2048 .f32) (ix2 0 q) = (m ((c.tc : Thread nD τ).loc main_arg6) : FVec Ideal S32 .f32) (ix1 (Par.hd q)) := by
  unfold V Par.hd
  after_reads_at

/-- The padded steps' bias. -/
theorem V_dtb (c : Dev nD) (h : Fin 32) : (V m c main_v6 : FVec Ideal S1x128 .f32) (ix2 0 ⟨h.val, by omega⟩) = (m ((c.tc : Thread nD τ).loc main_arg4) : FVec Ideal S32 .f32) (ix1 h) := by
  unfold V
  after_reads_at

/-- The padded logarithms. -/
theorem V_alog (c : Dev nD) (h : Fin 32) : (V m c main_v8 : FVec Ideal S1x128 .f32) (ix2 0 ⟨h.val, by omega⟩) = (m ((c.tc : Thread nD τ).loc main_arg5) : FVec Ideal S32 .f32) (ix1 h) := by
  unfold V
  after_reads_at

/-- The lower triangle. -/
theorem V_tri (c : Dev nD) (r s : Fin 128) : (V m c main_v18 : FVec Ideal S128x128 .bf16) (ix2 r s) = (if s.val ≤ r.val then 1 else 0 : EReal) := by
  unfold V
  after_reads_at
  refine sel_one ?_
  revert r s
  decide +kernel

/-- The spread of heads over columns of 128. -/
theorem V_ec (c : Dev nD) (k : Fin 384) (q : Fin 4096) : (V m c main_v27 : FVec Ideal S384x4096 .bf16) (ix2 k q) = (if k.val % 128 = q.val / 128 then 1 else 0 : EReal) := by
  unfold V
  after_reads_at
  refine sel_one ?_
  rw [and384, shr7]
  exact cmp_eq ⟨k.val % 128, by omega⟩ ⟨q.val / 128, by omega⟩

/-- The spread of heads over their lanes. -/
theorem V_eh (c : Dev nD) (k : Fin 256) (q : Fin 2048) : (V m c main_v36 : FVec Ideal S256x2048 .bf16) (ix2 k q) = (if k.val % 128 = q.val / 64 then 1 else 0 : EReal) := by
  unfold V
  after_reads_at
  refine sel_one ?_
  rw [and384 ⟨k.val, by omega⟩, shr6]
  exact cmp_eq ⟨k.val % 128, by omega⟩ ⟨q.val / 64, by omega⟩

/-- The columns of the weights the branch reads. -/
theorem V_w (c : Dev nD) (k : Fin 1024) (q : Fin 5248) (hq : q.val < 5152) :
    (V m c main_v4 : FVec Ideal S1024x5248 .bf16) (ix2 k q) = (m ((c.tc : Thread nD τ).loc main_arg1) : FVec Ideal S1024x11296 .f32) (ix2 k ⟨2048 + q.val, by omega⟩) := by
  unfold V
  after_reads_at
  split
  · simp only [StableHlo.upto]
    after_reads_at
  · simp only [StableHlo.upto]
    after_reads_at
    rw [dif_pos (show q.val - 5120 < 32 by omega)]
    refine congrArg _ (congrArg _ (Fin.ext ?_))
    show 7168 + (q.val - 5120) = 2048 + q.val
    omega

/-- The block of the steps' bias, of the argument. -/
theorem in_hdtb (c : Dev nD) (t : Fin cfg0.N) (h : Fin 32) :
    (iblk m c 4 t : FVec Ideal S1x128 .f32) (ix2 0 ⟨h.val, by omega⟩) = (m ((c.tc : Thread nD τ).loc main_arg4) : FVec Ideal S32 .f32) (ix1 h) := by
  have he : (win0_4.blk t).view.emb (ix2 0 ⟨h.val, by omega⟩) = (ix2 0 ⟨h.val, by omega⟩) := by
    funext i
    match i with
    | ⟨0, _⟩ => exact Fin.ext (by simp [Pipeline.Window.blk, View.slice, View.whole, idx t])
    | ⟨1, _⟩ => exact Fin.ext (by simp [Pipeline.Window.blk, View.slice, View.whole, idx t])
  show V m c main_v6 ((win0_4.blk t).view.emb (ix2 0 ⟨h.val, by omega⟩)) = _
  rw [he]
  exact V_dtb m c h

/-- The block of the log decay rates, of the argument. -/
theorem in_halog (c : Dev nD) (t : Fin cfg0.N) (h : Fin 32) :
    (iblk m c 5 t : FVec Ideal S1x128 .f32) (ix2 0 ⟨h.val, by omega⟩) = (m ((c.tc : Thread nD τ).loc main_arg5) : FVec Ideal S32 .f32) (ix1 h) := by
  have he : (win0_5.blk t).view.emb (ix2 0 ⟨h.val, by omega⟩) = (ix2 0 ⟨h.val, by omega⟩) := by
    funext i
    match i with
    | ⟨0, _⟩ => exact Fin.ext (by simp [Pipeline.Window.blk, View.slice, View.whole, idx t])
    | ⟨1, _⟩ => exact Fin.ext (by simp [Pipeline.Window.blk, View.slice, View.whole, idx t])
  show V m c main_v8 ((win0_5.blk t).view.emb (ix2 0 ⟨h.val, by omega⟩)) = _
  rw [he]
  exact V_alog m c h

/-- The block of the convolution's bias, of the argument. -/
theorem in_hcb (c : Dev nD) (t : Fin cfg0.N) (l : Fin 3072) :
    (iblk m c 3 t : FVec Ideal S1x3072 .f32) (ix2 0 l) = (m ((c.tc : Thread nD τ).loc main_arg3) : FVec Ideal S3072 .f32) (ix1 l) := by
  have he : (win0_3.blk t).view.emb (ix2 0 l) = (ix2 0 l) := by
    funext i
    match i with
    | ⟨0, _⟩ => exact Fin.ext (by simp [Pipeline.Window.blk, View.slice, View.whole, idx t])
    | ⟨1, _⟩ => exact Fin.ext (by simp [Pipeline.Window.blk, View.slice, View.whole, idx t])
  show V m c main_v12 ((win0_3.blk t).view.emb (ix2 0 l)) = _
  rw [he]
  exact V_cb m c l

/-- The block of the norm's weights, of the argument. -/
theorem in_hnw (c : Dev nD) (t : Fin cfg0.N) (q : Fin 2048) :
    (iblk m c 7 t : FVec Ideal S1x2048 .f32) (ix2 0 q) = (m ((c.tc : Thread nD τ).loc main_arg7) : FVec Ideal S2048 .f32) (ix1 q) := by
  have he : (win0_7.blk t).view.emb (ix2 0 q) = (ix2 0 q) := by
    funext i
    match i with
    | ⟨0, _⟩ => exact Fin.ext (by simp [Pipeline.Window.blk, View.slice, View.whole, idx t])
    | ⟨1, _⟩ => exact Fin.ext (by simp [Pipeline.Window.blk, View.slice, View.whole, idx t])
  show V m c main_v13 ((win0_7.blk t).view.emb (ix2 0 q)) = _
  rw [he]
  exact V_nw m c q

/-- The block of the skip's weights, of the argument. -/
theorem in_hdd (c : Dev nD) (t : Fin cfg0.N) (q : Fin 2048) :
    (iblk m c 6 t : FVec Ideal S1x2048 .f32) (ix2 0 q) = (m ((c.tc : Thread nD τ).loc main_arg6) : FVec Ideal S32 .f32) (ix1 (Par.hd q)) := by
  have he : (win0_6.blk t).view.emb (ix2 0 q) = (ix2 0 q) := by
    funext i
    match i with
    | ⟨0, _⟩ => exact Fin.ext (by simp [Pipeline.Window.blk, View.slice, View.whole, idx t])
    | ⟨1, _⟩ => exact Fin.ext (by simp [Pipeline.Window.blk, View.slice, View.whole, idx t])
  show V m c main_v11 ((win0_6.blk t).view.emb (ix2 0 q)) = _
  rw [he]
  exact V_dd m c q

/-- The block of the projection's weights, of the argument. -/
theorem in_hw (c : Dev nD) (t : Fin cfg0.N) (k : Fin 1024) (q : Fin 5248) (hq : q.val < 5152) :
    (iblk m c 1 t : FVec Ideal S1024x5248 .bf16) (ix2 k q) = (m ((c.tc : Thread nD τ).loc main_arg1) : FVec Ideal S1024x11296 .f32) (ix2 k ⟨2048 + q.val, by omega⟩) := by
  have he : (win0_1.blk t).view.emb (ix2 k q) = (ix2 k q) := by
    funext i
    match i with
    | ⟨0, _⟩ => exact Fin.ext (by simp [Pipeline.Window.blk, View.slice, View.whole, idx t])
    | ⟨1, _⟩ => exact Fin.ext (by simp [Pipeline.Window.blk, View.slice, View.whole, idx t])
  show V m c main_v4 ((win0_1.blk t).view.emb (ix2 k q)) = _
  rw [he]
  exact V_w m c k q hq

/-- The block of the lower triangle. -/
theorem in_htri (c : Dev nD) (t : Fin cfg0.N) (r s : Fin 128) :
    (iblk m c 8 t : FVec Ideal S128x128 .bf16) (ix2 r s) = (if s.val ≤ r.val then 1 else 0 : EReal) := by
  have he : (win0_8.blk t).view.emb (ix2 r s) = (ix2 r s) := by
    funext i
    match i with
    | ⟨0, _⟩ => exact Fin.ext (by simp [Pipeline.Window.blk, View.slice, View.whole, idx t])
    | ⟨1, _⟩ => exact Fin.ext (by simp [Pipeline.Window.blk, View.slice, View.whole, idx t])
  show V m c main_v18 ((win0_8.blk t).view.emb (ix2 r s)) = _
  rw [he]
  exact V_tri m c r s

/-- The block of the spread of heads over columns of 128. -/
theorem in_hec (c : Dev nD) (t : Fin cfg0.N) (k : Fin 384) (q : Fin 4096) :
    (iblk m c 9 t : FVec Ideal S384x4096 .bf16) (ix2 k q) = (if k.val % 128 = q.val / 128 then 1 else 0 : EReal) := by
  have he : (win0_9.blk t).view.emb (ix2 k q) = (ix2 k q) := by
    funext i
    match i with
    | ⟨0, _⟩ => exact Fin.ext (by simp [Pipeline.Window.blk, View.slice, View.whole, idx t])
    | ⟨1, _⟩ => exact Fin.ext (by simp [Pipeline.Window.blk, View.slice, View.whole, idx t])
  show V m c main_v27 ((win0_9.blk t).view.emb (ix2 k q)) = _
  rw [he]
  exact V_ec m c k q

/-- The block of the spread of heads over their lanes. -/
theorem in_heh (c : Dev nD) (t : Fin cfg0.N) (k : Fin 256) (q : Fin 2048) :
    (iblk m c 10 t : FVec Ideal S256x2048 .bf16) (ix2 k q) = (if k.val % 128 = q.val / 64 then 1 else 0 : EReal) := by
  have he : (win0_10.blk t).view.emb (ix2 k q) = (ix2 k q) := by
    funext i
    match i with
    | ⟨0, _⟩ => exact Fin.ext (by simp [Pipeline.Window.blk, View.slice, View.whole, idx t])
    | ⟨1, _⟩ => exact Fin.ext (by simp [Pipeline.Window.blk, View.slice, View.whole, idx t])
  show V m c main_v36 ((win0_10.blk t).view.emb (ix2 k q)) = _
  rw [he]
  exact V_eh m c k q

end Cert.SsdProof
-- ==== Proof.SsdLoads.lean ====
module

public import proofs.«01_k».proof.Proof.SsdPoint
public import Idealize.ShloMosaic.Lib.WritesUnit
public import Idealize.ShloMosaic.Lib.Pipeline.ValueKit
public import Idealize.ShloMosaic.Lib.Pointwise

@[expose] public section

set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.SsdProof

open Cert.SsdKernelIdeal Cert.SsdKernelIdeal.Gen

/-- A row of the carried head of the extended rows is a row of the buffer. -/
theorem lt264 (q : Fin 8) : q.val < 264 := by omega

/-- A load of a whole buffer's rectangle, at an index. -/
theorem load_at {sp : Space} {s : Shape} {e : EltTy} (mr : Memref sig .tc sp s e) (h : mr.IsWhole) (X : s.Idx → Elt Ideal e)
    (off size : Fin s.rank → Nat) (inb : ∀ a, off a + size a ≤ s.size a) (x : (Rect.unit off size inb).shape.Idx) (i : s.Idx)
    (hi : ∀ a, (i a : Nat) = off a + x a) :
    View.readAt (Elt Ideal) mr.view (Rect.unit off size inb).toLoadRect (h.unread X) x = X i := by
  rw [View.readAt_eq_ld, h.read_unread]
  exact View.ld_unit_apply_of X off size inb x i hi

/-- A load of a whole buffer. -/
theorem load_all {sp : Space} {s : Shape} {e : EltTy} (mr : Memref sig .tc sp s e) (h : mr.IsWhole) (X : s.Idx → Elt Ideal e)
    (off : Fin s.rank → Nat) (inb : ∀ a, off a + s.size a ≤ s.size a) (ho : ∀ a, off a = 0) :
    View.readAt (Elt Ideal) mr.view (Rect.unit off s.size inb).toLoadRect (h.unread X) = X := by
  funext x
  exact load_at mr h X off s.size inb x x fun a => by rw [ho a, Nat.zero_add]

/-- Rows read back after the tile's 256 rows were stored from row 8: a stored row. -/
theorem ext_new {sp : Space} (mr : Memref sig .tc sp S264x3072 .f32) (f : mr.view.ty.Contents (Elt Ideal))
    (cur : Vec Ideal S256x3072 .f32) (L : List (View.Piece (Elt Ideal) S264x3072 .f32)) (k : Nat)
    (inb8 : ∀ a, (![8, 0] : Fin 2 → Nat) a + S256x3072.size a ≤ S264x3072.size a)
    (inb : ∀ a, (![k, 0] : Fin 2 → Nat) a + S256x3072.size a ≤ S264x3072.size a) (r : Fin 256) (l : Fin 3072)
    (hr : 8 ≤ r.val + k) (hk : k < 8) :
    View.readAt (Elt Ideal) mr.view (Rect.unit (s := S264x3072) ![k, 0] S256x3072.size inb).toLoadRect
      (mr.view.writes (Elt Ideal) f (⟨Rect.unit (s := S264x3072) ![8, 0] S256x3072.size inb8, cur⟩ :: L)) (ix2 r l)
      = cur (ix2 ⟨r.val + k - 8, by omega⟩ l) := by
  rw [View.readAt_eq_ld]
  refine View.read_writes_cons_unit_of_mem (s := S264x3072) mr.view f inb8 cur L _ (ix2 ⟨r.val + k - 8, by omega⟩ l) rfl fun a => ?_
  rw [Rect.idx_unit_val]
  match a with
  | ⟨0, _⟩ => show k + r.val = 8 + (r.val + k - 8); omega
  | ⟨1, _⟩ => rfl

/-- Rows read back after the tile's 256 rows were stored from row 8: a row before them. -/
theorem ext_old {sp : Space} (mr : Memref sig .tc sp S264x3072 .f32) (f : mr.view.ty.Contents (Elt Ideal))
    (cur : Vec Ideal S256x3072 .f32) (L : List (View.Piece (Elt Ideal) S264x3072 .f32)) (k : Nat)
    (inb8 : ∀ a, (![8, 0] : Fin 2 → Nat) a + S256x3072.size a ≤ S264x3072.size a)
    (inb : ∀ a, (![k, 0] : Fin 2 → Nat) a + S256x3072.size a ≤ S264x3072.size a) (r : Fin 256) (l : Fin 3072)
    (hr : r.val + k < 8) :
    View.readAt (Elt Ideal) mr.view (Rect.unit (s := S264x3072) ![k, 0] S256x3072.size inb).toLoadRect
      (mr.view.writes (Elt Ideal) f (⟨Rect.unit (s := S264x3072) ![8, 0] S256x3072.size inb8, cur⟩ :: L)) (ix2 r l)
      = View.read (Elt Ideal) mr.view (mr.view.writes (Elt Ideal) f L) (ix2 ⟨r.val + k, by omega⟩ l) := by
  rw [View.readAt_eq_ld]
  have e : (Rect.unit (s := S264x3072) ![k, 0] S256x3072.size inb).idx (ix2 r l) = ix2 ⟨r.val + k, by omega⟩ l := by
    funext a
    refine Fin.ext ((Rect.idx_unit_val _ _ _ _ a).trans ?_)
    match a with
    | ⟨0, _⟩ => show k + r.val = r.val + k; omega
    | ⟨1, _⟩ => exact Nat.zero_add _
  show View.read (Elt Ideal) mr.view _ ((Rect.unit (s := S264x3072) ![k, 0] S256x3072.size inb).idx (ix2 r l)) = _
  rw [e]
  exact View.read_writes_cons_unit_of_not_mem (s := S264x3072) mr.view f inb8 cur L _ rfl 0 (Or.inl hr)

/-- The rows before a sequence are zero. -/
theorem zero_rows {sp : Space} (mr : Memref sig .tc sp S264x3072 .f32) (f : mr.view.ty.Contents (Elt Ideal)) (q : Fin 8) (l : Fin 3072) :
    View.read (Elt Ideal) mr.view (mr.view.writes (Elt Ideal) f
      [⟨Rect.unit (s := S264x3072) ![0, 0] S8x3072.size inb_S264x3072_S8x3072_0_0, k0_pay2 (F := Ideal)⟩]) (ix2 ⟨q.val, lt264 q⟩ l) = (0 : EReal) := by
  refine (View.read_writes_cons_unit_of_mem (s := S264x3072) mr.view f inb_S264x3072_S8x3072_0_0 _ [] _ (ix2 q l) rfl fun a => ?_).trans ?_
  · match a with
    | ⟨0, _⟩ => exact (Nat.zero_add _).symm
    | ⟨1, _⟩ => exact (Nat.zero_add _).symm
  · pointwise [k0_pay2]

/-! ## A group's slab of the state -/

/-- The newest slab of the group read. -/
theorem slab_hit (v : View sig .tc .vmem S4x128x512 .f32) (f : v.ty.Contents (Elt Ideal)) (w : Vec Ideal S1x128x512 .f32)
    (L : List (View.Piece (Elt Ideal) S4x128x512 .f32)) (g : Fin 4)
    (inb : ∀ a, (![g.val, 0, 0] : Fin 3 → Nat) a + S1x128x512.size a ≤ S4x128x512.size a) (n : Fin 128) (q : Fin 512) :
    View.read (Elt Ideal) v (v.writes (Elt Ideal) f (⟨Rect.unit (s := S4x128x512) ![g.val, 0, 0] S1x128x512.size inb, w⟩ :: L)) (ix3 g n q)
      = w (ix3 0 n q) := by
  refine View.read_writes_cons_unit_of_mem (s := S4x128x512) v f inb w L _ (ix3 0 n q) rfl fun a => ?_
  match a with
  | ⟨0, _⟩ => rfl
  | ⟨1, _⟩ => exact (Nat.zero_add _).symm
  | ⟨2, _⟩ => exact (Nat.zero_add _).symm

/-- A slab of another group. -/
theorem slab_miss (v : View sig .tc .vmem S4x128x512 .f32) (f : v.ty.Contents (Elt Ideal)) (w : Vec Ideal S1x128x512 .f32)
    (L : List (View.Piece (Elt Ideal) S4x128x512 .f32)) (g g' : Fin 4)
    (inb : ∀ a, (![g'.val, 0, 0] : Fin 3 → Nat) a + S1x128x512.size a ≤ S4x128x512.size a) (n : Fin 128) (q : Fin 512) (h : g ≠ g') :
    View.read (Elt Ideal) v (v.writes (Elt Ideal) f (⟨Rect.unit (s := S4x128x512) ![g'.val, 0, 0] S1x128x512.size inb, w⟩ :: L)) (ix3 g n q)
      = View.read (Elt Ideal) v (v.writes (Elt Ideal) f L) (ix3 g n q) := by
  have h' : g.val ≠ g'.val := fun e => h (Fin.ext e)
  refine View.read_writes_cons_unit_of_not_mem (s := S4x128x512) v f inb w L _ rfl 0 ?_
  change g.val < g'.val ∨ g'.val + 1 ≤ g.val
  omega

/-- The state a sequence begins with. -/
theorem slab_zero (v : View sig .tc .vmem S4x128x512 .f32) (f : v.ty.Contents (Elt Ideal)) (g : Fin 4)
    (inb : ∀ a, (![0, 0, 0] : Fin 3 → Nat) a + S4x128x512.size a ≤ S4x128x512.size a) (n : Fin 128) (q : Fin 512) :
    View.read (Elt Ideal) v (v.writes (Elt Ideal) f [⟨Rect.unit (s := S4x128x512) ![0, 0, 0] S4x128x512.size inb, k0_pay3 (F := Ideal)⟩]) (ix3 g n q)
      = (0 : EReal) := by
  refine (View.read_writes_cons_unit_of_mem (s := S4x128x512) v f inb _ [] _ (ix3 g n q) rfl fun a => ?_).trans ?_
  · match a with
    | ⟨0, _⟩ => exact (Nat.zero_add _).symm
    | ⟨1, _⟩ => exact (Nat.zero_add _).symm
    | ⟨2, _⟩ => exact (Nat.zero_add _).symm
  · pointwise [k0_pay3]

/-- A slab loaded after a list of writes. -/
theorem slab_read (v : View sig .tc .vmem S4x128x512 .f32) (L : List (View.Piece (Elt Ideal) S4x128x512 .f32)) (g : Fin 4)
    (inb : ∀ a, (![g.val, 0, 0] : Fin 3 → Nat) a + S1x128x512.size a ≤ S4x128x512.size a) (n : Fin 128) (q : Fin 512) :
    v.readCov L (Rect.unit (s := S4x128x512) ![g.val, 0, 0] S1x128x512.size inb).toLoadRect (ix3 0 n q)
      = View.read (Elt Ideal) v (v.writes (Elt Ideal) v.junk L) (ix3 g n q) := by
  have e : (Rect.unit (s := S4x128x512) ![g.val, 0, 0] S1x128x512.size inb).idx (ix3 0 n q) = ix3 g n q := by
    funext a
    refine Fin.ext ((Rect.idx_unit_val _ _ _ _ a).trans ?_)
    match a with
    | ⟨0, _⟩ => rfl
    | ⟨1, _⟩ => exact Nat.zero_add _
    | ⟨2, _⟩ => exact Nat.zero_add _
  show View.read (Elt Ideal) v _ ((Rect.unit (s := S4x128x512) ![g.val, 0, 0] S1x128x512.size inb).idx (ix3 0 n q)) = _
  rw [e]

open Par (hd) in
/-- Where a chunk's piece of the output holds an index, its value is the branch's result. -/
theorem out_tile {c : Chunk} {p : Par} {b : Fin 2} {T : Nat} (k : c.Of p b T) (f : p.Reals) (o : Fin 2) {DS NW : Vec Ideal S1x2048 .f32}
    (s0 s1 s2 s3 : Vec Ideal S1x128x512 .f32)
    (hd' : ∀ q : Fin 2048, DS (ix2 0 q) = p.dd (hd q)) (hn : ∀ q : Fin 2048, NW (ix2 0 q) = p.nw q)
    (h0 : ∀ (n : Fin 128) (q : Fin 512), s0 (ix3 0 n q) = p.H b ⟨512 * (0 : Fin 4).val + q.val, by change 512 * 0 + q.val < 2048; omega⟩ n (T + 128 * o.val))
    (h1 : ∀ (n : Fin 128) (q : Fin 512), s1 (ix3 0 n q) = p.H b ⟨512 * (1 : Fin 4).val + q.val, by change 512 * 1 + q.val < 2048; omega⟩ n (T + 128 * o.val))
    (h2 : ∀ (n : Fin 128) (q : Fin 512), s2 (ix3 0 n q) = p.H b ⟨512 * (2 : Fin 4).val + q.val, by change 512 * 2 + q.val < 2048; omega⟩ n (T + 128 * o.val))
    (h3 : ∀ (n : Fin 128) (q : Fin 512), s3 (ix3 0 n q) = p.H b ⟨512 * (3 : Fin 4).val + q.val, by change 512 * 3 + q.val < 2048; omega⟩ n (T + 128 * o.val))
    (r : Fin 256) (q : Fin 2048) :
    View.TileAt (Val := Elt Ideal) (S := S1x256x2048) (e := .bf16) (ix3 0 r q) ![0, 128 * o.val, 0] S1x128x2048.size
      (c.out o DS NW s0 s1 s2 s3) (p.out b (T + r.val) q) := by
  intro x hx
  have hr : r.val = 128 * o.val + (x 1).val := hx 1
  have hl : q.val = 0 + (x 2).val := hx 2
  have ex : x = ix3 0 (x 1) q := by
    funext a
    match a with
    | ⟨0, _⟩ => exact Subsingleton.elim (α := Fin 1) _ _
    | ⟨1, _⟩ => rfl
    | ⟨2, _⟩ => exact Fin.ext (by show (x 2).val = q.val; omega)
  rw [ex]
  refine (Chunk.out_at k f o (fun g => match g with | ⟨0, _⟩ => s0 | ⟨1, _⟩ => s1 | ⟨2, _⟩ => s2 | ⟨3, _⟩ => s3) hd' hn (fun g => ?_) (x 1) q).trans ?_
  · match g with
    | ⟨0, _⟩ => exact h0
    | ⟨1, _⟩ => exact h1
    | ⟨2, _⟩ => exact h2
    | ⟨3, _⟩ => exact h3
  · congr 1
    rw [hr]
    exact Nat.add_assoc _ _ _

end Cert.SsdProof
-- ==== Proof.SsdRunA.lean ====
module

public import proofs.«01_k».proof.Proof.SsdTile
public import Idealize.ShloMosaic.Lib.Pipeline.ValueKit
public import Idealize.ShloMosaic.Lib.Pointwise

@[expose] public section

set_option maxRecDepth 65536
noncomputable section

open Idealize.ShloMosaic Idealize.ShloMosaic.TcCoe Idealize.ShloMosaic.ValueIdx Idealize.SL.Sem
open Idealize.ShloMosaic.Pipeline (Dat)
namespace Cert.SsdProof

open Cert.SsdKernelIdeal Cert.SsdKernelIdeal.Gen

/-- What a first point of a sequence writes to its output block, chunk by chunk. -/
theorem outA_pieces (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (kernelRun0_A.sl.v22 (F := Ideal) c arg2 harg2 arg3 harg3 arg14 x0 x1)
      (kernelRun0_A.sl.v27 (F := Ideal) c arg2 harg2 arg3 harg3 arg14 x0 x1)
      (kernelRun0_A.sl.v32 (F := Ideal) c arg2 harg2 arg3 harg3 arg14 x0 x1)
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1 =
      [⟨Rect.unit (s := S1x256x2048) ![0, 128, 0] S1x128x2048.size inb_S1x256x2048_S1x128x2048_0_128_0, Chunk.out C 1 (View.readAt (Elt Ideal) arg8.view (Rect.unit (s := S1x2048) ![0, 0] S1x2048.size inb_S1x2048_S1x2048_0_0).toLoadRect (harg8.unread x6)) (View.readAt (Elt Ideal) arg9.view (Rect.unit (s := S1x2048) ![0, 0] S1x2048.size inb_S1x2048_S1x2048_0_0).toLoadRect (harg9.unread x7))
          (kernelRun0_A.sl.v1094 (F := Ideal) c arg2 harg2 arg3 harg3 arg4 harg4 arg5 harg5 arg6 harg6 arg7 harg7 arg10 harg10 arg12 harg12 arg14 arg15 x0 x1 x2 x3 x4 x5 x8 x10)
          (kernelRun0_A.sl.v1269 (F := Ideal) c arg2 harg2 arg3 harg3 arg4 harg4 arg5 harg5 arg6 harg6 arg7 harg7 arg10 harg10 arg12 harg12 arg14 arg15 x0 x1 x2 x3 x4 x5 x8 x10)
          (kernelRun0_A.sl.v1444 (F := Ideal) c arg2 harg2 arg3 harg3 arg4 harg4 arg5 harg5 arg6 harg6 arg7 harg7 arg10 harg10 arg12 harg12 arg14 arg15 x0 x1 x2 x3 x4 x5 x8 x10)
          (kernelRun0_A.sl.v1619 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S1x256x2048) ![0, 0, 0] S1x128x2048.size inb_S1x256x2048_S1x128x2048_0_0_0, Chunk.out C 0 (View.readAt (Elt Ideal) arg8.view (Rect.unit (s := S1x2048) ![0, 0] S1x2048.size inb_S1x2048_S1x2048_0_0).toLoadRect (harg8.unread x6)) (View.readAt (Elt Ideal) arg9.view (Rect.unit (s := S1x2048) ![0, 0] S1x2048.size inb_S1x2048_S1x2048_0_0).toLoadRect (harg9.unread x7))
          (kernelRun0_A.sl.v279 (F := Ideal) c arg15)
          (kernelRun0_A.sl.v454 (F := Ideal) c arg2 harg2 arg3 harg3 arg4 harg4 arg5 harg5 arg6 harg6 arg7 harg7 arg10 harg10 arg12 harg12 arg14 arg15 x0 x1 x2 x3 x4 x5 x8 x10)
          (kernelRun0_A.sl.v629 (F := Ideal) c arg2 harg2 arg3 harg3 arg4 harg4 arg5 harg5 arg6 harg6 arg7 harg7 arg10 harg10 arg12 harg12 arg14 arg15 x0 x1 x2 x3 x4 x5 x8 x10)
          (kernelRun0_A.sl.v804 (F := Ideal) c arg2 harg2 arg3 harg3 arg4 harg4 arg5 harg5 arg6 harg6 arg7 harg7 arg10 harg10 arg12 harg12 arg14 arg15 x0 x1 x2 x3 x4 x5 x8 x10)⟩] := by
  subst hC
  sl_kernel_rfl

/-- What a first point of a sequence writes to the projection's scratch. -/
theorem extA_pieces (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1 =
      [⟨Rect.unit (s := S264x3072) ![0, 0] S8x3072.size inb_S264x3072_S8x3072_0_0, k0_pay8 (k0_pay5 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)))⟩,
        ⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩,
        ⟨Rect.unit (s := S264x3072) ![0, 0] S8x3072.size inb_S264x3072_S8x3072_0_0, (k0_pay2 (F := Ideal))⟩] := by
  sl_kernel_rfl

/-- What a first point of a sequence writes to the state, group by group and chunk by chunk. -/
theorem stA_pieces (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (kernelRun0_A.sl.v22 (F := Ideal) c arg2 harg2 arg3 harg3 arg14 x0 x1)
      (kernelRun0_A.sl.v27 (F := Ideal) c arg2 harg2 arg3 harg3 arg14 x0 x1)
      (kernelRun0_A.sl.v32 (F := Ideal) c arg2 harg2 arg3 harg3 arg14 x0 x1)
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.2.val =
      [⟨Rect.unit (s := S4x128x512) ![3, 0, 0] S1x128x512.size inb_S4x128x512_S1x128x512_3_0_0, Chunk.st C 1 3
          (kernelRun0_A.sl.v1619 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![2, 0, 0] S1x128x512.size inb_S4x128x512_S1x128x512_2_0_0, Chunk.st C 1 2
          (kernelRun0_A.sl.v1444 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![1, 0, 0] S1x128x512.size inb_S4x128x512_S1x128x512_1_0_0, Chunk.st C 1 1
          (kernelRun0_A.sl.v1269 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![0, 0, 0] S1x128x512.size inb_S4x128x512_S1x128x512_0_0_0, Chunk.st C 1 0
          (kernelRun0_A.sl.v1094 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![3, 0, 0] S1x128x512.size inb_S4x128x512_S1x128x512_3_0_0, Chunk.st C 0 3
          (kernelRun0_A.sl.v804 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![2, 0, 0] S1x128x512.size inb_S4x128x512_S1x128x512_2_0_0, Chunk.st C 0 2
          (kernelRun0_A.sl.v629 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![1, 0, 0] S1x128x512.size inb_S4x128x512_S1x128x512_1_0_0, Chunk.st C 0 1
          (kernelRun0_A.sl.v454 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![0, 0, 0] S1x128x512.size inb_S4x128x512_S1x128x512_0_0_0, Chunk.st C 0 0
          (kernelRun0_A.sl.v279 (F := Ideal) c arg15)⟩,
        ⟨Rect.unit (s := S4x128x512) ![0, 0, 0] S4x128x512.size inb_S4x128x512_S4x128x512_0_0_0, (k0_pay3 (F := Ideal))⟩] := by
  subst hC
  sl_kernel_rfl

/-- Group 0's state read in chunk 0: what the chunks and groups before it left. -/
theorem ldA_00 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (kernelRun0_A.sl.v22 (F := Ideal) c arg2 harg2 arg3 harg3 arg14 x0 x1)
      (kernelRun0_A.sl.v27 (F := Ideal) c arg2 harg2 arg3 harg3 arg14 x0 x1)
      (kernelRun0_A.sl.v32 (F := Ideal) c arg2 harg2 arg3 harg3 arg14 x0 x1)
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_A.sl.v279 (F := Ideal) c arg15) =
      arg15.view.readCov [⟨Rect.unit (s := S4x128x512) ![0, 0, 0] S4x128x512.size inb_S4x128x512_S4x128x512_0_0_0, (k0_pay3 (F := Ideal))⟩]
        (Rect.unit (s := S4x128x512) ![0, 0, 0] S1x128x512.size inb_S4x128x512_S1x128x512_0_0_0).toLoadRect := by
  subst hC
  sl_kernel_rfl

/-- Group 1's state read in chunk 0: what the chunks and groups before it left. -/
theorem ldA_01 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (kernelRun0_A.sl.v22 (F := Ideal) c arg2 harg2 arg3 harg3 arg14 x0 x1)
      (kernelRun0_A.sl.v27 (F := Ideal) c arg2 harg2 arg3 harg3 arg14 x0 x1)
      (kernelRun0_A.sl.v32 (F := Ideal) c arg2 harg2 arg3 harg3 arg14 x0 x1)
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_A.sl.v454 (F := Ideal) c arg2 harg2 arg3 harg3 arg4 harg4 arg5 harg5 arg6 harg6 arg7 harg7 arg10 harg10 arg12 harg12 arg14 arg15 x0 x1 x2 x3 x4 x5 x8 x10) =
      arg15.view.readCov [⟨Rect.unit (s := S4x128x512) ![0, 0, 0] S1x128x512.size inb_S4x128x512_S1x128x512_0_0_0, Chunk.st C 0 0
          (kernelRun0_A.sl.v279 (F := Ideal) c arg15)⟩,
        ⟨Rect.unit (s := S4x128x512) ![0, 0, 0] S4x128x512.size inb_S4x128x512_S4x128x512_0_0_0, (k0_pay3 (F := Ideal))⟩]
        (Rect.unit (s := S4x128x512) ![1, 0, 0] S1x128x512.size inb_S4x128x512_S1x128x512_1_0_0).toLoadRect := by
  subst hC
  sl_kernel_rfl

/-- Group 2's state read in chunk 0: what the chunks and groups before it left. -/
theorem ldA_02 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (kernelRun0_A.sl.v22 (F := Ideal) c arg2 harg2 arg3 harg3 arg14 x0 x1)
      (kernelRun0_A.sl.v27 (F := Ideal) c arg2 harg2 arg3 harg3 arg14 x0 x1)
      (kernelRun0_A.sl.v32 (F := Ideal) c arg2 harg2 arg3 harg3 arg14 x0 x1)
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_A.sl.v629 (F := Ideal) c arg2 harg2 arg3 harg3 arg4 harg4 arg5 harg5 arg6 harg6 arg7 harg7 arg10 harg10 arg12 harg12 arg14 arg15 x0 x1 x2 x3 x4 x5 x8 x10) =
      arg15.view.readCov [⟨Rect.unit (s := S4x128x512) ![1, 0, 0] S1x128x512.size inb_S4x128x512_S1x128x512_1_0_0, Chunk.st C 0 1
          (kernelRun0_A.sl.v454 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![0, 0, 0] S1x128x512.size inb_S4x128x512_S1x128x512_0_0_0, Chunk.st C 0 0
          (kernelRun0_A.sl.v279 (F := Ideal) c arg15)⟩,
        ⟨Rect.unit (s := S4x128x512) ![0, 0, 0] S4x128x512.size inb_S4x128x512_S4x128x512_0_0_0, (k0_pay3 (F := Ideal))⟩]
        (Rect.unit (s := S4x128x512) ![2, 0, 0] S1x128x512.size inb_S4x128x512_S1x128x512_2_0_0).toLoadRect := by
  subst hC
  sl_kernel_rfl

/-- Group 3's state read in chunk 0: what the chunks and groups before it left. -/
theorem ldA_03 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (kernelRun0_A.sl.v22 (F := Ideal) c arg2 harg2 arg3 harg3 arg14 x0 x1)
      (kernelRun0_A.sl.v27 (F := Ideal) c arg2 harg2 arg3 harg3 arg14 x0 x1)
      (kernelRun0_A.sl.v32 (F := Ideal) c arg2 harg2 arg3 harg3 arg14 x0 x1)
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_A.sl.v804 (F := Ideal) c arg2 harg2 arg3 harg3 arg4 harg4 arg5 harg5 arg6 harg6 arg7 harg7 arg10 harg10 arg12 harg12 arg14 arg15 x0 x1 x2 x3 x4 x5 x8 x10) =
      arg15.view.readCov [⟨Rect.unit (s := S4x128x512) ![2, 0, 0] S1x128x512.size inb_S4x128x512_S1x128x512_2_0_0, Chunk.st C 0 2
          (kernelRun0_A.sl.v629 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![1, 0, 0] S1x128x512.size inb_S4x128x512_S1x128x512_1_0_0, Chunk.st C 0 1
          (kernelRun0_A.sl.v454 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![0, 0, 0] S1x128x512.size inb_S4x128x512_S1x128x512_0_0_0, Chunk.st C 0 0
          (kernelRun0_A.sl.v279 (F := Ideal) c arg15)⟩,
        ⟨Rect.unit (s := S4x128x512) ![0, 0, 0] S4x128x512.size inb_S4x128x512_S4x128x512_0_0_0, (k0_pay3 (F := Ideal))⟩]
        (Rect.unit (s := S4x128x512) ![3, 0, 0] S1x128x512.size inb_S4x128x512_S1x128x512_3_0_0).toLoadRect := by
  subst hC
  sl_kernel_rfl

/-- Group 0's state read in chunk 1: what the chunks and groups before it left. -/
theorem ldA_10 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (kernelRun0_A.sl.v22 (F := Ideal) c arg2 harg2 arg3 harg3 arg14 x0 x1)
      (kernelRun0_A.sl.v27 (F := Ideal) c arg2 harg2 arg3 harg3 arg14 x0 x1)
      (kernelRun0_A.sl.v32 (F := Ideal) c arg2 harg2 arg3 harg3 arg14 x0 x1)
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_A.sl.v1094 (F := Ideal) c arg2 harg2 arg3 harg3 arg4 harg4 arg5 harg5 arg6 harg6 arg7 harg7 arg10 harg10 arg12 harg12 arg14 arg15 x0 x1 x2 x3 x4 x5 x8 x10) =
      arg15.view.readCov [⟨Rect.unit (s := S4x128x512) ![3, 0, 0] S1x128x512.size inb_S4x128x512_S1x128x512_3_0_0, Chunk.st C 0 3
          (kernelRun0_A.sl.v804 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![2, 0, 0] S1x128x512.size inb_S4x128x512_S1x128x512_2_0_0, Chunk.st C 0 2
          (kernelRun0_A.sl.v629 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![1, 0, 0] S1x128x512.size inb_S4x128x512_S1x128x512_1_0_0, Chunk.st C 0 1
          (kernelRun0_A.sl.v454 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![0, 0, 0] S1x128x512.size inb_S4x128x512_S1x128x512_0_0_0, Chunk.st C 0 0
          (kernelRun0_A.sl.v279 (F := Ideal) c arg15)⟩,
        ⟨Rect.unit (s := S4x128x512) ![0, 0, 0] S4x128x512.size inb_S4x128x512_S4x128x512_0_0_0, (k0_pay3 (F := Ideal))⟩]
        (Rect.unit (s := S4x128x512) ![0, 0, 0] S1x128x512.size inb_S4x128x512_S1x128x512_0_0_0).toLoadRect := by
  subst hC
  sl_kernel_rfl

/-- Group 1's state read in chunk 1: what the chunks and groups before it left. -/
theorem ldA_11 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (kernelRun0_A.sl.v22 (F := Ideal) c arg2 harg2 arg3 harg3 arg14 x0 x1)
      (kernelRun0_A.sl.v27 (F := Ideal) c arg2 harg2 arg3 harg3 arg14 x0 x1)
      (kernelRun0_A.sl.v32 (F := Ideal) c arg2 harg2 arg3 harg3 arg14 x0 x1)
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_A.sl.v1269 (F := Ideal) c arg2 harg2 arg3 harg3 arg4 harg4 arg5 harg5 arg6 harg6 arg7 harg7 arg10 harg10 arg12 harg12 arg14 arg15 x0 x1 x2 x3 x4 x5 x8 x10) =
      arg15.view.readCov [⟨Rect.unit (s := S4x128x512) ![0, 0, 0] S1x128x512.size inb_S4x128x512_S1x128x512_0_0_0, Chunk.st C 1 0
          (kernelRun0_A.sl.v1094 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![3, 0, 0] S1x128x512.size inb_S4x128x512_S1x128x512_3_0_0, Chunk.st C 0 3
          (kernelRun0_A.sl.v804 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![2, 0, 0] S1x128x512.size inb_S4x128x512_S1x128x512_2_0_0, Chunk.st C 0 2
          (kernelRun0_A.sl.v629 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![1, 0, 0] S1x128x512.size inb_S4x128x512_S1x128x512_1_0_0, Chunk.st C 0 1
          (kernelRun0_A.sl.v454 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![0, 0, 0] S1x128x512.size inb_S4x128x512_S1x128x512_0_0_0, Chunk.st C 0 0
          (kernelRun0_A.sl.v279 (F := Ideal) c arg15)⟩,
        ⟨Rect.unit (s := S4x128x512) ![0, 0, 0] S4x128x512.size inb_S4x128x512_S4x128x512_0_0_0, (k0_pay3 (F := Ideal))⟩]
        (Rect.unit (s := S4x128x512) ![1, 0, 0] S1x128x512.size inb_S4x128x512_S1x128x512_1_0_0).toLoadRect := by
  subst hC
  sl_kernel_rfl

/-- Group 2's state read in chunk 1: what the chunks and groups before it left. -/
theorem ldA_12 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (kernelRun0_A.sl.v22 (F := Ideal) c arg2 harg2 arg3 harg3 arg14 x0 x1)
      (kernelRun0_A.sl.v27 (F := Ideal) c arg2 harg2 arg3 harg3 arg14 x0 x1)
      (kernelRun0_A.sl.v32 (F := Ideal) c arg2 harg2 arg3 harg3 arg14 x0 x1)
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_A.sl.v1444 (F := Ideal) c arg2 harg2 arg3 harg3 arg4 harg4 arg5 harg5 arg6 harg6 arg7 harg7 arg10 harg10 arg12 harg12 arg14 arg15 x0 x1 x2 x3 x4 x5 x8 x10) =
      arg15.view.readCov [⟨Rect.unit (s := S4x128x512) ![1, 0, 0] S1x128x512.size inb_S4x128x512_S1x128x512_1_0_0, Chunk.st C 1 1
          (kernelRun0_A.sl.v1269 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![0, 0, 0] S1x128x512.size inb_S4x128x512_S1x128x512_0_0_0, Chunk.st C 1 0
          (kernelRun0_A.sl.v1094 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![3, 0, 0] S1x128x512.size inb_S4x128x512_S1x128x512_3_0_0, Chunk.st C 0 3
          (kernelRun0_A.sl.v804 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![2, 0, 0] S1x128x512.size inb_S4x128x512_S1x128x512_2_0_0, Chunk.st C 0 2
          (kernelRun0_A.sl.v629 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![1, 0, 0] S1x128x512.size inb_S4x128x512_S1x128x512_1_0_0, Chunk.st C 0 1
          (kernelRun0_A.sl.v454 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![0, 0, 0] S1x128x512.size inb_S4x128x512_S1x128x512_0_0_0, Chunk.st C 0 0
          (kernelRun0_A.sl.v279 (F := Ideal) c arg15)⟩,
        ⟨Rect.unit (s := S4x128x512) ![0, 0, 0] S4x128x512.size inb_S4x128x512_S4x128x512_0_0_0, (k0_pay3 (F := Ideal))⟩]
        (Rect.unit (s := S4x128x512) ![2, 0, 0] S1x128x512.size inb_S4x128x512_S1x128x512_2_0_0).toLoadRect := by
  subst hC
  sl_kernel_rfl

/-- Group 3's state read in chunk 1: what the chunks and groups before it left. -/
theorem ldA_13 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (kernelRun0_A.sl.v22 (F := Ideal) c arg2 harg2 arg3 harg3 arg14 x0 x1)
      (kernelRun0_A.sl.v27 (F := Ideal) c arg2 harg2 arg3 harg3 arg14 x0 x1)
      (kernelRun0_A.sl.v32 (F := Ideal) c arg2 harg2 arg3 harg3 arg14 x0 x1)
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_A.sl.v1619 (F := Ideal) c arg2 harg2 arg3 harg3 arg4 harg4 arg5 harg5 arg6 harg6 arg7 harg7 arg10 harg10 arg12 harg12 arg14 arg15 x0 x1 x2 x3 x4 x5 x8 x10) =
      arg15.view.readCov [⟨Rect.unit (s := S4x128x512) ![2, 0, 0] S1x128x512.size inb_S4x128x512_S1x128x512_2_0_0, Chunk.st C 1 2
          (kernelRun0_A.sl.v1444 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![1, 0, 0] S1x128x512.size inb_S4x128x512_S1x128x512_1_0_0, Chunk.st C 1 1
          (kernelRun0_A.sl.v1269 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![0, 0, 0] S1x128x512.size inb_S4x128x512_S1x128x512_0_0_0, Chunk.st C 1 0
          (kernelRun0_A.sl.v1094 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![3, 0, 0] S1x128x512.size inb_S4x128x512_S1x128x512_3_0_0, Chunk.st C 0 3
          (kernelRun0_A.sl.v804 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![2, 0, 0] S1x128x512.size inb_S4x128x512_S1x128x512_2_0_0, Chunk.st C 0 2
          (kernelRun0_A.sl.v629 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![1, 0, 0] S1x128x512.size inb_S4x128x512_S1x128x512_1_0_0, Chunk.st C 0 1
          (kernelRun0_A.sl.v454 (F := Ideal) c arg2 harg2 arg3 harg3 arg4 harg4 arg5 harg5 arg6 harg6 arg7 harg7 arg10 harg10 arg12 harg12 arg14 arg15 x0 x1 x2 x3 x4 x5 x8 x10)⟩,
        ⟨Rect.unit (s := S4x128x512) ![0, 0, 0] S1x128x512.size inb_S4x128x512_S1x128x512_0_0_0, Chunk.st C 0 0
          (kernelRun0_A.sl.v279 (F := Ideal) c arg15)⟩,
        ⟨Rect.unit (s := S4x128x512) ![0, 0, 0] S4x128x512.size inb_S4x128x512_S4x128x512_0_0_0, (k0_pay3 (F := Ideal))⟩]
        (Rect.unit (s := S4x128x512) ![3, 0, 0] S1x128x512.size inb_S4x128x512_S1x128x512_3_0_0).toLoadRect := by
  subst hC
  sl_kernel_rfl

end Cert.SsdProof
-- ==== Proof.SsdCaseA.lean ====
module

public import proofs.«01_k».proof.Proof.SsdLoads
public import proofs.«01_k».proof.Proof.SsdRunA
public import proofs.«01_k».proof.Proof.Gen.SsdKernelIdeal.Frame
public import Idealize.ShloMosaic.Lib.Pipeline.ValueKit
public import Idealize.ShloMosaic.Lib.Pointwise

@[expose] public section

set_option maxRecDepth 65536
set_option maxHeartbeats 1000000
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.SsdProof

open Cert.SsdKernelIdeal Cert.SsdKernelIdeal.Gen

section

variable (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
  (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (kernelRun0_A.sl.v22 (F := Ideal) c arg2 harg2 arg3 harg3 arg14 x0 x1)
      (kernelRun0_A.sl.v27 (F := Ideal) c arg2 harg2 arg3 harg3 arg14 x0 x1)
      (kernelRun0_A.sl.v32 (F := Ideal) c arg2 harg2 arg3 harg3 arg14 x0 x1)
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10)))
  (p : Par) (b : Fin 2) (f : p.Reals) (I : InOf p b 0 x0 x1 x2 x3 x4 x5 x6 x7 x8 x9 x10)

include c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I

/-- A first point's chunks carry the branch's entries. -/
theorem chunkA : C.Of p b (256 * 0) := by
  have hc : k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) = k0_pay6 x0 x1 :=
    congr (congrArg k0_pay6 (load_all arg2 harg2 x0 ![0, 0, 0] inb_S1x256x1024_S1x256x1024_0_0_0 (by decide))) (load_all arg3 harg3 x1 ![0, 0] inb_S1024x5248_S1024x5248_0_0 (by decide))
  have h5 : ∀ (r : Fin 256) (l : Fin 3072), (kernelRun0_A.sl.v22 (F := Ideal) c arg2 harg2 arg3 harg3 arg14 x0 x1) (ix2 r l) = p.sh 3 b (256 * 0 + r.val) l :=
    fun r l => ext_row (by omega) I (fun q l => 0) (fun q l => by show (0 : EReal) = p.sh 8 b (256 * 0 + q.val) l; unfold Par.sh; rw [if_neg (by omega)]) _ 5 (by omega) r l
      (fun h => (ext_old arg14 _ _ [⟨Rect.unit (s := S264x3072) ![0, 0] S8x3072.size inb_S264x3072_S8x3072_0_0, k0_pay2 (F := Ideal)⟩] 5 _ _ r l h).trans
        (zero_rows arg14 _ ⟨r.val + 5, h⟩ l))
      (fun h => (ext_new arg14 _ _ _ 5 _ _ r l h (by omega)).trans (congrFun hc _))
  have h6 : ∀ (r : Fin 256) (l : Fin 3072), (kernelRun0_A.sl.v27 (F := Ideal) c arg2 harg2 arg3 harg3 arg14 x0 x1) (ix2 r l) = p.sh 2 b (256 * 0 + r.val) l :=
    fun r l => ext_row (by omega) I (fun q l => 0) (fun q l => by show (0 : EReal) = p.sh 8 b (256 * 0 + q.val) l; unfold Par.sh; rw [if_neg (by omega)]) _ 6 (by omega) r l
      (fun h => (ext_old arg14 _ _ [⟨Rect.unit (s := S264x3072) ![0, 0] S8x3072.size inb_S264x3072_S8x3072_0_0, k0_pay2 (F := Ideal)⟩] 6 _ _ r l h).trans
        (zero_rows arg14 _ ⟨r.val + 6, h⟩ l))
      (fun h => (ext_new arg14 _ _ _ 6 _ _ r l h (by omega)).trans (congrFun hc _))
  have h7 : ∀ (r : Fin 256) (l : Fin 3072), (kernelRun0_A.sl.v32 (F := Ideal) c arg2 harg2 arg3 harg3 arg14 x0 x1) (ix2 r l) = p.sh 1 b (256 * 0 + r.val) l :=
    fun r l => ext_row (by omega) I (fun q l => 0) (fun q l => by show (0 : EReal) = p.sh 8 b (256 * 0 + q.val) l; unfold Par.sh; rw [if_neg (by omega)]) _ 7 (by omega) r l
      (fun h => (ext_old arg14 _ _ [⟨Rect.unit (s := S264x3072) ![0, 0] S8x3072.size inb_S264x3072_S8x3072_0_0, k0_pay2 (F := Ideal)⟩] 7 _ _ r l h).trans
        (zero_rows arg14 _ ⟨r.val + 7, h⟩ l))
      (fun h => (ext_new arg14 _ _ _ 7 _ _ r l h (by omega)).trans (congrFun hc _))
  rw [hC]
  exact (congrArg (fun k => Chunk.Of k p b (256 * 0)) (congr (congr (congr (congr (congr (congr (congr (congr (congr (congr (congr (congrArg mkC (load_all arg2 harg2 x0 ![0, 0, 0] inb_S1x256x1024_S1x256x1024_0_0_0 (by decide)))
      (load_all arg3 harg3 x1 ![0, 0] inb_S1024x5248_S1024x5248_0_0 (by decide)))
      (load_all arg4 harg4 x2 ![0, 0] inb_S4x3072_S4x3072_0_0 (by decide)))
      (load_all arg5 harg5 x3 ![0, 0] inb_S1x3072_S1x3072_0_0 (by decide)))
      rfl)
      rfl)
      rfl)
      (load_all arg6 harg6 x4 ![0, 0] inb_S1x128_S1x128_0_0 (by decide)))
      (load_all arg7 harg7 x5 ![0, 0] inb_S1x128_S1x128_0_0 (by decide)))
      (load_all arg10 harg10 x8 ![0, 0] inb_S128x128_S128x128_0_0 (by decide)))
      (load_all arg11 harg11 x9 ![0, 0] inb_S384x4096_S384x4096_0_0 (by decide)))
      (load_all arg12 harg12 x10 ![0, 0] inb_S256x2048_S256x2048_0_0 (by decide)))).mpr (chunk_in (by omega) I h5 h6 h7)

/-- Group 0's state as the first chunk reads it. -/
theorem sA00 (n : Fin 128) (q : Fin 512) : (kernelRun0_A.sl.v279 (F := Ideal) c arg15) (ix3 0 n q) = p.H b ⟨512 * (0 : Fin 4).val + q.val, by change 512 * 0 + q.val < 2048; omega⟩ n (256 * 0 + 128 * (0 : Fin 2).val) := by
  rw [ldA_00 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC]
  refine (slab_read _ _ 0 _ n q).trans ?_
  exact slab_zero _ _ 0 _ n q

/-- Group 1's state as the first chunk reads it. -/
theorem sA01 (n : Fin 128) (q : Fin 512) : (kernelRun0_A.sl.v454 (F := Ideal) c arg2 harg2 arg3 harg3 arg4 harg4 arg5 harg5 arg6 harg6 arg7 harg7 arg10 harg10 arg12 harg12 arg14 arg15 x0 x1 x2 x3 x4 x5 x8 x10) (ix3 0 n q) = p.H b ⟨512 * (1 : Fin 4).val + q.val, by change 512 * 1 + q.val < 2048; omega⟩ n (256 * 0 + 128 * (0 : Fin 2).val) := by
  rw [ldA_01 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC]
  refine (slab_read _ _ 1 _ n q).trans ?_
  exact (slab_miss _ _ _ _ 1 0 _ n q (by decide)).trans
        (slab_zero _ _ 1 _ n q)

/-- Group 2's state as the first chunk reads it. -/
theorem sA02 (n : Fin 128) (q : Fin 512) : (kernelRun0_A.sl.v629 (F := Ideal) c arg2 harg2 arg3 harg3 arg4 harg4 arg5 harg5 arg6 harg6 arg7 harg7 arg10 harg10 arg12 harg12 arg14 arg15 x0 x1 x2 x3 x4 x5 x8 x10) (ix3 0 n q) = p.H b ⟨512 * (2 : Fin 4).val + q.val, by change 512 * 2 + q.val < 2048; omega⟩ n (256 * 0 + 128 * (0 : Fin 2).val) := by
  rw [ldA_02 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC]
  refine (slab_read _ _ 2 _ n q).trans ?_
  exact (slab_miss _ _ _ _ 2 1 _ n q (by decide)).trans
        ((slab_miss _ _ _ _ 2 0 _ n q (by decide)).trans
        (slab_zero _ _ 2 _ n q))

/-- Group 3's state as the first chunk reads it. -/
theorem sA03 (n : Fin 128) (q : Fin 512) : (kernelRun0_A.sl.v804 (F := Ideal) c arg2 harg2 arg3 harg3 arg4 harg4 arg5 harg5 arg6 harg6 arg7 harg7 arg10 harg10 arg12 harg12 arg14 arg15 x0 x1 x2 x3 x4 x5 x8 x10) (ix3 0 n q) = p.H b ⟨512 * (3 : Fin 4).val + q.val, by change 512 * 3 + q.val < 2048; omega⟩ n (256 * 0 + 128 * (0 : Fin 2).val) := by
  rw [ldA_03 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC]
  refine (slab_read _ _ 3 _ n q).trans ?_
  exact (slab_miss _ _ _ _ 3 2 _ n q (by decide)).trans
        ((slab_miss _ _ _ _ 3 1 _ n q (by decide)).trans
        ((slab_miss _ _ _ _ 3 0 _ n q (by decide)).trans
        (slab_zero _ _ 3 _ n q)))

/-- Group 0's state as the second chunk reads it. -/
theorem sA10 (n : Fin 128) (q : Fin 512) : (kernelRun0_A.sl.v1094 (F := Ideal) c arg2 harg2 arg3 harg3 arg4 harg4 arg5 harg5 arg6 harg6 arg7 harg7 arg10 harg10 arg12 harg12 arg14 arg15 x0 x1 x2 x3 x4 x5 x8 x10) (ix3 0 n q) = p.H b ⟨512 * (0 : Fin 4).val + q.val, by change 512 * 0 + q.val < 2048; omega⟩ n (256 * 0 + 128 * (1 : Fin 2).val) := by
  rw [ldA_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC]
  refine (slab_read _ _ 0 _ n q).trans ?_
  refine (slab_miss _ _ _ _ 0 3 _ n q (by decide)).trans
        ((slab_miss _ _ _ _ 0 2 _ n q (by decide)).trans
        ((slab_miss _ _ _ _ 0 1 _ n q (by decide)).trans
        ((slab_hit _ _ _ _ 0 _ n q).trans ?_)))
  exact Chunk.st_at (chunkA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) f 0 0 (sA00 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) n q

/-- Group 1's state as the second chunk reads it. -/
theorem sA11 (n : Fin 128) (q : Fin 512) : (kernelRun0_A.sl.v1269 (F := Ideal) c arg2 harg2 arg3 harg3 arg4 harg4 arg5 harg5 arg6 harg6 arg7 harg7 arg10 harg10 arg12 harg12 arg14 arg15 x0 x1 x2 x3 x4 x5 x8 x10) (ix3 0 n q) = p.H b ⟨512 * (1 : Fin 4).val + q.val, by change 512 * 1 + q.val < 2048; omega⟩ n (256 * 0 + 128 * (1 : Fin 2).val) := by
  rw [ldA_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC]
  refine (slab_read _ _ 1 _ n q).trans ?_
  refine (slab_miss _ _ _ _ 1 0 _ n q (by decide)).trans
        ((slab_miss _ _ _ _ 1 3 _ n q (by decide)).trans
        ((slab_miss _ _ _ _ 1 2 _ n q (by decide)).trans
        ((slab_hit _ _ _ _ 1 _ n q).trans ?_)))
  exact Chunk.st_at (chunkA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) f 0 1 (sA01 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) n q

/-- Group 2's state as the second chunk reads it. -/
theorem sA12 (n : Fin 128) (q : Fin 512) : (kernelRun0_A.sl.v1444 (F := Ideal) c arg2 harg2 arg3 harg3 arg4 harg4 arg5 harg5 arg6 harg6 arg7 harg7 arg10 harg10 arg12 harg12 arg14 arg15 x0 x1 x2 x3 x4 x5 x8 x10) (ix3 0 n q) = p.H b ⟨512 * (2 : Fin 4).val + q.val, by change 512 * 2 + q.val < 2048; omega⟩ n (256 * 0 + 128 * (1 : Fin 2).val) := by
  rw [ldA_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC]
  refine (slab_read _ _ 2 _ n q).trans ?_
  refine (slab_miss _ _ _ _ 2 1 _ n q (by decide)).trans
        ((slab_miss _ _ _ _ 2 0 _ n q (by decide)).trans
        ((slab_miss _ _ _ _ 2 3 _ n q (by decide)).trans
        ((slab_hit _ _ _ _ 2 _ n q).trans ?_)))
  exact Chunk.st_at (chunkA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) f 0 2 (sA02 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) n q

/-- Group 3's state as the second chunk reads it. -/
theorem sA13 (n : Fin 128) (q : Fin 512) : (kernelRun0_A.sl.v1619 (F := Ideal) c arg2 harg2 arg3 harg3 arg4 harg4 arg5 harg5 arg6 harg6 arg7 harg7 arg10 harg10 arg12 harg12 arg14 arg15 x0 x1 x2 x3 x4 x5 x8 x10) (ix3 0 n q) = p.H b ⟨512 * (3 : Fin 4).val + q.val, by change 512 * 3 + q.val < 2048; omega⟩ n (256 * 0 + 128 * (1 : Fin 2).val) := by
  rw [ldA_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC]
  refine (slab_read _ _ 3 _ n q).trans ?_
  refine (slab_miss _ _ _ _ 3 2 _ n q (by decide)).trans
        ((slab_miss _ _ _ _ 3 1 _ n q (by decide)).trans
        ((slab_miss _ _ _ _ 3 0 _ n q (by decide)).trans
        ((slab_hit _ _ _ _ 3 _ n q).trans ?_)))
  exact Chunk.st_at (chunkA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) f 0 3 (sA03 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) n q

/-- The first points' output is the branch's result. -/
theorem outA_at (r : Fin 256) (q : Fin 2048) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 (ix3 0 r q) = p.out b (256 * 0 + r.val) q := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  refine View.canon_eq_of_allAt _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 _) ?_
  rw [outA_pieces c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC]
  have K := chunkA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I
  have hD : ∀ q : Fin 2048, (View.readAt (Elt Ideal) arg8.view (Rect.unit (s := S1x2048) ![0, 0] S1x2048.size inb_S1x2048_S1x2048_0_0).toLoadRect (harg8.unread x6)) (ix2 0 q) = p.dd (Par.hd q) := fun q => (congrFun (load_all arg8 harg8 x6 ![0, 0] inb_S1x2048_S1x2048_0_0 (by decide)) _).trans (I.hdd q)
  have hN : ∀ q : Fin 2048, (View.readAt (Elt Ideal) arg9.view (Rect.unit (s := S1x2048) ![0, 0] S1x2048.size inb_S1x2048_S1x2048_0_0).toLoadRect (harg9.unread x7)) (ix2 0 q) = p.nw q := fun q => (congrFun (load_all arg9 harg9 x7 ![0, 0] inb_S1x2048_S1x2048_0_0 (by decide)) _).trans (I.hnw q)
  refine View.allAt_cons_unit _ _ _ _ _ (out_tile K f 1 _ _ _ _ hD hN
    (sA10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I)
    (sA11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I)
    (sA12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I)
    (sA13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) r q) ?_
  refine View.allAt_cons_unit _ _ _ _ _ (out_tile K f 0 _ _ _ _ hD hN
    (sA00 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I)
    (sA01 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I)
    (sA02 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I)
    (sA03 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) r q) ?_
  exact View.allAt_nil _ _

/-- The state the first points leave is the recurrence's after the tile. -/
theorem stA_at : StOf p b (256 * (0 + 1)) fun g n q => sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 (ix3 g n q) := by
  intro g n q
  have ht : 256 * (0 + 1) = 256 * 0 + 128 * ((1 : Fin 2).val + 1) := by change 256 * (0 + 1) = 256 * 0 + 128 * (1 + 1); omega
  rw [ht]
  change sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 (ix3 g n q) = _
  unfold sout0_A_1
  rw [stA_pieces c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC]
  match g with
  | ⟨0, _⟩ =>
    refine (slab_miss _ _ _ _ 0 3 _ n q (by decide)).trans
        ((slab_miss _ _ _ _ 0 2 _ n q (by decide)).trans
        ((slab_miss _ _ _ _ 0 1 _ n q (by decide)).trans
        ((slab_hit _ _ _ _ 0 _ n q).trans ?_)))
    exact Chunk.st_at (chunkA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) f 1 0 (sA10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) n q
  | ⟨1, _⟩ =>
    refine (slab_miss _ _ _ _ 1 3 _ n q (by decide)).trans
        ((slab_miss _ _ _ _ 1 2 _ n q (by decide)).trans
        ((slab_hit _ _ _ _ 1 _ n q).trans ?_))
    exact Chunk.st_at (chunkA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) f 1 1 (sA11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) n q
  | ⟨2, _⟩ =>
    refine (slab_miss _ _ _ _ 2 3 _ n q (by decide)).trans
        ((slab_hit _ _ _ _ 2 _ n q).trans ?_)
    exact Chunk.st_at (chunkA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) f 1 2 (sA12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) n q
  | ⟨3, _⟩ =>
    refine (slab_hit _ _ _ _ 3 _ n q).trans ?_
    exact Chunk.st_at (chunkA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) f 1 3 (sA13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 C hC p b f I) n q

/-- The rows the first points carry are the last 8 rows of the tile's projection. -/
theorem extA_at : ExtOf p b (0 + 1) fun q l => sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 (ix2 ⟨q.val, lt264 q⟩ l) := by
  intro q l
  refine Eq.trans ?_ (keep_in (by omega) I q l)
  change sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 (ix2 ⟨q.val, lt264 q⟩ l) = _
  unfold sout0_A_0
  rw [extA_pieces c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10]
  refine (View.read_writes_cons_unit_of_mem (s := S264x3072) VS0_0 _ inb_S264x3072_S8x3072_0_0 _ _ _ (ix2 q l) rfl fun a => ?_).trans ?_
  · match a with
    | ⟨0, _⟩ => exact (Nat.zero_add _).symm
    | ⟨1, _⟩ => exact (Nat.zero_add _).symm
  · exact congrFun (congrArg k0_pay8 (congr (congrArg k0_pay5 (load_all arg2 harg2 x0 ![0, 0, 0] inb_S1x256x1024_S1x256x1024_0_0_0 (by decide))) (load_all arg3 harg3 x1 ![0, 0] inb_S1024x5248_S1024x5248_0_0 (by decide)))) _

end

end Cert.SsdProof
-- ==== Proof.SsdRunB.lean ====
module

public import proofs.«01_k».proof.Proof.SsdTile
public import Idealize.ShloMosaic.Lib.Pipeline.ValueKit
public import Idealize.ShloMosaic.Lib.Pointwise

@[expose] public section

set_option maxRecDepth 65536
noncomputable section

open Idealize.ShloMosaic Idealize.ShloMosaic.TcCoe Idealize.ShloMosaic.ValueIdx Idealize.SL.Sem
open Idealize.ShloMosaic.Pipeline (Dat)
namespace Cert.SsdProof

open Cert.SsdKernelIdeal Cert.SsdKernelIdeal.Gen

/-- What a later point of a sequence writes to its output block, chunk by chunk. -/
theorem outB_pieces (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : ¬ cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16) (xs0 : Vec Ideal S264x3072 .f32) (xs1 : Vec Ideal S4x128x512 .f32)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (View.readAt (Elt Ideal) arg14.view (Rect.unit (s := S264x3072) ![5, 0] S256x3072.size inb_S264x3072_S256x3072_5_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![6, 0] S256x3072.size inb_S264x3072_S256x3072_6_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![7, 0] S256x3072.size inb_S264x3072_S256x3072_7_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).1 =
      [⟨Rect.unit (s := S1x256x2048) ![0, 128, 0] S1x128x2048.size inb_S1x256x2048_S1x128x2048_0_128_0, Chunk.out C 1 (View.readAt (Elt Ideal) arg8.view (Rect.unit (s := S1x2048) ![0, 0] S1x2048.size inb_S1x2048_S1x2048_0_0).toLoadRect (harg8.unread x6)) (View.readAt (Elt Ideal) arg9.view (Rect.unit (s := S1x2048) ![0, 0] S1x2048.size inb_S1x2048_S1x2048_0_0).toLoadRect (harg9.unread x7))
          (kernelRun0_B.sl.v1094 (F := Ideal) c arg2 harg2 arg3 harg3 arg4 harg4 arg5 harg5 arg6 harg6 arg7 harg7 arg10 harg10 arg12 harg12 arg14 harg14 arg15 harg15 x0 x1 x2 x3 x4 x5 x8 x10 xs0 xs1)
          (kernelRun0_B.sl.v1269 (F := Ideal) c arg2 harg2 arg3 harg3 arg4 harg4 arg5 harg5 arg6 harg6 arg7 harg7 arg10 harg10 arg12 harg12 arg14 harg14 arg15 harg15 x0 x1 x2 x3 x4 x5 x8 x10 xs0 xs1)
          (kernelRun0_B.sl.v1444 (F := Ideal) c arg2 harg2 arg3 harg3 arg4 harg4 arg5 harg5 arg6 harg6 arg7 harg7 arg10 harg10 arg12 harg12 arg14 harg14 arg15 harg15 x0 x1 x2 x3 x4 x5 x8 x10 xs0 xs1)
          (kernelRun0_B.sl.v1619 (F := Ideal) c arg2 harg2 arg3 harg3 arg4 harg4 arg5 harg5 arg6 harg6 arg7 harg7 arg10 harg10 arg12 harg12 arg14 harg14 arg15 harg15 x0 x1 x2 x3 x4 x5 x8 x10 xs0 xs1)⟩,
        ⟨Rect.unit (s := S1x256x2048) ![0, 0, 0] S1x128x2048.size inb_S1x256x2048_S1x128x2048_0_0_0, Chunk.out C 0 (View.readAt (Elt Ideal) arg8.view (Rect.unit (s := S1x2048) ![0, 0] S1x2048.size inb_S1x2048_S1x2048_0_0).toLoadRect (harg8.unread x6)) (View.readAt (Elt Ideal) arg9.view (Rect.unit (s := S1x2048) ![0, 0] S1x2048.size inb_S1x2048_S1x2048_0_0).toLoadRect (harg9.unread x7))
          (View.readAt (Elt Ideal) arg15.view (Rect.unit (s := S4x128x512) ![0, 0, 0] S1x128x512.size inb_S4x128x512_S1x128x512_0_0_0).toLoadRect (harg15.unread xs1))
          (View.readAt (Elt Ideal) arg15.view (Rect.unit (s := S4x128x512) ![1, 0, 0] S1x128x512.size inb_S4x128x512_S1x128x512_1_0_0).toLoadRect (harg15.unread xs1))
          (View.readAt (Elt Ideal) arg15.view (Rect.unit (s := S4x128x512) ![2, 0, 0] S1x128x512.size inb_S4x128x512_S1x128x512_2_0_0).toLoadRect (harg15.unread xs1))
          (View.readAt (Elt Ideal) arg15.view (Rect.unit (s := S4x128x512) ![3, 0, 0] S1x128x512.size inb_S4x128x512_S1x128x512_3_0_0).toLoadRect (harg15.unread xs1))⟩] := by
  subst hC
  sl_kernel_rfl

/-- What a later point of a sequence writes to the projection's scratch. -/
theorem extB_pieces (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : ¬ cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16) (xs0 : Vec Ideal S264x3072 .f32) (xs1 : Vec Ideal S4x128x512 .f32)
    :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).2.1 =
      [⟨Rect.unit (s := S264x3072) ![0, 0] S8x3072.size inb_S264x3072_S8x3072_0_0, k0_pay8 (k0_pay5 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)))⟩,
        ⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩] := by
  sl_kernel_rfl

/-- What a later point of a sequence writes to the state, group by group and chunk by chunk. -/
theorem stB_pieces (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : ¬ cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16) (xs0 : Vec Ideal S264x3072 .f32) (xs1 : Vec Ideal S4x128x512 .f32)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (View.readAt (Elt Ideal) arg14.view (Rect.unit (s := S264x3072) ![5, 0] S256x3072.size inb_S264x3072_S256x3072_5_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![6, 0] S256x3072.size inb_S264x3072_S256x3072_6_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![7, 0] S256x3072.size inb_S264x3072_S256x3072_7_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).2.2.val =
      [⟨Rect.unit (s := S4x128x512) ![3, 0, 0] S1x128x512.size inb_S4x128x512_S1x128x512_3_0_0, Chunk.st C 1 3
          (kernelRun0_B.sl.v1619 (F := Ideal) c arg2 harg2 arg3 harg3 arg4 harg4 arg5 harg5 arg6 harg6 arg7 harg7 arg10 harg10 arg12 harg12 arg14 harg14 arg15 harg15 x0 x1 x2 x3 x4 x5 x8 x10 xs0 xs1)⟩,
        ⟨Rect.unit (s := S4x128x512) ![2, 0, 0] S1x128x512.size inb_S4x128x512_S1x128x512_2_0_0, Chunk.st C 1 2
          (kernelRun0_B.sl.v1444 (F := Ideal) c arg2 harg2 arg3 harg3 arg4 harg4 arg5 harg5 arg6 harg6 arg7 harg7 arg10 harg10 arg12 harg12 arg14 harg14 arg15 harg15 x0 x1 x2 x3 x4 x5 x8 x10 xs0 xs1)⟩,
        ⟨Rect.unit (s := S4x128x512) ![1, 0, 0] S1x128x512.size inb_S4x128x512_S1x128x512_1_0_0, Chunk.st C 1 1
          (kernelRun0_B.sl.v1269 (F := Ideal) c arg2 harg2 arg3 harg3 arg4 harg4 arg5 harg5 arg6 harg6 arg7 harg7 arg10 harg10 arg12 harg12 arg14 harg14 arg15 harg15 x0 x1 x2 x3 x4 x5 x8 x10 xs0 xs1)⟩,
        ⟨Rect.unit (s := S4x128x512) ![0, 0, 0] S1x128x512.size inb_S4x128x512_S1x128x512_0_0_0, Chunk.st C 1 0
          (kernelRun0_B.sl.v1094 (F := Ideal) c arg2 harg2 arg3 harg3 arg4 harg4 arg5 harg5 arg6 harg6 arg7 harg7 arg10 harg10 arg12 harg12 arg14 harg14 arg15 harg15 x0 x1 x2 x3 x4 x5 x8 x10 xs0 xs1)⟩,
        ⟨Rect.unit (s := S4x128x512) ![3, 0, 0] S1x128x512.size inb_S4x128x512_S1x128x512_3_0_0, Chunk.st C 0 3
          (View.readAt (Elt Ideal) arg15.view (Rect.unit (s := S4x128x512) ![3, 0, 0] S1x128x512.size inb_S4x128x512_S1x128x512_3_0_0).toLoadRect (harg15.unread xs1))⟩,
        ⟨Rect.unit (s := S4x128x512) ![2, 0, 0] S1x128x512.size inb_S4x128x512_S1x128x512_2_0_0, Chunk.st C 0 2
          (View.readAt (Elt Ideal) arg15.view (Rect.unit (s := S4x128x512) ![2, 0, 0] S1x128x512.size inb_S4x128x512_S1x128x512_2_0_0).toLoadRect (harg15.unread xs1))⟩,
        ⟨Rect.unit (s := S4x128x512) ![1, 0, 0] S1x128x512.size inb_S4x128x512_S1x128x512_1_0_0, Chunk.st C 0 1
          (View.readAt (Elt Ideal) arg15.view (Rect.unit (s := S4x128x512) ![1, 0, 0] S1x128x512.size inb_S4x128x512_S1x128x512_1_0_0).toLoadRect (harg15.unread xs1))⟩,
        ⟨Rect.unit (s := S4x128x512) ![0, 0, 0] S1x128x512.size inb_S4x128x512_S1x128x512_0_0_0, Chunk.st C 0 0
          (View.readAt (Elt Ideal) arg15.view (Rect.unit (s := S4x128x512) ![0, 0, 0] S1x128x512.size inb_S4x128x512_S1x128x512_0_0_0).toLoadRect (harg15.unread xs1))⟩] := by
  subst hC
  sl_kernel_rfl

/-- Group 0's state read in the second chunk: what the chunks and groups before it left. -/
theorem ldB_10 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : ¬ cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16) (xs0 : Vec Ideal S264x3072 .f32) (xs1 : Vec Ideal S4x128x512 .f32)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (View.readAt (Elt Ideal) arg14.view (Rect.unit (s := S264x3072) ![5, 0] S256x3072.size inb_S264x3072_S256x3072_5_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![6, 0] S256x3072.size inb_S264x3072_S256x3072_6_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![7, 0] S256x3072.size inb_S264x3072_S256x3072_7_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_B.sl.v1094 (F := Ideal) c arg2 harg2 arg3 harg3 arg4 harg4 arg5 harg5 arg6 harg6 arg7 harg7 arg10 harg10 arg12 harg12 arg14 harg14 arg15 harg15 x0 x1 x2 x3 x4 x5 x8 x10 xs0 xs1) =
      arg15.view.readCov [⟨Rect.unit (s := S4x128x512) ![3, 0, 0] S1x128x512.size inb_S4x128x512_S1x128x512_3_0_0, Chunk.st C 0 3
          (View.readAt (Elt Ideal) arg15.view (Rect.unit (s := S4x128x512) ![3, 0, 0] S1x128x512.size inb_S4x128x512_S1x128x512_3_0_0).toLoadRect (harg15.unread xs1))⟩,
        ⟨Rect.unit (s := S4x128x512) ![2, 0, 0] S1x128x512.size inb_S4x128x512_S1x128x512_2_0_0, Chunk.st C 0 2
          (View.readAt (Elt Ideal) arg15.view (Rect.unit (s := S4x128x512) ![2, 0, 0] S1x128x512.size inb_S4x128x512_S1x128x512_2_0_0).toLoadRect (harg15.unread xs1))⟩,
        ⟨Rect.unit (s := S4x128x512) ![1, 0, 0] S1x128x512.size inb_S4x128x512_S1x128x512_1_0_0, Chunk.st C 0 1
          (View.readAt (Elt Ideal) arg15.view (Rect.unit (s := S4x128x512) ![1, 0, 0] S1x128x512.size inb_S4x128x512_S1x128x512_1_0_0).toLoadRect (harg15.unread xs1))⟩,
        ⟨Rect.unit (s := S4x128x512) ![0, 0, 0] S1x128x512.size inb_S4x128x512_S1x128x512_0_0_0, Chunk.st C 0 0
          (View.readAt (Elt Ideal) arg15.view (Rect.unit (s := S4x128x512) ![0, 0, 0] S1x128x512.size inb_S4x128x512_S1x128x512_0_0_0).toLoadRect (harg15.unread xs1))⟩]
        (Rect.unit (s := S4x128x512) ![0, 0, 0] S1x128x512.size inb_S4x128x512_S1x128x512_0_0_0).toLoadRect := by
  subst hC
  sl_kernel_rfl

/-- Group 1's state read in the second chunk: what the chunks and groups before it left. -/
theorem ldB_11 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : ¬ cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16) (xs0 : Vec Ideal S264x3072 .f32) (xs1 : Vec Ideal S4x128x512 .f32)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (View.readAt (Elt Ideal) arg14.view (Rect.unit (s := S264x3072) ![5, 0] S256x3072.size inb_S264x3072_S256x3072_5_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![6, 0] S256x3072.size inb_S264x3072_S256x3072_6_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![7, 0] S256x3072.size inb_S264x3072_S256x3072_7_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_B.sl.v1269 (F := Ideal) c arg2 harg2 arg3 harg3 arg4 harg4 arg5 harg5 arg6 harg6 arg7 harg7 arg10 harg10 arg12 harg12 arg14 harg14 arg15 harg15 x0 x1 x2 x3 x4 x5 x8 x10 xs0 xs1) =
      arg15.view.readCov [⟨Rect.unit (s := S4x128x512) ![0, 0, 0] S1x128x512.size inb_S4x128x512_S1x128x512_0_0_0, Chunk.st C 1 0
          (kernelRun0_B.sl.v1094 (F := Ideal) c arg2 harg2 arg3 harg3 arg4 harg4 arg5 harg5 arg6 harg6 arg7 harg7 arg10 harg10 arg12 harg12 arg14 harg14 arg15 harg15 x0 x1 x2 x3 x4 x5 x8 x10 xs0 xs1)⟩,
        ⟨Rect.unit (s := S4x128x512) ![3, 0, 0] S1x128x512.size inb_S4x128x512_S1x128x512_3_0_0, Chunk.st C 0 3
          (View.readAt (Elt Ideal) arg15.view (Rect.unit (s := S4x128x512) ![3, 0, 0] S1x128x512.size inb_S4x128x512_S1x128x512_3_0_0).toLoadRect (harg15.unread xs1))⟩,
        ⟨Rect.unit (s := S4x128x512) ![2, 0, 0] S1x128x512.size inb_S4x128x512_S1x128x512_2_0_0, Chunk.st C 0 2
          (View.readAt (Elt Ideal) arg15.view (Rect.unit (s := S4x128x512) ![2, 0, 0] S1x128x512.size inb_S4x128x512_S1x128x512_2_0_0).toLoadRect (harg15.unread xs1))⟩,
        ⟨Rect.unit (s := S4x128x512) ![1, 0, 0] S1x128x512.size inb_S4x128x512_S1x128x512_1_0_0, Chunk.st C 0 1
          (View.readAt (Elt Ideal) arg15.view (Rect.unit (s := S4x128x512) ![1, 0, 0] S1x128x512.size inb_S4x128x512_S1x128x512_1_0_0).toLoadRect (harg15.unread xs1))⟩,
        ⟨Rect.unit (s := S4x128x512) ![0, 0, 0] S1x128x512.size inb_S4x128x512_S1x128x512_0_0_0, Chunk.st C 0 0
          (View.readAt (Elt Ideal) arg15.view (Rect.unit (s := S4x128x512) ![0, 0, 0] S1x128x512.size inb_S4x128x512_S1x128x512_0_0_0).toLoadRect (harg15.unread xs1))⟩]
        (Rect.unit (s := S4x128x512) ![1, 0, 0] S1x128x512.size inb_S4x128x512_S1x128x512_1_0_0).toLoadRect := by
  subst hC
  sl_kernel_rfl

/-- Group 2's state read in the second chunk: what the chunks and groups before it left. -/
theorem ldB_12 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : ¬ cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16) (xs0 : Vec Ideal S264x3072 .f32) (xs1 : Vec Ideal S4x128x512 .f32)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (View.readAt (Elt Ideal) arg14.view (Rect.unit (s := S264x3072) ![5, 0] S256x3072.size inb_S264x3072_S256x3072_5_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![6, 0] S256x3072.size inb_S264x3072_S256x3072_6_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![7, 0] S256x3072.size inb_S264x3072_S256x3072_7_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_B.sl.v1444 (F := Ideal) c arg2 harg2 arg3 harg3 arg4 harg4 arg5 harg5 arg6 harg6 arg7 harg7 arg10 harg10 arg12 harg12 arg14 harg14 arg15 harg15 x0 x1 x2 x3 x4 x5 x8 x10 xs0 xs1) =
      arg15.view.readCov [⟨Rect.unit (s := S4x128x512) ![1, 0, 0] S1x128x512.size inb_S4x128x512_S1x128x512_1_0_0, Chunk.st C 1 1
          (kernelRun0_B.sl.v1269 (F := Ideal) c arg2 harg2 arg3 harg3 arg4 harg4 arg5 harg5 arg6 harg6 arg7 harg7 arg10 harg10 arg12 harg12 arg14 harg14 arg15 harg15 x0 x1 x2 x3 x4 x5 x8 x10 xs0 xs1)⟩,
        ⟨Rect.unit (s := S4x128x512) ![0, 0, 0] S1x128x512.size inb_S4x128x512_S1x128x512_0_0_0, Chunk.st C 1 0
          (kernelRun0_B.sl.v1094 (F := Ideal) c arg2 harg2 arg3 harg3 arg4 harg4 arg5 harg5 arg6 harg6 arg7 harg7 arg10 harg10 arg12 harg12 arg14 harg14 arg15 harg15 x0 x1 x2 x3 x4 x5 x8 x10 xs0 xs1)⟩,
        ⟨Rect.unit (s := S4x128x512) ![3, 0, 0] S1x128x512.size inb_S4x128x512_S1x128x512_3_0_0, Chunk.st C 0 3
          (View.readAt (Elt Ideal) arg15.view (Rect.unit (s := S4x128x512) ![3, 0, 0] S1x128x512.size inb_S4x128x512_S1x128x512_3_0_0).toLoadRect (harg15.unread xs1))⟩,
        ⟨Rect.unit (s := S4x128x512) ![2, 0, 0] S1x128x512.size inb_S4x128x512_S1x128x512_2_0_0, Chunk.st C 0 2
          (View.readAt (Elt Ideal) arg15.view (Rect.unit (s := S4x128x512) ![2, 0, 0] S1x128x512.size inb_S4x128x512_S1x128x512_2_0_0).toLoadRect (harg15.unread xs1))⟩,
        ⟨Rect.unit (s := S4x128x512) ![1, 0, 0] S1x128x512.size inb_S4x128x512_S1x128x512_1_0_0, Chunk.st C 0 1
          (View.readAt (Elt Ideal) arg15.view (Rect.unit (s := S4x128x512) ![1, 0, 0] S1x128x512.size inb_S4x128x512_S1x128x512_1_0_0).toLoadRect (harg15.unread xs1))⟩,
        ⟨Rect.unit (s := S4x128x512) ![0, 0, 0] S1x128x512.size inb_S4x128x512_S1x128x512_0_0_0, Chunk.st C 0 0
          (View.readAt (Elt Ideal) arg15.view (Rect.unit (s := S4x128x512) ![0, 0, 0] S1x128x512.size inb_S4x128x512_S1x128x512_0_0_0).toLoadRect (harg15.unread xs1))⟩]
        (Rect.unit (s := S4x128x512) ![2, 0, 0] S1x128x512.size inb_S4x128x512_S1x128x512_2_0_0).toLoadRect := by
  subst hC
  sl_kernel_rfl

/-- Group 3's state read in the second chunk: what the chunks and groups before it left. -/
theorem ldB_13 (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : ¬ cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16) (xs0 : Vec Ideal S264x3072 .f32) (xs1 : Vec Ideal S4x128x512 .f32)
    (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (View.readAt (Elt Ideal) arg14.view (Rect.unit (s := S264x3072) ![5, 0] S256x3072.size inb_S264x3072_S256x3072_5_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![6, 0] S256x3072.size inb_S264x3072_S256x3072_6_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![7, 0] S256x3072.size inb_S264x3072_S256x3072_7_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10))) :
    (kernelRun0_B.sl.v1619 (F := Ideal) c arg2 harg2 arg3 harg3 arg4 harg4 arg5 harg5 arg6 harg6 arg7 harg7 arg10 harg10 arg12 harg12 arg14 harg14 arg15 harg15 x0 x1 x2 x3 x4 x5 x8 x10 xs0 xs1) =
      arg15.view.readCov [⟨Rect.unit (s := S4x128x512) ![2, 0, 0] S1x128x512.size inb_S4x128x512_S1x128x512_2_0_0, Chunk.st C 1 2
          (kernelRun0_B.sl.v1444 (F := Ideal) c arg2 harg2 arg3 harg3 arg4 harg4 arg5 harg5 arg6 harg6 arg7 harg7 arg10 harg10 arg12 harg12 arg14 harg14 arg15 harg15 x0 x1 x2 x3 x4 x5 x8 x10 xs0 xs1)⟩,
        ⟨Rect.unit (s := S4x128x512) ![1, 0, 0] S1x128x512.size inb_S4x128x512_S1x128x512_1_0_0, Chunk.st C 1 1
          (kernelRun0_B.sl.v1269 (F := Ideal) c arg2 harg2 arg3 harg3 arg4 harg4 arg5 harg5 arg6 harg6 arg7 harg7 arg10 harg10 arg12 harg12 arg14 harg14 arg15 harg15 x0 x1 x2 x3 x4 x5 x8 x10 xs0 xs1)⟩,
        ⟨Rect.unit (s := S4x128x512) ![0, 0, 0] S1x128x512.size inb_S4x128x512_S1x128x512_0_0_0, Chunk.st C 1 0
          (kernelRun0_B.sl.v1094 (F := Ideal) c arg2 harg2 arg3 harg3 arg4 harg4 arg5 harg5 arg6 harg6 arg7 harg7 arg10 harg10 arg12 harg12 arg14 harg14 arg15 harg15 x0 x1 x2 x3 x4 x5 x8 x10 xs0 xs1)⟩,
        ⟨Rect.unit (s := S4x128x512) ![3, 0, 0] S1x128x512.size inb_S4x128x512_S1x128x512_3_0_0, Chunk.st C 0 3
          (View.readAt (Elt Ideal) arg15.view (Rect.unit (s := S4x128x512) ![3, 0, 0] S1x128x512.size inb_S4x128x512_S1x128x512_3_0_0).toLoadRect (harg15.unread xs1))⟩,
        ⟨Rect.unit (s := S4x128x512) ![2, 0, 0] S1x128x512.size inb_S4x128x512_S1x128x512_2_0_0, Chunk.st C 0 2
          (View.readAt (Elt Ideal) arg15.view (Rect.unit (s := S4x128x512) ![2, 0, 0] S1x128x512.size inb_S4x128x512_S1x128x512_2_0_0).toLoadRect (harg15.unread xs1))⟩,
        ⟨Rect.unit (s := S4x128x512) ![1, 0, 0] S1x128x512.size inb_S4x128x512_S1x128x512_1_0_0, Chunk.st C 0 1
          (View.readAt (Elt Ideal) arg15.view (Rect.unit (s := S4x128x512) ![1, 0, 0] S1x128x512.size inb_S4x128x512_S1x128x512_1_0_0).toLoadRect (harg15.unread xs1))⟩,
        ⟨Rect.unit (s := S4x128x512) ![0, 0, 0] S1x128x512.size inb_S4x128x512_S1x128x512_0_0_0, Chunk.st C 0 0
          (View.readAt (Elt Ideal) arg15.view (Rect.unit (s := S4x128x512) ![0, 0, 0] S1x128x512.size inb_S4x128x512_S1x128x512_0_0_0).toLoadRect (harg15.unread xs1))⟩]
        (Rect.unit (s := S4x128x512) ![3, 0, 0] S1x128x512.size inb_S4x128x512_S1x128x512_3_0_0).toLoadRect := by
  subst hC
  sl_kernel_rfl

end Cert.SsdProof
-- ==== Proof.SsdCaseB.lean ====
module

public import proofs.«01_k».proof.Proof.SsdLoads
public import proofs.«01_k».proof.Proof.SsdRunB
public import proofs.«01_k».proof.Proof.Gen.SsdKernelIdeal.Frame
public import Idealize.ShloMosaic.Lib.Pipeline.ValueKit
public import Idealize.ShloMosaic.Lib.Pointwise

@[expose] public section

set_option maxRecDepth 65536
set_option maxHeartbeats 1000000
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.SsdProof

open Cert.SsdKernelIdeal Cert.SsdKernelIdeal.Gen

section

variable (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : ¬ cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16) (xs0 : Vec Ideal S264x3072 .f32) (xs1 : Vec Ideal S4x128x512 .f32)
  (C : Chunk) (hC : C = mkC (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) (View.readAt (Elt Ideal) arg4.view (Rect.unit (s := S4x3072) ![0, 0] S4x3072.size inb_S4x3072_S4x3072_0_0).toLoadRect (harg4.unread x2)) (View.readAt (Elt Ideal) arg5.view (Rect.unit (s := S1x3072) ![0, 0] S1x3072.size inb_S1x3072_S1x3072_0_0).toLoadRect (harg5.unread x3))
      (View.readAt (Elt Ideal) arg14.view (Rect.unit (s := S264x3072) ![5, 0] S256x3072.size inb_S264x3072_S256x3072_5_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![6, 0] S256x3072.size inb_S264x3072_S256x3072_6_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg14.view (Rect.unit (s := S264x3072) ![7, 0] S256x3072.size inb_S264x3072_S256x3072_7_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩]))
      (View.readAt (Elt Ideal) arg6.view (Rect.unit (s := S1x128) ![0, 0] S1x128.size inb_S1x128_S1x128_0_0).toLoadRect (harg6.unread x4)) (View.readAt (Elt Ideal) arg7.view (Rect.unit (s := S1x128) ![0, 0] S1x128.size inb_S1x128_S1x128_0_0).toLoadRect (harg7.unread x5)) (View.readAt (Elt Ideal) arg10.view (Rect.unit (s := S128x128) ![0, 0] S128x128.size inb_S128x128_S128x128_0_0).toLoadRect (harg10.unread x8)) (View.readAt (Elt Ideal) arg11.view (Rect.unit (s := S384x4096) ![0, 0] S384x4096.size inb_S384x4096_S384x4096_0_0).toLoadRect (harg11.unread x9)) (View.readAt (Elt Ideal) arg12.view (Rect.unit (s := S256x2048) ![0, 0] S256x2048.size inb_S256x2048_S256x2048_0_0).toLoadRect (harg12.unread x10)))
  (p : Par) (b : Fin 2) (f : p.Reals) (j : Nat) (hj : j < 32) (I : InOf p b j x0 x1 x2 x3 x4 x5 x6 x7 x8 x9 x10)
  (E : ExtOf p b j fun q l => xs0 (ix2 ⟨q.val, lt264 q⟩ l)) (S : StOf p b (256 * j) fun g n q => xs1 (ix3 g n q))

include c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S

/-- A later point's chunks carry the branch's entries. -/
theorem chunkB : C.Of p b (256 * j) := by
  have hc : k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1)) = k0_pay6 x0 x1 :=
    congr (congrArg k0_pay6 (load_all arg2 harg2 x0 ![0, 0, 0] inb_S1x256x1024_S1x256x1024_0_0_0 (by decide))) (load_all arg3 harg3 x1 ![0, 0] inb_S1024x5248_S1024x5248_0_0 (by decide))
  have h5 : ∀ (r : Fin 256) (l : Fin 3072), (View.readAt (Elt Ideal) arg14.view (Rect.unit (s := S264x3072) ![5, 0] S256x3072.size inb_S264x3072_S256x3072_5_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩])) (ix2 r l) = p.sh 3 b (256 * j + r.val) l :=
    fun r l => ext_row hj I (fun q l => xs0 (ix2 ⟨q.val, lt264 q⟩ l)) E _ 5 (by omega) r l
      (fun h => (ext_old arg14 _ _ [] 5 _ _ r l h).trans (congrFun (harg14.read_unread xs0) _))
      (fun h => (ext_new arg14 _ _ _ 5 _ _ r l h (by omega)).trans (congrFun hc _))
  have h6 : ∀ (r : Fin 256) (l : Fin 3072), (View.readAt (Elt Ideal) arg14.view (Rect.unit (s := S264x3072) ![6, 0] S256x3072.size inb_S264x3072_S256x3072_6_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩])) (ix2 r l) = p.sh 2 b (256 * j + r.val) l :=
    fun r l => ext_row hj I (fun q l => xs0 (ix2 ⟨q.val, lt264 q⟩ l)) E _ 6 (by omega) r l
      (fun h => (ext_old arg14 _ _ [] 6 _ _ r l h).trans (congrFun (harg14.read_unread xs0) _))
      (fun h => (ext_new arg14 _ _ _ 6 _ _ r l h (by omega)).trans (congrFun hc _))
  have h7 : ∀ (r : Fin 256) (l : Fin 3072), (View.readAt (Elt Ideal) arg14.view (Rect.unit (s := S264x3072) ![7, 0] S256x3072.size inb_S264x3072_S256x3072_7_0).toLoadRect (arg14.view.writes (Elt Ideal) (harg14.unread xs0) [⟨Rect.unit (s := S264x3072) ![8, 0] S256x3072.size inb_S264x3072_S256x3072_8_0, k0_pay6 (View.readAt (Elt Ideal) arg2.view (Rect.unit (s := S1x256x1024) ![0, 0, 0] S1x256x1024.size inb_S1x256x1024_S1x256x1024_0_0_0).toLoadRect (harg2.unread x0)) (View.readAt (Elt Ideal) arg3.view (Rect.unit (s := S1024x5248) ![0, 0] S1024x5248.size inb_S1024x5248_S1024x5248_0_0).toLoadRect (harg3.unread x1))⟩])) (ix2 r l) = p.sh 1 b (256 * j + r.val) l :=
    fun r l => ext_row hj I (fun q l => xs0 (ix2 ⟨q.val, lt264 q⟩ l)) E _ 7 (by omega) r l
      (fun h => (ext_old arg14 _ _ [] 7 _ _ r l h).trans (congrFun (harg14.read_unread xs0) _))
      (fun h => (ext_new arg14 _ _ _ 7 _ _ r l h (by omega)).trans (congrFun hc _))
  rw [hC]
  exact (congrArg (fun k => Chunk.Of k p b (256 * j)) (congr (congr (congr (congr (congr (congr (congr (congr (congr (congr (congr (congrArg mkC (load_all arg2 harg2 x0 ![0, 0, 0] inb_S1x256x1024_S1x256x1024_0_0_0 (by decide)))
      (load_all arg3 harg3 x1 ![0, 0] inb_S1024x5248_S1024x5248_0_0 (by decide)))
      (load_all arg4 harg4 x2 ![0, 0] inb_S4x3072_S4x3072_0_0 (by decide)))
      (load_all arg5 harg5 x3 ![0, 0] inb_S1x3072_S1x3072_0_0 (by decide)))
      rfl)
      rfl)
      rfl)
      (load_all arg6 harg6 x4 ![0, 0] inb_S1x128_S1x128_0_0 (by decide)))
      (load_all arg7 harg7 x5 ![0, 0] inb_S1x128_S1x128_0_0 (by decide)))
      (load_all arg10 harg10 x8 ![0, 0] inb_S128x128_S128x128_0_0 (by decide)))
      (load_all arg11 harg11 x9 ![0, 0] inb_S384x4096_S384x4096_0_0 (by decide)))
      (load_all arg12 harg12 x10 ![0, 0] inb_S256x2048_S256x2048_0_0 (by decide)))).mpr (chunk_in hj I h5 h6 h7)

/-- Group 0's state as the first chunk reads it. -/
theorem sB00 (n : Fin 128) (q : Fin 512) : (View.readAt (Elt Ideal) arg15.view (Rect.unit (s := S4x128x512) ![0, 0, 0] S1x128x512.size inb_S4x128x512_S1x128x512_0_0_0).toLoadRect (harg15.unread xs1)) (ix3 0 n q) = p.H b ⟨512 * (0 : Fin 4).val + q.val, by change 512 * 0 + q.val < 2048; omega⟩ n (256 * j + 128 * (0 : Fin 2).val) := by
  refine (load_at arg15 harg15 xs1 _ _ _ (ix3 0 n q) (ix3 0 n q) (fun a => by match a with | ⟨0, _⟩ => rfl | ⟨1, _⟩ => exact (Nat.zero_add _).symm | ⟨2, _⟩ => exact (Nat.zero_add _).symm)).trans ?_
  exact S 0 n q

/-- Group 1's state as the first chunk reads it. -/
theorem sB01 (n : Fin 128) (q : Fin 512) : (View.readAt (Elt Ideal) arg15.view (Rect.unit (s := S4x128x512) ![1, 0, 0] S1x128x512.size inb_S4x128x512_S1x128x512_1_0_0).toLoadRect (harg15.unread xs1)) (ix3 0 n q) = p.H b ⟨512 * (1 : Fin 4).val + q.val, by change 512 * 1 + q.val < 2048; omega⟩ n (256 * j + 128 * (0 : Fin 2).val) := by
  refine (load_at arg15 harg15 xs1 _ _ _ (ix3 0 n q) (ix3 1 n q) (fun a => by match a with | ⟨0, _⟩ => rfl | ⟨1, _⟩ => exact (Nat.zero_add _).symm | ⟨2, _⟩ => exact (Nat.zero_add _).symm)).trans ?_
  exact S 1 n q

/-- Group 2's state as the first chunk reads it. -/
theorem sB02 (n : Fin 128) (q : Fin 512) : (View.readAt (Elt Ideal) arg15.view (Rect.unit (s := S4x128x512) ![2, 0, 0] S1x128x512.size inb_S4x128x512_S1x128x512_2_0_0).toLoadRect (harg15.unread xs1)) (ix3 0 n q) = p.H b ⟨512 * (2 : Fin 4).val + q.val, by change 512 * 2 + q.val < 2048; omega⟩ n (256 * j + 128 * (0 : Fin 2).val) := by
  refine (load_at arg15 harg15 xs1 _ _ _ (ix3 0 n q) (ix3 2 n q) (fun a => by match a with | ⟨0, _⟩ => rfl | ⟨1, _⟩ => exact (Nat.zero_add _).symm | ⟨2, _⟩ => exact (Nat.zero_add _).symm)).trans ?_
  exact S 2 n q

/-- Group 3's state as the first chunk reads it. -/
theorem sB03 (n : Fin 128) (q : Fin 512) : (View.readAt (Elt Ideal) arg15.view (Rect.unit (s := S4x128x512) ![3, 0, 0] S1x128x512.size inb_S4x128x512_S1x128x512_3_0_0).toLoadRect (harg15.unread xs1)) (ix3 0 n q) = p.H b ⟨512 * (3 : Fin 4).val + q.val, by change 512 * 3 + q.val < 2048; omega⟩ n (256 * j + 128 * (0 : Fin 2).val) := by
  refine (load_at arg15 harg15 xs1 _ _ _ (ix3 0 n q) (ix3 3 n q) (fun a => by match a with | ⟨0, _⟩ => rfl | ⟨1, _⟩ => exact (Nat.zero_add _).symm | ⟨2, _⟩ => exact (Nat.zero_add _).symm)).trans ?_
  exact S 3 n q

/-- Group 0's state as the second chunk reads it. -/
theorem sB10 (n : Fin 128) (q : Fin 512) : (kernelRun0_B.sl.v1094 (F := Ideal) c arg2 harg2 arg3 harg3 arg4 harg4 arg5 harg5 arg6 harg6 arg7 harg7 arg10 harg10 arg12 harg12 arg14 harg14 arg15 harg15 x0 x1 x2 x3 x4 x5 x8 x10 xs0 xs1) (ix3 0 n q) = p.H b ⟨512 * (0 : Fin 4).val + q.val, by change 512 * 0 + q.val < 2048; omega⟩ n (256 * j + 128 * (1 : Fin 2).val) := by
  rw [ldB_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC]
  refine (slab_read _ _ 0 _ n q).trans ?_
  refine (slab_miss _ _ _ _ 0 3 _ n q (by decide)).trans
        ((slab_miss _ _ _ _ 0 2 _ n q (by decide)).trans
        ((slab_miss _ _ _ _ 0 1 _ n q (by decide)).trans
        ((slab_hit _ _ _ _ 0 _ n q).trans ?_)))
  exact Chunk.st_at (chunkB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) f 0 0 (sB00 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) n q

/-- Group 1's state as the second chunk reads it. -/
theorem sB11 (n : Fin 128) (q : Fin 512) : (kernelRun0_B.sl.v1269 (F := Ideal) c arg2 harg2 arg3 harg3 arg4 harg4 arg5 harg5 arg6 harg6 arg7 harg7 arg10 harg10 arg12 harg12 arg14 harg14 arg15 harg15 x0 x1 x2 x3 x4 x5 x8 x10 xs0 xs1) (ix3 0 n q) = p.H b ⟨512 * (1 : Fin 4).val + q.val, by change 512 * 1 + q.val < 2048; omega⟩ n (256 * j + 128 * (1 : Fin 2).val) := by
  rw [ldB_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC]
  refine (slab_read _ _ 1 _ n q).trans ?_
  refine (slab_miss _ _ _ _ 1 0 _ n q (by decide)).trans
        ((slab_miss _ _ _ _ 1 3 _ n q (by decide)).trans
        ((slab_miss _ _ _ _ 1 2 _ n q (by decide)).trans
        ((slab_hit _ _ _ _ 1 _ n q).trans ?_)))
  exact Chunk.st_at (chunkB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) f 0 1 (sB01 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) n q

/-- Group 2's state as the second chunk reads it. -/
theorem sB12 (n : Fin 128) (q : Fin 512) : (kernelRun0_B.sl.v1444 (F := Ideal) c arg2 harg2 arg3 harg3 arg4 harg4 arg5 harg5 arg6 harg6 arg7 harg7 arg10 harg10 arg12 harg12 arg14 harg14 arg15 harg15 x0 x1 x2 x3 x4 x5 x8 x10 xs0 xs1) (ix3 0 n q) = p.H b ⟨512 * (2 : Fin 4).val + q.val, by change 512 * 2 + q.val < 2048; omega⟩ n (256 * j + 128 * (1 : Fin 2).val) := by
  rw [ldB_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC]
  refine (slab_read _ _ 2 _ n q).trans ?_
  refine (slab_miss _ _ _ _ 2 1 _ n q (by decide)).trans
        ((slab_miss _ _ _ _ 2 0 _ n q (by decide)).trans
        ((slab_miss _ _ _ _ 2 3 _ n q (by decide)).trans
        ((slab_hit _ _ _ _ 2 _ n q).trans ?_)))
  exact Chunk.st_at (chunkB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) f 0 2 (sB02 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) n q

/-- Group 3's state as the second chunk reads it. -/
theorem sB13 (n : Fin 128) (q : Fin 512) : (kernelRun0_B.sl.v1619 (F := Ideal) c arg2 harg2 arg3 harg3 arg4 harg4 arg5 harg5 arg6 harg6 arg7 harg7 arg10 harg10 arg12 harg12 arg14 harg14 arg15 harg15 x0 x1 x2 x3 x4 x5 x8 x10 xs0 xs1) (ix3 0 n q) = p.H b ⟨512 * (3 : Fin 4).val + q.val, by change 512 * 3 + q.val < 2048; omega⟩ n (256 * j + 128 * (1 : Fin 2).val) := by
  rw [ldB_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC]
  refine (slab_read _ _ 3 _ n q).trans ?_
  refine (slab_miss _ _ _ _ 3 2 _ n q (by decide)).trans
        ((slab_miss _ _ _ _ 3 1 _ n q (by decide)).trans
        ((slab_miss _ _ _ _ 3 0 _ n q (by decide)).trans
        ((slab_hit _ _ _ _ 3 _ n q).trans ?_)))
  exact Chunk.st_at (chunkB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) f 0 3 (sB03 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) n q

/-- The later points' output is the branch's result. -/
theorem outB_at (r : Fin 256) (q : Fin 2048) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 (ix3 0 r q) = p.out b (256 * j + r.val) q := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1)]
  refine View.canon_eq_of_allAt _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 _) ?_
  rw [outB_pieces c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC]
  have K := chunkB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S
  have hD : ∀ q : Fin 2048, (View.readAt (Elt Ideal) arg8.view (Rect.unit (s := S1x2048) ![0, 0] S1x2048.size inb_S1x2048_S1x2048_0_0).toLoadRect (harg8.unread x6)) (ix2 0 q) = p.dd (Par.hd q) := fun q => (congrFun (load_all arg8 harg8 x6 ![0, 0] inb_S1x2048_S1x2048_0_0 (by decide)) _).trans (I.hdd q)
  have hN : ∀ q : Fin 2048, (View.readAt (Elt Ideal) arg9.view (Rect.unit (s := S1x2048) ![0, 0] S1x2048.size inb_S1x2048_S1x2048_0_0).toLoadRect (harg9.unread x7)) (ix2 0 q) = p.nw q := fun q => (congrFun (load_all arg9 harg9 x7 ![0, 0] inb_S1x2048_S1x2048_0_0 (by decide)) _).trans (I.hnw q)
  refine View.allAt_cons_unit _ _ _ _ _ (out_tile K f 1 _ _ _ _ hD hN
    (sB10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S)
    (sB11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S)
    (sB12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S)
    (sB13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) r q) ?_
  refine View.allAt_cons_unit _ _ _ _ _ (out_tile K f 0 _ _ _ _ hD hN
    (sB00 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S)
    (sB01 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S)
    (sB02 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S)
    (sB03 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) r q) ?_
  exact View.allAt_nil _ _

/-- The state the later points leave is the recurrence's after the tile. -/
theorem stB_at : StOf p b (256 * (j + 1)) fun g n q => sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 (ix3 g n q) := by
  intro g n q
  have ht : 256 * (j + 1) = 256 * j + 128 * ((1 : Fin 2).val + 1) := by change 256 * (j + 1) = 256 * j + 128 * (1 + 1); omega
  rw [ht]
  change sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 (ix3 g n q) = _
  unfold sout0_B_1
  rw [stB_pieces c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC]
  match g with
  | ⟨0, _⟩ =>
    refine (slab_miss _ _ _ _ 0 3 _ n q (by decide)).trans
        ((slab_miss _ _ _ _ 0 2 _ n q (by decide)).trans
        ((slab_miss _ _ _ _ 0 1 _ n q (by decide)).trans
        ((slab_hit _ _ _ _ 0 _ n q).trans ?_)))
    exact Chunk.st_at (chunkB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) f 1 0 (sB10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) n q
  | ⟨1, _⟩ =>
    refine (slab_miss _ _ _ _ 1 3 _ n q (by decide)).trans
        ((slab_miss _ _ _ _ 1 2 _ n q (by decide)).trans
        ((slab_hit _ _ _ _ 1 _ n q).trans ?_))
    exact Chunk.st_at (chunkB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) f 1 1 (sB11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) n q
  | ⟨2, _⟩ =>
    refine (slab_miss _ _ _ _ 2 3 _ n q (by decide)).trans
        ((slab_hit _ _ _ _ 2 _ n q).trans ?_)
    exact Chunk.st_at (chunkB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) f 1 2 (sB12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) n q
  | ⟨3, _⟩ =>
    refine (slab_hit _ _ _ _ 3 _ n q).trans ?_
    exact Chunk.st_at (chunkB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) f 1 3 (sB13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 C hC p b f j hj I E S) n q

/-- The rows the later points carry are the last 8 rows of the tile's projection. -/
theorem extB_at : ExtOf p b (j + 1) fun q l => sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 (ix2 ⟨q.val, lt264 q⟩ l) := by
  intro q l
  refine Eq.trans ?_ (keep_in hj I q l)
  change sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 (ix2 ⟨q.val, lt264 q⟩ l) = _
  unfold sout0_B_0
  rw [extB_pieces c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1]
  refine (View.read_writes_cons_unit_of_mem (s := S264x3072) VS0_0 _ inb_S264x3072_S8x3072_0_0 _ _ _ (ix2 q l) rfl fun a => ?_).trans ?_
  · match a with
    | ⟨0, _⟩ => exact (Nat.zero_add _).symm
    | ⟨1, _⟩ => exact (Nat.zero_add _).symm
  · exact congrFun (congrArg k0_pay8 (congr (congrArg k0_pay5 (load_all arg2 harg2 x0 ![0, 0, 0] inb_S1x256x1024_S1x256x1024_0_0_0 (by decide))) (load_all arg3 harg3 x1 ![0, 0] inb_S1024x5248_S1024x5248_0_0 (by decide)))) _

end

end Cert.SsdProof
-- ==== Proof.SsdValue.lean ====
module

public import proofs.«01_k».proof.Proof.SsdIn
public import proofs.«01_k».proof.Proof.SsdCaseA
public import proofs.«01_k».proof.Proof.SsdCaseB
public import proofs.«01_k».proof.Proof.SsdRef
public import proofs.«01_k».proof.Proof.Gen.SsdKernelIdeal.Value
public import Idealize.ShloMosaic.Lib.Pipeline.ValueKit
public import Idealize.ShloMosaic.Lib.Pointwise

@[expose] public section

/-! The state-space branch: what every point carries to the next, and the kernel's result as the reference's. -/

set_option maxRecDepth 65536
set_option maxHeartbeats 1000000
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.SsdProof

open Cert.SsdKernelIdeal Cert.SsdKernelIdeal.Gen

variable (m : (ℓ : Loc nD τ sig) → Buf (Elt Ideal) ℓ)

/-- What a point reads. -/
theorem inOf (c : Dev nD) (t : Fin cfg0.N) : InOf (kerPar m c) (seq t) (t.val % 32) (iblk m c 0 t) (iblk m c 1 t) (iblk m c 2 t) (iblk m c 3 t) (iblk m c 4 t) (iblk m c 5 t) (iblk m c 6 t) (iblk m c 7 t) (iblk m c 8 t) (iblk m c 9 t) (iblk m c 10 t) where
  hx := in_hx m c t
  hwz := fun k q => (in_hw m c t k ⟨q.val, by omega⟩ (by show q.val < 5152; omega)).trans rfl
  hwx := fun k l => (in_hw m c t k ⟨2048 + l.val, by omega⟩ (by show 2048 + l.val < 5152; omega)).trans
    (congrArg _ (congrArg _ (Fin.ext (by show 2048 + (2048 + l.val) = 4096 + l.val; omega))))
  hwd := fun k h => (in_hw m c t k ⟨5120 + h.val, by omega⟩ (by show 5120 + h.val < 5152; omega)).trans
    (congrArg _ (congrArg _ (Fin.ext (by show 2048 + (5120 + h.val) = 7168 + h.val; omega))))
  hcw := in_hcw m c t
  hcb := in_hcb m c t
  hdtb := in_hdtb m c t
  halog := in_halog m c t
  hdd := in_hdd m c t
  hnw := in_hnw m c t
  htri := in_htri m c t
  hec := in_hec m c t
  heh := in_heh m c t

/-- What holds after a point on rows from `256 * j` of sequence `b`: the block's rows, the carried rows and the carried state. -/
def After (p : Par) (b : Fin 2) (j : Nat) (o : FVec Ideal S1x256x2048 .bf16) (e : FVec Ideal S264x3072 .f32) (s : FVec Ideal S4x128x512 .f32) : Prop :=
  (∀ (r : Fin 256) (q : Fin 2048), o (ix3 0 r q) = p.out b (256 * j + r.val) q)
    ∧ ExtOf p b (j + 1) (fun q l => e (ix2 ⟨q.val, lt264 q⟩ l))
    ∧ StOf p b (256 * (j + 1)) fun g n q => s (ix3 g n q)

/-- A sequence's first point. -/
theorem caseA_after (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16)
    (p : Par) (b : Fin 2) (f : p.Reals) (j : Nat) (h : j = 0) (I : InOf p b j x0 x1 x2 x3 x4 x5 x6 x7 x8 x9 x10) :
    After p b j (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10) (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10) (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10) := by
  subst h
  exact ⟨fun r q => outA_at c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 _ rfl p b f I r q, extA_at c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 _ rfl p b f I, stA_at c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 _ rfl p b f I⟩

/-- A later point. -/
theorem caseB_after (c : Dev nD) (i : grid0.Coords) (arg2 : Memref sig .tc .vmem S1x256x1024 .f32) (harg2 : arg2.IsWhole) (arg3 : Memref sig .tc .vmem S1024x5248 .bf16) (harg3 : arg3.IsWhole) (arg4 : Memref sig .tc .vmem S4x3072 .f32) (harg4 : arg4.IsWhole) (arg5 : Memref sig .tc .vmem S1x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x128 .bf16) (harg10 : arg10.IsWhole) (arg11 : Memref sig .tc .vmem S384x4096 .bf16) (harg11 : arg11.IsWhole) (arg12 : Memref sig .tc .vmem S256x2048 .bf16) (harg12 : arg12.IsWhole) (arg13 : Memref sig .tc .vmem S1x256x2048 .bf16) (harg13 : arg13.IsWhole) (arg14 : Memref sig .tc .vmem S264x3072 .f32) (harg14 : arg14.IsWhole) (arg15 : Memref sig .tc .vmem S4x128x512 .f32) (harg15 : arg15.IsWhole) (hc0 : ¬ cond0_0 i) (x0 : Vec Ideal S1x256x1024 .f32) (x1 : Vec Ideal S1024x5248 .bf16) (x2 : Vec Ideal S4x3072 .f32) (x3 : Vec Ideal S1x3072 .f32) (x4 : Vec Ideal S1x128 .f32) (x5 : Vec Ideal S1x128 .f32) (x6 : Vec Ideal S1x2048 .f32) (x7 : Vec Ideal S1x2048 .f32) (x8 : Vec Ideal S128x128 .bf16) (x9 : Vec Ideal S384x4096 .bf16) (x10 : Vec Ideal S256x2048 .bf16) (xs0 : Vec Ideal S264x3072 .f32) (xs1 : Vec Ideal S4x128x512 .f32)
    (p : Par) (b : Fin 2) (f : p.Reals) (k j : Nat) (h : j = k + 1) (hj : j < 32) (I : InOf p b j x0 x1 x2 x3 x4 x5 x6 x7 x8 x9 x10)
    (o : FVec Ideal S1x256x2048 .bf16) (ih : After p b k o xs0 xs1) :
    After p b j (out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1) (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1) (sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1) := by
  subst h
  exact ⟨fun r q => outB_at c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 _ rfl p b f (k + 1) hj I ih.2.1 ih.2.2 r q, extB_at c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 _ rfl p b f (k + 1) hj I ih.2.1 ih.2.2,
    stB_at c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 _ rfl p b f (k + 1) hj I ih.2.1 ih.2.2⟩

/-- What point `t` leaves. -/
def AfterAt (c : Dev nD) (t : Fin cfg0.N) : Prop :=
  After (kerPar m c) (seq t) (t.val % 32) (outsAt0 m c t.val t.isLt).1 (outsAt0 m c t.val t.isLt).2.1 (outsAt0 m c t.val t.isLt).2.2

/-- What a point leaves, of its three contents. -/
theorem after_of_eq (c : Dev nD) (t : Fin cfg0.N) (a : Vec Ideal S1x256x2048 .bf16) (b : Vec Ideal S264x3072 .f32) (s : Vec Ideal S4x128x512 .f32)
    (e : outsAt0 m c t.val t.isLt = (a, b, s)) (h : After (kerPar m c) (seq t) (t.val % 32) a b s) : AfterAt m c t := by
  unfold AfterAt
  rw [e]
  exact h

/-- The first point of a sequence leaves what the invariant says. -/
theorem after_first (c : Dev nD) (f : (kerPar m c).Reals) (t : Fin cfg0.N) (h0 : t.val % 32 = 0) : AfterAt m c t :=
  after_of_eq m c t _ _ _ (outsAt0_A m c t h0)
    (caseA_after c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (kerPar m c) (seq t) f _ h0 (inOf m c t))

/-- A later point leaves what the invariant says, from the one before. -/
theorem after_later (c : Dev nD) (f : (kerPar m c).Reals) (t : Fin cfg0.N) (h0 : ¬ t.val % 32 = 0) (hlt : t.val - 1 < cfg0.N)
    (ih : AfterAt m c ⟨t.val - 1, hlt⟩) : AfterAt m c t := by
  have es : seq ⟨t.val - 1, hlt⟩ = seq t := Fin.ext (by show (t.val - 1) / 32 = t.val / 32; omega)
  have ej : t.val % 32 = (t.val - 1) % 32 + 1 := by omega
  have hj : t.val % 32 < 32 := Nat.mod_lt _ (by omega)
  unfold AfterAt at ih
  rw [es] at ih
  exact after_of_eq m c t _ _ _ (outsAt0_B m c t h0)
    (caseB_after c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) hlt).2.1 (outsAt0 m c (t.val - 1) hlt).2.2 (kerPar m c) (seq t) f
      _ _ ej hj (inOf m c t) (outsAt0 m c (t.val - 1) hlt).1 ih)

/-- After every point. -/
theorem after_all (c : Dev nD) (f : (kerPar m c).Reals) : ∀ (n : Nat) (hn : n < cfg0.N), AfterAt m c ⟨n, hn⟩
  | 0, hn => after_first m c f ⟨0, hn⟩ rfl
  | n + 1, hn => by
    by_cases h0 : (n + 1) % 32 = 0
    · exact after_first m c f ⟨n + 1, hn⟩ h0
    · exact after_later m c f ⟨n + 1, hn⟩ h0 (Nat.lt_of_succ_lt hn) (after_all c f n (Nat.lt_of_succ_lt hn))

/-- The array the kernel leaves is the reference's result. -/
theorem final (m' : (ℓ : Loc Cert.SsdReferenceIdeal.nD Cert.SsdReferenceIdeal.τ Cert.SsdReferenceIdeal.sig) → Buf (Elt Ideal) ℓ)
    (c : Dev nD) (f : (kerPar m c).Reals)
    (h0 : m' ((c.tc : Thread _ _).loc Cert.SsdReferenceIdeal.main_arg0) = m ((c.tc : Thread _ _).loc main_arg0))
    (h1 : m' ((c.tc : Thread _ _).loc Cert.SsdReferenceIdeal.main_arg1) = m ((c.tc : Thread _ _).loc main_arg1))
    (h2 : m' ((c.tc : Thread _ _).loc Cert.SsdReferenceIdeal.main_arg2) = m ((c.tc : Thread _ _).loc main_arg2))
    (h3 : m' ((c.tc : Thread _ _).loc Cert.SsdReferenceIdeal.main_arg3) = m ((c.tc : Thread _ _).loc main_arg3))
    (h4 : m' ((c.tc : Thread _ _).loc Cert.SsdReferenceIdeal.main_arg4) = m ((c.tc : Thread _ _).loc main_arg4))
    (h5 : m' ((c.tc : Thread _ _).loc Cert.SsdReferenceIdeal.main_arg5) = m ((c.tc : Thread _ _).loc main_arg5))
    (h6 : m' ((c.tc : Thread _ _).loc Cert.SsdReferenceIdeal.main_arg6) = m ((c.tc : Thread _ _).loc main_arg6))
    (h7 : m' ((c.tc : Thread _ _).loc Cert.SsdReferenceIdeal.main_arg7) = m ((c.tc : Thread _ _).loc main_arg7)) :
    (dats m 0 c).arrAt 11 (cfgs 0).N = Cert.SsdReferenceIdeal.Value.out_main_v95
      (Cert.SsdReferenceIdeal.Value.STEP^[8192] (StableHlo.entryContents (F := Ideal) Cert.SsdReferenceIdeal.Value.preI m' c)) := by
  have hp : refPar m' c = kerPar m c := by
    unfold refPar kerPar
    rw [h0, h1, h2, h3, h4, h5, h6, h7]
  refine (dats m 0 c).arrAt_eq_of_covers 11 _ (by decide +kernel) fun t _ y => ?_
  blk_simp
  rw [after0_11]
  have hy : y = ix3 (0 : Fin 1) (y 1) (y 2) :=
    (Idealize.ShloMosaic.ix3_eta (n0 := 1) (n1 := 256) (n2 := 2048) y).symm.trans
      (congrArg (fun a => ix3 (n0 := 1) (n1 := 256) (n2 := 2048) a (y 1) (y 2)) (Subsingleton.elim (α := Fin 1) (y 0) 0))
  have hb : 256 * (t.val % 32) + (y 1 : Fin 256).val < 8192 := by have h1 : (y 1).val < 256 := (y 1).isLt; have h2 := lt64 t; show 256 * (t.val % 32) + (y 1).val < 8192; omega
  refine (congrArg _ hy).trans (((after_all m c f t.val t.isLt).1 (y 1) (y 2)).trans ?_)
  rw [← hp]
  refine (ref_at m' c (seq t) ⟨256 * (t.val % 32) + (y 1 : Fin 256).val, hb⟩ (y 2)).symm.trans ?_
  refine congrArg _ (funext fun i => ?_)
  match i with
  | ⟨0, _⟩ => exact Fin.ext (by simp [seq, Pipeline.Window.blk, View.slice, View.whole, idx t])
  | ⟨1, _⟩ => exact Fin.ext (by simp [Pipeline.Window.blk, View.slice, View.whole, idx t]; exact Nat.mul_comm _ _)
  | ⟨2, _⟩ => exact Fin.ext (by simp [Pipeline.Window.blk, View.slice, View.whole, idx t])

end Cert.SsdProof
-- ==== Proof.SsdPre.lean ====
module

public import proofs.«01_k».proof.Proof.SsdIn
public import proofs.«01_k».proof.Defs
public import Idealize.ShloMosaic.Lib.Pipeline.ValueKit
public import Idealize.ShloMosaic.Lib.Pointwise

@[expose] public section

set_option maxRecDepth 65536
noncomputable section

open Idealize.ShloMosaic Idealize.ShloMosaic.TcCoe Idealize.SL.Sem
open Idealize.ShloMosaic.ValueIdx hiding ix1 ix2 ix3 ix4 ix5
open Idealize.ShloMosaic.Pipeline (Dat)
namespace Cert.SsdProof

open Cert.SsdKernelIdeal Cert.SsdKernelIdeal.Gen

/-- The pattern the bound is compared with is the top element. -/
theorem top_eq : Ideal.ofBits FTy.f32 0x7F800000#32 = (⊤ : EReal) := by
  simp [Ideal.ofBits, Ideal.ieee]

/-- An entry whose size compares below the top is a real number. -/
theorem isR_of_lt {v : EReal} (h : Ideal.cmp .olt (max v (-v)) (Ideal.ofBits FTy.f32 0x7F800000#32) = 1#1) : IsR v := by
  rw [top_eq] at h
  have h' : max v (-v) < ⊤ := by
    by_contra hn
    simp [Ideal.cmp, hn] at h
  induction v using EReal.rec with
  | bot => exact absurd h' (by simp)
  | coe r => exact ⟨r, rfl⟩
  | top => exact absurd h' (by simp)

section
variable [Cert.Pre_finite_ssd.Facts]
variable (a0 : FVec Ideal S2x8192x1024 .f32) (a1 : FVec Ideal S1024x11296 .f32) (a2 : FVec Ideal S4x3072 .f32)
    (a3 : FVec Ideal S3072 .f32) (a4 a5 a6 : FVec Ideal S32 .f32) (a7 : FVec Ideal S2048 .f32)

/-- The parameters of arguments the precondition accepts are real numbers. -/
theorem parOf_reals (h0 : (Cert.Pre_finite_ssd.fn (F := Ideal) a0 a1 a2 a3 a4 a5 a6 a7).1 = fun _ => 1#1)
    (h1 : (Cert.Pre_finite_ssd.fn (F := Ideal) a0 a1 a2 a3 a4 a5 a6 a7).2.1 = fun _ => 1#1)
    (h2 : (Cert.Pre_finite_ssd.fn (F := Ideal) a0 a1 a2 a3 a4 a5 a6 a7).2.2.1 = fun _ => 1#1)
    (h3 : (Cert.Pre_finite_ssd.fn (F := Ideal) a0 a1 a2 a3 a4 a5 a6 a7).2.2.2.1 = fun _ => 1#1)
    (h4 : (Cert.Pre_finite_ssd.fn (F := Ideal) a0 a1 a2 a3 a4 a5 a6 a7).2.2.2.2.1 = fun _ => 1#1)
    (h5 : (Cert.Pre_finite_ssd.fn (F := Ideal) a0 a1 a2 a3 a4 a5 a6 a7).2.2.2.2.2 = fun _ => 1#1) :
    (parOf a0 a1 a2 a3 a4 a5 a6 a7).Reals where
  x b s k := isR_of_lt (congrFun h0 (ix3 b s k))
  wx k l := isR_of_lt (congrFun h1 (ix2 k ⟨4096 + l.val, by omega⟩))
  wd k h := isR_of_lt (congrFun h1 (ix2 k ⟨7168 + h.val, by omega⟩))
  cw k l := isR_of_lt (congrFun h2 (ix2 k l))
  cb l := isR_of_lt (congrFun h3 (ix1 l))
  dtb h := isR_of_lt (congrFun h4 (ix1 h))
  alog h := isR_of_lt (congrFun h5 (ix1 h))

end

/-- The kernel's parameters are real numbers where the precondition holds. -/
theorem kerPar_reals [Cert.Pre_finite_ssd.Facts] (m : (ℓ : Loc nD τ sig) → Buf (Elt Ideal) ℓ)
    (h : Cert.Pre_SsdKernelIdeal_finite_ssd m) (c : Dev nD) : (kerPar m c).Reals :=
  parOf_reals _ _ _ _ _ _ _ _ (h c).1 (h c).2.1 (h c).2.2.1 (h c).2.2.2.1 (h c).2.2.2.2.1 (h c).2.2.2.2.2

end Cert.SsdProof
-- ==== Proof.lean ====
/- Each kernel program and each reference runs to the end with its arguments as launched, the idealized kernels are the
   printed ones, and at the ideal floats every kernel's result is its reference's. -/
module

public import proofs.«01_k».proof.Proof.Gen.SsdReferenceIdeal.Run
public import proofs.«01_k».proof.Proof.Gen.SsdKernelIdeal.Value
public import proofs.«01_k».proof.Proof.Gen.LruReferenceIdeal
public import proofs.«01_k».proof.Proof.Gen.SsdKernel
public import proofs.«01_k».proof.Proof.Gen.SsdKernel.Skeleton
public import proofs.«01_k».proof.Proof.Gen.SsdKernel.Launch
public import proofs.«01_k».proof.Proof.Gen.SsdKernel.Points
public import proofs.«01_k».proof.Proof.Gen.SsdKernel.Frame
public import proofs.«01_k».proof.Proof.Gen.SsdKernelIdeal
public import proofs.«01_k».proof.Proof.Gen.SsdKernelIdeal.Skeleton
public import proofs.«01_k».proof.Proof.Gen.SsdKernelIdeal.Launch
public import proofs.«01_k».proof.Proof.Gen.SsdKernelIdeal.Points
public import proofs.«01_k».proof.Proof.Gen.SsdKernelIdeal.Frame
public import proofs.«01_k».proof.Proof.Gen.SsdReferenceIdeal.Run
public import proofs.«01_k».proof.Proof.Gen.LruKernelIdeal.Value
public import proofs.«01_k».proof.Proof.Gen.MixReferenceIdeal.Run
public import proofs.«01_k».proof.Proof.Gen.MixKernelIdeal.Value
public import proofs.«01_k».proof.Proof.Gen.KvReferenceIdeal.Run
public import proofs.«01_k».proof.Proof.Gen.KvKernelIdeal.Value
public import proofs.«01_k».proof.Proof.Gen.FfnReferenceIdeal.Run
public import proofs.«01_k».proof.Proof.Gen.FfnKernelIdeal.Value
public import proofs.«01_k».proof.Proof.FfnValue
public import proofs.«01_k».proof.Proof.MixValue
public import proofs.«01_k».proof.Proof.KvValue
public import proofs.«01_k».proof.Proof.LruValue
public import proofs.«01_k».proof.Proof.SsdValue
public import proofs.«01_k».proof.Proof.SsdPre
public import proofs.«01_k».proof.Defs
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.KvKernel
public import proofs.«01_k».proof.Proof.Gen.KvKernel.Skeleton
public import proofs.«01_k».proof.Proof.Gen.KvKernel.Launch
public import proofs.«01_k».proof.Proof.Gen.KvKernel.Points
public import proofs.«01_k».proof.Proof.Gen.KvKernel.Frame
public import proofs.«01_k».proof.Proof.Gen.KvKernelIdeal
public import proofs.«01_k».proof.Proof.Gen.KvKernelIdeal.Skeleton
public import proofs.«01_k».proof.Proof.Gen.KvKernelIdeal.Launch
public import proofs.«01_k».proof.Proof.Gen.KvKernelIdeal.Points
public import proofs.«01_k».proof.Proof.Gen.KvKernelIdeal.Frame
public import proofs.«01_k».proof.Proof.Gen.KvReferenceIdeal
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.LruKernel
public import proofs.«01_k».proof.Proof.Gen.LruKernel.Skeleton
public import proofs.«01_k».proof.Proof.Gen.LruKernel.Launch
public import proofs.«01_k».proof.Proof.Gen.LruKernel.Points
public import proofs.«01_k».proof.Proof.Gen.LruKernel.Frame
public import proofs.«01_k».proof.Proof.Gen.LruKernelIdeal
public import proofs.«01_k».proof.Proof.Gen.LruKernelIdeal.Skeleton
public import proofs.«01_k».proof.Proof.Gen.LruKernelIdeal.Launch
public import proofs.«01_k».proof.Proof.Gen.LruKernelIdeal.Points
public import proofs.«01_k».proof.Proof.Gen.LruKernelIdeal.Frame
public import proofs.«01_k».proof.Proof.Gen.LruReferenceIdeal
public import proofs.«01_k».proof.Proof.Gen.SsdKernel
public import proofs.«01_k».proof.Proof.Gen.SsdKernel.Skeleton
public import proofs.«01_k».proof.Proof.Gen.SsdKernel.Launch
public import proofs.«01_k».proof.Proof.Gen.SsdKernel.Points
public import proofs.«01_k».proof.Proof.Gen.SsdKernel.Frame
public import proofs.«01_k».proof.Proof.Gen.SsdKernelIdeal
public import proofs.«01_k».proof.Proof.Gen.SsdKernelIdeal.Skeleton
public import proofs.«01_k».proof.Proof.Gen.SsdKernelIdeal.Launch
public import proofs.«01_k».proof.Proof.Gen.SsdKernelIdeal.Points
public import proofs.«01_k».proof.Proof.Gen.SsdKernelIdeal.Frame
public import proofs.«01_k».proof.Proof.Gen.SsdReferenceIdeal
public import Idealize.ShloMosaic.Adequacy
public import Idealize.ShloMosaic.Init
public import Idealize.ShloMosaic.Lib.Pipeline.ValueKit

@[expose] public section

noncomputable section

namespace Cert.Proof

open Idealize.ShloMosaic Idealize.SL.Sem

/-- The feed-forward kernel's and its reference's runs end with the same result. -/
theorem algebraicFfn : Cert.algebraic_FfnKernelIdeal_FfnReferenceIdeal := by
  pair_intro
  · run_from Cert.FfnKernelIdeal.Value.run_blocks m g
  · run_from Cert.FfnReferenceIdeal.Value.run m' g'
    have h := hagree c
    exact (Cert.FfnProof.final m m' c h.1 h.2.1 h.2.2.1 h.2.2.2.1 h.2.2.2.2).symm

/-- The feed-forward reference ends with its arguments as launched; it has no semaphore. -/
theorem frameFfn : Cert.quiescent_FfnReferenceIdeal := fun m ρ _ =>
  (θ_run Cert.FfnReferenceIdeal.defs _ _).mono
    (fun r h => ⟨fun c => (h c).2, Idealize.ShloMosaic.sem_eq_zero_of_no_sems (by decide) r.2⟩)
    (Cert.FfnReferenceIdeal.Value.run (F := Ideal) m ρ)

/-- The mixing kernel's and its reference's runs end with the same result. -/
theorem algebraicMix : Cert.algebraic_MixKernelIdeal_MixReferenceIdeal := by
  pair_intro
  · run_from Cert.MixKernelIdeal.Value.run_blocks m g
  · run_from Cert.MixReferenceIdeal.Value.run m' g'
    have h := hagree c
    exact (Cert.MixProof.final m m' c h.1 h.2.1 h.2.2.1 h.2.2.2.1 h.2.2.2.2.1 h.2.2.2.2.2.1 h.2.2.2.2.2.2.1 h.2.2.2.2.2.2.2.1 h.2.2.2.2.2.2.2.2.1 h.2.2.2.2.2.2.2.2.2.1 h.2.2.2.2.2.2.2.2.2.2.1 h.2.2.2.2.2.2.2.2.2.2.2).symm

/-- The mixing reference ends with its arguments as launched; it has no semaphore. -/
theorem frameMix : Cert.quiescent_MixReferenceIdeal := fun m ρ _ =>
  (θ_run Cert.MixReferenceIdeal.defs _ _).mono
    (fun r h => ⟨fun c => (h c).2, Idealize.ShloMosaic.sem_eq_zero_of_no_sems (by decide) r.2⟩)
    (Cert.MixReferenceIdeal.Value.run (F := Ideal) m ρ)

/-- The key and value kernel's and its reference's runs end with the same result. -/
theorem algebraicKv : Cert.algebraic_KvKernelIdeal_KvReferenceIdeal := by
  pair_intro
  · run_from Cert.KvKernelIdeal.Value.run_blocks m g
  · run_from Cert.KvReferenceIdeal.Value.run m' g'
    have h := hagree c
    have e := Cert.KvProof.final m m' c h.1 h.2
    rw [h.1, h.2] at e
    exact e.symm

/-- The key and value reference ends with its arguments as launched; it has no semaphore. -/
theorem frameKv : Cert.quiescent_KvReferenceIdeal := fun m ρ _ =>
  (θ_run Cert.KvReferenceIdeal.defs _ _).mono
    (fun r h => ⟨fun c => (h c).2, Idealize.ShloMosaic.sem_eq_zero_of_no_sems (by decide) r.2⟩)
    (Cert.KvReferenceIdeal.Value.run (F := Ideal) m ρ)

/-- The gated linear recurrence kernel's and its reference's runs end with the same result. -/
theorem algebraicLru : Cert.algebraic_LruKernelIdeal_LruReferenceIdeal := by
  pair_intro
  · run_from Cert.LruKernelIdeal.Value.run_blocks m g
  · refine (θ_run Cert.LruReferenceIdeal.defs _ _).mono (fun r hr => ?_) (Cert.LruReferenceIdeal.Value.run (F := Ideal) m' g')
    intro c
    obtain ⟨h0, h1, h2, h3, h4, h5, h6, h7, h8⟩ := hagree c
    refine ⟨(hr c).1.trans ?_, (hr c).2⟩
    exact (Cert.LruProof.final m m' c h0 h1 h2 h3 h4 h5 h6 h7 h8).symm

/-- The gated linear recurrence reference ends with its arguments as launched; it has no semaphore. -/
theorem frameLru : Cert.quiescent_LruReferenceIdeal := fun m ρ _ =>
  (θ_run Cert.LruReferenceIdeal.defs _ _).mono
    (fun r h => ⟨fun c => (h c).2, Idealize.ShloMosaic.sem_eq_zero_of_no_sems (by decide) r.2⟩)
    (Cert.LruReferenceIdeal.Value.run (F := Ideal) m ρ)

/-- The size precondition's shape relations hold. -/
theorem factsFinite : Cert.Pre_finite_ssd.Facts := ⟨by decide, by decide, by decide, by decide, by decide⟩

/-- The state-space kernel's and its reference's runs end with the same result where the arguments the decay reads are
    real numbers. -/
theorem algebraicSsd [Cert.Pre_finite_ssd.Facts] : Cert.algebraic_SsdKernelIdeal_SsdReferenceIdeal_pre_finite_ssd := by
  pair_intro
  · run_from Cert.SsdKernelIdeal.Value.run_blocks m g
  · refine (θ_run Cert.SsdReferenceIdeal.defs _ _).mono (fun r hr => ?_) (Cert.SsdReferenceIdeal.Value.run (F := Ideal) m' g')
    intro c
    obtain ⟨h0, h1, h2, h3, h4, h5, h6, h7⟩ := hagree c
    refine ⟨(hr c).1.trans ?_, (hr c).2⟩
    exact (Cert.SsdProof.final m m' c (Cert.SsdProof.kerPar_reals m hpre c) h0 h1 h2 h3 h4 h5 h6 h7).symm

/-- The state-space reference ends with its arguments as launched; it has no semaphore. -/
theorem frameSsd : Cert.quiescent_SsdReferenceIdeal := fun m ρ _ =>
  (θ_run Cert.SsdReferenceIdeal.defs _ _).mono
    (fun r h => ⟨fun c => (h c).2, Idealize.ShloMosaic.sem_eq_zero_of_no_sems (by decide) r.2⟩)
    (Cert.SsdReferenceIdeal.Value.run (F := Ideal) m ρ)

/-- Every claim holds. -/
theorem claim : Cert.Claim := ⟨Cert.FfnKernel.Gen.facts, Cert.FfnKernelIdeal.Gen.facts, Cert.FfnReferenceIdeal.Gen.facts, Cert.MixKernel.Gen.facts, Cert.MixKernelIdeal.Gen.facts, Cert.MixReferenceIdeal.Gen.facts, Cert.KvKernel.Gen.facts, Cert.KvKernelIdeal.Gen.facts, Cert.KvReferenceIdeal.Gen.facts, Cert.LruKernel.Gen.facts, Cert.LruKernelIdeal.Gen.facts, Cert.LruReferenceIdeal.Gen.facts, Cert.SsdKernel.Gen.facts, Cert.SsdKernelIdeal.Gen.facts, Cert.SsdReferenceIdeal.Gen.facts, factsFinite,
  fun m ρ _ => Cert.FfnKernel.Gen.frame m ρ,
  fun m ρ _ => Cert.FfnKernelIdeal.Gen.frame m ρ,
  frameFfn,
  fun m ρ _ => Cert.MixKernel.Gen.frame m ρ,
  fun m ρ _ => Cert.MixKernelIdeal.Gen.frame m ρ,
  frameMix,
  fun m ρ _ => Cert.KvKernel.Gen.frame m ρ,
  fun m ρ _ => Cert.KvKernelIdeal.Gen.frame m ρ,
  frameKv,
  fun m ρ _ => Cert.LruKernel.Gen.frame m ρ,
  fun m ρ _ => Cert.LruKernelIdeal.Gen.frame m ρ,
  frameLru,
  fun m ρ _ => Cert.SsdKernel.Gen.frame m ρ,
  fun m ρ _ => Cert.SsdKernelIdeal.Gen.frame m ρ,
  fun m ρ _ => Cert.SsdKernelIdeal.Gen.frame m ρ,
  frameSsd,
  fun m ρ _ => frameSsd m ρ trivial,
  trivial, algebraicFfn,
  trivial, algebraicMix,
  trivial, algebraicKv,
  trivial, algebraicLru,
  trivial, (letI := factsFinite; algebraicSsd)⟩

end Cert.Proof

end
